-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v7) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_v5) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v17) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v14) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v16) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v38) = v0 c
          ∧ r.2.mem ((c.tc : Thread Cert.Reference33Ideal.nD Cert.Reference33Ideal.τ).loc Cert.Reference33Ideal.main_v39) = v1 c
          ∧ r.2.mem ((c.tc : Thread Cert.Reference33Ideal.nD Cert.Reference33Ideal.τ).loc Cert.Reference33Ideal.main_v37) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v18) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v7) = v0 c
          ∧ r.2.mem ((c.tc : Thread Cert.Reference36Ideal.nD Cert.Reference36Ideal.τ).loc Cert.Reference36Ideal.main_v23) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite.lean ====
abbrev S4096x4096 : Shape := ⟨2, ![4096, 4096]⟩
abbrev S4096x6144 : Shape := ⟨2, ![4096, 6144]⟩
abbrev S4096x2048 : Shape := ⟨2, ![4096, 2048]⟩
abbrev S_ : Shape := ⟨0, ![]⟩

class Facts : Prop where
  slices_S4096x4096_S4096x2048_0_0 : S4096x4096.Slices ![0, 0] S4096x2048
  slices_S4096x4096_S4096x2048_0_2048 : S4096x4096.Slices ![0, 2048] S4096x2048
  slices_S4096x6144_S4096x2048_0_4096 : S4096x6144.Slices ![0, 4096] S4096x2048
  bitsLt_bf16_f32 : FTy.bits .bf16 < FTy.bits .f32
  bcast_S_S4096x2048 : S_.BroadcastsInDim S4096x2048 (![] : Fin 0 → Fin S4096x2048.rank)

variable [Facts]

def fn_part1 {F : FTy → Type} [FloatOps F] (main_v14 : IVec S4096x2048 1) (main_v18 : IVec S4096x2048 1) (main_v19 : IVec S4096x2048 1) : IVec S4096x2048 1 :=
  let main_v20 : IVec S4096x2048 1 := andi main_v19 main_v14
  let main_v21 : IVec S4096x2048 1 := andi main_v20 main_v18
  main_v21

def fn {F : FTy → Type} [FloatOps F] (main_arg0 : FVec F S4096x4096 .bf16) (main_arg1 : FVec F S4096x6144 .bf16) (main_arg2 : FVec F S4096x2048 .bf16) : IVec S4096x2048 1 :=
  let main_v0 : FVec F S4096x2048 .bf16 := (extractStridedSlice S4096x2048 ![0, 0] · slices_S4096x4096_S4096x2048_0_0) main_arg0
  let main_v1 : FVec F S4096x2048 .bf16 := (extractStridedSlice S4096x2048 ![0, 2048] · slices_S4096x4096_S4096x2048_0_2048) main_arg0
  let main_v2 : FVec F S4096x2048 .bf16 := (extractStridedSlice S4096x2048 ![0, 4096] · slices_S4096x6144_S4096x2048_0_4096) main_arg1
  let main_v3 : FVec F S4096x2048 .f32 := (extf .f32 · bitsLt_bf16_f32) main_v0
  let main_v4 : FVec F S4096x2048 .f32 := Host.absf main_v3
  let main_cst : FVec F S_ .f32 := constant S_ .f32 0x7F800000#32
  let main_v5 : FVec F S4096x2048 .f32 := broadcastInDim S4096x2048 ![] bcast_S_S4096x2048 main_cst
  let main_v6 : IVec S4096x2048 1 := cmpf .olt main_v4 main_v5
  let main_v7 : FVec F S4096x2048 .f32 := (extf .f32 · bitsLt_bf16_f32) main_v1
  let main_v8 : FVec F S4096x2048 .f32 := Host.absf main_v7
  let main_cst_0 : FVec F S_ .f32 := constant S_ .f32 0x7F800000#32
  let main_v9 : FVec F S4096x2048 .f32 := broadcastInDim S4096x2048 ![] bcast_S_S4096x2048 main_cst_0
  let main_v10 : IVec S4096x2048 1 := cmpf .olt main_v8 main_v9
  let main_v11 : FVec F S4096x2048 .f32 := (extf .f32 · bitsLt_bf16_f32) main_v2
  let main_v12 : FVec F S4096x2048 .f32 := Host.absf main_v11
  let main_cst_1 : FVec F S_ .f32 := constant S_ .f32 0x7F800000#32
  let main_v13 : FVec F S4096x2048 .f32 := broadcastInDim S4096x2048 ![] bcast_S_S4096x2048 main_cst_1
  let main_v14 : IVec S4096x2048 1 := cmpf .olt main_v12 main_v13
  let main_v15 : FVec F S4096x2048 .f32 := (extf .f32 · bitsLt_bf16_f32) main_arg2
  let main_v16 : FVec F S4096x2048 .f32 := Host.absf main_v15
  let main_cst_2 : FVec F S_ .f32 := constant S_ .f32 0x7F800000#32
  let main_v17 : FVec F S4096x2048 .f32 := broadcastInDim S4096x2048 ![] bcast_S_S4096x2048 main_cst_2
  let main_v18 : IVec S4096x2048 1 := cmpf .olt main_v16 main_v17
  let main_v19 : IVec S4096x2048 1 := andi main_v6 main_v10
  fn_part1 (F := F) main_v14 main_v18 main_v19
-- ==== Kernel.lean ====
abbrev S4096x2048 : Shape := ⟨2, ![4096, 2048]⟩
abbrev S16x128x128 : Shape := ⟨3, ![16, 128, 128]⟩
abbrev S16x128x1 : Shape := ⟨3, ![16, 128, 1]⟩
abbrev S1024x128 : Shape := ⟨2, ![1024, 128]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S8x128x128 : Shape := ⟨3, ![8, 128, 128]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x128x128, .f32⟩
  | .hbm, ⟨3, _⟩ => ⟨S16x128x1, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S16x128x128, .f32⟩
  | .hbm, ⟨8, _⟩ => ⟨S16x128x1, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x1, .f32⟩
  | .local _ .vmem, ⟨7, _⟩ => ⟨S1x128x1, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x128x128, .f32⟩
  | .local _ .vmem, ⟨15, _⟩ => ⟨S1x128x128, .f32⟩
  | .local _ .vmem, ⟨16, _⟩ => ⟨S1x128x1, .f32⟩
  | .local _ .vmem, ⟨17, _⟩ => ⟨S1x128x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v37 : BitVec 1 := Scalar.cmpi .eq arg1 c0_i32
  let arg0 : BitVec 32 := BitVec.ofNat 32 (i 0).val
  let c1_i32 : BitVec 32 := 1#32
  let c0_i32_22 : BitVec 32 := 0#32
  let v38 : BitVec 1 := Scalar.cmpi .eq c1_i32 c0_i32_22
  let c1_i32_23 : BitVec 32 := 1#32
  let v39 : BitVec 32 := Scalar.select v38 c1_i32_23 c1_i32
  let v40 : BitVec 32 := Scalar.remsi arg0 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c0_i32_27 : BitVec 32 := 0#32
  let v48 : BitVec 1 := Scalar.cmpi .eq v47 c0_i32_27
  let v49 : BitVec 1 := Scalar.andi v37 v48
  let v50 : BitVec 32 := Scalar.extui v49
  let c0_i32_28 : BitVec 32 := 0#32
  let v51 : BitVec 1 := Scalar.cmpi .ne v50 c0_i32_28
  v51

def k0_cond2 (i : grid0.Coords) : BitVec 1 :=
  let arg1 : BitVec 32 := BitVec.ofNat 32 (i 1).val
  let c0_i32 : BitVec 32 := 0#32
  let v37 : BitVec 1 := Scalar.cmpi .eq arg1 c0_i32
  let arg0 : BitVec 32 := BitVec.ofNat 32 (i 0).val
  let c1_i32 : BitVec 32 := 1#32
  let c0_i32_22 : BitVec 32 := 0#32
  let v38 : BitVec 1 := Scalar.cmpi .eq c1_i32 c0_i32_22
  let c1_i32_23 : BitVec 32 := 1#32
  let v39 : BitVec 32 := Scalar.select v38 c1_i32_23 c1_i32
  let v40 : BitVec 32 := Scalar.remsi arg0 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c0_i32_27 : BitVec 32 := 0#32
  let v48 : BitVec 1 := Scalar.cmpi .eq v47 c0_i32_27
  let v49 : BitVec 1 := Scalar.andi v37 v48
  let v_true : BitVec 1 := 1#1
  let v52 : BitVec 1 := Scalar.xori v49 v_true
  let v53 : BitVec 32 := Scalar.extui v52
  let c0_i32_29 : BitVec 32 := 0#32
  let v54 : BitVec 1 := Scalar.cmpi .ne v53 c0_i32_29
  v54

def k0_cond3 (i : grid0.Coords) : BitVec 1 :=
  let arg1 : BitVec 32 := BitVec.ofNat 32 (i 1).val
  let c0_i32_30 : BitVec 32 := 0#32
  let v55 : BitVec 1 := Scalar.cmpi .eq arg1 c0_i32_30
  let arg0 : BitVec 32 := BitVec.ofNat 32 (i 0).val
  let c1_i32_31 : BitVec 32 := 1#32
  let c0_i32_32 : BitVec 32 := 0#32
  let v56 : BitVec 1 := Scalar.cmpi .eq c1_i32_31 c0_i32_32
  let c1_i32_33 : BitVec 32 := 1#32
  let v57 : BitVec 32 := Scalar.select v56 c1_i32_33 c1_i32_31
  let v58 : BitVec 32 := Scalar.remsi arg0 v57
  let c0_i32_35 : BitVec 32 := 0#32
  let v60 : BitVec 1 := Scalar.cmpi .slt v58 c0_i32_35
  let c0_i32_36 : BitVec 32 := 0#32
  let v61 : BitVec 1 := Scalar.cmpi .slt v57 c0_i32_36
  let v62 : BitVec 1 := Scalar.xori v60 v61
  let c0_i32_34 : BitVec 32 := 0#32
  let v59 : BitVec 1 := Scalar.cmpi .ne v58 c0_i32_34
  let v63 : BitVec 1 := Scalar.andi v62 v59
  let v64 : BitVec 32 := Scalar.addi v58 v57
  let v65 : BitVec 32 := Scalar.select v63 v64 v58
  let c0_i32_37 : BitVec 32 := 0#32
  let v66 : BitVec 1 := Scalar.cmpi .eq v65 c0_i32_37
  let v67 : BitVec 1 := Scalar.andi v55 v66
  let v68 : BitVec 32 := Scalar.extui v67
  let c0_i32_38 : BitVec 32 := 0#32
  let v69 : BitVec 1 := Scalar.cmpi .ne v68 c0_i32_38
  v69

def k0_cond4 (i : grid0.Coords) : BitVec 1 :=
  let arg1 : BitVec 32 := BitVec.ofNat 32 (i 1).val
  let c0_i32_30 : BitVec 32 := 0#32
  let v55 : BitVec 1 := Scalar.cmpi .eq arg1 c0_i32_30
  let arg0 : BitVec 32 := BitVec.ofNat 32 (i 0).val
  let c1_i32_31 : BitVec 32 := 1#32
  let c0_i32_32 : BitVec 32 := 0#32
  let v56 : BitVec 1 := Scalar.cmpi .eq c1_i32_31 c0_i32_32
  let c1_i32_33 : BitVec 32 := 1#32
  let v57 : BitVec 32 := Scalar.select v56 c1_i32_33 c1_i32_31
  let v58 : BitVec 32 := Scalar.remsi arg0 v57
  let c0_i32_35 : BitVec 32 := 0#32
  let v60 : BitVec 1 := Scalar.cmpi .slt v58 c0_i32_35
  let c0_i32_36 : BitVec 32 := 0#32
  let v61 : BitVec 1 := Scalar.cmpi .slt v57 c0_i32_36
  let v62 : BitVec 1 := Scalar.xori v60 v61
  let c0_i32_34 : BitVec 32 := 0#32
  let v59 : BitVec 1 := Scalar.cmpi .ne v58 c0_i32_34
  let v63 : BitVec 1 := Scalar.andi v62 v59
  let v64 : BitVec 32 := Scalar.addi v58 v57
  let v65 : BitVec 32 := Scalar.select v63 v64 v58
  let c0_i32_37 : BitVec 32 := 0#32
  let v66 : BitVec 1 := Scalar.cmpi .eq v65 c0_i32_37
  let v67 : BitVec 1 := Scalar.andi v55 v66
  let true_39 : BitVec 1 := 1#1
  let v70 : BitVec 1 := Scalar.xori v67 true_39
  let v71 : BitVec 32 := Scalar.extui v70
  let c0_i32_40 : BitVec 32 := 0#32
  let v72 : BitVec 1 := Scalar.cmpi .ne v71 c0_i32_40
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x2048 : Shape := ⟨2, ![4096, 2048]⟩
abbrev S16x128x128 : Shape := ⟨3, ![16, 128, 128]⟩
abbrev S16x128x1 : Shape := ⟨3, ![16, 128, 1]⟩
abbrev S32x128x16x128 : Shape := ⟨4, ![32, 128, 16, 128]⟩
abbrev S_ : Shape := ⟨0, ![]⟩
abbrev S128x128 : Shape := ⟨2, ![128, 128]⟩
abbrev S1x128x128 : Shape := ⟨3, ![1, 128, 128]⟩
abbrev S16x32x128x128 : Shape := ⟨4, ![16, 32, 128, 128]⟩
abbrev S16x128 : Shape := ⟨2, ![16, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x128x128, .f32⟩
  | .hbm, ⟨3, _⟩ => ⟨S16x128x1, .f32⟩
  | .hbm, ⟨4, _⟩ => ⟨S4096x2048, .f32⟩
  | .hbm, ⟨5, _⟩ => ⟨S4096x2048, .f32⟩
  | .hbm, ⟨6, _⟩ => ⟨S32x128x16x128, .f32⟩
  | .hbm, ⟨7, _⟩ => ⟨S32x128x16x128, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S1x128x128, .i1⟩
  | .hbm, ⟨20, _⟩ => ⟨S_, .f32⟩
  | .hbm, ⟨21, _⟩ => ⟨S_, .f32⟩
  | .hbm, ⟨22, _⟩ => ⟨S16x128x128, .i1⟩
  | .hbm, ⟨23, _⟩ => ⟨S16x128x128, .f32⟩
  | .hbm, ⟨24, _⟩ => ⟨S16x128x128, .f32⟩
  | .hbm, ⟨25, _⟩ => ⟨S_, .f32⟩
  | .hbm, ⟨26, _⟩ => ⟨S16x128x128, .f32⟩
  | .hbm, ⟨27, _⟩ => ⟨S16x32x128x128, .f32⟩
  | .hbm, ⟨28, _⟩ => ⟨S32x128x16x128, .f32⟩
  | .hbm, ⟨29, _⟩ => ⟨S16x128, .f32⟩
  | .hbm, ⟨30, _⟩ => ⟨S128x16, .f32⟩
  | .hbm, ⟨31, _⟩ => ⟨S128x16x1, .f32⟩
  | .hbm, ⟨32, _⟩ => ⟨S1x128x16x1, .f32⟩
  | .hbm, ⟨33, _⟩ => ⟨S32x128x16x128, .f32⟩
  | .hbm, ⟨34, _⟩ => ⟨S32x128x16x128, .f32⟩
  | .hbm, ⟨35, _⟩ => ⟨S32x128x16x128, .f32⟩
  | .hbm, ⟨36, _⟩ => ⟨S4096x2048, .f32⟩
  | .hbm, ⟨37, _⟩ => ⟨S32x128x16x128, .f32⟩
  | .hbm, ⟨38, _⟩ => ⟨S32x128x16x128, .f32⟩
  | .hbm, ⟨39, _⟩ => ⟨S32x128x16x128, .f32⟩
  | .hbm, ⟨40, _⟩ => ⟨S_, .f32⟩
  | .hbm, ⟨41, _⟩ => ⟨S128x16, .f32⟩
  | .hbm, ⟨42, _⟩ => ⟨S1x128x16x1, .f32⟩
  | .hbm, ⟨43, _⟩ => ⟨S_, .f32⟩
  | .hbm, ⟨44, _⟩ => ⟨S128x16, .f32⟩
  | .hbm, ⟨45, _⟩ => ⟨S128x16x1, .f32⟩
  | .hbm, ⟨46, _⟩ => ⟨S_, .f32⟩
  | .hbm, ⟨47, _⟩ => ⟨S128x16, .f32⟩
  | .hbm, ⟨48, _⟩ => ⟨S16x128, .f32⟩
  | .hbm, ⟨49, _⟩ => ⟨S16x128x1, .f32⟩
  | .hbm, ⟨50, _⟩ => ⟨S16x32x128x128, .f32⟩
  | .hbm, ⟨51, _⟩ => ⟨S16x128x128, .f32⟩
  | .hbm, ⟨52, _⟩ => ⟨S16x32x128x128, .f32⟩
  | .hbm, ⟨53, _⟩ => ⟨S32x128x16x128, .f32⟩
  | .hbm, ⟨54, _⟩ => ⟨S_, .f32⟩
  | .hbm, ⟨55, _⟩ => ⟨S16x128x128, .f32⟩
  | .hbm, ⟨56, _⟩ => ⟨S16x128x128, .f32⟩
  | .hbm, ⟨57, _⟩ => ⟨S4096x2048, .f32⟩
  | .hbm, ⟨58, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_call1_v0 : Ref sig .tc := ⟨.hbm, 21, rfl⟩
abbrev main_v6_1 : Ref sig .tc := ⟨.hbm, 22, rfl⟩
abbrev main_call1_v2 : Ref sig .tc := ⟨.hbm, 23, rfl⟩
abbrev main_v6_0 : Ref sig .tc := ⟨.hbm, 24, rfl⟩
abbrev main_call1_cst : Ref sig .tc := ⟨.hbm, 25, rfl⟩
abbrev main_v6_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call2_cst : Ref sig .tc := ⟨.hbm, 54, rfl⟩
abbrev main_call2_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]
-- ==== Kernel2.lean ====
abbrev S4096x4096 : Shape := ⟨2, ![4096, 4096]⟩
abbrev S4096x6144 : Shape := ⟨2, ![4096, 6144]⟩
abbrev S4096x2048 : Shape := ⟨2, ![4096, 2048]⟩
abbrev S2048x128 : Shape := ⟨2, ![2048, 128]⟩
abbrev S4096x128 : Shape := ⟨2, ![4096, 128]⟩
abbrev S16x2048x128 : Shape := ⟨3, ![16, 2048, 128]⟩
abbrev S256x256 : Shape := ⟨2, ![256, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S512x256 : Shape := ⟨2, ![512, 256]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S768x256 : Shape := ⟨2, ![768, 256]⟩
abbrev S768x128 : Shape := ⟨2, ![768, 128]⟩
abbrev S1x768x128 : Shape := ⟨3, ![1, 768, 128]⟩
abbrev S768 : Shape := ⟨1, ![768]⟩
abbrev S768x1 : Shape := ⟨2, ![768, 1]⟩
abbrev S1024x256 : Shape := ⟨2, ![1024, 256]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S1280x256 : Shape := ⟨2, ![1280, 256]⟩
abbrev S1280x128 : Shape := ⟨2, ![1280, 128]⟩
abbrev S1x1280x128 : Shape := ⟨3, ![1, 1280, 128]⟩
abbrev S1280 : Shape := ⟨1, ![1280]⟩
abbrev S1280x1 : Shape := ⟨2, ![1280, 1]⟩
abbrev S1536x256 : Shape := ⟨2, ![1536, 256]⟩
abbrev S1536x128 : Shape := ⟨2, ![1536, 128]⟩
abbrev S1x1536x128 : Shape := ⟨3, ![1, 1536, 128]⟩
abbrev S1536 : Shape := ⟨1, ![1536]⟩
abbrev S1536x1 : Shape := ⟨2, ![1536, 1]⟩
abbrev S1792x256 : Shape := ⟨2, ![1792, 256]⟩
abbrev S1792x128 : Shape := ⟨2, ![1792, 128]⟩
abbrev S1x1792x128 : Shape := ⟨3, ![1, 1792, 128]⟩
abbrev S1792 : Shape := ⟨1, ![1792]⟩
abbrev S1792x1 : Shape := ⟨2, ![1792, 1]⟩
abbrev S2048x256 : Shape := ⟨2, ![2048, 256]⟩
abbrev S1x2048x128 : Shape := ⟨3, ![1, 2048, 128]⟩
abbrev S2048 : Shape := ⟨1, ![2048]⟩
abbrev S2048x1 : Shape := ⟨2, ![2048, 1]⟩

abbrev nBuf : Space → Nat
  | .hbm => 6
  | .vmem => 20
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S4096x128, .f32⟩
  | .local _ .vmem, ⟨11, _⟩ => ⟨S4096x128, .f32⟩
  | .local _ .vmem, ⟨12, _⟩ => ⟨S4096x128, .bf16⟩
  | .local _ .vmem, ⟨13, _⟩ => ⟨S4096x128, .bf16⟩
  | .local _ .vmem, ⟨14, _⟩ => ⟨S16x2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S4096x128, .f32⟩
  | .local _ .vmem, ⟨19, _⟩ => ⟨S4096x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c8_i32 : BitVec 32 := 8#32
  let v25 : BitVec 32 := Scalar.muli arg1 c8_i32
  let c7_i32 : BitVec 32 := 7#32
  let v26 : BitVec 32 := Scalar.addi v25 c7_i32
  let c256_i32 : BitVec 32 := 256#32
  let v27 : BitVec 32 := Scalar.muli v26 c256_i32
  v27
def k0_off1 (i : grid0.Coords) (c7_i32 : BitVec 32) : Fin 2 → Nat :=
  let arg1 : BitVec 32 := BitVec.ofNat 32 (i 1).val
  let c8_i32 : BitVec 32 := 8#32
  let v25 : BitVec 32 := Scalar.muli arg1 c8_i32
  let v26 : BitVec 32 := Scalar.addi v25 c7_i32
  let c256_i32 : BitVec 32 := 256#32
  let v27 : BitVec 32 := Scalar.muli v26 c256_i32
  let v28 : BitVec 32 := v27
  let v37 : Index := Scalar.indexCast v28
  let c0_10 : Index := 0#32
  ![v37.toNat, 0]
def k0_off2 (i : grid0.Coords) : Fin 3 → Nat :=
  let arg1 : BitVec 32 := BitVec.ofNat 32 (i 1).val
  let c8_i32 : BitVec 32 := 8#32
  let v25 : BitVec 32 := Scalar.muli arg1 c8_i32
  let c7_i32 : BitVec 32 := 7#32
  let v26 : BitVec 32 := Scalar.addi v25 c7_i32
  let v56 : Index := Scalar.indexCast v26
  let c1792_19 : Index := 1792#32
  let c0_20 : Index := 0#32
  ![v56.toNat, 1792, 0]
def k0_mult2 (i : grid0.Coords) : BitVec 32 :=
  let arg1 : BitVec 32 := BitVec.ofNat 32 (i 1).val
  let c8_i32_24 : BitVec 32 := 8#32
  let v67 : BitVec 32 := Scalar.muli arg1 c8_i32_24
  let c6_i32 : BitVec 32 := 6#32
  let v68 : BitVec 32 := Scalar.addi v67 c6_i32
  let c256_i32_25 : BitVec 32 := 256#32
  let v69 : BitVec 32 := Scalar.muli v68 c256_i32_25
  v69
def k0_off3 (i : grid0.Coords) : Fin 3 → Nat :=
  let arg1 : BitVec 32 := BitVec.ofNat 32 (i 1).val
  let c8_i32_24 : BitVec 32 := 8#32
  let v67 : BitVec 32 := Scalar.muli arg1 c8_i32_24
  let c6_i32 : BitVec 32 := 6#32
  let v68 : BitVec 32 := Scalar.addi v67 c6_i32
  let v98 : Index := Scalar.indexCast v68
  let c1536_37 : Index := 1536#32
  let c0_38 : Index := 0#32
  ![v98.toNat, 1536, 0]
def k0_mult3 (i : grid0.Coords) : BitVec 32 :=
  let arg1 : BitVec 32 := BitVec.ofNat 32 (i 1).val
  let c8_i32_42 : BitVec 32 := 8#32
  let v109 : BitVec 32 := Scalar.muli arg1 c8_i32_42
  let c5_i32 : BitVec 32 := 5#32
  let v110 : BitVec 32 := Scalar.addi v109 c5_i32
  let c256_i32_43 : BitVec 32 := 256#32
  let v111 : BitVec 32 := Scalar.muli v110 c256_i32_43
  v111
def k0_off4 (i : grid0.Coords) : Fin 3 → Nat :=
  let arg1 : BitVec 32 := BitVec.ofNat 32 (i 1).val
  let c8_i32_42 : BitVec 32 := 8#32
  let v109 : BitVec 32 := Scalar.muli arg1 c8_i32_42
  let c5_i32 : BitVec 32 := 5#32
  let v110 : BitVec 32 := Scalar.addi v109 c5_i32
  let v140 : Index := Scalar.indexCast v110
  let c1280_55 : Index := 1280#32
  let c0_56 : Index := 0#32
  ![v140.toNat, 1280, 0]
def k0_mult4 (i : grid0.Coords) : BitVec 32 :=
  let arg1 : BitVec 32 := BitVec.ofNat 32 (i 1).val
  let c8_i32_60 : BitVec 32 := 8#32
  let v151 : BitVec 32 := Scalar.muli arg1 c8_i32_60
  let c4_i32 : BitVec 32 := 4#32
  let v152 : BitVec 32 := Scalar.addi v151 c4_i32
  let c256_i32_61 : BitVec 32 := 256#32
  let v153 : BitVec 32 := Scalar.muli v152 c256_i32_61
  v153
def k0_off5 (i : grid0.Coords) : Fin 3 → Nat :=
  let arg1 : BitVec 32 := BitVec.ofNat 32 (i 1).val
  let c8_i32_60 : BitVec 32 := 8#32
  let v151 : BitVec 32 := Scalar.muli arg1 c8_i32_60
  let c4_i32 : BitVec 32 := 4#32
  let v152 : BitVec 32 := Scalar.addi v151 c4_i32
  let v182 : Index := Scalar.indexCast v152
  let c1024_73 : Index := 1024#32
  let c0_74 : Index := 0#32
  ![v182.toNat, 1024, 0]
def k0_mult5 (i : grid0.Coords) : BitVec 32 :=
  let arg1 : BitVec 32 := BitVec.ofNat 32 (i 1).val
  let c8_i32_78 : BitVec 32 := 8#32
  let v193 : BitVec 32 := Scalar.muli arg1 c8_i32_78
  let c3_i32 : BitVec 32 := 3#32
  let v194 : BitVec 32 := Scalar.addi v193 c3_i32
  let c256_i32_79 : BitVec 32 := 256#32
  let v195 : BitVec 32 := Scalar.muli v194 c256_i32_79
  v195
def k0_off6 (i : grid0.Coords) : Fin 3 → Nat :=
  let arg1 : BitVec 32 := BitVec.ofNat 32 (i 1).val
  let c8_i32_78 : BitVec 32 := 8#32
  let v193 : BitVec 32 := Scalar.muli arg1 c8_i32_78
  let c3_i32 : BitVec 32 := 3#32
  let v194 : BitVec 32 := Scalar.addi v193 c3_i32
  let v224 : Index := Scalar.indexCast v194
  let c768_91 : Index := 768#32
  let c0_92 : Index := 0#32
  ![v224.toNat, 768, 0]
def k0_mult6 (i : grid0.Coords) : BitVec 32 :=
  let arg1 : BitVec 32 := BitVec.ofNat 32 (i 1).val
  let c8_i32_96 : BitVec 32 := 8#32
  let v235 : BitVec 32 := Scalar.muli arg1 c8_i32_96
  let c2_i32 : BitVec 32 := 2#32
  let v236 : BitVec 32 := Scalar.addi v235 c2_i32
  let c256_i32_97 : BitVec 32 := 256#32
  let v237 : BitVec 32 := Scalar.muli v236 c256_i32_97
  v237
def k0_off7 (i : grid0.Coords) : Fin 3 → Nat :=
  let arg1 : BitVec 32 := BitVec.ofNat 32 (i 1).val
  let c8_i32_96 : BitVec 32 := 8#32
  let v235 : BitVec 32 := Scalar.muli arg1 c8_i32_96
  let c2_i32 : BitVec 32 := 2#32
  let v236 : BitVec 32 := Scalar.addi v235 c2_i32
  let v266 : Index := Scalar.indexCast v236
  let c512_109 : Index := 512#32
  let c0_110 : Index := 0#32
  ![v266.toNat, 512, 0]
def k0_mult7 (i : grid0.Coords) : BitVec 32 :=
  let arg1 : BitVec 32 := BitVec.ofNat 32 (i 1).val
  let c8_i32_114 : BitVec 32 := 8#32
  let v277 : BitVec 32 := Scalar.muli arg1 c8_i32_114
  let c1_i32 : BitVec 32 := 1#32
  let v278 : BitVec 32 := Scalar.addi v277 c1_i32
  let c256_i32_115 : BitVec 32 := 256#32
  let v279 : BitVec 32 := Scalar.muli v278 c256_i32_115
  v279
def k0_off8 (i : grid0.Coords) : Fin 3 → Nat :=
  let arg1 : BitVec 32 := BitVec.ofNat 32 (i 1).val
  let c8_i32_114 : BitVec 32 := 8#32
  let v277 : BitVec 32 := Scalar.muli arg1 c8_i32_114
  let c1_i32 : BitVec 32 := 1#32
  let v278 : BitVec 32 := Scalar.addi v277 c1_i32
  let v308 : Index := Scalar.indexCast v278
  let c256_128 : Index := 256#32
  let c0_129 : Index := 0#32
  ![v308.toNat, 256, 0]
def k0_mult8 (i : grid0.Coords) : BitVec 32 :=
  let arg1 : BitVec 32 := BitVec.ofNat 32 (i 1).val
  let c8_i32_133 : BitVec 32 := 8#32
  let v319 : BitVec 32 := Scalar.muli arg1 c8_i32_133
  let c0_i32_134 : BitVec 32 := 0#32
  let v320 : BitVec 32 := Scalar.addi v319 c0_i32_134
  let c256_i32_135 : BitVec 32 := 256#32
  let v321 : BitVec 32 := Scalar.muli v320 c256_i32_135
  v321
def k0_off9 (i : grid0.Coords) : Fin 3 → Nat :=
  let arg1 : BitVec 32 := BitVec.ofNat 32 (i 1).val
  let c8_i32_133 : BitVec 32 := 8#32
  let v319 : BitVec 32 := Scalar.muli arg1 c8_i32_133
  let c0_i32_134 : BitVec 32 := 0#32
  let v320 : BitVec 32 := Scalar.addi v319 c0_i32_134
  let v350 : Index := Scalar.indexCast v320
  let c0_149 : Index := 0#32
  let c0_150 : Index := 0#32
  ![v350.toNat, 0, 0]
@[reducible] def k0_t1_loop (i : grid0.Coords) : Scf.Loop 32 :=
  let c0_i32_156 : BitVec 32 := 0#32
  let arg1 : BitVec 32 := BitVec.ofNat 32 (i 1).val
  let c8_i32_154 : BitVec 32 := 8#32
  let v361 : BitVec 32 := Scalar.muli arg1 c8_i32_154
  let v362 : BitVec 32 := Scalar.subi v361 c0_i32_156
  let c1_i32_157 : BitVec 32 := 1#32
  let v364 : BitVec 32 := Scalar.divsi v362 c1_i32_157
  let v365 : BitVec 32 := Scalar.muli v364 c1_i32_157
  let v366 : BitVec 32 := Scalar.addi c0_i32_156 v365
  let c1_i32_158 : BitVec 32 := 1#32
  ⟨c0_i32_156, v366, c1_i32_158⟩
def k0_mult9 (i : grid0.Coords) (k0_t1 : Fin (k0_t1_loop i).trips) : BitVec 32 :=
  let arg1 : BitVec 32 := BitVec.ofNat 32 (i 1).val
  let c8_i32_516 : BitVec 32 := 8#32
  let v1178 : BitVec 32 := Scalar.muli arg1 c8_i32_516
  let c1_i32_517 : BitVec 32 := 1#32
  let v1179 : BitVec 32 := Scalar.subi v1178 c1_i32_517
  let c0_i32_156 : BitVec 32 := 0#32
  let c1_i32_158 : BitVec 32 := 1#32
  let arg15 : BitVec 32 := Scf.iv c0_i32_156 c1_i32_158 k0_t1
  let v1180 : BitVec 32 := Scalar.subi v1179 arg15
  let c256_i32_518 : BitVec 32 := 256#32
  let v1181 : BitVec 32 := Scalar.muli v1180 c256_i32_518
  v1181
def k0_off10 (i : grid0.Coords) (k0_t1 : Fin (k0_t1_loop i).trips) : Fin 2 → Nat :=
  let arg1 : BitVec 32 := BitVec.ofNat 32 (i 1).val
  let c8_i32_516 : BitVec 32 := 8#32
  let v1178 : BitVec 32 := Scalar.muli arg1 c8_i32_516
  let c1_i32_517 : BitVec 32 := 1#32
  let v1179 : BitVec 32 := Scalar.subi v1178 c1_i32_517
  let c0_i32_156 : BitVec 32 := 0#32
  let c1_i32_158 : BitVec 32 := 1#32
  let arg15 : BitVec 32 := Scf.iv c0_i32_156 c1_i32_158 k0_t1
  let v1180 : BitVec 32 := Scalar.subi v1179 arg15
  let c256_i32_518 : BitVec 32 := 256#32
  let v1181 : BitVec 32 := Scalar.muli v1180 c256_i32_518
  let v1182 : BitVec 32 := v1181
  let v1184 : Index := Scalar.indexCast v1182
  let c0_521 : Index := 0#32
  ![v1184.toNat, 0]
def k0_off11 (i : grid0.Coords) (k0_t1 : Fin (k0_t1_loop i).trips) : Fin 3 → Nat :=
  let arg1 : BitVec 32 := BitVec.ofNat 32 (i 1).val
  let c8_i32_516 : BitVec 32 := 8#32
  let v1178 : BitVec 32 := Scalar.muli arg1 c8_i32_516
  let c1_i32_517 : BitVec 32 := 1#32
  let v1179 : BitVec 32 := Scalar.subi v1178 c1_i32_517
  let c0_i32_156 : BitVec 32 := 0#32
  let c1_i32_158 : BitVec 32 := 1#32
  let arg15 : BitVec 32 := Scf.iv c0_i32_156 c1_i32_158 k0_t1
  let v1180 : BitVec 32 := Scalar.subi v1179 arg15
  let v1201 : Index := Scalar.indexCast v1180
  let c0_529 : Index := 0#32
  let c0_530 : Index := 0#32
  ![v1201.toNat, 0, 0]
@[reducible] def k0_t2_loop (i : grid0.Coords) : Scf.Loop 32 :=
  let c0_i32_156 : BitVec 32 := 0#32
  let arg1 : BitVec 32 := BitVec.ofNat 32 (i 1).val
  let c8_i32_154 : BitVec 32 := 8#32
  let v361 : BitVec 32 := Scalar.muli arg1 c8_i32_154
  let v362 : BitVec 32 := Scalar.subi v361 c0_i32_156
  let c1_i32_157 : BitVec 32 := 1#32
  let v364 : BitVec 32 := Scalar.divsi v362 c1_i32_157
  let v365 : BitVec 32 := Scalar.muli v364 c1_i32_157
  let v366 : BitVec 32 := Scalar.addi c0_i32_156 v365
  let v363 : BitVec 32 := Scalar.addi c0_i32_156 v362
  let c1_i32_159 : BitVec 32 := 1#32
  ⟨v366, v363, c1_i32_159⟩
def k0_mult10 (i : grid0.Coords) (k0_t2 : Fin (k0_t2_loop i).trips) : BitVec 32 :=
  let arg1 : BitVec 32 := BitVec.ofNat 32 (i 1).val
  let c8_i32_516 : BitVec 32 := 8#32
  let v1178 : BitVec 32 := Scalar.muli arg1 c8_i32_516
  let c1_i32_517 : BitVec 32 := 1#32
  let v1179 : BitVec 32 := Scalar.subi v1178 c1_i32_517
  let c0_i32_156 : BitVec 32 := 0#32
  let c8_i32_154 : BitVec 32 := 8#32
  let v361 : BitVec 32 := Scalar.muli arg1 c8_i32_154
  let v362 : BitVec 32 := Scalar.subi v361 c0_i32_156
  let c1_i32_157 : BitVec 32 := 1#32
  let v364 : BitVec 32 := Scalar.divsi v362 c1_i32_157
  let v365 : BitVec 32 := Scalar.muli v364 c1_i32_157
  let v366 : BitVec 32 := Scalar.addi c0_i32_156 v365
  let c1_i32_159 : BitVec 32 := 1#32
  let arg15 : BitVec 32 := Scf.iv v366 c1_i32_159 k0_t2
  let v1180 : BitVec 32 := Scalar.subi v1179 arg15
  let c256_i32_518 : BitVec 32 := 256#32
  let v1181 : BitVec 32 := Scalar.muli v1180 c256_i32_518
  v1181
def k0_off12 (i : grid0.Coords) (k0_t2 : Fin (k0_t2_loop i).trips) : Fin 2 → Nat :=
  let arg1 : BitVec 32 := BitVec.ofNat 32 (i 1).val
  let c8_i32_516 : BitVec 32 := 8#32
  let v1178 : BitVec 32 := Scalar.muli arg1 c8_i32_516
  let c1_i32_517 : BitVec 32 := 1#32
  let v1179 : BitVec 32 := Scalar.subi v1178 c1_i32_517
  let c0_i32_156 : BitVec 32 := 0#32
  let c8_i32_154 : BitVec 32 := 8#32
  let v361 : BitVec 32 := Scalar.muli arg1 c8_i32_154
  let v362 : BitVec 32 := Scalar.subi v361 c0_i32_156
  let c1_i32_157 : BitVec 32 := 1#32
  let v364 : BitVec 32 := Scalar.divsi v362 c1_i32_157
  let v365 : BitVec 32 := Scalar.muli v364 c1_i32_157
  let v366 : BitVec 32 := Scalar.addi c0_i32_156 v365
  let c1_i32_159 : BitVec 32 := 1#32
  let arg15 : BitVec 32 := Scf.iv v366 c1_i32_159 k0_t2
  let v1180 : BitVec 32 := Scalar.subi v1179 arg15
  let c256_i32_518 : BitVec 32 := 256#32
  let v1181 : BitVec 32 := Scalar.muli v1180 c256_i32_518
  let v1182 : BitVec 32 := v1181
  let v1184 : Index := Scalar.indexCast v1182
  let c0_521 : Index := 0#32
  ![v1184.toNat, 0]
def k0_off13 (i : grid0.Coords) (k0_t2 : Fin (k0_t2_loop i).trips) : Fin 3 → Nat :=
  let arg1 : BitVec 32 := BitVec.ofNat 32 (i 1).val
  let c8_i32_516 : BitVec 32 := 8#32
  let v1178 : BitVec 32 := Scalar.muli arg1 c8_i32_516
  let c1_i32_517 : BitVec 32 := 1#32
  let v1179 : BitVec 32 := Scalar.subi v1178 c1_i32_517
  let c0_i32_156 : BitVec 32 := 0#32
  let c8_i32_154 : BitVec 32 := 8#32
  let v361 : BitVec 32 := Scalar.muli arg1 c8_i32_154
  let v362 : BitVec 32 := Scalar.subi v361 c0_i32_156
  let c1_i32_157 : BitVec 32 := 1#32
  let v364 : BitVec 32 := Scalar.divsi v362 c1_i32_157
  let v365 : BitVec 32 := Scalar.muli v364 c1_i32_157
  let v366 : BitVec 32 := Scalar.addi c0_i32_156 v365
  let c1_i32_159 : BitVec 32 := 1#32
  let arg15 : BitVec 32 := Scf.iv v366 c1_i32_159 k0_t2
  let v1180 : BitVec 32 := Scalar.subi v1179 arg15
  let v1201 : Index := Scalar.indexCast v1180
  let c0_529 : Index := 0#32
  let c0_530 : Index := 0#32
  ![v1201.toNat, 0, 0]
@[reducible] def k0_t3_loop (i : grid0.Coords) : Scf.Loop 32 :=
  let c0_i32_162 : BitVec 32 := 0#32
  let arg1 : BitVec 32 := BitVec.ofNat 32 (i 1).val
  let c8_i32_160 : BitVec 32 := 8#32
  let v367 : BitVec 32 := Scalar.muli arg1 c8_i32_160
  let v368 : BitVec 32 := Scalar.subi v367 c0_i32_162
  let c1_i32_163 : BitVec 32 := 1#32
  let v370 : BitVec 32 := Scalar.divsi v368 c1_i32_163
  let v371 : BitVec 32 := Scalar.muli v370 c1_i32_163
  let v372 : BitVec 32 := Scalar.addi c0_i32_162 v371
  let c1_i32_164 : BitVec 32 := 1#32
  ⟨c0_i32_162, v372, c1_i32_164⟩
def k0_mult11 (i : grid0.Coords) (k0_t3 : Fin (k0_t3_loop i).trips) : BitVec 32 :=
  let c0_i32_162 : BitVec 32 := 0#32
  let c1_i32_164 : BitVec 32 := 1#32
  let arg15 : BitVec 32 := Scf.iv c0_i32_162 c1_i32_164 k0_t3
  let c256_i32_516 : BitVec 32 := 256#32
  let v1178 : BitVec 32 := Scalar.muli arg15 c256_i32_516
  v1178
def k0_off14 (i : grid0.Coords) (k0_t3 : Fin (k0_t3_loop i).trips) : Fin 2 → Nat :=
  let c0_i32_162 : BitVec 32 := 0#32
  let c1_i32_164 : BitVec 32 := 1#32
  let arg15 : BitVec 32 := Scf.iv c0_i32_162 c1_i32_164 k0_t3
  let c256_i32_516 : BitVec 32 := 256#32
  let v1178 : BitVec 32 := Scalar.muli arg15 c256_i32_516
  let v1179 : BitVec 32 := v1178
  let v1180 : Index := Scalar.indexCast v1179
  let c0_517 : Index := 0#32
  ![v1180.toNat, 0]
def k0_off15 (i : grid0.Coords) (k0_t3 : Fin (k0_t3_loop i).trips) : Fin 3 → Nat :=
  let c0_i32_162 : BitVec 32 := 0#32
  let c1_i32_164 : BitVec 32 := 1#32
  let arg15 : BitVec 32 := Scf.iv c0_i32_162 c1_i32_164 k0_t3
  let v1204 : Index := Scalar.indexCast arg15
  let c0_528 : Index := 0#32
  let c0_529 : Index := 0#32
  ![v1204.toNat, 0, 0]
@[reducible] def k0_t4_loop (i : grid0.Coords) : Scf.Loop 32 :=
  let c0_i32_162 : BitVec 32 := 0#32
  let arg1 : BitVec 32 := BitVec.ofNat 32 (i 1).val
  let c8_i32_160 : BitVec 32 := 8#32
  let v367 : BitVec 32 := Scalar.muli arg1 c8_i32_160
  let v368 : BitVec 32 := Scalar.subi v367 c0_i32_162
  let c1_i32_163 : BitVec 32 := 1#32
  let v370 : BitVec 32 := Scalar.divsi v368 c1_i32_163
  let v371 : BitVec 32 := Scalar.muli v370 c1_i32_163
  let v372 : BitVec 32 := Scalar.addi c0_i32_162 v371
  let v369 : BitVec 32 := Scalar.addi c0_i32_162 v368
  let c1_i32_165 : BitVec 32 := 1#32
  ⟨v372, v369, c1_i32_165⟩
def k0_mult12 (i : grid0.Coords) (k0_t4 : Fin (k0_t4_loop i).trips) : BitVec 32 :=
  let c0_i32_162 : BitVec 32 := 0#32
  let arg1 : BitVec 32 := BitVec.ofNat 32 (i 1).val
  let c8_i32_160 : BitVec 32 := 8#32
  let v367 : BitVec 32 := Scalar.muli arg1 c8_i32_160
  let v368 : BitVec 32 := Scalar.subi v367 c0_i32_162
  let c1_i32_163 : BitVec 32 := 1#32
  let v370 : BitVec 32 := Scalar.divsi v368 c1_i32_163
  let v371 : BitVec 32 := Scalar.muli v370 c1_i32_163
  let v372 : BitVec 32 := Scalar.addi c0_i32_162 v371
  let c1_i32_165 : BitVec 32 := 1#32
  let arg15 : BitVec 32 := Scf.iv v372 c1_i32_165 k0_t4
  let c256_i32_516 : BitVec 32 := 256#32
  let v1178 : BitVec 32 := Scalar.muli arg15 c256_i32_516
  v1178
def k0_off16 (i : grid0.Coords) (k0_t4 : Fin (k0_t4_loop i).trips) : Fin 2 → Nat :=
  let c0_i32_162 : BitVec 32 := 0#32
  let arg1 : BitVec 32 := BitVec.ofNat 32 (i 1).val
  let c8_i32_160 : BitVec 32 := 8#32
  let v367 : BitVec 32 := Scalar.muli arg1 c8_i32_160
  let v368 : BitVec 32 := Scalar.subi v367 c0_i32_162
  let c1_i32_163 : BitVec 32 := 1#32
  let v370 : BitVec 32 := Scalar.divsi v368 c1_i32_163
  let v371 : BitVec 32 := Scalar.muli v370 c1_i32_163
  let v372 : BitVec 32 := Scalar.addi c0_i32_162 v371
  let c1_i32_165 : BitVec 32 := 1#32
  let arg15 : BitVec 32 := Scf.iv v372 c1_i32_165 k0_t4
  let c256_i32_516 : BitVec 32 := 256#32
  let v1178 : BitVec 32 := Scalar.muli arg15 c256_i32_516
  let v1179 : BitVec 32 := v1178
  let v1180 : Index := Scalar.indexCast v1179
  let c0_517 : Index := 0#32
  ![v1180.toNat, 0]
def k0_off17 (i : grid0.Coords) (k0_t4 : Fin (k0_t4_loop i).trips) : Fin 3 → Nat :=
  let c0_i32_162 : BitVec 32 := 0#32
  let arg1 : BitVec 32 := BitVec.ofNat 32 (i 1).val
  let c8_i32_160 : BitVec 32 := 8#32
  let v367 : BitVec 32 := Scalar.muli arg1 c8_i32_160
  let v368 : BitVec 32 := Scalar.subi v367 c0_i32_162
  let c1_i32_163 : BitVec 32 := 1#32
  let v370 : BitVec 32 := Scalar.divsi v368 c1_i32_163
  let v371 : BitVec 32 := Scalar.muli v370 c1_i32_163
  let v372 : BitVec 32 := Scalar.addi c0_i32_162 v371
  let c1_i32_165 : BitVec 32 := 1#32
  let arg15 : BitVec 32 := Scf.iv v372 c1_i32_165 k0_t4
  let v1204 : Index := Scalar.indexCast arg15
  let c0_528 : Index := 0#32
  let c0_529 : Index := 0#32
  ![v1204.toNat, 0, 0]
def k0_mult13 (i : grid0.Coords) : BitVec 32 :=
  let arg1 : BitVec 32 := BitVec.ofNat 32 (i 1).val
  let c8_i32_166 : BitVec 32 := 8#32
  let v373 : BitVec 32 := Scalar.muli arg1 c8_i32_166
  let c0_i32_167 : BitVec 32 := 0#32
  let v374 : BitVec 32 := Scalar.addi v373 c0_i32_167
  let c256_i32_168 : BitVec 32 := 256#32
  let v375 : BitVec 32 := Scalar.muli v374 c256_i32_168
  v375
def k0_mult14 (i : grid0.Coords) : BitVec 32 :=
  let arg1 : BitVec 32 := BitVec.ofNat 32 (i 1).val
  let c8_i32_209 : BitVec 32 := 8#32
  let v473 : BitVec 32 := Scalar.muli arg1 c8_i32_209
  let c1_i32_210 : BitVec 32 := 1#32
  let v474 : BitVec 32 := Scalar.addi v473 c1_i32_210
  let c256_i32_211 : BitVec 32 := 256#32
  let v475 : BitVec 32 := Scalar.muli v474 c256_i32_211
  v475
def k0_mult15 (i : grid0.Coords) : BitVec 32 :=
  let arg1 : BitVec 32 := BitVec.ofNat 32 (i 1).val
  let c8_i32_252 : BitVec 32 := 8#32
  let v573 : BitVec 32 := Scalar.muli arg1 c8_i32_252
  let c2_i32_253 : BitVec 32 := 2#32
  let v574 : BitVec 32 := Scalar.addi v573 c2_i32_253
  let c256_i32_254 : BitVec 32 := 256#32
  let v575 : BitVec 32 := Scalar.muli v574 c256_i32_254
  v575
def k0_mult16 (i : grid0.Coords) : BitVec 32 :=
  let arg1 : BitVec 32 := BitVec.ofNat 32 (i 1).val
  let c8_i32_295 : BitVec 32 := 8#32
  let v673 : BitVec 32 := Scalar.muli arg1 c8_i32_295
  let c3_i32_296 : BitVec 32 := 3#32
  let v674 : BitVec 32 := Scalar.addi v673 c3_i32_296
  let c256_i32_297 : BitVec 32 := 256#32
  let v675 : BitVec 32 := Scalar.muli v674 c256_i32_297
  v675
def k0_mult17 (i : grid0.Coords) : BitVec 32 :=
  let arg1 : BitVec 32 := BitVec.ofNat 32 (i 1).val
  let c8_i32_338 : BitVec 32 := 8#32
  let v773 : BitVec 32 := Scalar.muli arg1 c8_i32_338
  let c4_i32_339 : BitVec 32 := 4#32
  let v774 : BitVec 32 := Scalar.addi v773 c4_i32_339
  let c256_i32_340 : BitVec 32 := 256#32
  let v775 : BitVec 32 := Scalar.muli v774 c256_i32_340
  v775
def k0_mult18 (i : grid0.Coords) : BitVec 32 :=
  let arg1 : BitVec 32 := BitVec.ofNat 32 (i 1).val
  let c8_i32_381 : BitVec 32 := 8#32
  let v873 : BitVec 32 := Scalar.muli arg1 c8_i32_381
  let c5_i32_382 : BitVec 32 := 5#32
  let v874 : BitVec 32 := Scalar.addi v873 c5_i32_382
  let c256_i32_383 : BitVec 32 := 256#32
  let v875 : BitVec 32 := Scalar.muli v874 c256_i32_383
  v875
def k0_mult19 (i : grid0.Coords) : BitVec 32 :=
  let arg1 : BitVec 32 := BitVec.ofNat 32 (i 1).val
  let c8_i32_424 : BitVec 32 := 8#32
  let v973 : BitVec 32 := Scalar.muli arg1 c8_i32_424
  let c6_i32_425 : BitVec 32 := 6#32
  let v974 : BitVec 32 := Scalar.addi v973 c6_i32_425
  let c256_i32_426 : BitVec 32 := 256#32
  let v975 : BitVec 32 := Scalar.muli v974 c256_i32_426
  v975
def k0_mult20 (i : grid0.Coords) : BitVec 32 :=
  let arg1 : BitVec 32 := BitVec.ofNat 32 (i 1).val
  let c8_i32_467 : BitVec 32 := 8#32
  let v1073 : BitVec 32 := Scalar.muli arg1 c8_i32_467
  let c7_i32_468 : BitVec 32 := 7#32
  let v1074 : BitVec 32 := Scalar.addi v1073 c7_i32_468
  let c256_i32_469 : BitVec 32 := 256#32
  let v1075 : BitVec 32 := Scalar.muli v1074 c256_i32_469
  v1075
def k0_cond2 (i : grid0.Coords) : BitVec 1 :=
  let arg1 : BitVec 32 := BitVec.ofNat 32 (i 1).val
  let c1_i32_514 : BitVec 32 := 1#32
  let v1175 : BitVec 1 := Scalar.cmpi .eq arg1 c1_i32_514
  let v1176 : BitVec 32 := Scalar.extui v1175
  let c0_i32_515 : BitVec 32 := 0#32
  let v1177 : BitVec 1 := Scalar.cmpi .ne v1176 c0_i32_515
  v1177

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4096x4096 : Shape := ⟨2, ![4096, 4096]⟩
abbrev S4096x6144 : Shape := ⟨2, ![4096, 6144]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S16x128x4096 : Shape := ⟨3, ![16, 128, 4096]⟩

abbrev nBuf : Space → Nat
  | .hbm => 187
  | .vmem => 0
  | .smem => 0
  | _ => 0

abbrev hbmTy0_0 (i : Nat) : BufTy := match i % 128 with
  | 0 => ⟨S4096x4096, .bf16⟩
  | 1 => ⟨S4096x6144, .bf16⟩
  | 2 => ⟨S4096x2048, .bf16⟩
  | 3 => ⟨S4096x2048, .bf16⟩
  | 4 => ⟨S4096x2048, .bf16⟩
  | 5 => ⟨S4096x2048, .bf16⟩
  | 6 => ⟨S4096x2048, .f32⟩
  | 7 => ⟨S4096x2048, .f32⟩
  | 8 => ⟨S4096x2048, .f32⟩
  | 9 => ⟨S4096x16x128, .f32⟩
  | 10 => ⟨S16x4096x128, .f32⟩
  | 11 => ⟨S4096x16x128, .f32⟩
  | 12 => ⟨S16x4096x128, .f32⟩
  | 13 => ⟨S4096x16x128, .f32⟩
  | 14 => ⟨S16x4096x128, .f32⟩
  | 15 => ⟨S16x4096x4096, .f32⟩
  | 16 => ⟨S_, .f32⟩
  | 17 => ⟨S16x4096x4096, .f32⟩
  | 18 => ⟨S16x4096x4096, .f32⟩
  | 19 => ⟨S4096, .i32⟩
  | 20 => ⟨S1x4096, .i32⟩
  | 21 => ⟨S4096x1, .i32⟩
  | 22 => ⟨S4096x4096, .i32⟩
  | 23 => ⟨S4096x4096, .i32⟩
  | 24 => ⟨S4096x4096, .i1⟩
  | 25 => ⟨S16x4096x4096, .f32⟩
  | 26 => ⟨S_, .f32⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .i1⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S16x4096x4096, .f32⟩
  | 40 => ⟨S_, .f32⟩
  | 41 => ⟨S16x4096x4096, .f32⟩
  | 42 => ⟨S16x4096x4096, .i1⟩
  | 43 => ⟨S_, .f32⟩
  | 44 => ⟨S16x4096x4096, .f32⟩
  | 45 => ⟨S16x4096x4096, .f32⟩
  | 46 => ⟨S_, .f32⟩
  | 47 => ⟨S16x4096x4096, .f32⟩
  | 48 => ⟨S16x4096x4096, .i1⟩
  | 49 => ⟨S_, .f32⟩
  | 50 => ⟨S16x4096x4096, .f32⟩
  | 51 => ⟨S16x4096x4096, .f32⟩
  | 52 => ⟨S16x4096x4096, .f32⟩
  | 53 => ⟨S16x4096x4096, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S16x4096x4096, .f32⟩
  | 62 => ⟨S16x4096x4096, .i1⟩
  | 63 => ⟨S_, .f32⟩
  | 64 => ⟨S16x4096x4096, .f32⟩
  | 65 => ⟨S16x4096x4096, .f32⟩
  | 66 => ⟨S16x4096x4096, .f32⟩
  | 67 => ⟨S16x4096x4096, .f32⟩
  | 68 => ⟨S16x4096x4096, .f32⟩
  | 69 => ⟨S_, .f32⟩
  | 70 => ⟨S16x4096x4096, .f32⟩
  | 71 => ⟨S16x4096x4096, .f32⟩
  | 72 => ⟨S16x4096x4096, .f32⟩
  | 73 => ⟨S16x4096x4096, .f32⟩
  | 74 => ⟨S16x4096x4096, .f32⟩
  | 75 => ⟨S_, .f32⟩
  | 76 => ⟨S16x4096x4096, .f32⟩
  | 77 => ⟨S16x4096x4096, .f32⟩
  | 78 => ⟨S16x4096x4096, .f32⟩
  | 79 => ⟨S16x4096x4096, .f32⟩
  | 80 => ⟨S16x4096x4096, .i1⟩
  | 81 => ⟨S16x4096x4096, .f32⟩
  | 82 => ⟨S16x4096x4096, .f32⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .f32⟩
  | 88 => ⟨S16x4096x4096, .f32⟩
  | 89 => ⟨S_, .f32⟩
  | 90 => ⟨S16x4096x4096, .f32⟩
  | 91 => ⟨S16x4096x4096, .i1⟩
  | 92 => ⟨S_, .f32⟩
  | 93 => ⟨S16x4096x4096, .f32⟩
  | 94 => ⟨S16x4096x4096, .f32⟩
  | 95 => ⟨S_, .f32⟩
  | 96 => ⟨S16x4096x4096, .f32⟩
  | 97 => ⟨S16x4096x4096, .i1⟩
  | 98 => ⟨S_, .f32⟩
  | 99 => ⟨S16x4096x4096, .f32⟩
  | 100 => ⟨S16x4096x4096, .f32⟩
  | 101 => ⟨S16x4096x4096, .f32⟩
  | 102 => ⟨S16x4096x4096, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S16x4096x4096, .f32⟩
  | 111 => ⟨S16x4096x4096, .i1⟩
  | 112 => ⟨S_, .f32⟩
  | 113 => ⟨S16x4096x4096, .f32⟩
  | 114 => ⟨S16x4096x4096, .f32⟩
  | 115 => ⟨S16x4096x4096, .f32⟩
  | 116 => ⟨S16x4096x4096, .f32⟩
  | 117 => ⟨S16x4096x4096, .f32⟩
  | 118 => ⟨S_, .f32⟩
  | 119 => ⟨S16x4096x4096, .f32⟩
  | 120 => ⟨S16x4096x4096, .f32⟩
  | 121 => ⟨S16x4096x4096, .f32⟩
  | 122 => ⟨S_, .f32⟩
  | 123 => ⟨S_, .f32⟩
  | 124 => ⟨S16x4096x4096, .i1⟩
  | 125 => ⟨S16x4096x4096, .f32⟩
  | 126 => ⟨S16x4096x4096, .f32⟩
  | 127 => ⟨S_, .f32⟩
  | _ => ⟨S4096x4096, .bf16⟩

abbrev hbmTy0_1 (i : Nat) : BufTy := match i % 128 with
  | 0 => ⟨S16x4096x4096, .f32⟩
  | 1 => ⟨S_, .f32⟩
  | 2 => ⟨S_, .f32⟩
  | 3 => ⟨S16x4096x4096, .f32⟩
  | 4 => ⟨S16x4096x4096, .f32⟩
  | 5 => ⟨S16x4096x4096, .f32⟩
  | 6 => ⟨S16x4096x4096, .f32⟩
  | 7 => ⟨S_, .f32⟩
  | 8 => ⟨S_, .f32⟩
  | 9 => ⟨S16x4096x4096, .i1⟩
  | 10 => ⟨S16x4096x4096, .f32⟩
  | 11 => ⟨S16x4096x4096, .f32⟩
  | 12 => ⟨S_, .f32⟩
  | 13 => ⟨S16x4096x4096, .f32⟩
  | 14 => ⟨S16x4096x4096, .bf16⟩
  | 15 => ⟨S16x4096x4096, .f32⟩
  | 16 => ⟨S16x4096x128, .f32⟩
  | 17 => ⟨S4096x16x128, .f32⟩
  | 18 => ⟨S4096x2048, .f32⟩
  | 19 => ⟨S4096x2048, .f32⟩
  | 20 => ⟨S4096x16x128, .f32⟩
  | 21 => ⟨S16x4096x128, .f32⟩
  | 22 => ⟨S16x128x4096, .f32⟩
  | 23 => ⟨S16x4096x128, .f32⟩
  | 24 => ⟨S16x4096x4096, .f32⟩
  | 25 => ⟨S16x4096x4096, .bf16⟩
  | 26 => ⟨S16x4096x4096, .f32⟩
  | 27 => ⟨S_, .f32⟩
  | 28 => ⟨S16x4096x4096, .f32⟩
  | 29 => ⟨S16x4096x4096, .f32⟩
  | 30 => ⟨S16x4096x4096, .f32⟩
  | 31 => ⟨S16x4096x4096, .f32⟩
  | 32 => ⟨S_, .f32⟩
  | 33 => ⟨S_, .f32⟩
  | 34 => ⟨S16x4096x4096, .f32⟩
  | 35 => ⟨S16x4096x4096, .f32⟩
  | 36 => ⟨S_, .f32⟩
  | 37 => ⟨S16x4096x4096, .f32⟩
  | 38 => ⟨S16x4096x4096, .f32⟩
  | 39 => ⟨S16x4096x4096, .f32⟩
  | 40 => ⟨S16x4096x4096, .f32⟩
  | 41 => ⟨S16x4096x4096, .f32⟩
  | 42 => ⟨S16x4096x4096, .f32⟩
  | 43 => ⟨S16x4096x4096, .f32⟩
  | 44 => ⟨S16x4096x4096, .f32⟩
  | 45 => ⟨S16x4096x4096, .f32⟩
  | 46 => ⟨S16x4096x4096, .f32⟩
  | 47 => ⟨S_, .f32⟩
  | 48 => ⟨S16x4096x4096, .f32⟩
  | 49 => ⟨S16x4096x4096, .f32⟩
  | 50 => ⟨S16x4096x128, .f32⟩
  | 51 => ⟨S16x4096x128, .f32⟩
  | 52 => ⟨S4096x16x128, .f32⟩
  | 53 => ⟨S4096x2048, .f32⟩
  | 54 => ⟨S4096x16x128, .f32⟩
  | 55 => ⟨S4096x2048, .f32⟩
  | 56 => ⟨S4096x16x128, .f32⟩
  | 57 => ⟨S4096x2048, .f32⟩
  | 58 => ⟨S4096x2048, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v21_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v21_2 : Ref sig .tc := ⟨.hbm, 71, rfl⟩
abbrev main_v21_0 : Ref sig .tc := ⟨.hbm, 72, rfl⟩
abbrev main_v22 : Ref sig .tc := ⟨.hbm, 73, rfl⟩
abbrev main_call1_v0 : Ref sig .tc := ⟨.hbm, 74, rfl⟩
abbrev main_call1_call0_cst : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_v9 : Ref sig .tc := ⟨.hbm, 85, rfl⟩
abbrev main_call1_call0_v10 : Ref sig .tc := ⟨.hbm, 86, rfl⟩
abbrev main_call1_call0_v11 : Ref sig .tc := ⟨.hbm, 87, rfl⟩
abbrev main_call1_v1_0 : Ref sig .tc := ⟨.hbm, 88, rfl⟩
abbrev main_call1_call0_cst_0 : Ref sig .tc := ⟨.hbm, 89, rfl⟩
abbrev main_call1_call0_v13 : Ref sig .tc := ⟨.hbm, 90, rfl⟩
abbrev main_call1_call0_v14 : Ref sig .tc := ⟨.hbm, 91, rfl⟩
abbrev main_call1_call0_cst_1 : Ref sig .tc := ⟨.hbm, 92, rfl⟩
abbrev main_call1_call0_v15 : Ref sig .tc := ⟨.hbm, 93, rfl⟩
abbrev main_call1_call0_v16 : Ref sig .tc := ⟨.hbm, 94, rfl⟩
abbrev main_call1_call0_cst_2 : Ref sig .tc := ⟨.hbm, 95, rfl⟩
abbrev main_call1_call0_v17 : Ref sig .tc := ⟨.hbm, 96, rfl⟩
abbrev main_call1_call0_v18 : Ref sig .tc := ⟨.hbm, 97, rfl⟩
abbrev main_call1_call0_cst_3 : Ref sig .tc := ⟨.hbm, 98, rfl⟩
abbrev main_call1_call0_v19 : Ref sig .tc := ⟨.hbm, 99, rfl⟩
abbrev main_call1_call0_v20 : Ref sig .tc := ⟨.hbm, 100, rfl⟩
abbrev main_call1_call0_v21 : Ref sig .tc := ⟨.hbm, 101, rfl⟩
abbrev main_v23_1 : Ref sig .tc := ⟨.hbm, 102, rfl⟩
abbrev main_call1_call0_cst_4 : Ref sig .tc := ⟨.hbm, 103, rfl⟩
abbrev main_call1_call0_cst_5 : Ref sig .tc := ⟨.hbm, 104, rfl⟩
abbrev main_call1_call0_v23 : Ref sig .tc := ⟨.hbm, 105, rfl⟩
abbrev main_call1_call0_cst_6 : Ref sig .tc := ⟨.hbm, 106, rfl⟩
abbrev main_call1_call0_cst_7 : Ref sig .tc := ⟨.hbm, 107, rfl⟩
abbrev main_call1_call0_v24 : Ref sig .tc := ⟨.hbm, 108, rfl⟩
abbrev main_call1_call0_cst_8 : Ref sig .tc := ⟨.hbm, 109, rfl⟩
abbrev main_call1_call0_v25 : Ref sig .tc := ⟨.hbm, 110, rfl⟩
abbrev main_call1_call0_v26 : Ref sig .tc := ⟨.hbm, 111, rfl⟩
abbrev main_call1_call0_cst_9 : Ref sig .tc := ⟨.hbm, 112, rfl⟩
abbrev main_call1_call0_v27 : Ref sig .tc := ⟨.hbm, 113, rfl⟩
abbrev main_call1_call0_v28 : Ref sig .tc := ⟨.hbm, 114, rfl⟩
abbrev main_call1_call0_v29 : Ref sig .tc := ⟨.hbm, 115, rfl⟩
abbrev main_call1_call0_v30 : Ref sig .tc := ⟨.hbm, 116, rfl⟩
abbrev main_call1_call0_v31 : Ref sig .tc := ⟨.hbm, 117, rfl⟩
abbrev main_call1_call0_cst_10 : Ref sig .tc := ⟨.hbm, 118, rfl⟩
abbrev main_call1_call0_v32 : Ref sig .tc := ⟨.hbm, 119, rfl⟩
abbrev main_v23_2 : Ref sig .tc := ⟨.hbm, 120, rfl⟩
abbrev main_v23_0 : Ref sig .tc := ⟨.hbm, 121, rfl⟩
abbrev main_cst_0 : Ref sig .tc := ⟨.hbm, 122, rfl⟩
abbrev main_call2_v0 : Ref sig .tc := ⟨.hbm, 123, rfl⟩
abbrev main_v24_1 : Ref sig .tc := ⟨.hbm, 124, rfl⟩
abbrev main_call2_v2 : Ref sig .tc := ⟨.hbm, 125, rfl⟩
abbrev main_v24_0 : Ref sig .tc := ⟨.hbm, 126, rfl⟩
abbrev main_call2_cst : Ref sig .tc := ⟨.hbm, 127, rfl⟩
abbrev main_v24_2 : Ref sig .tc := ⟨.hbm, 128, rfl⟩
abbrev main_call3_cst : Ref sig .tc := ⟨.hbm, 129, rfl⟩
abbrev main_call3_v0 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_cst_1 : Ref sig .tc := ⟨.hbm, 135, rfl⟩
abbrev main_call4_v0 : Ref sig .tc := ⟨.hbm, 136, rfl⟩
abbrev main_v29_1 : Ref sig .tc := ⟨.hbm, 137, rfl⟩
abbrev main_call4_v2 : Ref sig .tc := ⟨.hbm, 138, rfl⟩
abbrev main_v29_0 : Ref sig .tc := ⟨.hbm, 139, rfl⟩
abbrev main_call4_cst : Ref sig .tc := ⟨.hbm, 140, rfl⟩
abbrev main_v29_2 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_call5_cst : Ref sig .tc := ⟨.hbm, 155, rfl⟩
abbrev main_call5_v0 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_call6_cst : Ref sig .tc := ⟨.hbm, 160, rfl⟩
abbrev main_call6_v0 : Ref sig .tc := ⟨.hbm, 161, rfl⟩
abbrev main_v46 : Ref sig .tc := ⟨.hbm, 162, rfl⟩
abbrev main_v47 : Ref sig .tc := ⟨.hbm, 163, rfl⟩
abbrev main_call7_cst : Ref sig .tc := ⟨.hbm, 164, rfl⟩
abbrev main_call7_v0 : Ref sig .tc := ⟨.hbm, 165, rfl⟩
abbrev main_v48 : Ref sig .tc := ⟨.hbm, 166, rfl⟩
abbrev main_call8_v0 : Ref sig .tc := ⟨.hbm, 167, rfl⟩
abbrev main_call8_v1 : Ref sig .tc := ⟨.hbm, 168, rfl⟩
abbrev main_v49 : Ref sig .tc := ⟨.hbm, 169, rfl⟩
abbrev main_v50 : Ref sig .tc := ⟨.hbm, 170, rfl⟩
abbrev main_call9_v0 : Ref sig .tc := ⟨.hbm, 171, rfl⟩
abbrev main_call9_v1 : Ref sig .tc := ⟨.hbm, 172, rfl⟩
abbrev main_v51 : Ref sig .tc := ⟨.hbm, 173, rfl⟩
abbrev main_v52 : Ref sig .tc := ⟨.hbm, 174, rfl⟩
abbrev main_cst_2 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S2048x8192 : Shape := ⟨2, ![2048, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S4096x2048, .f32⟩
  | .hbm, ⟨4, _⟩ => ⟨S2048x8192, .f32⟩
  | .hbm, ⟨5, _⟩ => ⟨S8192x2048, .f32⟩
  | .hbm, ⟨6, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4096x2048 : Shape := ⟨2, ![4096, 2048]⟩
abbrev S4x8192x2048 : Shape := ⟨3, ![4, 8192, 2048]⟩
abbrev S4096x8192 : Shape := ⟨2, ![4096, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x8192x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2048 : Shape := ⟨2, ![4096, 2048]⟩
abbrev S4x8192x2048 : Shape := ⟨3, ![4, 8192, 2048]⟩
abbrev S4096x8192 : Shape := ⟨2, ![4096, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S1x8192x2048, .bf16⟩
  | .hbm, ⟨16, _⟩ => ⟨S8192x2048, .bf16⟩
  | .hbm, ⟨17, _⟩ => ⟨S8192x2048, .f32⟩
  | .hbm, ⟨18, _⟩ => ⟨S4096x2048, .f32⟩
  | .hbm, ⟨19, _⟩ => ⟨S4096x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x8192 : Shape := ⟨2, ![4096, 8192]⟩
abbrev S8192x2048 : Shape := ⟨2, ![8192, 2048]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x8192 : Shape := ⟨2, ![4096, 8192]⟩
abbrev S4x2048x8192 : Shape := ⟨3, ![4, 2048, 8192]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x8192 : Shape := ⟨2, ![4096, 8192]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x8192, .bf16⟩
  | .hbm, ⟨2, _⟩ => ⟨S1x2048x8192, .bf16⟩
  | .hbm, ⟨3, _⟩ => ⟨S2048x8192, .bf16⟩
  | .hbm, ⟨4, _⟩ => ⟨S2048x8192, .f32⟩
  | .hbm, ⟨5, _⟩ => ⟨S4096x8192, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x6144 : Shape := ⟨2, ![4096, 6144]⟩
abbrev S6144x2048 : Shape := ⟨2, ![6144, 2048]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S6144x2048, .f32⟩
  | .hbm, ⟨5, _⟩ => ⟨S2048x6144, .f32⟩
  | .hbm, ⟨6, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S4096x4096 : Shape := ⟨2, ![4096, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x4096 : Shape := ⟨2, ![4096, 4096]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S2048x4096, .f32⟩
  | .hbm, ⟨6, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S4096x2048 : Shape := ⟨2, ![4096, 2048]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S2048x4096, .f32⟩
  | .hbm, ⟨5, _⟩ => ⟨S4096x2048, .f32⟩
  | .hbm, ⟨6, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S2x2048x2048 : Shape := ⟨3, ![2, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .bf16⟩
  | .hbm, ⟨2, _⟩ => ⟨S1x2048x2048, .bf16⟩
  | .hbm, ⟨3, _⟩ => ⟨S2048x2048, .bf16⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S4096x6144 : Shape := ⟨2, ![4096, 6144]⟩
abbrev S2x2048x6144 : Shape := ⟨3, ![2, 2048, 6144]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2x2048x6144, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x6144 : Shape := ⟨2, ![4096, 6144]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2x2048x6144, .bf16⟩
  | .hbm, ⟨2, _⟩ => ⟨S1x2048x6144, .bf16⟩
  | .hbm, ⟨3, _⟩ => ⟨S2048x6144, .bf16⟩
  | .hbm, ⟨4, _⟩ => ⟨S2048x6144, .f32⟩
  | .hbm, ⟨5, _⟩ => ⟨S4096x6144, .f32⟩
  | .hbm, ⟨6, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x4096 : Shape := ⟨2, ![4096, 4096]⟩
abbrev S1x2048x4096 : Shape := ⟨3, ![1, 2048, 4096]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1x2048x4096, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S1x2048x4096 : Shape := ⟨3, ![1, 2048, 4096]⟩
abbrev S2048x4096 : Shape := ⟨2, ![2048, 4096]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x2048x4096, .bf16⟩
  | .hbm, ⟨2, _⟩ => ⟨S2048x4096, .bf16⟩
  | .hbm, ⟨3, _⟩ => ⟨S2048x4096, .f32⟩
  | .hbm, ⟨4, _⟩ => ⟨S4096x4096, .f32⟩
  | .hbm, ⟨5, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x2048 : Shape := ⟨2, ![4096, 2048]⟩
abbrev S1x4096x2048 : Shape := ⟨3, ![1, 4096, 2048]⟩
abbrev S4096x4096 : Shape := ⟨2, ![4096, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S1x4096x2048 : Shape := ⟨3, ![1, 4096, 2048]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4096x4096 : Shape := ⟨2, ![4096, 4096]⟩
abbrev S2048x4096 : Shape := ⟨2, ![2048, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x4096 : Shape := ⟨2, ![4096, 4096]⟩
abbrev S2048x4096 : Shape := ⟨2, ![2048, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S2048x4096, .f32⟩
  | .hbm, ⟨3, _⟩ => ⟨S4096x4096, .f32⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x6144 : Shape := ⟨2, ![4096, 6144]⟩
abbrev S2048x6144 : Shape := ⟨2, ![2048, 6144]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x2048, .f32⟩
  | .hbm, ⟨6, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x128 : Shape := ⟨2, ![4096, 128]⟩
abbrev S2048x128 : Shape := ⟨2, ![2048, 128]⟩
abbrev S4096x2048 : Shape := ⟨2, ![4096, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .hbm, ⟨3, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x128 : Shape := ⟨2, ![4096, 128]⟩
abbrev S2048x128 : Shape := ⟨2, ![2048, 128]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | .hbm, ⟨5, _⟩ => ⟨S4096x2048, .f32⟩
  | .hbm, ⟨6, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x2048 : Shape := ⟨2, ![4096, 2048]⟩
abbrev S4096x128 : Shape := ⟨2, ![4096, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S4096x128 : Shape := ⟨2, ![4096, 128]⟩
abbrev S128x2048 : Shape := ⟨2, ![128, 2048]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S4096x2048, .f32⟩
  | .hbm, ⟨3, _⟩ => ⟨S4096x128, .f32⟩
  | .hbm, ⟨4, _⟩ => ⟨S128x2048, .f32⟩
  | .hbm, ⟨5, _⟩ => ⟨S2048x128, .f32⟩
  | .hbm, ⟨6, _⟩ => ⟨S2048x128, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S4096x2048 : Shape := ⟨2, ![4096, 2048]⟩
abbrev S4x2048x8192 : Shape := ⟨3, ![4, 2048, 8192]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x8192, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x2048 : Shape := ⟨2, ![4096, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x8192, .bf16⟩
  | .hbm, ⟨2, _⟩ => ⟨S1x2048x8192, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel21.lean ====
abbrev S4096x8192 : Shape := ⟨2, ![4096, 8192]⟩
abbrev S4x8192x2048 : Shape := ⟨3, ![4, 8192, 2048]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S4x8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x8192 : Shape := ⟨2, ![4096, 8192]⟩
abbrev S4x8192x2048 : Shape := ⟨3, ![4, 8192, 2048]⟩
abbrev S4096x2048 : Shape := ⟨2, ![4096, 2048]⟩
abbrev S1x8192x2048 : Shape := ⟨3, ![1, 8192, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x8192x2048, .bf16⟩
  | .hbm, ⟨2, _⟩ => ⟨S4096x2048, .f32⟩
  | .hbm, ⟨3, _⟩ => ⟨S1x8192x2048, .bf16⟩
  | .hbm, ⟨4, _⟩ => ⟨S8192x2048, .bf16⟩
  | .hbm, ⟨5, _⟩ => ⟨S4096x8192, .f32⟩
  | .hbm, ⟨6, _⟩ => ⟨S8192x2048, .f32⟩
  | .hbm, ⟨7, _⟩ => ⟨S4096x2048, .f32⟩
  | .hbm, ⟨8, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4096x2048 : Shape := ⟨2, ![4096, 2048]⟩
abbrev S2x2048x6144 : Shape := ⟨3, ![2, 2048, 6144]⟩
abbrev S4096x6144 : Shape := ⟨2, ![4096, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2x2048x6144, .bf16⟩
  | .hbm, ⟨2, _⟩ => ⟨S4096x6144, .f32⟩
  | .hbm, ⟨3, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x2048 : Shape := ⟨2, ![4096, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x6144, .bf16⟩
  | .hbm, ⟨2, _⟩ => ⟨S1x2048x6144, .bf16⟩
  | .hbm, ⟨3, _⟩ => ⟨S2048x6144, .bf16⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel23.lean ====
abbrev S4096x2048 : Shape := ⟨2, ![4096, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4096x2048 : Shape := ⟨2, ![4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .bf16⟩
  | .hbm, ⟨2, _⟩ => ⟨S4096x2048, .f32⟩
  | .hbm, ⟨3, _⟩ => ⟨S1x2048x2048, .bf16⟩
  | .hbm, ⟨4, _⟩ => ⟨S2048x2048, .bf16⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x2048 : Shape := ⟨2, ![4096, 2048]⟩
abbrev S1x2048x4096 : Shape := ⟨3, ![1, 2048, 4096]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x2048 : Shape := ⟨2, ![4096, 2048]⟩
abbrev S1x2048x4096 : Shape := ⟨3, ![1, 2048, 4096]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x4096, .bf16⟩
  | .hbm, ⟨2, _⟩ => ⟨S2048x4096, .bf16⟩
  | .hbm, ⟨3, _⟩ => ⟨S4096x2048, .f32⟩
  | .hbm, ⟨4, _⟩ => ⟨S2048x4096, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S4096x2048 : Shape := ⟨2, ![4096, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel25Ideal.lean ====
abbrev S4096x2048 : Shape := ⟨2, ![4096, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S4096x4096 : Shape := ⟨2, ![4096, 4096]⟩
abbrev S1x4096x2048 : Shape := ⟨3, ![1, 4096, 2048]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S1x4096x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S4096x4096 : Shape := ⟨2, ![4096, 4096]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x2048, .bf16⟩
  | .hbm, ⟨2, _⟩ => ⟨S4096x2048, .f32⟩
  | .hbm, ⟨3, _⟩ => ⟨S4096x2048, .bf16⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel28Ideal.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel29.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S4096x2048 : Shape := ⟨2, ![4096, 2048]⟩
abbrev S16x128x128 : Shape := ⟨3, ![16, 128, 128]⟩
abbrev S16x128x1 : Shape := ⟨3, ![16, 128, 1]⟩
abbrev S1024x128 : Shape := ⟨2, ![1024, 128]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S8x128x128 : Shape := ⟨3, ![8, 128, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x128x128, .f32⟩
  | .hbm, ⟨3, _⟩ => ⟨S16x128x1, .f32⟩
  | .hbm, ⟨4, _⟩ => ⟨S4096x2048, .bf16⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x1, .f32⟩
  | .local _ .vmem, ⟨7, _⟩ => ⟨S1x128x1, .f32⟩
  | .local _ .vmem, ⟨8, _⟩ => ⟨S1024x128, .bf16⟩
  | .local _ .vmem, ⟨9, _⟩ => ⟨S1024x128, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference30Ideal.lean ====
abbrev S4096x2048 : Shape := ⟨2, ![4096, 2048]⟩
abbrev S16x128x128 : Shape := ⟨3, ![16, 128, 128]⟩
abbrev S16x128x1 : Shape := ⟨3, ![16, 128, 1]⟩
abbrev S32x128x16x128 : Shape := ⟨4, ![32, 128, 16, 128]⟩
abbrev S_ : Shape := ⟨0, ![]⟩
abbrev S128x128 : Shape := ⟨2, ![128, 128]⟩
abbrev S1x128x128 : Shape := ⟨3, ![1, 128, 128]⟩
abbrev S16x32x128x128 : Shape := ⟨4, ![16, 32, 128, 128]⟩
abbrev S16x128 : Shape := ⟨2, ![16, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x128x128, .f32⟩
  | .hbm, ⟨3, _⟩ => ⟨S16x128x1, .f32⟩
  | .hbm, ⟨4, _⟩ => ⟨S4096x2048, .f32⟩
  | .hbm, ⟨5, _⟩ => ⟨S32x128x16x128, .f32⟩
  | .hbm, ⟨6, _⟩ => ⟨S32x128x16x128, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S16x128x128, .i1⟩
  | .hbm, ⟨22, _⟩ => ⟨S16x128x128, .f32⟩
  | .hbm, ⟨23, _⟩ => ⟨S16x128x128, .f32⟩
  | .hbm, ⟨24, _⟩ => ⟨S16x32x128x128, .f32⟩
  | .hbm, ⟨25, _⟩ => ⟨S32x128x16x128, .f32⟩
  | .hbm, ⟨26, _⟩ => ⟨S16x128, .f32⟩
  | .hbm, ⟨27, _⟩ => ⟨S128x16, .f32⟩
  | .hbm, ⟨28, _⟩ => ⟨S128x16x1, .f32⟩
  | .hbm, ⟨29, _⟩ => ⟨S1x128x16x1, .f32⟩
  | .hbm, ⟨30, _⟩ => ⟨S32x128x16x128, .f32⟩
  | .hbm, ⟨31, _⟩ => ⟨S32x128x16x128, .f32⟩
  | .hbm, ⟨32, _⟩ => ⟨S32x128x16x128, .f32⟩
  | .hbm, ⟨33, _⟩ => ⟨S4096x2048, .f32⟩
  | .hbm, ⟨34, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩

abbrev nD : Nat := 1
abbrev τ : Topo := Topo.v7x

variable {F : FTy → Type} [FloatOps F]
-- ==== Kernel31.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference31Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel32.lean ====
abbrev S4096x6144 : Shape := ⟨2, ![4096, 6144]⟩
abbrev S2x1x128 : Shape := ⟨3, ![2, 1, 128]⟩
abbrev S4096x4096 : Shape := ⟨2, ![4096, 4096]⟩
abbrev S1024x128 : Shape := ⟨2, ![1024, 128]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .f32⟩
  | .hbm, ⟨1, _⟩ => ⟨S2x1x128, .f32⟩
  | .hbm, ⟨2, _⟩ => ⟨S4096x4096, .bf16⟩
  | .local _ .vmem, ⟨0, _⟩ => ⟨S1024x128, .f32⟩
  | .local _ .vmem, ⟨1, _⟩ => ⟨S1024x128, .f32⟩
  | .local _ .vmem, ⟨2, _⟩ => ⟨S1x1x128, .f32⟩
  | .local _ .vmem, ⟨3, _⟩ => ⟨S1x1x128, .f32⟩
  | .local _ .vmem, ⟨4, _⟩ => ⟨S1024x128, .bf16⟩
  | .local _ .vmem, ⟨5, _⟩ => ⟨S1024x128, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S4096x6144 : Shape := ⟨2, ![4096, 6144]⟩
abbrev S2x1x128 : Shape := ⟨3, ![2, 1, 128]⟩
abbrev S4096x4096 : Shape := ⟨2, ![4096, 4096]⟩
abbrev S4096x2x16x128 : Shape := ⟨4, ![4096, 2, 16, 128]⟩
abbrev S_ : Shape := ⟨0, ![]⟩
abbrev S4096x2x16 : Shape := ⟨3, ![4096, 2, 16]⟩
abbrev S4096x2x16x1 : Shape := ⟨4, ![4096, 2, 16, 1]⟩
abbrev S1x2x1x128 : Shape := ⟨4, ![1, 2, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S2x1x128, .f32⟩
  | .hbm, ⟨2, _⟩ => ⟨S4096x4096, .f32⟩
  | .hbm, ⟨3, _⟩ => ⟨S4096x2x16x128, .f32⟩
  | .hbm, ⟨4, _⟩ => ⟨S4096x2x16x128, .f32⟩
  | .hbm, ⟨5, _⟩ => ⟨S_, .f32⟩
  | .hbm, ⟨6, _⟩ => ⟨S4096x2x16, .f32⟩
  | .hbm, ⟨7, _⟩ => ⟨S4096x2x16x1, .f32⟩
  | .hbm, ⟨8, _⟩ => ⟨S_, .f32⟩
  | .hbm, ⟨9, _⟩ => ⟨S4096x2x16x1, .f32⟩
  | .hbm, ⟨10, _⟩ => ⟨S4096x2x16x1, .f32⟩
  | .hbm, ⟨11, _⟩ => ⟨S_, .f32⟩
  | .hbm, ⟨12, _⟩ => ⟨S4096x2x16x1, .f32⟩
  | .hbm, ⟨13, _⟩ => ⟨S4096x2x16x1, .f32⟩
  | .hbm, ⟨14, _⟩ => ⟨S4096x2x16x1, .f32⟩
  | .hbm, ⟨15, _⟩ => ⟨S4096x2x16x128, .f32⟩
  | .hbm, ⟨16, _⟩ => ⟨S4096x2x16x128, .f32⟩
  | .hbm, ⟨17, _⟩ => ⟨S1x2x1x128, .f32⟩
  | .hbm, ⟨18, _⟩ => ⟨S4096x2x16x128, .f32⟩
  | .hbm, ⟨19, _⟩ => ⟨S4096x2x16x128, .f32⟩
  | .hbm, ⟨20, _⟩ => ⟨S4096x4096, .f32⟩
  | .hbm, ⟨21, _⟩ => ⟨S4096x4096, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel33.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v43 : BitVec 1 := Scalar.cmpi .eq arg1 c0_i32
  let arg0 : BitVec 32 := BitVec.ofNat 32 (i 0).val
  let c1_i32 : BitVec 32 := 1#32
  let c0_i32_20 : BitVec 32 := 0#32
  let v44 : BitVec 1 := Scalar.cmpi .eq c1_i32 c0_i32_20
  let c1_i32_21 : BitVec 32 := 1#32
  let v45 : BitVec 32 := Scalar.select v44 c1_i32_21 c1_i32
  let v46 : BitVec 32 := Scalar.remsi arg0 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let c0_i32_25 : BitVec 32 := 0#32
  let v54 : BitVec 1 := Scalar.cmpi .eq v53 c0_i32_25
  let v55 : BitVec 1 := Scalar.andi v43 v54
  let v56 : BitVec 32 := Scalar.extui v55
  let c0_i32_26 : BitVec 32 := 0#32
  let v57 : BitVec 1 := Scalar.cmpi .ne v56 c0_i32_26
  v57

def k0_cond2 (i : grid0.Coords) : BitVec 1 :=
  let arg1 : BitVec 32 := BitVec.ofNat 32 (i 1).val
  let c0_i32 : BitVec 32 := 0#32
  let v43 : BitVec 1 := Scalar.cmpi .eq arg1 c0_i32
  let arg0 : BitVec 32 := BitVec.ofNat 32 (i 0).val
  let c1_i32 : BitVec 32 := 1#32
  let c0_i32_20 : BitVec 32 := 0#32
  let v44 : BitVec 1 := Scalar.cmpi .eq c1_i32 c0_i32_20
  let c1_i32_21 : BitVec 32 := 1#32
  let v45 : BitVec 32 := Scalar.select v44 c1_i32_21 c1_i32
  let v46 : BitVec 32 := Scalar.remsi arg0 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let c0_i32_25 : BitVec 32 := 0#32
  let v54 : BitVec 1 := Scalar.cmpi .eq v53 c0_i32_25
  let v55 : BitVec 1 := Scalar.andi v43 v54
  let v_true : BitVec 1 := 1#1
  let v58 : BitVec 1 := Scalar.xori v55 v_true
  let v59 : BitVec 32 := Scalar.extui v58
  let c0_i32_27 : BitVec 32 := 0#32
  let v60 : BitVec 1 := Scalar.cmpi .ne v59 c0_i32_27
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference33Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel34.lean ====
abbrev S4096x128 : Shape := ⟨2, ![4096, 128]⟩
abbrev S1x128 : Shape := ⟨2, ![1, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference34Ideal.lean ====
abbrev S4096x128 : Shape := ⟨2, ![4096, 128]⟩
abbrev S1x128 : Shape := ⟨2, ![1, 128]⟩
abbrev S128 : Shape := ⟨1, ![128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S128, .f32⟩
  | .hbm, ⟨3, _⟩ => ⟨S1x128, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .i1⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v4 : Ref sig .tc := ⟨.hbm, 19, rfl⟩

abbrev nD : Nat := 1
abbrev τ : Topo := Topo.v7x

variable {F : FTy → Type} [FloatOps F]
-- ==== Kernel35.lean ====
abbrev S4096x4096 : Shape := ⟨2, ![4096, 4096]⟩
abbrev S8x1x512 : Shape := ⟨3, ![8, 1, 512]⟩
abbrev S1024x512 : Shape := ⟨2, ![1024, 512]⟩
abbrev S1x1x512 : Shape := ⟨3, ![1, 1, 512]⟩
abbrev S1x512 : Shape := ⟨2, ![1, 512]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S8x1x512, .f32⟩
  | .hbm, ⟨3, _⟩ => ⟨S4096x4096, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1x512, .f32⟩
  | .local _ .vmem, ⟨5, _⟩ => ⟨S1x1x512, .f32⟩
  | .local _ .vmem, ⟨6, _⟩ => ⟨S1024x512, .bf16⟩
  | .local _ .vmem, ⟨7, _⟩ => ⟨S1024x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference35Ideal.lean ====
abbrev S4096x4096 : Shape := ⟨2, ![4096, 4096]⟩
abbrev S8x1x512 : Shape := ⟨3, ![8, 1, 512]⟩
abbrev S_ : Shape := ⟨0, ![]⟩
abbrev S4096x8x512 : Shape := ⟨3, ![4096, 8, 512]⟩
abbrev S8x512 : Shape := ⟨2, ![8, 512]⟩
abbrev S4096x8 : Shape := ⟨2, ![4096, 8]⟩
abbrev S4096x8x1 : Shape := ⟨3, ![4096, 8, 1]⟩
abbrev S1x8x512 : Shape := ⟨3, ![1, 8, 512]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S8x1x512, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x8x512, .f32⟩
  | .hbm, ⟨14, _⟩ => ⟨S8x512, .f32⟩
  | .hbm, ⟨15, _⟩ => ⟨S4096x8x512, .f32⟩
  | .hbm, ⟨16, _⟩ => ⟨S_, .f32⟩
  | .hbm, ⟨17, _⟩ => ⟨S4096x8, .f32⟩
  | .hbm, ⟨18, _⟩ => ⟨S4096x8x1, .f32⟩
  | .hbm, ⟨19, _⟩ => ⟨S_, .f32⟩
  | .hbm, ⟨20, _⟩ => ⟨S4096x8x1, .f32⟩
  | .hbm, ⟨21, _⟩ => ⟨S4096x8x1, .f32⟩
  | .hbm, ⟨22, _⟩ => ⟨S_, .f32⟩
  | .hbm, ⟨23, _⟩ => ⟨S4096x8x1, .f32⟩
  | .hbm, ⟨24, _⟩ => ⟨S4096x8x1, .f32⟩
  | .hbm, ⟨25, _⟩ => ⟨S4096x8x1, .f32⟩
  | .hbm, ⟨26, _⟩ => ⟨S4096x8x512, .f32⟩
  | .hbm, ⟨27, _⟩ => ⟨S4096x8x512, .f32⟩
  | .hbm, ⟨28, _⟩ => ⟨S1x8x512, .f32⟩
  | .hbm, ⟨29, _⟩ => ⟨S4096x8x512, .f32⟩
  | .hbm, ⟨30, _⟩ => ⟨S4096x8x512, .f32⟩
  | .hbm, ⟨31, _⟩ => ⟨S4096x4096, .f32⟩
  | .hbm, ⟨32, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel36.lean ====
abbrev S4096x4096 : Shape := ⟨2, ![4096, 4096]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S4096x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference36Ideal.lean ====
abbrev S4096x4096 : Shape := ⟨2, ![4096, 4096]⟩
abbrev S1x2048 : Shape := ⟨2, ![1, 2048]⟩
abbrev S_ : Shape := ⟨0, ![]⟩
abbrev S4096x2048 : Shape := ⟨2, ![4096, 2048]⟩
abbrev S2048 : Shape := ⟨1, ![2048]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x2048, .f32⟩
  | .hbm, ⟨12, _⟩ => ⟨S4096x2048, .f32⟩
  | .hbm, ⟨13, _⟩ => ⟨S2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.Coord.lean ====
/-
  Arrays read at natural coordinates. `at1` … `at4` read an array of extended reals at coordinates that are natural
  numbers (zero outside the array), so that two readings are compared by arithmetic on the coordinates; and the
  matrix products and the sums over one or two axes as sums over ranges of natural numbers.
-/
module

public import Idealize.ShloMosaic.PureOps.Ideal.Laws
public import Idealize.ShloMosaic.Lib.Pipeline.Value
public import Idealize.ShloMosaic.Lib.ValueIdx
public import Idealize.ShloMosaic.Lib.IdealHost
public import Idealize.ShloMosaic.Lib.TwoAxisContraction

@[expose] public section

noncomputable section

namespace Cert.Coord

open Idealize.ShloMosaic Idealize.ShloMosaic.ValueIdx
open scoped BigOperators

/-- A vector at a natural coordinate. -/
def at1 {n0 : ℕ} (x : (⟨1, ![n0]⟩ : Shape).Idx → EReal) (a : ℕ) : EReal :=
  if h : a < n0 then x (ix1 ⟨a, h⟩) else 0

/-- A matrix at natural coordinates. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- A rank-3 array at natural coordinates. -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

/-- A rank-4 array at natural coordinates. -/
def at4 {n0 n1 n2 n3 : ℕ} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem at1_eq {n0 : ℕ} (x : (⟨1, ![n0]⟩ : Shape).Idx → EReal) (i : (⟨1, ![n0]⟩ : Shape).Idx) :
    x i = at1 x (i 0).val := by
  have h : at1 x (i 0).val = x (ix1 ⟨(i 0).val, (i 0).isLt⟩) := dif_pos (i 0).isLt
  rw [h]; exact congrArg x (eq_ix1 i)

theorem at2_eq {n0 n1 : ℕ} (x : (⟨2, ![n0, n1]⟩ : Shape).Idx → EReal) (i : (⟨2, ![n0, n1]⟩ : Shape).Idx) :
    x i = at2 x (i 0).val (i 1).val := by
  unfold at2; rw [dif_pos ⟨(i 0).isLt, (i 1).isLt⟩]; exact congrArg x (eq_ix2 i)

theorem at3_eq {n0 n1 n2 : ℕ} (x : (⟨3, ![n0, n1, n2]⟩ : Shape).Idx → EReal) (i : (⟨3, ![n0, n1, n2]⟩ : Shape).Idx) :
    x i = at3 x (i 0).val (i 1).val (i 2).val := by
  unfold at3; rw [dif_pos ⟨(i 0).isLt, (i 1).isLt, (i 2).isLt⟩]; exact congrArg x (eq_ix3 i)

theorem at4_eq {n0 n1 n2 n3 : ℕ} (x : (⟨4, ![n0, n1, n2, n3]⟩ : Shape).Idx → EReal)
    (i : (⟨4, ![n0, n1, n2, n3]⟩ : Shape).Idx) : x i = at4 x (i 0).val (i 1).val (i 2).val (i 3).val := by
  unfold at4; rw [dif_pos ⟨(i 0).isLt, (i 1).isLt, (i 2).isLt, (i 3).isLt⟩]; exact congrArg x (eq_ix4 i)

/-- Inside the array, `at2` is the array at the index with those coordinates. -/
theorem at2_lt {n0 n1 : ℕ} (x : (⟨2, ![n0, n1]⟩ : Shape).Idx → EReal) {a b : ℕ} (ha : a < n0) (hb : b < n1) :
    at2 x a b = x (ix2 ⟨a, ha⟩ ⟨b, hb⟩) := dif_pos ⟨ha, hb⟩

theorem at3_lt {n0 n1 n2 : ℕ} (x : (⟨3, ![n0, n1, n2]⟩ : Shape).Idx → EReal) {a b c : ℕ} (ha : a < n0) (hb : b < n1)
    (hc : c < n2) : at3 x a b c = x (ix3 ⟨a, ha⟩ ⟨b, hb⟩ ⟨c, hc⟩) := dif_pos ⟨ha, hb, hc⟩

theorem at4_lt {n0 n1 n2 n3 : ℕ} (x : (⟨4, ![n0, n1, n2, n3]⟩ : Shape).Idx → EReal) {a b c d : ℕ} (ha : a < n0)
    (hb : b < n1) (hc : c < n2) (hd : d < n3) : at4 x a b c d = x (ix4 ⟨a, ha⟩ ⟨b, hb⟩ ⟨c, hc⟩ ⟨d, hd⟩) :=
  dif_pos ⟨ha, hb, hc, hd⟩

/-- A contraction over one axis as a sum over a range, the factors named by their natural coordinate on that axis. -/
theorem sum_dot1 {sl sr so : Shape} (D : DotDims sl sr so) (n : ℕ) (hr : D.contr.rank = 1)
    (hs : D.contr.size ⟨0, by omega⟩ = n) (lhs : sl.Idx → EReal) (rhs : sr.Idx → EReal) (j : so.Idx) (f g : ℕ → EReal)
    (hf : ∀ k : D.contr.Idx, lhs (D.lhsIdx j k) = f (k ⟨0, by omega⟩).val)
    (hg : ∀ k : D.contr.Idx, rhs (D.rhsIdx j k) = g (k ⟨0, by omega⟩).val) :
    (∑ k : D.contr.Idx, lhs (D.lhsIdx j k) * rhs (D.rhsIdx j k)) = ∑ k ∈ Finset.range n, f k * g k := by
  rw [← Equiv.sum_comp (contrEquiv1 D n hr hs).symm, Finset.sum_range]
  refine Finset.sum_congr rfl fun k _ => ?_
  rw [hf, hg, contrEquiv1_symm_val D n hr hs k]

/-- A contraction over two axes as a double sum over ranges. -/
theorem sum_dot2 {sl sr so : Shape} (D : DotDims sl sr so) (n0 n1 : ℕ) (hr : D.contr.rank = 2)
    (h0 : D.contr.size ⟨0, by omega⟩ = n0) (h1 : D.contr.size ⟨1, by omega⟩ = n1) (lhs : sl.Idx → EReal)
    (rhs : sr.Idx → EReal) (j : so.Idx) (f g : ℕ → ℕ → EReal)
    (hf : ∀ k : D.contr.Idx, lhs (D.lhsIdx j k) = f (k ⟨0, by omega⟩).val (k ⟨1, by omega⟩).val)
    (hg : ∀ k : D.contr.Idx, rhs (D.rhsIdx j k) = g (k ⟨0, by omega⟩).val (k ⟨1, by omega⟩).val) :
    (∑ k : D.contr.Idx, lhs (D.lhsIdx j k) * rhs (D.rhsIdx j k))
      = ∑ a ∈ Finset.range n0, ∑ b ∈ Finset.range n1, f a b * g a b := by
  rw [sum_contr2 D n0 n1 hr h0 h1, Finset.sum_range]
  refine Finset.sum_congr rfl fun a _ => ?_
  rw [Finset.sum_range]
  refine Finset.sum_congr rfl fun b _ => ?_
  rw [hf, hg, contrEquiv2_symm_val0 D n0 n1 hr h0 h1 (a, b), contrEquiv2_symm_val1 D n0 n1 hr h0 h1 (a, b)]

/-- A sum over the indices of a rank-3 array with a given middle coordinate. -/
theorem sum_filter_mid {n0 n1 n2 : ℕ} (P : (⟨3, ![n0, n1, n2]⟩ : Shape).Idx → Prop) [DecidablePred P] (t : ℕ) (ht : t < n1)
    (hP : ∀ i, P i ↔ (i 1).val = t) (x : (⟨3, ![n0, n1, n2]⟩ : Shape).Idx → EReal) :
    (∑ i ∈ Finset.univ.filter P, x i) = ∑ a ∈ Finset.range n0, ∑ c ∈ Finset.range n2, at3 x a t c := by
  rw [← Finset.sum_product', eq_comm]
  refine Finset.sum_bij (fun p hp => ix3 ⟨p.1, Finset.mem_range.mp (Finset.mem_product.mp hp).1⟩ ⟨t, ht⟩
    ⟨p.2, Finset.mem_range.mp (Finset.mem_product.mp hp).2⟩) ?_ ?_ ?_ ?_
  · intro p hp; exact Finset.mem_filter.mpr ⟨Finset.mem_univ _, (hP _).mpr rfl⟩
  · intro p hp q hq h
    exact Prod.ext (congrArg (fun i => (i 0).val) h) (congrArg (fun i => (i 2).val) h)
  · intro i hi
    have h1 := (hP i).mp (Finset.mem_filter.mp hi).2
    refine ⟨((i 0).val, (i 2).val), Finset.mem_product.mpr ⟨Finset.mem_range.mpr (i 0).isLt, Finset.mem_range.mpr (i 2).isLt⟩, ?_⟩
    rw [eq_ix3 i]
    subst h1
    rfl
  · intro p hp
    exact at3_lt x _ ht _

/-- A sum over the indices of a rank-4 array with given second and third coordinates. -/
theorem sum_filter_mid2 {n0 n1 n2 n3 : ℕ} (P : (⟨4, ![n0, n1, n2, n3]⟩ : Shape).Idx → Prop) [DecidablePred P] (t g : ℕ)
    (ht : t < n1) (hg : g < n2) (hP : ∀ i, P i ↔ (i 1).val = t ∧ (i 2).val = g)
    (x : (⟨4, ![n0, n1, n2, n3]⟩ : Shape).Idx → EReal) :
    (∑ i ∈ Finset.univ.filter P, x i) = ∑ a ∈ Finset.range n0, ∑ c ∈ Finset.range n3, at4 x a t g c := by
  rw [← Finset.sum_product', eq_comm]
  refine Finset.sum_bij (fun p hp => ix4 ⟨p.1, Finset.mem_range.mp (Finset.mem_product.mp hp).1⟩ ⟨t, ht⟩ ⟨g, hg⟩
    ⟨p.2, Finset.mem_range.mp (Finset.mem_product.mp hp).2⟩) ?_ ?_ ?_ ?_
  · intro p hp; exact Finset.mem_filter.mpr ⟨Finset.mem_univ _, (hP _).mpr ⟨rfl, rfl⟩⟩
  · intro p hp q hq h
    exact Prod.ext (congrArg (fun i => (i 0).val) h) (congrArg (fun i => (i 3).val) h)
  · intro i hi
    obtain ⟨h1, h2⟩ := (hP i).mp (Finset.mem_filter.mp hi).2
    refine ⟨((i 0).val, (i 3).val), Finset.mem_product.mpr ⟨Finset.mem_range.mpr (i 0).isLt, Finset.mem_range.mpr (i 3).isLt⟩, ?_⟩
    rw [eq_ix4 i]
    subst h1 h2
    rfl
  · intro p hp
    exact at4_lt x _ ht hg _

end Cert.Coord

end
-- ==== Proof.Gate.Block.lean ====
/-
  What one grid point of the gate's backward kernel computes, element by element: its payloads at natural coordinates,
  over the extended reals.
-/
module

public import proofs.«01_k».proof.Proof.Coord
public import proofs.«01_k».proof.Proof.Gen.KernelIdeal.Skeleton

@[expose] public section

set_option maxRecDepth 16384

noncomputable section

namespace Cert.Gate

open Idealize.ShloMosaic Idealize.ShloMosaic.ValueIdx Cert.Coord
open Cert.KernelIdeal Cert.KernelIdeal.Gen
open scoped BigOperators

/-- The causal mask's comparison word at a row and a column. -/
theorem mask_word (a b : ℕ) (ha : a < 128) (hb : b < 128) :
    IntOp.cmpi .sge (BitVec.ofNat 32 a) (BitVec.ofNat 32 b) = if b ≤ a then 1#1 else 0#1 := by
  have h : ∀ a : Fin 128, ∀ b : Fin 128,
      IntOp.cmpi .sge (BitVec.ofNat 32 a.val) (BitVec.ofNat 32 b.val) = if b.val ≤ a.val then 1#1 else 0#1 := by decide +kernel
  exact h ⟨a, ha⟩ ⟨b, hb⟩

theorem pay3_apply (i : S128x128.Idx) : k0_pay3 i = if (i 1).val ≤ (i 0).val then 1#1 else 0#1 := by
  rw [← mask_word _ _ (i 0).isLt (i 1).isLt]
  unfold k0_pay3
  show IntOp.cmpi .sge (iota .tc S128x128 32 [0] iota_S128x128_d0_w32 i) (iota .tc S128x128 32 [1] iota_S128x128_d1_w32 i) = _
  rw [iota_single_apply, iota_single_apply]

/-- The masked mixing weights at a row and a column. -/
def wm (w : ℕ → ℕ → EReal) (t s : ℕ) : EReal := if s ≤ t then w t s else 0

theorem pay4_apply (w : FVec Ideal S1x128x128 .f32) (i : S8x128x128.Idx) :
    k0_pay4 (F := Ideal) w i = wm (at3 w 0) (i 1).val (i 2).val := by
  unfold k0_pay4
  refine (broadcastTo_apply _ _ i (ix3 (n0 := 1) (n1 := 128) (n2 := 128) 0 (i 1) (i 2)) (fun a => match a with
    | ⟨0, _⟩ => rfl | ⟨1, _⟩ => rfl | ⟨2, _⟩ => rfl)).trans ?_
  refine (shapeCast_apply _ _ _ (ix2 (n0 := 128) (n1 := 128) (i 1) (i 2)) ?_).trans ?_
  · rw [Shape.rowMajor_val_two, Shape.rowMajor_val_three]
    show (i 1).val * 128 + (i 2).val = (0 * 128 + (i 1).val) * 128 + (i 2).val
    omega
  · rw [select_apply, pay3_apply, wm]
    show Scalar.select (if (i 2).val ≤ (i 1).val then 1#1 else 0#1) _ _ = _
    split_ifs with h
    · rw [select_one]
      refine (shapeCast_apply _ _ _ (ix3 (n0 := 1) (n1 := 128) (n2 := 128) 0 (i 1) (i 2)) ?_).trans (at3_eq _ _)
      rw [Shape.rowMajor_val_two, Shape.rowMajor_val_three]
      show (0 * 128 + (i 1).val) * 128 + (i 2).val = (i 1).val * 128 + (i 2).val
      omega
    · rw [select_zero]
      show Ideal.ofBits .f32 0x00000000#32 = 0
      simp

/-- A [1024, 128] block seen as eight [128, 128] chunks. -/
theorem chunk_apply {α : Type} (x : S1024x128.Idx → α) (h : S1024x128.ShapeCasts S8x128x128) (i : S8x128x128.Idx) :
    shapeCast S8x128x128 x h i
      = x (ix2 (n0 := 1024) (n1 := 128) ⟨(i 0).val * 128 + (i 1).val, by
        have h0 : (i 0).val < 8 := (i 0).isLt
        have h1 : (i 1).val < 128 := (i 1).isLt
        omega⟩ (i 2)) := by
  refine shapeCast_apply _ _ _ _ ?_
  rw [Shape.rowMajor_val_two, Shape.rowMajor_val_three]
  rfl

/-- … and back. -/
theorem unchunk_apply {α : Type} (x : S8x128x128.Idx → α) (h : S8x128x128.ShapeCasts S1024x128) (i : S1024x128.Idx) :
    shapeCast S1024x128 x h i = x (ix3 (n0 := 8) (n1 := 128) (n2 := 128) ⟨(i 0).val / 128, by have := idx2_lt0 i; omega⟩
      ⟨(i 0).val % 128, Nat.mod_lt _ (by decide)⟩ (i 1)) := by
  refine shapeCast_apply _ _ _ _ ?_
  rw [Shape.rowMajor_val_two, Shape.rowMajor_val_three]
  show ((i 0).val / 128 * 128 + (i 0).val % 128) * 128 + (i 1).val = (i 0).val * 128 + (i 1).val
  omega

theorem pay5_apply (v : FVec Ideal S1024x128 .bf16) (i : S8x128x128.Idx) :
    k0_pay5 (F := Ideal) v i = at2 v ((i 0).val * 128 + (i 1).val) (i 2).val := by
  unfold k0_pay5
  exact (chunk_apply _ _ i).trans (at2_eq _ _)

theorem pay7_apply (u dy : FVec Ideal S1024x128 .f32) (i : S8x128x128.Idx) :
    k0_pay7 (F := Ideal) u dy i
      = at2 u ((i 0).val * 128 + (i 1).val) (i 2).val * at2 dy ((i 0).val * 128 + (i 1).val) (i 2).val := by
  unfold k0_pay7
  refine (chunk_apply _ _ i).trans ?_
  rw [mulf_apply, at2_eq u, at2_eq dy]

abbrev D1 := dot_S8x128x128_S8x128x128_S8x128x128_2_1_1_2_0_0
abbrev D2 := dot_S8x128x128_S8x128x128_S8x128x128_1_1_2_2_0_0
abbrev D3 := dot_S8x128x128_S8x128x128_S8x128x128_2_2_1_1_0_0

theorem zero_apply (s : Shape) (i : s.Idx) : constant (F := Ideal) s .f32 0x00000000#32 i = 0 := by
  rw [constant_apply]; simp

/-- The gradient of `u` in one block. -/
theorem pay6_apply (v : FVec Ideal S1024x128 .bf16) (w : FVec Ideal S1x128x128 .f32) (b : FVec Ideal S1x128x1 .f32)
    (dy : FVec Ideal S1024x128 .f32) (i : S1024x128.Idx) :
    k0_pay6 (F := Ideal) v w b dy i = dy i * ((∑ s ∈ Finset.range 128,
        wm (at3 w 0) ((i 0).val % 128) s * at2 v ((i 0).val / 128 * 128 + s) (i 1).val) + at3 b 0 ((i 0).val % 128) 0) := by
  unfold k0_pay6
  dsimp only
  rw [mulf_apply, unchunk_apply, addf_apply]
  congr 2
  · refine (Ideal.matmul_apply D1 none _ _ _ _).trans ?_
    rw [zero_apply, zero_add]
    refine sum_dot1 D1 128 rfl rfl _ _ _ (fun s => wm (at3 w 0) ((i 0).val % 128) s)
      (fun s => at2 v ((i 0).val / 128 * 128 + s) (i 1).val) (fun k => ?_) (fun k => ?_)
    · rw [pay4_apply]; congr 1 <;> simp [DotDims.lhsIdx, D1, dot_S8x128x128_S8x128x128_S8x128x128_2_1_1_2_0_0] <;> rfl
    · rw [pay5_apply]; congr 1 <;> simp [DotDims.rhsIdx, D1, dot_S8x128x128_S8x128x128_S8x128x128_2_1_1_2_0_0] <;> rfl
  · refine (broadcastTo_apply _ _ _ (ix3 (n0 := 1) (n1 := 128) (n2 := 1) 0 ⟨(i 0).val % 128, Nat.mod_lt _ (by decide)⟩ 0) (fun a => match a with
      | ⟨0, _⟩ => rfl | ⟨1, _⟩ => rfl | ⟨2, _⟩ => rfl)).trans ?_
    rw [shapeCast_shapeCast]
    exact at3_eq _ _

/-- The gradient of `v` in one block: the masked weights transposed against `u · dy`. -/
theorem pay9_apply (u : FVec Ideal S1024x128 .f32) (w : FVec Ideal S1x128x128 .f32) (dy : FVec Ideal S1024x128 .f32)
    (i : S1024x128.Idx) :
    k0_pay9 (F := Ideal) u w dy i = ∑ t ∈ Finset.range 128,
      (at2 u ((i 0).val / 128 * 128 + t) (i 1).val * at2 dy ((i 0).val / 128 * 128 + t) (i 1).val)
        * wm (at3 w 0) t ((i 0).val % 128) := by
  unfold k0_pay9
  dsimp only
  rw [unchunk_apply]
  refine (transpose_apply _ _ _ _ (ix3 (n0 := 8) (n1 := 128) (n2 := 128) ⟨(i 0).val / 128, by have := idx2_lt0 i; omega⟩ (i 1)
    ⟨(i 0).val % 128, Nat.mod_lt _ (by decide)⟩) (fun b => match b with | ⟨0, _⟩ => rfl | ⟨1, _⟩ => rfl | ⟨2, _⟩ => rfl)).trans ?_
  refine (Ideal.matmul_apply D2 none _ _ _ _).trans ?_
  rw [zero_apply, zero_add]
  refine sum_dot1 D2 128 rfl rfl _ _ _
    (fun t => at2 u ((i 0).val / 128 * 128 + t) (i 1).val * at2 dy ((i 0).val / 128 * 128 + t) (i 1).val)
    (fun t => wm (at3 w 0) t ((i 0).val % 128)) (fun k => ?_) (fun k => ?_)
  · rw [pay7_apply]
    congr 2 <;> simp [DotDims.lhsIdx, D2, dot_S8x128x128_S8x128x128_S8x128x128_1_1_2_2_0_0] <;> rfl
  · rw [pay4_apply]; congr 1 <;> simp [DotDims.rhsIdx, D2, dot_S8x128x128_S8x128x128_S8x128x128_1_1_2_2_0_0] <;> rfl

/-- The weights' gradient over one block, at row `t` and column `s`: zero above the diagonal. -/
theorem pay10_apply (u : FVec Ideal S1024x128 .f32) (v : FVec Ideal S1024x128 .bf16) (dy : FVec Ideal S1024x128 .f32)
    (i : S128x128.Idx) :
    k0_pay10 (F := Ideal) u v dy i = if (i 1).val ≤ (i 0).val then
      ∑ q ∈ Finset.range 8, ∑ d ∈ Finset.range 128,
        (at2 u (q * 128 + (i 0).val) d * at2 dy (q * 128 + (i 0).val) d) * at2 v (q * 128 + (i 1).val) d else 0 := by
  unfold k0_pay10
  dsimp only
  rw [select_apply, pay3_apply]
  split_ifs with h
  · rw [select_one]
    refine (Ideal.multiReduction_add_single _ _ _ _ _ i).trans ?_
    rw [Finset.sum_range]
    refine Finset.sum_congr rfl fun q _ => ?_
    refine (Ideal.matmul_apply D3 none _ _ _ _).trans ?_
    rw [zero_apply, zero_add]
    refine sum_dot1 D3 128 rfl rfl _ _ _
      (fun d => at2 u (q.val * 128 + (i 0).val) d * at2 dy (q.val * 128 + (i 0).val) d)
      (fun d => at2 v (q.val * 128 + (i 1).val) d) (fun k => ?_) (fun k => ?_)
    · rw [pay7_apply]
      congr 2 <;> simp [DotDims.lhsIdx, D3, dot_S8x128x128_S8x128x128_S8x128x128_2_2_1_1_0_0] <;> rfl
    · rw [pay5_apply]
      congr 1 <;> simp [DotDims.rhsIdx, D3, dot_S8x128x128_S8x128x128_S8x128x128_2_2_1_1_0_0] <;> rfl
  · rw [select_zero]
    show Ideal.ofBits .f32 0x00000000#32 = 0
    simp

/-- The bias' gradient over one block, at row `t`. -/
theorem pay8_apply (u dy : FVec Ideal S1024x128 .f32) (i : S128x1.Idx) :
    k0_pay8 (F := Ideal) u dy i = ∑ q ∈ Finset.range 8, ∑ d ∈ Finset.range 128,
        at2 u (q * 128 + (i 0).val) d * at2 dy (q * 128 + (i 0).val) d := by
  have h1 : (i 1).val = 0 := by have h : (i 1).val < 1 := (i 1).isLt; omega
  have h0 : (i 0).val < 128 := (i 0).isLt
  unfold k0_pay8
  dsimp only
  refine (shapeCast_apply _ _ _ (ix1 (n := 128) (i 0)) ?_).trans ?_
  · rw [Shape.rowMajor_val_two, Shape.rowMajor_val_one]
    show (i 0).val = (i 0).val * 1 + (i 1).val
    omega
  refine (sum_filter_mid _ (i 0).val h0 (fun k => ?_) _).trans ?_
  · exact ⟨fun h => (reduces_S1x128x1_S128.drop_apply_val_of_eq k 0 1 (by decide) rfl).symm.trans (congrArg (fun j => (j 0).val) h),
      fun h => funext fun b => match b with
        | ⟨0, _⟩ => Fin.ext ((reduces_S1x128x1_S128.drop_apply_val_of_eq k 0 1 (by decide) rfl).trans h)⟩
  rw [Finset.sum_range_one, Finset.sum_range_one, at3_lt _ (by decide) h0 (by decide)]
  refine (shapeCast_apply _ _ _ (ix1 (n := 128) (i 0)) ?_).trans ?_
  · rw [Shape.rowMajor_val_three, Shape.rowMajor_val_one]
    show (i 0).val = (0 * 128 + (i 0).val) * 1 + 0
    omega
  refine (sum_filter_mid _ (i 0).val h0 (fun k => ?_) _).trans ?_
  · exact ⟨fun h => (reduces_S8x128x128_S128.drop_apply_val_of_eq k 0 1 (by decide) rfl).symm.trans (congrArg (fun j => (j 0).val) h),
      fun h => funext fun b => match b with
        | ⟨0, _⟩ => Fin.ext ((reduces_S8x128x128_S128.drop_apply_val_of_eq k 0 1 (by decide) rfl).trans h)⟩
  refine Finset.sum_congr rfl fun q hq => Finset.sum_congr rfl fun d hd => ?_
  rw [at3_lt _ (Finset.mem_range.mp hq) h0 (Finset.mem_range.mp hd), pay7_apply]

end Cert.Gate

end
-- ==== Proof.Gate.Out.lean ====
/-
  What each grid point leaves in the gate's backward kernel's output buffers, as the point's payloads of its input blocks.
-/
module

public import proofs.«01_k».proof.Proof.Gate.Block
public import proofs.«01_k».proof.Proof.Gen.KernelIdeal.Value
public import Idealize.ShloMosaic.Lib.Tactic

@[expose] public section

set_option maxRecDepth 16384

noncomputable section

namespace Cert.Gate

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

variable (c : Dev nD) (i : grid0.Coords) (a2 : Memref sig .tc .vmem S1024x128 .f32) (h2 : a2.IsWhole)
  (a3 : Memref sig .tc .vmem S1024x128 .bf16) (h3 : a3.IsWhole) (a4 : Memref sig .tc .vmem S1x128x128 .f32) (h4 : a4.IsWhole)
  (a5 : Memref sig .tc .vmem S1x128x1 .f32) (h5 : a5.IsWhole) (a6 : Memref sig .tc .vmem S1024x128 .f32) (h6 : a6.IsWhole)
  (a7 : Memref sig .tc .vmem S1024x128 .f32) (h7 : a7.IsWhole) (a8 : Memref sig .tc .vmem S1024x128 .f32) (h8 : a8.IsWhole)
  (a9 : Memref sig .tc .vmem S1x128x128 .f32) (h9 : a9.IsWhole) (a10 : Memref sig .tc .vmem S1x128x1 .f32) (h10 : a10.IsWhole)
  (x0 : Vec F S1024x128 .f32) (x1 : Vec F S1024x128 .bf16) (x2 : Vec F S1x128x128 .f32) (x3 : Vec F S1x128x1 .f32)
  (x4 : Vec F S1024x128 .f32) (p7 : Vec F S1x128x128 .f32) (p8 : Vec F S1x128x1 .f32)

theorem out_A_5 (hc0 : cond0_0 i) (hc1 : ¬cond0_1 i) (hc2 : cond0_2 i) (hc3 : ¬cond0_3 i) :
    out0_A_5 c i a2 h2 a3 h3 a4 h4 a5 h5 a6 h6 a7 h7 a8 h8 a9 h9 a10 h10 hc0 hc1 hc2 hc3 x0 x1 x2 x3 x4 = k0_pay6 x1 x2 x3 x4 := by
  unfold out0_A_5
  rw [View.read_writes_eq_canon _ _ _ (cover0_A_5 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero hz2]
  simp only [View.readAt_eq_ld, h2.read_unread, h3.read_unread, h4.read_unread, h5.read_unread, h6.read_unread, h9.read_unread,
    h10.read_unread, View.ld_unit_zero (S := S1024x128) hz2, View.ld_unit_zero (S := S1x128x128) hz3,
    View.ld_unit_zero (S := S1x128x1) hz3]

theorem out_A_6 (hc0 : cond0_0 i) (hc1 : ¬cond0_1 i) (hc2 : cond0_2 i) (hc3 : ¬cond0_3 i) :
    out0_A_6 c i a2 h2 a3 h3 a4 h4 a5 h5 a6 h6 a7 h7 a8 h8 a9 h9 a10 h10 hc0 hc1 hc2 hc3 x0 x1 x2 x3 x4 = k0_pay9 x0 x2 x4 := by
  unfold out0_A_6
  rw [View.read_writes_eq_canon _ _ _ (cover0_A_6 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero hz2]
  simp only [View.readAt_eq_ld, h2.read_unread, h3.read_unread, h4.read_unread, h5.read_unread, h6.read_unread, h9.read_unread,
    h10.read_unread, View.ld_unit_zero (S := S1024x128) hz2, View.ld_unit_zero (S := S1x128x128) hz3,
    View.ld_unit_zero (S := S1x128x1) hz3]

theorem out_A_7 (hc0 : cond0_0 i) (hc1 : ¬cond0_1 i) (hc2 : cond0_2 i) (hc3 : ¬cond0_3 i) :
    out0_A_7 c i a2 h2 a3 h3 a4 h4 a5 h5 a6 h6 a7 h7 a8 h8 a9 h9 a10 h10 hc0 hc1 hc2 hc3 x0 x1 x2 x3 x4 = k0_pay11 (k0_pay10 x0 x1 x4) := by
  unfold out0_A_7
  rw [View.read_writes_eq_canon _ _ _ (cover0_A_7 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero hz3]
  simp only [View.readAt_eq_ld, h2.read_unread, h3.read_unread, h4.read_unread, h5.read_unread, h6.read_unread, h9.read_unread,
    h10.read_unread, View.ld_unit_zero (S := S1024x128) hz2, View.ld_unit_zero (S := S1x128x128) hz3,
    View.ld_unit_zero (S := S1x128x1) hz3]

theorem out_A_8 (hc0 : cond0_0 i) (hc1 : ¬cond0_1 i) (hc2 : cond0_2 i) (hc3 : ¬cond0_3 i) :
    out0_A_8 c i a2 h2 a3 h3 a4 h4 a5 h5 a6 h6 a7 h7 a8 h8 a9 h9 a10 h10 hc0 hc1 hc2 hc3 x0 x1 x2 x3 x4 = k0_pay1 (k0_pay8 x0 x4) := by
  unfold out0_A_8
  rw [View.read_writes_eq_canon _ _ _ (cover0_A_8 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero hz3]
  simp only [View.readAt_eq_ld, h2.read_unread, h3.read_unread, h4.read_unread, h5.read_unread, h6.read_unread, h9.read_unread,
    h10.read_unread, View.ld_unit_zero (S := S1024x128) hz2, View.ld_unit_zero (S := S1x128x128) hz3,
    View.ld_unit_zero (S := S1x128x1) hz3]

theorem out_B_5 (hc0 : ¬cond0_0 i) (hc1 : cond0_1 i) (hc2 : ¬cond0_2 i) (hc3 : cond0_3 i) :
    out0_B_5 c i a2 h2 a3 h3 a4 h4 a5 h5 a6 h6 a7 h7 a8 h8 a9 h9 a10 h10 hc0 hc1 hc2 hc3 x0 x1 x2 x3 x4 p7 p8 = k0_pay6 x1 x2 x3 x4 := by
  unfold out0_B_5
  rw [View.read_writes_eq_canon _ _ _ (cover0_B_5 c i a2 h2 a3 h3 a4 h4 a5 h5 a6 h6 a7 h7 a8 h8 a9 h9 a10 h10 hc0 hc1 hc2 hc3 x0 x1 x2 x3 x4 p7 p8)]
  unfold kernelRun0_B
  dsimp only
  sl_unfold_words
  rw [View.canon_unit_zero hz2]
  simp only [View.readAt_eq_ld, h2.read_unread, h3.read_unread, h4.read_unread, h5.read_unread, h6.read_unread, h9.read_unread,
    h10.read_unread, View.ld_unit_zero (S := S1024x128) hz2, View.ld_unit_zero (S := S1x128x128) hz3,
    View.ld_unit_zero (S := S1x128x1) hz3]

theorem out_B_6 (hc0 : ¬cond0_0 i) (hc1 : cond0_1 i) (hc2 : ¬cond0_2 i) (hc3 : cond0_3 i) :
    out0_B_6 c i a2 h2 a3 h3 a4 h4 a5 h5 a6 h6 a7 h7 a8 h8 a9 h9 a10 h10 hc0 hc1 hc2 hc3 x0 x1 x2 x3 x4 p7 p8 = k0_pay9 x0 x2 x4 := by
  unfold out0_B_6
  rw [View.read_writes_eq_canon _ _ _ (cover0_B_6 c i a2 h2 a3 h3 a4 h4 a5 h5 a6 h6 a7 h7 a8 h8 a9 h9 a10 h10 hc0 hc1 hc2 hc3 x0 x1 x2 x3 x4 p7 p8)]
  unfold kernelRun0_B
  dsimp only
  sl_unfold_words
  rw [View.canon_unit_zero hz2]
  simp only [View.readAt_eq_ld, h2.read_unread, h3.read_unread, h4.read_unread, h5.read_unread, h6.read_unread, h9.read_unread,
    h10.read_unread, View.ld_unit_zero (S := S1024x128) hz2, View.ld_unit_zero (S := S1x128x128) hz3,
    View.ld_unit_zero (S := S1x128x1) hz3]

theorem out_B_7 (hc0 : ¬cond0_0 i) (hc1 : cond0_1 i) (hc2 : ¬cond0_2 i) (hc3 : cond0_3 i) :
    out0_B_7 c i a2 h2 a3 h3 a4 h4 a5 h5 a6 h6 a7 h7 a8 h8 a9 h9 a10 h10 hc0 hc1 hc2 hc3 x0 x1 x2 x3 x4 p7 p8 = k0_pay12 (k0_pay10 x0 x1 x4) p7 := by
  unfold out0_B_7
  rw [View.read_writes_eq_canon _ _ _ (cover0_B_7 c i a2 h2 a3 h3 a4 h4 a5 h5 a6 h6 a7 h7 a8 h8 a9 h9 a10 h10 hc0 hc1 hc2 hc3 x0 x1 x2 x3 x4 p7 p8)]
  unfold kernelRun0_B
  dsimp only
  sl_unfold_words
  rw [View.canon_unit_zero hz3]
  simp only [View.readAt_eq_ld, h2.read_unread, h3.read_unread, h4.read_unread, h5.read_unread, h6.read_unread, h9.read_unread,
    h10.read_unread, View.ld_unit_zero (S := S1024x128) hz2, View.ld_unit_zero (S := S1x128x128) hz3,
    View.ld_unit_zero (S := S1x128x1) hz3]

theorem out_B_8 (hc0 : ¬cond0_0 i) (hc1 : cond0_1 i) (hc2 : ¬cond0_2 i) (hc3 : cond0_3 i) :
    out0_B_8 c i a2 h2 a3 h3 a4 h4 a5 h5 a6 h6 a7 h7 a8 h8 a9 h9 a10 h10 hc0 hc1 hc2 hc3 x0 x1 x2 x3 x4 p7 p8 = k0_pay2 (k0_pay8 x0 x4) p8 := by
  unfold out0_B_8
  rw [View.read_writes_eq_canon _ _ _ (cover0_B_8 c i a2 h2 a3 h3 a4 h4 a5 h5 a6 h6 a7 h7 a8 h8 a9 h9 a10 h10 hc0 hc1 hc2 hc3 x0 x1 x2 x3 x4 p7 p8)]
  unfold kernelRun0_B
  dsimp only
  sl_unfold_words
  rw [View.canon_unit_zero hz3]
  simp only [View.readAt_eq_ld, h2.read_unread, h3.read_unread, h4.read_unread, h5.read_unread, h6.read_unread, h9.read_unread,
    h10.read_unread, View.ld_unit_zero (S := S1024x128) hz2, View.ld_unit_zero (S := S1x128x128) hz3,
    View.ld_unit_zero (S := S1x128x1) hz3]

end Cert.Gate

end
-- ==== Proof.Gate.Points.lean ====
/-
  The gate's backward kernel's result arrays, element by element, over the extended reals: its grid is 16 channel groups
  by 4 blocks of 1024 rows; the activations' gradients are written block by block, the weights' and the bias' gradients
  are summed over a group's four row blocks.
-/
module

public import proofs.«01_k».proof.Proof.Gate.Out

@[expose] public section

set_option maxRecDepth 16384

noncomputable section

namespace Cert.Gate

open Idealize.ShloMosaic Idealize.ShloMosaic.TcCoe Idealize.ShloMosaic.ValueIdx Idealize.SL.Sem Cert.Coord
open Idealize.ShloMosaic.Pipeline (Dat)
open Cert.KernelIdeal Cert.KernelIdeal.Gen Cert.KernelIdeal.Value
open scoped BigOperators

/-! ## The gradients, by natural coordinates -/

section Spec

variable (u : S4096x2048.Idx → EReal) (v : S4096x2048.Idx → EReal) (w : S16x128x128.Idx → EReal) (b : S16x128x1.Idx → EReal)
  (dy : S4096x2048.Idx → EReal)

/-- `u · dy`, the gradient of the mixed values. -/
def gy (r c : ℕ) : EReal := at2 u r c * at2 dy r c

/-- The gradient of `u` at row `r` and channel `c`. -/
def du (r c : ℕ) : EReal := at2 dy r c * ((∑ s ∈ Finset.range 128, wm (at3 w (c / 128)) (r % 128) s * at2 v (r / 128 * 128 + s) c)
  + at3 b (c / 128) (r % 128) 0)

/-- The gradient of `v`. -/
def dv (r c : ℕ) : EReal := ∑ t ∈ Finset.range 128, gy u dy (r / 128 * 128 + t) c * wm (at3 w (c / 128)) t (r % 128)

/-- The gradient of group `g`'s weights at `t`, `s` over the chunks `k`, …, `k + n - 1`. -/
def dw (k n g t s : ℕ) : EReal := if s ≤ t then ∑ q ∈ Finset.range n, ∑ d ∈ Finset.range 128,
  gy u dy ((k + q) * 128 + t) (g * 128 + d) * at2 v ((k + q) * 128 + s) (g * 128 + d) else 0

/-- The gradient of group `g`'s bias at `t` over the chunks `k`, …, `k + n - 1`. -/
def db (k n g t : ℕ) : EReal := ∑ q ∈ Finset.range n, ∑ d ∈ Finset.range 128, gy u dy ((k + q) * 128 + t) (g * 128 + d)

theorem dw_add (n k g t s : ℕ) : dw u v dy 0 n g t s + dw u v dy n k g t s = dw u v dy 0 (n + k) g t s := by
  unfold dw
  split_ifs
  · rw [Finset.sum_range_add]; simp only [Nat.zero_add]
  · exact zero_add 0

theorem db_add (n k g t : ℕ) : db u dy 0 n g t + db u dy n k g t = db u dy 0 (n + k) g t := by
  unfold db
  rw [Finset.sum_range_add]; simp only [Nat.zero_add]

end Spec

/-! ## The grid -/

theorem idx0 : ∀ t : Fin grid0.N, win0_0.index t 0 = t.val % 4 ∧ win0_0.index t 1 = t.val / 4 := by decide +kernel
theorem idx1 : ∀ t : Fin grid0.N, win0_1.index t 0 = t.val % 4 ∧ win0_1.index t 1 = t.val / 4 := by decide +kernel
theorem idx2 : ∀ t : Fin grid0.N, win0_2.index t 0 = t.val / 4 ∧ win0_2.index t 1 = 0 ∧ win0_2.index t 2 = 0 := by decide +kernel
theorem idx3 : ∀ t : Fin grid0.N, win0_3.index t 0 = t.val / 4 ∧ win0_3.index t 1 = 0 ∧ win0_3.index t 2 = 0 := by decide +kernel
theorem idx4 : ∀ t : Fin grid0.N, win0_4.index t 0 = t.val % 4 ∧ win0_4.index t 1 = t.val / 4 := by decide +kernel
theorem idx5 : ∀ t : Fin grid0.N, win0_5.index t 0 = t.val % 4 ∧ win0_5.index t 1 = t.val / 4 := by decide +kernel
theorem idx6 : ∀ t : Fin grid0.N, win0_6.index t 0 = t.val % 4 ∧ win0_6.index t 1 = t.val / 4 := by decide +kernel
theorem idx7 : ∀ t : Fin grid0.N, win0_7.index t 0 = t.val / 4 ∧ win0_7.index t 1 = 0 ∧ win0_7.index t 2 = 0 := by decide +kernel
theorem idx8 : ∀ t : Fin grid0.N, win0_8.index t 0 = t.val / 4 ∧ win0_8.index t 1 = 0 ∧ win0_8.index t 2 = 0 := by decide +kernel

variable (m : (ℓ : Loc nD τ sig) → Buf (Elt Ideal) ℓ) (c : Dev nD)

abbrev U : S4096x2048.Idx → EReal := m ((c : Thread nD τ).loc main_arg0)
abbrev V' : S4096x2048.Idx → EReal := m ((c : Thread nD τ).loc main_arg1)
abbrev W : S16x128x128.Idx → EReal := m ((c : Thread nD τ).loc main_arg2)
abbrev B : S16x128x1.Idx → EReal := m ((c : Thread nD τ).loc main_arg3)
abbrev DY : S4096x2048.Idx → EReal := m ((c : Thread nD τ).loc main_arg4)

theorem blk0 (t : Fin cfg0.N) (r k : ℕ) (hr : r < 1024) (hk : k < 128) :
    at2 (n0 := 1024) (n1 := 128) (iblk m c 0 t) r k = at2 (U m c) (1024 * (t.val % 4) + r) (128 * (t.val / 4) + k) := by
  have hi := idx0 t
  have hN : t.val < 64 := N_0 ▸ t.isLt
  rw [at2_lt _ hr hk, at2_lt _ (by omega) (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r = _; rw [hi.1]; show _ = 1024 * (t.val % 4) + r; omega
  | ⟨1, _⟩ => show win0_0.index t 1 * 128 + 1 * k = _; rw [hi.2]; show _ = 128 * (t.val / 4) + k; omega

theorem blk1 (t : Fin cfg0.N) (r k : ℕ) (hr : r < 1024) (hk : k < 128) :
    at2 (n0 := 1024) (n1 := 128) (iblk m c 1 t) r k = at2 (V' m c) (1024 * (t.val % 4) + r) (128 * (t.val / 4) + k) := by
  have hi := idx1 t
  have hN : t.val < 64 := N_0 ▸ t.isLt
  rw [at2_lt _ hr hk, at2_lt _ (by omega) (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * r = _; rw [hi.1]; show _ = 1024 * (t.val % 4) + r; omega
  | ⟨1, _⟩ => show win0_1.index t 1 * 128 + 1 * k = _; rw [hi.2]; show _ = 128 * (t.val / 4) + k; omega

theorem blk4 (t : Fin cfg0.N) (r k : ℕ) (hr : r < 1024) (hk : k < 128) :
    at2 (n0 := 1024) (n1 := 128) (iblk m c 4 t) r k = at2 (DY m c) (1024 * (t.val % 4) + r) (128 * (t.val / 4) + k) := by
  have hi := idx4 t
  have hN : t.val < 64 := N_0 ▸ t.isLt
  rw [at2_lt _ hr hk, at2_lt _ (by omega) (by omega)]
  unfold iblk
  rw [View.read_apply]
  show V m c main_arg4 _ = m (c.tc.loc main_arg4) _
  unfold V
  congr 1
  funext a
  apply Fin.ext
  match a with
  | ⟨0, _⟩ => show win0_4.index t 0 * 1024 + 1 * r = _; rw [hi.1]; show _ = 1024 * (t.val % 4) + r; omega
  | ⟨1, _⟩ => show win0_4.index t 1 * 128 + 1 * k = _; rw [hi.2]; show _ = 128 * (t.val / 4) + k; omega

theorem blk2 (t : Fin cfg0.N) (r k : ℕ) (hr : r < 128) (hk : k < 128) :
    at3 (n0 := 1) (n1 := 128) (n2 := 128) (iblk m c 2 t) 0 r k = at3 (W m c) (t.val / 4) r k := by
  have hi := idx2 t
  have hN : t.val < 64 := N_0 ▸ t.isLt
  rw [at3_lt _ (by decide) hr hk, at3_lt _ (by omega) hr hk]
  unfold iblk
  rw [View.read_apply]
  show V m c main_arg2 _ = m (c.tc.loc main_arg2) _
  unfold V
  congr 1
  funext a
  apply Fin.ext
  match a with
  | ⟨0, _⟩ => show win0_2.index t 0 * 1 + 1 * 0 = _; rw [hi.1]; show _ = t.val / 4; omega
  | ⟨1, _⟩ => show win0_2.index t 1 * 128 + 1 * r = _; rw [hi.2.1]; show _ = r; omega
  | ⟨2, _⟩ => show win0_2.index t 2 * 128 + 1 * k = _; rw [hi.2.2]; show _ = k; omega

theorem blk3 (t : Fin cfg0.N) (r : ℕ) (hr : r < 128) :
    at3 (n0 := 1) (n1 := 128) (n2 := 1) (iblk m c 3 t) 0 r 0 = at3 (B m c) (t.val / 4) r 0 := by
  have hi := idx3 t
  have hN : t.val < 64 := N_0 ▸ t.isLt
  rw [at3_lt _ (by decide) hr (by decide), at3_lt _ (by omega) hr (by decide)]
  unfold iblk
  rw [View.read_apply]
  show V m c main_arg3 _ = m (c.tc.loc main_arg3) _
  unfold V
  congr 1
  funext a
  apply Fin.ext
  match a with
  | ⟨0, _⟩ => show win0_3.index t 0 * 1 + 1 * 0 = _; rw [hi.1]; show _ = t.val / 4; omega
  | ⟨1, _⟩ => show win0_3.index t 1 * 128 + 1 * r = _; rw [hi.2.1]; show _ = r; omega
  | ⟨2, _⟩ => show win0_3.index t 2 * 1 + 1 * 0 = _; rw [hi.2.2]

theorem wm_congr {w w' : ℕ → ℕ → EReal} (t s : ℕ) (h : w t s = w' t s) : wm w t s = wm w' t s := by
  unfold wm; rw [h]

/-! ## One point's payloads -/

theorem pay6_pt (t : Fin cfg0.N) (i : S1024x128.Idx) : k0_pay6 (F := Ideal) (iblk m c 1 t) (iblk m c 2 t) (iblk m c 3 t) (iblk m c 4 t) i
    = du (V' m c) (W m c) (B m c) (DY m c) (1024 * (t.val % 4) + (i 0).val) (128 * (t.val / 4) + (i 1).val) := by
  have h0 := idx2_lt0 i
  have h1 := idx2_lt1 i
  have e0 : (128 * (t.val / 4) + (i 1).val) / 128 = t.val / 4 := by omega
  have e1 : (1024 * (t.val % 4) + (i 0).val) % 128 = (i 0).val % 128 := by omega
  have e2 : (1024 * (t.val % 4) + (i 0).val) / 128 * 128 = 1024 * (t.val % 4) + (i 0).val / 128 * 128 := by omega
  rw [pay6_apply, at2_eq (iblk m c 4 t) i, blk4 m c t _ _ h0 h1]
  unfold du
  rw [e0, e1, e2, blk3 m c t _ (Nat.mod_lt _ (by decide))]
  refine congrArg₂ _ rfl (congrArg₂ _ (Finset.sum_congr rfl fun s hs => ?_) rfl)
  have hs := Finset.mem_range.mp hs
  rw [blk1 m c t _ _ (by omega) h1, Nat.add_assoc]
  exact congrArg₂ _ (wm_congr _ _ (blk2 m c t _ _ (Nat.mod_lt _ (by decide)) hs)) rfl

theorem pay9_pt (t : Fin cfg0.N) (i : S1024x128.Idx) : k0_pay9 (F := Ideal) (iblk m c 0 t) (iblk m c 2 t) (iblk m c 4 t) i
    = dv (U m c) (W m c) (DY m c) (1024 * (t.val % 4) + (i 0).val) (128 * (t.val / 4) + (i 1).val) := by
  have h0 := idx2_lt0 i
  have h1 := idx2_lt1 i
  have e0 : (128 * (t.val / 4) + (i 1).val) / 128 = t.val / 4 := by omega
  have e1 : (1024 * (t.val % 4) + (i 0).val) % 128 = (i 0).val % 128 := by omega
  have e2 : (1024 * (t.val % 4) + (i 0).val) / 128 * 128 = 1024 * (t.val % 4) + (i 0).val / 128 * 128 := by omega
  rw [pay9_apply]
  unfold dv gy
  rw [e0, e1, e2]
  refine Finset.sum_congr rfl fun s hs => ?_
  have hs := Finset.mem_range.mp hs
  rw [blk0 m c t _ _ (by omega) h1, blk4 m c t _ _ (by omega) h1, Nat.add_assoc]
  exact congrArg₂ _ rfl (wm_congr _ _ (blk2 m c t _ _ hs (Nat.mod_lt _ (by decide))))

theorem pay10_pt (t : Fin cfg0.N) (i : S128x128.Idx) : k0_pay10 (F := Ideal) (iblk m c 0 t) (iblk m c 1 t) (iblk m c 4 t) i
    = dw (U m c) (V' m c) (DY m c) (8 * (t.val % 4)) 8 (t.val / 4) (i 0).val (i 1).val := by
  have h0 : (i 0).val < 128 := (i 0).isLt
  have h1 : (i 1).val < 128 := (i 1).isLt
  rw [pay10_apply]
  unfold dw gy
  refine if_congr Iff.rfl (Finset.sum_congr rfl fun q hq => Finset.sum_congr rfl fun d hd => ?_) rfl
  have hq := Finset.mem_range.mp hq
  have hd := Finset.mem_range.mp hd
  rw [blk0 m c t _ _ (by omega) hd, blk4 m c t _ _ (by omega) hd, blk1 m c t _ _ (by omega) hd,
    show 1024 * (t.val % 4) + (q * 128 + (i 0).val) = (8 * (t.val % 4) + q) * 128 + (i 0).val by omega,
    show 1024 * (t.val % 4) + (q * 128 + (i 1).val) = (8 * (t.val % 4) + q) * 128 + (i 1).val by omega, Nat.mul_comm 128]

theorem pay8_pt (t : Fin cfg0.N) (i : S128x1.Idx) : k0_pay8 (F := Ideal) (iblk m c 0 t) (iblk m c 4 t) i
    = db (U m c) (DY m c) (8 * (t.val % 4)) 8 (t.val / 4) (i 0).val := by
  have h0 : (i 0).val < 128 := (i 0).isLt
  rw [pay8_apply]
  unfold db gy
  refine Finset.sum_congr rfl fun q hq => Finset.sum_congr rfl fun d hd => ?_
  have hq := Finset.mem_range.mp hq
  have hd := Finset.mem_range.mp hd
  rw [blk0 m c t _ _ (by omega) hd, blk4 m c t _ _ (by omega) hd,
    show 1024 * (t.val % 4) + (q * 128 + (i 0).val) = (8 * (t.val % 4) + q) * 128 + (i 0).val by omega, Nat.mul_comm 128]

/-! ## The sums carried along a group's four points -/

theorem pay11_apply (x : FVec Ideal S128x128 .f32) (i : S1x128x128.Idx) :
    k0_pay11 (F := Ideal) x i = x (ix2 (n0 := 128) (n1 := 128) (i 1) (i 2)) := by
  have h : (i 0).val = 0 := by have h : (i 0).val < 1 := (i 0).isLt; omega
  refine (shapeCast_apply _ _ i (ix2 (n0 := 128) (n1 := 128) (i 1) (i 2)) ?_ : k0_pay11 (F := Ideal) x i = _)
  rw [Shape.rowMajor_val_two, Shape.rowMajor_val_three]
  show (i 1).val * 128 + (i 2).val = ((i 0).val * 128 + (i 1).val) * 128 + (i 2).val
  omega

theorem pay12_apply (x : FVec Ideal S128x128 .f32) (p : FVec Ideal S1x128x128 .f32) (i : S1x128x128.Idx) :
    k0_pay12 (F := Ideal) x p i = p i + x (ix2 (n0 := 128) (n1 := 128) (i 1) (i 2)) := by
  have h : (i 0).val = 0 := by have h : (i 0).val < 1 := (i 0).isLt; omega
  show shapeCast S1x128x128 (addf (shapeCast S128x128 p shapeCasts_S1x128x128_S128x128) x) shapeCasts_S128x128_S1x128x128 i = _
  refine (shapeCast_apply _ _ i (ix2 (n0 := 128) (n1 := 128) (i 1) (i 2)) ?_).trans ?_
  · rw [Shape.rowMajor_val_two, Shape.rowMajor_val_three]
    show (i 1).val * 128 + (i 2).val = ((i 0).val * 128 + (i 1).val) * 128 + (i 2).val
    omega
  rw [addf_apply]
  refine congrArg₂ _ (shapeCast_apply _ _ _ i ?_) rfl
  rw [Shape.rowMajor_val_two, Shape.rowMajor_val_three]
  show ((i 0).val * 128 + (i 1).val) * 128 + (i 2).val = (i 1).val * 128 + (i 2).val
  omega

theorem pay1_apply (x : FVec Ideal S128x1 .f32) (i : S1x128x1.Idx) :
    k0_pay1 (F := Ideal) x i = x (ix2 (n0 := 128) (n1 := 1) (i 1) (i 2)) := by
  have h : (i 0).val = 0 := by have h : (i 0).val < 1 := (i 0).isLt; omega
  refine (shapeCast_apply _ _ i (ix2 (n0 := 128) (n1 := 1) (i 1) (i 2)) ?_ : k0_pay1 (F := Ideal) x i = _)
  rw [Shape.rowMajor_val_two, Shape.rowMajor_val_three]
  show (i 1).val * 1 + (i 2).val = ((i 0).val * 128 + (i 1).val) * 1 + (i 2).val
  omega

theorem pay2_apply (x : FVec Ideal S128x1 .f32) (p : FVec Ideal S1x128x1 .f32) (i : S1x128x1.Idx) :
    k0_pay2 (F := Ideal) x p i = p i + x (ix2 (n0 := 128) (n1 := 1) (i 1) (i 2)) := by
  have h : (i 0).val = 0 := by have h : (i 0).val < 1 := (i 0).isLt; omega
  show shapeCast S1x128x1 (addf (shapeCast S128x1 p shapeCasts_S1x128x1_S128x1) x) shapeCasts_S128x1_S1x128x1 i = _
  refine (shapeCast_apply _ _ i (ix2 (n0 := 128) (n1 := 1) (i 1) (i 2)) ?_).trans ?_
  · rw [Shape.rowMajor_val_two, Shape.rowMajor_val_three]
    show (i 1).val * 1 + (i 2).val = ((i 0).val * 128 + (i 1).val) * 1 + (i 2).val
    omega
  rw [addf_apply]
  refine congrArg₂ _ (shapeCast_apply _ _ _ i ?_) rfl
  rw [Shape.rowMajor_val_two, Shape.rowMajor_val_three]
  show ((i 0).val * 128 + (i 1).val) * 1 + (i 2).val = (i 1).val * 1 + (i 2).val
  omega

/-- After a point, the four output buffers. -/
theorem outs_eq : ∀ (n : ℕ) (h : n < cfg0.N),
    (∀ i : S1024x128.Idx, (outsAt0 m c n h).1 i
      = du (V' m c) (W m c) (B m c) (DY m c) (1024 * (n % 4) + (i 0).val) (128 * (n / 4) + (i 1).val))
    ∧ (∀ i : S1024x128.Idx, (outsAt0 m c n h).2.1 i
      = dv (U m c) (W m c) (DY m c) (1024 * (n % 4) + (i 0).val) (128 * (n / 4) + (i 1).val))
    ∧ (∀ i : S1x128x128.Idx, (outsAt0 m c n h).2.2.1 i
      = dw (U m c) (V' m c) (DY m c) 0 (8 * (n % 4) + 8) (n / 4) (i 1).val (i 2).val)
    ∧ (∀ i : S1x128x1.Idx, (outsAt0 m c n h).2.2.2 i = db (U m c) (DY m c) 0 (8 * (n % 4) + 8) (n / 4) (i 1).val) := by
  intro n
  induction n using Nat.strong_induction_on with
  | _ n ih =>
  intro h
  by_cases h0 : n % 4 = 0
  · rw [outsAt0_A m c ⟨n, h⟩ h0 (by dsimp only; omega) h0 (by dsimp only; omega), out_A_5, out_A_6, out_A_7, out_A_8]
    refine ⟨pay6_pt m c ⟨n, h⟩, pay9_pt m c ⟨n, h⟩, fun i => ?_, fun i => ?_⟩
    · refine (pay11_apply (k0_pay10 (F := Ideal) (iblk m c 0 ⟨n, h⟩) (iblk m c 1 ⟨n, h⟩) (iblk m c 4 ⟨n, h⟩)) i).trans ?_
      rw [pay10_pt]
      show dw _ _ _ (8 * (n % 4)) 8 (n / 4) (i 1).val (i 2).val = _
      rw [h0]
    · refine (pay1_apply (k0_pay8 (F := Ideal) (iblk m c 0 ⟨n, h⟩) (iblk m c 4 ⟨n, h⟩)) i).trans ?_
      rw [pay8_pt]
      show db _ _ (8 * (n % 4)) 8 (n / 4) (i 1).val = _
      rw [h0]
  · rw [outsAt0_B m c ⟨n, h⟩ h0 (by dsimp only; omega) h0 (by dsimp only; omega), out_B_5, out_B_6, out_B_7, out_B_8]
    have hp := ih (n - 1) (by omega) (by omega)
    have e1 : 8 * ((n - 1) % 4) + 8 = 8 * (n % 4) := by omega
    have e2 : (n - 1) / 4 = n / 4 := by omega
    rw [e1, e2] at hp
    refine ⟨pay6_pt m c ⟨n, h⟩, pay9_pt m c ⟨n, h⟩, fun i => ?_, fun i => ?_⟩
    · refine (pay12_apply (k0_pay10 (F := Ideal) (iblk m c 0 ⟨n, h⟩) (iblk m c 1 ⟨n, h⟩) (iblk m c 4 ⟨n, h⟩))
        (outsAt0 m c (n - 1) _).2.2.1 i).trans ?_
      rw [pay10_pt, hp.2.2.1]
      exact dw_add (U m c) (V' m c) (DY m c) (8 * (n % 4)) 8 (n / 4) (i 1).val (i 2).val
    · refine (pay2_apply (k0_pay8 (F := Ideal) (iblk m c 0 ⟨n, h⟩) (iblk m c 4 ⟨n, h⟩)) (outsAt0 m c (n - 1) _).2.2.2 i).trans ?_
      rw [pay8_pt, hp.2.2.2]
      exact db_add (U m c) (DY m c) (8 * (n % 4)) 8 (n / 4) (i 1).val

/-! ## The result arrays -/

def resU : S4096x2048.Idx → EReal := fun i => du (V' m c) (W m c) (B m c) (DY m c) (i 0).val (i 1).val
def resV : S4096x2048.Idx → EReal := fun i => dv (U m c) (W m c) (DY m c) (i 0).val (i 1).val
def resW : S16x128x128.Idx → EReal := fun i => dw (U m c) (V' m c) (DY m c) 0 32 (i 0).val (i 1).val (i 2).val
def resB : S16x128x1.Idx → EReal := fun i => db (U m c) (DY m c) 0 32 (i 0).val (i 1).val

theorem final_u : (dats m 0 c).arrAt 5 cfg0.N = resU m c :=
  (dats m 0 c).arrAt_eq_of_cover 5 (resU m c) (fun t _ => by
    rw [flushed5]
    funext j
    have hi := idx5 t
    refine ((outs_eq m c t.val t.isLt).1 _).trans ?_
    rw [View.read_apply]
    show _ = du (V' m c) (W m c) (B m c) (DY m c) (win0_5.index t 0 * 1024 + 1 * (j 0).val) (win0_5.index t 1 * 128 + 1 * (j 1).val)
    rw [hi.1, hi.2, Nat.one_mul, Nat.one_mul, Nat.mul_comm _ 1024, Nat.mul_comm _ 128]) fun i => by
    have h0 : (i 0 : Nat) < 4096 := (i 0).isLt
    have h1 : (i 1 : Nat) < 2048 := (i 1).isLt
    let t : Fin cfg0.N := ⟨(i 0 : Nat) / 1024 + 4 * ((i 1 : Nat) / 128), by rw [show cfg0.N = 64 from N_0]; omega⟩
    have hi := idx5 t
    have ht : t.val = (i 0 : Nat) / 1024 + 4 * ((i 1 : Nat) / 128) := rfl
    refine ⟨t, flush0_5 t, ?_⟩
    show i ∈ ((View.whole main_v0_0).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [hi.1]; omega
    | ⟨1, _⟩ => show win0_5.index t 1 * 128 ≤ (i 1 : Nat) ∧ (i 1 : Nat) < win0_5.index t 1 * 128 + 128
                rw [hi.2]; omega

theorem final_v : (dats m 0 c).arrAt 6 cfg0.N = resV m c :=
  (dats m 0 c).arrAt_eq_of_cover 6 (resV m c) (fun t _ => by
    rw [flushed6]
    funext j
    have hi := idx6 t
    refine ((outs_eq m c t.val t.isLt).2.1 _).trans ?_
    rw [View.read_apply]
    show _ = dv (U m c) (W m c) (DY m c) (win0_6.index t 0 * 1024 + 1 * (j 0).val) (win0_6.index t 1 * 128 + 1 * (j 1).val)
    rw [hi.1, hi.2, Nat.one_mul, Nat.one_mul, Nat.mul_comm _ 1024, Nat.mul_comm _ 128]) fun i => by
    have h0 : (i 0 : Nat) < 4096 := (i 0).isLt
    have h1 : (i 1 : Nat) < 2048 := (i 1).isLt
    let t : Fin cfg0.N := ⟨(i 0 : Nat) / 1024 + 4 * ((i 1 : Nat) / 128), by rw [show cfg0.N = 64 from N_0]; omega⟩
    have hi := idx6 t
    have ht : t.val = (i 0 : Nat) / 1024 + 4 * ((i 1 : Nat) / 128) := rfl
    refine ⟨t, flush0_6 t, ?_⟩
    show i ∈ ((View.whole main_v0_1).slice (win0_6.rect t)).set
    rw [View.set_slice_whole, Rect.mem_set_unit]
    intro a
    match a with
    | ⟨0, _⟩ => show win0_6.index t 0 * 1024 ≤ (i 0 : Nat) ∧ (i 0 : Nat) < win0_6.index t 0 * 1024 + 1024
                rw [hi.1]; omega
    | ⟨1, _⟩ => show win0_6.index t 1 * 128 ≤ (i 1 : Nat) ∧ (i 1 : Nat) < win0_6.index t 1 * 128 + 128
                rw [hi.2]; omega

theorem final_w : (dats m 0 c).arrAt 7 cfg0.N = resW m c :=
  (dats m 0 c).arrAt_eq_of_cover 7 (resW m c) (fun t ht => by
    rw [flushed7]
    funext j
    have hi := idx7 t
    have h3 := (flush0_7 t).mp ht
    refine ((outs_eq m c t.val t.isLt).2.2.1 _).trans ?_
    rw [View.read_apply]
    show _ = dw (U m c) (V' m c) (DY m c) 0 32 (win0_7.index t 0 * 1 + 1 * (j 0).val) (win0_7.index t 1 * 128 + 1 * (j 1).val)
      (win0_7.index t 2 * 128 + 1 * (j 2).val)
    have hj : (j 0).val = 0 := by have h : (j 0).val < 1 := (j 0).isLt; omega
    rw [hi.1, hi.2.1, hi.2.2, Nat.one_mul, Nat.one_mul, Nat.one_mul, h3, hj, Nat.zero_mul, Nat.zero_add, Nat.zero_add, Nat.mul_one]
    rfl) fun i => by
    have h0 : (i 0 : Nat) < 16 := (i 0).isLt
    have h1 : (i 1 : Nat) < 128 := (i 1).isLt
    have h2 : (i 2 : Nat) < 128 := (i 2).isLt
    let t : Fin cfg0.N := ⟨3 + 4 * (i 0 : Nat), by rw [show cfg0.N = 64 from N_0]; omega⟩
    have hi := idx7 t
    have ht : t.val = 3 + 4 * (i 0 : Nat) := rfl
    refine ⟨t, (flush0_7 t).mpr (by omega), ?_⟩
    show i ∈ ((View.whole main_v0_2).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [hi.1]; omega
    | ⟨1, _⟩ => show win0_7.index t 1 * 128 ≤ (i 1 : Nat) ∧ (i 1 : Nat) < win0_7.index t 1 * 128 + 128
                rw [hi.2.1]; omega
    | ⟨2, _⟩ => show win0_7.index t 2 * 128 ≤ (i 2 : Nat) ∧ (i 2 : Nat) < win0_7.index t 2 * 128 + 128
                rw [hi.2.2]; omega

theorem final_b : (dats m 0 c).arrAt 8 cfg0.N = resB m c :=
  (dats m 0 c).arrAt_eq_of_cover 8 (resB m c) (fun t ht => by
    rw [flushed8]
    funext j
    have hi := idx8 t
    have h3 := (flush0_8 t).mp ht
    refine ((outs_eq m c t.val t.isLt).2.2.2 _).trans ?_
    rw [View.read_apply]
    show _ = db (U m c) (DY m c) 0 32 (win0_8.index t 0 * 1 + 1 * (j 0).val) (win0_8.index t 1 * 128 + 1 * (j 1).val)
    have hj : (j 0).val = 0 := by have h : (j 0).val < 1 := (j 0).isLt; omega
    rw [hi.1, hi.2.1, Nat.one_mul, Nat.one_mul, h3, hj, Nat.zero_mul, Nat.zero_add, Nat.mul_one]
    rfl) fun i => by
    have h0 : (i 0 : Nat) < 16 := (i 0).isLt
    have h1 : (i 1 : Nat) < 128 := (i 1).isLt
    have h2 : (i 2 : Nat) < 1 := (i 2).isLt
    let t : Fin cfg0.N := ⟨3 + 4 * (i 0 : Nat), by rw [show cfg0.N = 64 from N_0]; omega⟩
    have hi := idx8 t
    have ht : t.val = 3 + 4 * (i 0 : Nat) := rfl
    refine ⟨t, (flush0_8 t).mpr (by omega), ?_⟩
    show i ∈ ((View.whole main_v0_3).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [hi.1]; omega
    | ⟨1, _⟩ => show win0_8.index t 1 * 128 ≤ (i 1 : Nat) ∧ (i 1 : Nat) < win0_8.index t 1 * 128 + 128
                rw [hi.2.1]; omega
    | ⟨2, _⟩ => show win0_8.index t 2 * 1 ≤ (i 2 : Nat) ∧ (i 2 : Nat) < win0_8.index t 2 * 1 + 1
                rw [hi.2.2]; omega

end Cert.Gate

end
-- ==== Proof.Mm.Sum.lean ====
/-
  The two kinds of matrix product the MLP's backward pass takes, as sums over ranges of natural numbers, and how such a
  sum grows block by block along the summed axis.
-/
module

public import proofs.«01_k».proof.Proof.Coord

@[expose] public section

noncomputable section

namespace Cert.Mm

open Idealize.ShloMosaic Idealize.ShloMosaic.ValueIdx Cert.Coord
open scoped BigOperators

/-- `xᵀ · y` at row `r` and column `s`, the first `n` terms. -/
def tn (x y : ℕ → ℕ → EReal) (n r s : ℕ) : EReal := ∑ k ∈ Finset.range n, x k r * y k s

/-- `x · yᵀ` at row `r` and column `s`, the first `n` terms. -/
def nt (x y : ℕ → ℕ → EReal) (n r s : ℕ) : EReal := ∑ k ∈ Finset.range n, x r k * y s k

/-- The first `a` terms and the `b` after them. -/
theorem tn_add (x y : ℕ → ℕ → EReal) (a b r s : ℕ) :
    tn x y a r s + ∑ k ∈ Finset.range b, x (a + k) r * y (a + k) s = tn x y (a + b) r s :=
  (Finset.sum_range_add (fun k => x k r * y k s) a b).symm

theorem nt_add (x y : ℕ → ℕ → EReal) (a b r s : ℕ) :
    nt x y a r s + ∑ k ∈ Finset.range b, x r (a + k) * y s (a + k) = nt x y (a + b) r s :=
  (Finset.sum_range_add (fun k => x r k * y s k) a b).symm

theorem hz2 : (![0, 0] : Fin 2 → Nat) = fun _ => 0 := funext fun a => by fin_cases a <;> rfl

theorem hz3 : (![0, 0, 0] : Fin 3 → Nat) = fun _ => 0 := funext fun a => by fin_cases a <;> rfl

theorem zero_apply (s : Shape) (i : s.Idx) : constant (F := Ideal) s .f32 0x00000000#32 i = 0 := by
  rw [constant_apply]; simp

end Cert.Mm

end
-- ==== Proof.Mm.Block.lean ====
/-
  Blocks of arrays: a block's entry is the array's at the block's corner plus the entry's coordinates, and one block's
  product is the array's product over that block's range of the summed axis.
-/
module

public import proofs.«01_k».proof.Proof.Mm.Sum

@[expose] public section

noncomputable section

namespace Cert.Mm

open Idealize.ShloMosaic Idealize.ShloMosaic.ValueIdx Cert.Coord
open scoped BigOperators

/-- A block of a matrix, whose corner is block `p` by block `q`. -/
theorem at2_block {n0 n1 b0 b1 : ℕ} (X : (⟨2, ![n0, n1]⟩ : Shape).Idx → EReal) (x : (⟨2, ![b0, b1]⟩ : Shape).Idx → EReal)
    (f : (⟨2, ![b0, b1]⟩ : Shape).Idx → (⟨2, ![n0, n1]⟩ : Shape).Idx) {p q : ℕ} (hx : ∀ i, x i = X (f i))
    (h0 : ∀ i, (f i 0).val = p * b0 + 1 * (i 0).val) (h1 : ∀ i, (f i 1).val = q * b1 + 1 * (i 1).val)
    {r k : ℕ} (hr : r < b0) (hk : k < b1) : at2 x r k = at2 X (b0 * p + r) (b1 * q + k) := by
  rw [at2_lt x hr hk, hx, at2_eq X, h0, h1]
  refine congrArg₂ (at2 X) ?_ ?_
  · show p * b0 + 1 * r = _; rw [Nat.mul_comm, Nat.one_mul]
  · show q * b1 + 1 * k = _; rw [Nat.mul_comm, Nat.one_mul]

/-- A block of one layer of a stack of matrices. -/
theorem at3_block {n0 n1 n2 b1 b2 : ℕ} (X : (⟨3, ![n0, n1, n2]⟩ : Shape).Idx → EReal)
    (x : (⟨3, ![1, b1, b2]⟩ : Shape).Idx → EReal)
    (f : (⟨3, ![1, b1, b2]⟩ : Shape).Idx → (⟨3, ![n0, n1, n2]⟩ : Shape).Idx) {l p q : ℕ} (hx : ∀ i, x i = X (f i))
    (h0 : ∀ i, (f i 0).val = l * 1 + 1 * (i 0).val) (h1 : ∀ i, (f i 1).val = p * b1 + 1 * (i 1).val)
    (h2 : ∀ i, (f i 2).val = q * b2 + 1 * (i 2).val)
    {r k : ℕ} (hr : r < b1) (hk : k < b2) : at3 x 0 r k = at3 X l (b1 * p + r) (b2 * q + k) := by
  rw [at3_lt x Nat.one_pos hr hk, hx, at3_eq X, h0, h1, h2]
  show at3 X (l * 1 + 1 * 0) (p * b1 + 1 * r) (q * b2 + 1 * k) = _
  rw [Nat.mul_one, Nat.mul_zero, Nat.add_zero, Nat.mul_comm p, Nat.mul_comm q, Nat.one_mul, Nat.one_mul]

/-- The product `xᵀ · y` of block `b` of the summed rows. -/
theorem tn_block (X Y x y : ℕ → ℕ → EReal) {n b r s r' s' : ℕ}
    (hx : ∀ k < n, x k r = X (n * b + k) r') (hy : ∀ k < n, y k s = Y (n * b + k) s') :
    tn X Y (n * b) r' s' + tn x y n r s = tn X Y (n * (b + 1)) r' s' := by
  refine Eq.trans ?_ (tn_add X Y (n * b) n r' s')
  refine congrArg _ (Finset.sum_congr rfl fun k hk => ?_)
  rw [hx k (Finset.mem_range.mp hk), hy k (Finset.mem_range.mp hk)]

/-- The product `x · yᵀ` of block `b` of the summed axis. -/
theorem nt_block (X Y x y : ℕ → ℕ → EReal) {n b r s r' s' : ℕ}
    (hx : ∀ k < n, x r k = X r' (n * b + k)) (hy : ∀ k < n, y s k = Y s' (n * b + k)) :
    nt X Y (n * b) r' s' + nt x y n r s = nt X Y (n * (b + 1)) r' s' := by
  refine Eq.trans ?_ (nt_add X Y (n * b) n r' s')
  refine congrArg _ (Finset.sum_congr rfl fun k hk => ?_)
  rw [hx k (Finset.mem_range.mp hk), hy k (Finset.mem_range.mp hk)]

/-- The product `x · yᵀ` of blocks that hold the whole summed axis. -/
theorem nt_whole (X Y x y : ℕ → ℕ → EReal) {n r s r' s' : ℕ} (hx : ∀ k < n, x r k = X r' k) (hy : ∀ k < n, y s k = Y s' k) :
    nt x y n r s = nt X Y n r' s' :=
  Finset.sum_congr rfl fun k hk => by rw [hx k (Finset.mem_range.mp hk), hy k (Finset.mem_range.mp hk)]

/--
One element's sum over `nk` blocks, at least two, in a scratch: point `n` adds the product of block `n % nk` of group `n / nk`
of points, the last one into the result. `P g b` is the sum of the first `b` blocks of group `g`.
-/
theorem blocks (nk : ℕ) {N : ℕ} (P : ℕ → ℕ → EReal) (d scr out : (n : ℕ) → n < N → EReal) (hnk : 2 ≤ nk)
    (h0 : ∀ g, P g 0 = 0) (hd : ∀ n h, P (n / nk) (n % nk) + d n h = P (n / nk) (n % nk + 1))
    (hA : ∀ n h, n % nk = 0 → scr n h = d n h)
    (hB : ∀ n h, n % nk ≠ 0 → n % nk ≠ nk - 1 → scr n h = scr (n - 1) (by omega) + d n h)
    (hC : ∀ n h, n % nk = nk - 1 → out n h = scr (n - 1) (by omega) + d n h)
    (n : ℕ) (h : n < N) (hn : n % nk = nk - 1) : out n h = P (n / nk) nk := by
  have hprev : ∀ n, n % nk ≠ 0 → (n - 1) / nk = n / nk ∧ (n - 1) % nk + 1 = n % nk := by
    intro n hz
    have hlt : n % nk < nk := Nat.mod_lt _ (by omega)
    have hq : n - 1 = nk * (n / nk) + (n % nk - 1) := by have := Nat.div_add_mod n nk; omega
    have hl : n % nk - 1 < nk := Nat.lt_of_le_of_lt (Nat.sub_le _ _) hlt
    rw [hq, Nat.mul_add_div (by omega), Nat.mul_add_mod, Nat.div_eq_of_lt hl, Nat.mod_eq_of_lt hl, Nat.add_zero]
    exact ⟨rfl, Nat.sub_add_cancel (Nat.pos_of_ne_zero hz)⟩
  have hs : ∀ n h, n % nk ≠ nk - 1 → scr n h = P (n / nk) (n % nk + 1) := by
    intro n
    induction n using Nat.strong_induction_on with
    | _ n ih =>
    intro h hl
    by_cases hz : n % nk = 0
    · rw [hA n h hz, ← hd n h, hz, h0, zero_add]
    · have hlt : n % nk < nk := Nat.mod_lt _ (by omega)
      have hp := hprev n hz
      have hpos : n ≠ 0 := fun e => hz (by rw [e, Nat.zero_mod])
      rw [hB n h hz hl, ← hd n h, ih (n - 1) (by omega) (by omega) (by omega), hp.1, hp.2]
  have hz : n % nk ≠ 0 := by omega
  have hp := hprev n hz
  have hf := hd n h
  rw [hC n h hn, hs (n - 1) (by omega) (by omega), hp.1, hp.2, hf, hn, Nat.sub_add_cancel (by omega)]

end Cert.Mm

end
-- ==== Proof.Gate.Fwd.lean ====
/-
  The gate's own call of the forward pass: the kernel multiplies `u` by the mixed values. That is the backward kernel's
  gradient of `u` with `u` in the place of the result's gradient, so the block lemma is that kernel's.
-/
module

public import proofs.«01_k».proof.Proof.Gate.Points
public import proofs.«01_k».proof.Proof.Mm.Block
public import proofs.«01_k».proof.Proof.Gen.Kernel30Ideal.Value

@[expose] public section

set_option maxRecDepth 16384

noncomputable section

namespace Cert.Gate.Fwd

open Idealize.ShloMosaic Idealize.ShloMosaic.TcCoe Idealize.ShloMosaic.ValueIdx Idealize.SL.Sem Cert.Coord Cert.Mm
open Idealize.ShloMosaic.Pipeline (Dat)
open Cert.Kernel30Ideal Cert.Kernel30Ideal.Gen Cert.Kernel30Ideal.Value
open scoped BigOperators

theorem out_eq {F : FTy → Type} [FloatOps F] (x0 : Vec F S1024x128 .f32) (x1 : Vec F S1024x128 .bf16) (x2 : Vec F S1x128x128 .f32)
    (x3 : Vec F S1x128x1 .f32) : out0_4 x0 x1 x2 x3 = k0_pay1 x0 x1 x2 x3 := by
  unfold out0_4
  rw [View.canon_unit_zero hz2, View.ld_unit_zero (S := S1024x128) hz2, View.ld_unit_zero (S := S1024x128) hz2,
    View.ld_unit_zero (S := S1x128x128) hz3, View.ld_unit_zero (S := S1x128x1) hz3]

theorem pay1_apply (u : FVec Ideal S1024x128 .f32) (v : FVec Ideal S1024x128 .bf16) (w : FVec Ideal S1x128x128 .f32)
    (b : FVec Ideal S1x128x1 .f32) (i : S1024x128.Idx) :
    k0_pay1 (F := Ideal) u v w b i = u i * ((∑ s ∈ Finset.range 128,
        wm (at3 w 0) ((i 0).val % 128) s * at2 v ((i 0).val / 128 * 128 + s) (i 1).val) + at3 b 0 ((i 0).val % 128) 0) :=
  pay6_apply v w b u i

theorem idx0 : ∀ t : Fin grid0.N, win0_0.index t 0 = t.val % 4 ∧ win0_0.index t 1 = t.val / 4 := by decide +kernel
theorem idx1 : ∀ t : Fin grid0.N, win0_1.index t 0 = t.val % 4 ∧ win0_1.index t 1 = t.val / 4 := by decide +kernel
theorem idx2 : ∀ t : Fin grid0.N, win0_2.index t 0 = t.val / 4 ∧ win0_2.index t 1 = 0 ∧ win0_2.index t 2 = 0 := by decide +kernel
theorem idx3 : ∀ t : Fin grid0.N, win0_3.index t 0 = t.val / 4 ∧ win0_3.index t 1 = 0 ∧ win0_3.index t 2 = 0 := by decide +kernel
theorem idx4 : ∀ t : Fin grid0.N, win0_4.index t 0 = t.val % 4 ∧ win0_4.index t 1 = t.val / 4 := by decide +kernel

variable (m : (ℓ : Loc nD τ sig) → Buf (Elt Ideal) ℓ) (c : Dev nD)

abbrev U : S4096x2048.Idx → EReal := m ((c : Thread nD τ).loc main_arg0)
abbrev V' : S4096x2048.Idx → EReal := m ((c : Thread nD τ).loc main_arg1)
abbrev W : S16x128x128.Idx → EReal := m ((c : Thread nD τ).loc main_arg2)
abbrev B : S16x128x1.Idx → EReal := m ((c : Thread nD τ).loc main_arg3)

theorem pay1_pt (t : Fin cfg0.N) (i : S1024x128.Idx) :
    k0_pay1 (F := Ideal) (iblk m c 0 t) (iblk m c 1 t) (iblk m c 2 t) (iblk m c 3 t) i
      = du (V' m c) (W m c) (B m c) (U m c) (1024 * (t.val % 4) + (i 0).val) (128 * (t.val / 4) + (i 1).val) := by
  have h0 := idx2_lt0 i
  have h1 := idx2_lt1 i
  have hm : (i 0).val % 128 < 128 := Nat.mod_lt _ (by decide)
  unfold du
  rw [show (128 * (t.val / 4) + (i 1).val) / 128 = t.val / 4 by omega,
    show (1024 * (t.val % 4) + (i 0).val) % 128 = (i 0).val % 128 by omega,
    show (1024 * (t.val % 4) + (i 0).val) / 128 * 128 = 1024 * (t.val % 4) + (i 0).val / 128 * 128 by omega]
  refine (pay1_apply (iblk m c 0 t) (iblk m c 1 t) (iblk m c 2 t) (iblk m c 3 t) i).trans
    (congrArg₂ (· * ·) ?_ (congrArg₂ (· + ·) (Finset.sum_congr rfl fun s hs => ?_) ?_))
  · refine (at2_eq (iblk m c 0 t) i).trans ?_
    refine (at2_block (U m c) (iblk m c 0 t) _ (fun _ => rfl) (fun _ => rfl) (fun _ => rfl) h0 h1).trans ?_
    rw [(idx0 t).1, (idx0 t).2]
  · have hs := Finset.mem_range.mp hs
    refine congrArg₂ (· * ·) (wm_congr _ _ ?_) ?_
    · refine (at3_block (W m c) (iblk m c 2 t) _ (fun _ => rfl) (fun _ => rfl) (fun _ => rfl) (fun _ => rfl) hm hs).trans ?_
      rw [(idx2 t).1, (idx2 t).2.1, (idx2 t).2.2, Nat.mul_zero, Nat.zero_add, Nat.zero_add]
    · refine (at2_block (V' m c) (iblk m c 1 t) _ (fun _ => rfl) (fun _ => rfl) (fun _ => rfl) (by omega) h1).trans ?_
      rw [(idx1 t).1, (idx1 t).2, Nat.add_assoc]
  · refine (at3_block (B m c) (iblk m c 3 t) _ (fun _ => rfl) (fun _ => rfl) (fun _ => rfl) (fun _ => rfl) hm Nat.one_pos).trans ?_
    rw [(idx3 t).1, (idx3 t).2.1, (idx3 t).2.2]
    simp only [Nat.mul_zero, Nat.zero_add]

/-- The result array. -/
def res : S4096x2048.Idx → EReal := fun i => du (V' m c) (W m c) (B m c) (U m c) (i 0).val (i 1).val

theorem final : (dats m 0 c).arrAt 4 cfg0.N = res m c :=
  (dats m 0 c).arrAt_eq_of_cover 4 (res m c) (fun t _ => by
    rw [flushed4, out_eq]
    funext j
    have hi := idx4 t
    refine (pay1_pt m c t _).trans ?_
    rw [View.read_apply]
    show _ = du (V' m c) (W m c) (B m c) (U m c) (win0_4.index t 0 * 1024 + 1 * (j 0).val) (win0_4.index t 1 * 128 + 1 * (j 1).val)
    rw [hi.1, hi.2, Nat.one_mul, Nat.one_mul, Nat.mul_comm _ 1024, Nat.mul_comm _ 128]) fun i => by
    have h0 : (i 0 : Nat) < 4096 := (i 0).isLt
    have h1 : (i 1 : Nat) < 2048 := (i 1).isLt
    let t : Fin cfg0.N := ⟨(i 0 : Nat) / 1024 + 4 * ((i 1 : Nat) / 128), by rw [show cfg0.N = 64 from N_0]; omega⟩
    have hi := idx4 t
    have ht : t.val = (i 0 : Nat) / 1024 + 4 * ((i 1 : Nat) / 128) := rfl
    refine ⟨t, flush0_4 t, ?_⟩
    show i ∈ ((View.whole main_v0).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024
                rw [hi.1]; omega
    | ⟨1, _⟩ => show win0_4.index t 1 * 128 ≤ (i 1 : Nat) ∧ (i 1 : Nat) < win0_4.index t 1 * 128 + 128
                rw [hi.2]; omega

end Cert.Gate.Fwd

end
-- ==== Proof.Gate.Ref.lean ====
/-
  The gate's gradients as the reference computes them, element by element, over the extended reals.
-/
module

public import proofs.«01_k».proof.Proof.Gate.Points
public import proofs.«01_k».proof.Proof.Gen.ReferenceIdeal.Read

@[expose] public section

set_option maxRecDepth 16384

noncomputable section

namespace Cert.Gate.Ref

open Idealize.ShloMosaic Idealize.ShloMosaic.ValueIdx Cert.Coord
open Cert.ReferenceIdeal Cert.ReferenceIdeal.Gen Cert.ReferenceIdeal.Read
open scoped BigOperators

variable (u : S4096x2048.Idx → EReal) (v : S4096x2048.Idx → EReal) (w : S16x128x128.Idx → EReal) (b : S16x128x1.Idx → EReal)
  (dy : S4096x2048.Idx → EReal)

theorem fst (q t g d : ℕ) (hg : g < 16) (hd : d < 128) : (((q * 128 + t) * 16 + g) * 128 + d) / 2048 = q * 128 + t := by omega
theorem snd (q t g d : ℕ) (hg : g < 16) (hd : d < 128) : (((q * 128 + t) * 16 + g) * 128 + d) % 2048 = g * 128 + d := by omega

/-- The two-axis index of a four-axis one. -/
theorem v2_eq (i : S32x128x16x128.Idx) :
    val_main_v2 (F := Ideal) u i = at2 u ((i 0).val * 128 + (i 1).val) ((i 2).val * 128 + (i 3).val) := by
  rw [val_main_v2_apply]
  refine (at2_eq _ _).trans (congrArg₂ _ ?_ ?_)
  · exact fst _ _ _ _ (i 2).isLt (i 3).isLt
  · exact snd _ _ _ _ (i 2).isLt (i 3).isLt

theorem v1_eq (i : S32x128x16x128.Idx) :
    val_main_v1 (F := Ideal) v i = at2 v ((i 0).val * 128 + (i 1).val) ((i 2).val * 128 + (i 3).val) := by
  rw [val_main_v1_apply]
  refine (at2_eq v _).trans (congrArg₂ _ ?_ ?_)
  · exact fst _ _ _ _ (i 2).isLt (i 3).isLt
  · exact snd _ _ _ _ (i 2).isLt (i 3).isLt

theorem v17_eq (i : S32x128x16x128.Idx) :
    val_main_v17 (F := Ideal) dy i = at2 dy ((i 0).val * 128 + (i 1).val) ((i 2).val * 128 + (i 3).val) := by
  rw [val_main_v17_apply]
  refine (at2_eq _ _).trans (congrArg₂ _ ?_ ?_)
  · exact fst _ _ _ _ (i 2).isLt (i 3).isLt
  · exact snd _ _ _ _ (i 2).isLt (i 3).isLt

theorem v18_eq (i : S32x128x16x128.Idx) :
    val_main_v18 (F := Ideal) u dy i = gy u dy ((i 0).val * 128 + (i 1).val) ((i 2).val * 128 + (i 3).val) := by
  rw [val_main_v18_apply, v2_eq, v17_eq]
  rfl

theorem mask_eq (i : S16x128x128.Idx) : val_main_v6_1 (F := Ideal) i = if (i 2).val ≤ (i 1).val then 1#1 else 0#1 := by
  rw [val_main_v6_1_apply]
  have h : ∀ a b : Fin 128, Scalar.select (IntOp.cmpi .sge (IntOp.addi (BitVec.ofNat 32 a.val) 0#32) (BitVec.ofNat 32 b.val)) 1#1 0#1
      = if b.val ≤ a.val then 1#1 else 0#1 := by decide +kernel
  exact h (i 1) (i 2)

theorem wm_eq (i : S16x128x128.Idx) : val_main_v6_0 (F := Ideal) w i = wm (at3 w (i 0).val) (i 1).val (i 2).val := by
  rw [val_main_v6_0_apply, mask_eq]
  unfold wm
  split_ifs with h
  · exact (select_one _ _).trans (at3_eq _ _)
  · rw [select_zero]
    show Ideal.ofBits .f32 0x00000000#32 = 0
    simp

theorem v14_eq (i : S32x128x16x128.Idx) : val_main_v14 (F := Ideal) v w b i
    = (∑ s ∈ Finset.range 128, wm (at3 w (i 2).val) (i 1).val s * at2 v ((i 0).val * 128 + s) ((i 2).val * 128 + (i 3).val))
      + at3 b (i 2).val (i 1).val 0 := by
  rw [val_main_v14_apply]
  refine congrArg₂ _ ?_ ?_
  · rw [val_main_v8_apply, val_main_v7_apply, Finset.sum_range]
    refine Finset.sum_congr rfl fun k _ => ?_
    rw [v1_eq, wm_eq, mul_comm]
  · rw [val_main_v13_apply]
    have h1 : (i 1).val < 128 := (i 1).isLt
    rw [val_main_v12_apply, val_main_v11_apply, val_main_v10_apply, val_main_v9_apply]
    refine (at3_eq b _).trans ?_
    rw [show ((idx_main_v9 (idx_main_v10 (idx_main_v11 (idx_main_v12 (idx_main_v13 i))))) 0).val = (i 2).val by
        show ((i 2).val * 128 + (i 1).val) / 128 = _; omega,
      show ((idx_main_v9 (idx_main_v10 (idx_main_v11 (idx_main_v12 (idx_main_v13 i))))) 1).val = (i 1).val by
        show ((i 2).val * 128 + (i 1).val) / 1 % 128 = _; omega]

theorem v19_eq (i : S32x128x16x128.Idx) : val_main_v19 (F := Ideal) v w b dy i
    = du v w b dy ((i 0).val * 128 + (i 1).val) ((i 2).val * 128 + (i 3).val) := by
  have h1 : (i 1).val < 128 := (i 1).isLt
  have h3 : (i 3).val < 128 := (i 3).isLt
  rw [val_main_v19_apply, v14_eq, v17_eq]
  unfold du
  rw [show ((i 2).val * 128 + (i 3).val) / 128 = (i 2).val by omega, show ((i 0).val * 128 + (i 1).val) % 128 = (i 1).val by omega,
    show ((i 0).val * 128 + (i 1).val) / 128 = (i 0).val by omega]
  rfl

theorem v32_eq (i : S4096x2048.Idx) : val_main_v32 (F := Ideal) v w b dy i = du v w b dy (i 0).val (i 1).val := by
  have h0 : (i 0).val < 4096 := (i 0).isLt
  have h1 : (i 1).val < 2048 := (i 1).isLt
  rw [val_main_v32_apply, v19_eq]
  refine congrArg₂ _ ?_ ?_
  · dsimp only
    omega
  · dsimp only
    omega

theorem v30_eq (i : S32x128x16x128.Idx) : val_main_v30 (F := Ideal) u w dy i
    = dv u w dy ((i 0).val * 128 + (i 1).val) ((i 2).val * 128 + (i 3).val) := by
  have h1 : (i 1).val < 128 := (i 1).isLt
  have h3 : (i 3).val < 128 := (i 3).isLt
  rw [val_main_v30_apply, val_main_v29_apply]
  unfold dv
  rw [show ((i 2).val * 128 + (i 3).val) / 128 = (i 2).val by omega, show ((i 0).val * 128 + (i 1).val) % 128 = (i 1).val by omega,
    show ((i 0).val * 128 + (i 1).val) / 128 = (i 0).val by omega, Finset.sum_range]
  refine Finset.sum_congr rfl fun k _ => ?_
  rw [val_main_v27_apply, v18_eq, wm_eq]

theorem v33_eq (i : S4096x2048.Idx) : val_main_v33 (F := Ideal) u w dy i = dv u w dy (i 0).val (i 1).val := by
  have h0 : (i 0).val < 4096 := (i 0).isLt
  have h1 : (i 1).val < 2048 := (i 1).isLt
  rw [val_main_v33_apply, v30_eq]
  refine congrArg₂ _ ?_ ?_
  · dsimp only
    omega
  · dsimp only
    omega

theorem v31_eq (i : S16x128x128.Idx) : val_main_v31 (F := Ideal) u v dy i = dw u v dy 0 32 (i 0).val (i 1).val (i 2).val := by
  rw [val_main_v31_apply, mask_eq]
  unfold dw
  split_ifs with h
  · rw [select_one]
    unfold val_main_v28
    simp only [Host.dotGeneral]
    rw [Ideal.dotGeneral_apply]
    refine (sum_dot2 _ 32 128 rfl (by decide) (by decide) _ _ _ (fun q d => gy u dy ((0 + q) * 128 + (i 1).val) ((i 0).val * 128 + d))
      (fun q d => at2 v ((0 + q) * 128 + (i 2).val) ((i 0).val * 128 + d)) (fun k => ?_) (fun k => ?_)).trans ?_
    · rw [val_main_v27_apply, v18_eq, Nat.zero_add]
      congr 1
    · rw [v1_eq, Nat.zero_add]
      congr 1
    · rfl
  · rw [select_zero]
    show Ideal.ofBits .f32 0x00000000#32 = 0
    simp

theorem v20_eq (i : S128x16.Idx) : val_main_v20 (F := Ideal) u dy i = db u dy 0 32 (i 1).val (i 0).val := by
  have h0 : (i 0).val < 128 := (i 0).isLt
  have h1 : (i 1).val < 16 := (i 1).isLt
  unfold val_main_v20
  rw [ValueIdx.hostReduceAdd_apply]
  unfold Ideal.hostReduceAdd db
  refine (congrArg₂ _ (show _ = (0 : EReal) from ?_) ((sum_filter_mid2 _ (i 0).val (i 1).val h0 h1 (fun k => ?_) _).trans ?_)).trans (zero_add _)
  · show Ideal.ofBits .f32 0x00000000#32 = 0
    simp
  · exact ⟨fun h => ⟨(reducesTo_S32x128x16x128_S128x16_d0_3.drop_apply_val_of_eq k 0 1).symm.trans (congrArg (fun j => (j 0).val) h),
      (reducesTo_S32x128x16x128_S128x16_d0_3.drop_apply_val_of_eq k 1 2).symm.trans (congrArg (fun j => (j 1).val) h)⟩,
      fun h => funext fun b => match b with
        | ⟨0, _⟩ => Fin.ext ((reducesTo_S32x128x16x128_S128x16_d0_3.drop_apply_val_of_eq k 0 1).trans h.1)
        | ⟨1, _⟩ => Fin.ext ((reducesTo_S32x128x16x128_S128x16_d0_3.drop_apply_val_of_eq k 1 2).trans h.2)⟩
  · refine Finset.sum_congr rfl fun q hq => Finset.sum_congr rfl fun d hd => ?_
    rw [at4_lt _ (Finset.mem_range.mp hq) h0 h1 (Finset.mem_range.mp hd), v18_eq, Nat.zero_add]

theorem v22_eq (i : S128x16.Idx) : val_main_v22 (F := Ideal) u dy i = db u dy 0 32 (i 1).val (i 0).val := by
  have h0 : (i 0).val < 128 := (i 0).isLt
  have h1 : (i 1).val < 16 := (i 1).isLt
  unfold val_main_v22
  rw [ValueIdx.hostReduceAdd_apply]
  unfold Ideal.hostReduceAdd
  refine (congrArg₂ _ (show _ = (0 : EReal) from ?_) ((sum_filter_mid2 _ (i 0).val (i 1).val h0 h1 (fun k => ?_) _).trans ?_)).trans (zero_add _)
  · show Ideal.ofBits .f32 0x00000000#32 = 0
    simp
  · exact ⟨fun h => ⟨(reducesTo_S1x128x16x1_S128x16_d0_3.drop_apply_val_of_eq k 0 1).symm.trans (congrArg (fun j => (j 0).val) h),
      (reducesTo_S1x128x16x1_S128x16_d0_3.drop_apply_val_of_eq k 1 2).symm.trans (congrArg (fun j => (j 1).val) h)⟩,
      fun h => funext fun b => match b with
        | ⟨0, _⟩ => Fin.ext ((reducesTo_S1x128x16x1_S128x16_d0_3.drop_apply_val_of_eq k 0 1).trans h.1)
        | ⟨1, _⟩ => Fin.ext ((reducesTo_S1x128x16x1_S128x16_d0_3.drop_apply_val_of_eq k 1 2).trans h.2)⟩
  · rw [Finset.sum_range_one, Finset.sum_range_one, at4_lt _ (by decide) h0 h1 (by decide), val_main_v21_apply, v20_eq]
    refine congrArg₂ _ ?_ ?_
    · show (((0 * 128 + (i 0).val) * 16 + (i 1).val) * 1 + 0) % 16 = (i 1).val
      omega
    · show (((0 * 128 + (i 0).val) * 16 + (i 1).val) * 1 + 0) / 16 = (i 0).val
      omega

theorem v26_eq (i : S16x128x1.Idx) : val_main_v26 (F := Ideal) u dy i = db u dy 0 32 (i 0).val (i 1).val := by
  rw [val_main_v26_apply, val_main_v25_apply, val_main_v24_apply, Fin.sum_univ_one, val_main_v23_apply, v22_eq]
  refine (congrArg (· + _) (show _ = (0 : EReal) from ?_)).trans ((zero_add _).trans ?_)
  · show Ideal.ofBits .f32 0x00000000#32 = 0
    simp
  · rfl

end Cert.Gate.Ref

end
-- ==== Proof.Gate.FwdClaims.lean ====
/-
  The five claims about the gate's own call of the forward pass.
-/
module

public import proofs.«01_k».proof.Defs
public import proofs.«01_k».proof.Proof.Gate.Fwd
public import proofs.«01_k».proof.Proof.Gate.Ref
public import proofs.«01_k».proof.Proof.Gen.Kernel30.Frame
public import proofs.«01_k».proof.Proof.Gen.Reference30Ideal.Read
public import Idealize.ShloMosaic.Adequacy
public import Idealize.ShloMosaic.Init

@[expose] public section

set_option maxRecDepth 16384

noncomputable section

namespace Cert.Gate.Fwd

open Idealize.ShloMosaic Idealize.ShloMosaic.TcCoe Idealize.ShloMosaic.ValueIdx Idealize.SL.Sem Cert.Coord
open Cert.Reference30Ideal (S4096x2048 S16x128x128 S16x128x1)

theorem frameP : Cert.quiescent_Kernel30 := fun m ρ _ => Cert.Kernel30.Gen.frame m ρ

theorem framePI : Cert.quiescent_Kernel30Ideal := fun m ρ _ => Cert.Kernel30Ideal.Gen.frame m ρ

theorem frameRI : Cert.quiescent_Reference30Ideal := fun m ρ _ =>
  (θ_run Cert.Reference30Ideal.defs _ _).mono
    (fun r h => ⟨fun c => (h c).2, Idealize.ShloMosaic.sem_eq_zero_of_no_sems (by decide) r.2⟩)
    (Cert.Reference30Ideal.Value.run m ρ)

/-- The reference multiplies `u` by the same mixed values as the backward reference multiplies the result's gradient by. -/
theorem ref_eq (u v : S4096x2048.Idx → EReal) (w : S16x128x128.Idx → EReal) (b : S16x128x1.Idx → EReal) (i : S4096x2048.Idx) :
    Cert.Reference30Ideal.Read.val_main_v17 (F := Ideal) u v w b i = du v w b u (i 0).val (i 1).val :=
  Ref.v32_eq v w b u i

theorem algebraic : Cert.algebraic_Kernel30Ideal_Reference30Ideal := by
  intro m ρ m' ρ' _ hagree
  refine ⟨fun c => res m c, ?_, ?_⟩
  · exact (θ_run Cert.Kernel30Ideal.defs _ _).mono (fun _ h c => ⟨(h c).1.trans (final m c), (h c).2⟩)
      (Cert.Kernel30Ideal.Value.run_blocks (F := Ideal) m ρ)
  refine (θ_run Cert.Reference30Ideal.defs _ _).mono (fun _ h c => ⟨(h c).1.trans ?_, (h c).2⟩)
    (Cert.Reference30Ideal.Value.run (F := Ideal) m' ρ')
  rw [(hagree c).1, (hagree c).2.1, (hagree c).2.2.1, (hagree c).2.2.2, Cert.Reference30Ideal.Read.val_main_v17_eq]
  exact funext fun i => ref_eq (U m c) (V' m c) (W m c) (B m c) i

end Cert.Gate.Fwd

end
-- ==== Proof.Mm.Fwd.lean ====
/-
  The product of the forward pass, `x · y`, as a sum over a range of natural numbers, block by block along the summed axis; and the
  grid's blocks of the result, which cover it.
-/
module

public import proofs.«01_k».proof.Proof.Mm.Block

@[expose] public section

noncomputable section

namespace Cert.Mm

open Idealize.ShloMosaic Idealize.ShloMosaic.ValueIdx Cert.Coord
open scoped BigOperators

/-- `x · y` at row `r` and column `s`, the first `n` terms. -/
def nn (x y : ℕ → ℕ → EReal) (n r s : ℕ) : EReal := ∑ k ∈ Finset.range n, x r k * y k s

/-- Block `b` of the summed axis. -/
theorem nn_block (X Y x y : ℕ → ℕ → EReal) {n b r s r' s' : ℕ}
    (hx : ∀ k < n, x r k = X r' (n * b + k)) (hy : ∀ k < n, y k s = Y (n * b + k) s') :
    nn X Y (n * b) r' s' + nn x y n r s = nn X Y (n * (b + 1)) r' s' :=
  nt_block X (fun s k => Y k s) x (fun s k => y k s) hx hy

/-- Blocks that hold the whole summed axis. -/
theorem nn_whole (X Y x y : ℕ → ℕ → EReal) {n r s r' s' : ℕ} (hx : ∀ k < n, x r k = X r' k) (hy : ∀ k < n, y k s = Y k s') :
    nn x y n r s = nn X Y n r' s' :=
  nt_whole X (fun s k => Y k s) x (fun s k => y k s) hx hy

/-- A grid of `4 · q` points, the last coordinate of `q` fastest: its blocks of 1024 by `b` hold every row and column. -/
theorem covered {N q b : ℕ} (idx : Fin N → Fin 2 → ℕ) (hi : ∀ t, idx t 0 = t.val / q ∧ idx t 1 = t.val % q) (hN : N = 4 * q)
    (hb : 0 < b) {r s : ℕ} (hr : r < 4096) (hs : s < q * b) :
    ∃ t, (idx t 0 * 1024 ≤ r ∧ r < idx t 0 * 1024 + 1024) ∧ (idx t 1 * b ≤ s ∧ s < idx t 1 * b + b) := by
  have hq : s / b < q := Nat.div_lt_of_lt_mul (by rwa [Nat.mul_comm])
  have h4 : r / 1024 < 4 := by omega
  have ht : q * (r / 1024) + s / b < N := by
    rw [hN]
    calc q * (r / 1024) + s / b < q * (r / 1024) + q := Nat.add_lt_add_left hq _
      _ = q * (r / 1024 + 1) := (Nat.mul_succ _ _).symm
      _ ≤ q * 4 := Nat.mul_le_mul_left _ h4
      _ = 4 * q := Nat.mul_comm _ _
  have e := hi ⟨_, ht⟩
  refine ⟨⟨_, ht⟩, ?_⟩
  rw [e.1, e.2]
  show (((q * (r / 1024) + s / b) / q) * 1024 ≤ r ∧ _) ∧ (((q * (r / 1024) + s / b) % q) * b ≤ s ∧ _)
  rw [Nat.mul_add_div (Nat.lt_of_le_of_lt (Nat.zero_le _) hq), Nat.mul_add_mod, Nat.div_eq_of_lt hq, Nat.mod_eq_of_lt hq, Nat.add_zero]
  have hm := Nat.div_add_mod s b
  have hl := Nat.mod_lt s hb
  rw [Nat.mul_comm] at hm
  exact ⟨by omega, by omega, by omega⟩

end Cert.Mm

end
-- ==== Proof.Norm.Rms.lean ====
/-
  The root-mean-square norm of a row, over the extended reals, and the kernel that norms rows of 2048: one grid point norms 256
  rows.
-/
module

public import proofs.«01_k».proof.Proof.Mm.Fwd
public import proofs.«01_k».proof.Proof.Gen.Kernel31Ideal.Value

@[expose] public section

set_option maxRecDepth 16384

noncomputable section

namespace Cert.Norm

open Idealize.ShloMosaic Idealize.ShloMosaic.TcCoe Idealize.ShloMosaic.ValueIdx Idealize.SL.Sem Cert.Coord Cert.Mm
open Idealize.ShloMosaic.Pipeline (Dat)
open Cert.Kernel31Ideal Cert.Kernel31Ideal.Gen Cert.Kernel31Ideal.Value
open scoped BigOperators

/-- Element `k` of a row of `n`, by the root of its mean square; `d` is the number the sum of squares is divided by, and the
constant is the one added under the root. -/
def rms (n : ℕ) (d : EReal) (x : ℕ → EReal) (k : ℕ) : EReal :=
  x k * Ideal.rsqrt (Ideal.div (∑ s ∈ Finset.range n, x s * x s) d + Ideal.ofBits .f32 0x358637BD#32)

/-- The norm reads the row only at its elements. -/
theorem rms_congr {n : ℕ} {d : EReal} {x y : ℕ → EReal} {k : ℕ} (hk : k < n) (h : ∀ s < n, x s = y s) :
    rms n d x k = rms n d y k := by
  unfold rms
  rw [h k hk, Finset.sum_congr rfl fun s hs => congrArg₂ (· * ·) (h s (Finset.mem_range.mp hs)) (h s (Finset.mem_range.mp hs))]

/-- The number of a row's elements, as the kernel and the reference write it. -/
abbrev d2048 : EReal := Ideal.ofBits .f32 0x45000000#32

theorem out_apply (x0 : Vec Ideal S256x2048 .f32) (x1 : Vec Ideal S1x2048 .f32) (y : S256x2048.Idx) :
    out0_2 x0 x1 y = rms 2048 d2048 (at2 x0 (y 0).val) (y 1).val * at2 x1 0 (y 1).val := by
  unfold out0_2
  rw [View.ld_unit_zero (S := S256x2048) hz2, View.ld_unit_zero (S := S1x2048) hz2, canon2_eq]
  refine congrArg₂ (· * ·) (congrArg₂ (· * ·) (at2_eq x0 _)
    (congrArg Ideal.rsqrt (congrArg₂ (· + ·) (congrArg₂ Ideal.div ?_ rfl) rfl))) (at2_eq x1 _)
  refine (Ideal.multiReduction_add_single (mulf x0 x0) _ reduces_S256x2048_S256 _ _ (ix2_1 y)).trans ?_
  rw [Finset.sum_range]
  exact Finset.sum_congr rfl fun k _ => congrArg₂ (· * ·) (at2_eq x0 _) (at2_eq x0 _)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

variable (m : (ℓ : Loc nD τ sig) → Buf (Elt Ideal) ℓ) (c : Dev nD)

abbrev H : S4096x2048.Idx → EReal := m ((c : Thread nD τ).loc main_arg0)
abbrev G : S1x2048.Idx → EReal := m ((c : Thread nD τ).loc main_arg1)

/-- The result at a row and a column. -/
def elt (r s : ℕ) : EReal := rms 2048 d2048 (at2 (H m c) r) s * at2 (G m c) 0 s

theorem out_pt (t : Fin cfg0.N) (i : S256x2048.Idx) : out0_2 (F := Ideal) (iblk m c 0 t) (iblk m c 1 t) i
    = elt m c (256 * t.val + (i 0).val) (i 1).val := by
  refine (out_apply (iblk m c 0 t) (iblk m c 1 t) i).trans (congrArg₂ (· * ·) (rms_congr (idx2_lt1 i) fun s hs => ?_) ?_)
  · refine (at2_block (H m c) (iblk m c 0 t) _ (fun _ => rfl) (fun _ => rfl) (fun _ => rfl) (idx2_lt0 i) hs).trans ?_
    rw [(idx0 t).1, (idx0 t).2, Nat.mul_zero, Nat.zero_add]
  · refine (at2_block (G m c) (iblk m c 1 t) _ (fun _ => rfl) (fun _ => rfl) (fun _ => rfl) Nat.one_pos (idx2_lt1 i)).trans ?_
    rw [(idx1 t).1, (idx1 t).2]
    simp only [Nat.mul_zero, Nat.zero_add]

/-- The result array. -/
def res : S4096x2048.Idx → EReal := fun i => elt m c (i 0).val (i 1).val

theorem final : (dats m 0 c).arrAt 2 cfg0.N = res m c :=
  (dats m 0 c).arrAt_eq_of_cover 2 (res m c) (fun t _ => by
    rw [flushed2]
    funext j
    have hi := idx2 t
    refine (out_pt m c t _).trans ?_
    rw [View.read_apply]
    show _ = elt m c (win0_2.index t 0 * 256 + 1 * (j 0).val) (win0_2.index t 1 * 2048 + 1 * (j 1).val)
    rw [hi.1, hi.2, Nat.one_mul, Nat.one_mul, Nat.mul_comm _ 256, Nat.zero_mul, Nat.zero_add]) fun i => by
    have h0 : (i 0 : Nat) < 4096 := (i 0).isLt
    have h1 : (i 1 : Nat) < 2048 := (i 1).isLt
    let t : Fin cfg0.N := ⟨(i 0 : Nat) / 256, by rw [show cfg0.N = 16 from N_0]; omega⟩
    have hi := idx2 t
    have ht : t.val = (i 0 : Nat) / 256 := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256
                rw [hi.1]; omega
    | ⟨1, _⟩ => show win0_2.index t 1 * 2048 ≤ (i 1 : Nat) ∧ (i 1 : Nat) < win0_2.index t 1 * 2048 + 2048
                rw [hi.2]; omega

end Cert.Norm

end
-- ==== Proof.Norm.Heads.lean ====
/-
  The norm of the queries and keys, head by head: one grid point norms 1024 rows of one head of 128.
-/
module

public import proofs.«01_k».proof.Proof.Norm.Rms
public import proofs.«01_k».proof.Proof.Gen.Kernel32Ideal.Value

@[expose] public section

set_option maxRecDepth 16384

noncomputable section

namespace Cert.Norm.Heads

open Idealize.ShloMosaic Idealize.ShloMosaic.TcCoe Idealize.ShloMosaic.ValueIdx Idealize.SL.Sem Cert.Coord Cert.Mm
open Idealize.ShloMosaic.Pipeline (Dat)
open Cert.Kernel32Ideal Cert.Kernel32Ideal.Gen Cert.Kernel32Ideal.Value
open scoped BigOperators

/-- The number of a head's elements, as the kernel and the reference write it. -/
abbrev d128 : EReal := Ideal.ofBits .f32 0x43000000#32

theorem out_apply (x0 : Vec Ideal S1024x128 .f32) (x1 : Vec Ideal S1x1x128 .f32) (y : S1024x128.Idx) :
    out0_2 x0 x1 y = rms 128 d128 (at2 x0 (y 0).val) (y 1).val * at3 x1 0 0 (y 1).val := by
  unfold out0_2
  rw [View.ld_unit_zero (S := S1024x128) hz2, View.ld_unit_zero (S := S1x1x128) hz3, canon2_eq]
  refine congrArg₂ (· * ·) (congrArg₂ (· * ·) (at2_eq x0 _)
    (congrArg Ideal.rsqrt (congrArg₂ (· + ·) (congrArg₂ Ideal.div ?_ rfl) rfl))) (at3_eq x1 _)
  refine (Ideal.multiReduction_add_single (mulf x0 x0) _ reduces_S1024x128_S1024 _ _ (ix2_1 y)).trans ?_
  rw [Finset.sum_range]
  exact Finset.sum_congr rfl fun k _ => congrArg₂ (· * ·) (at2_eq x0 _) (at2_eq x0 _)

theorem idx0 : ∀ t : Fin grid0.N, win0_0.index t 0 = t.val % 4 ∧ win0_0.index t 1 = t.val / 4 := by decide +kernel
theorem idx1 : ∀ t : Fin grid0.N, win0_1.index t 0 = t.val / 64 ∧ win0_1.index t 1 = 0 ∧ win0_1.index t 2 = 0 := by decide +kernel
theorem idx2 : ∀ t : Fin grid0.N, win0_2.index t 0 = t.val % 4 ∧ win0_2.index t 1 = t.val / 4 := by decide +kernel

variable (m : (ℓ : Loc nD τ sig) → Buf (Elt Ideal) ℓ) (c : Dev nD)

abbrev Q : S4096x6144.Idx → EReal := m ((c : Thread nD τ).loc main_arg0)
abbrev G : S2x1x128.Idx → EReal := m ((c : Thread nD τ).loc main_arg1)

/-- The result at a row and a column: head `s / 128`, the queries' 16 heads first. -/
def elt (q : S4096x6144.Idx → EReal) (g : S2x1x128.Idx → EReal) (r s : ℕ) : EReal :=
  rms 128 d128 (fun k => at2 q r (s / 128 * 128 + k)) (s % 128) * at3 g (s / 2048) 0 (s % 128)

theorem out_pt (t : Fin cfg0.N) (i : S1024x128.Idx) : out0_2 (F := Ideal) (iblk m c 0 t) (iblk m c 1 t) i
    = elt (Q m c) (G m c) (1024 * (t.val % 4) + (i 0).val) (128 * (t.val / 4) + (i 1).val) := by
  have h1 := idx2_lt1 i
  unfold elt
  rw [show (128 * (t.val / 4) + (i 1).val) / 128 * 128 = 128 * (t.val / 4) by omega,
    show (128 * (t.val / 4) + (i 1).val) % 128 = (i 1).val by omega,
    show (128 * (t.val / 4) + (i 1).val) / 2048 = t.val / 64 by omega]
  refine (out_apply (iblk m c 0 t) (iblk m c 1 t) i).trans (congrArg₂ (· * ·) (rms_congr h1 fun s hs => ?_) ?_)
  · refine (at2_block (Q m c) (iblk m c 0 t) _ (fun _ => rfl) (fun _ => rfl) (fun _ => rfl) (idx2_lt0 i) hs).trans ?_
    rw [(idx0 t).1, (idx0 t).2]
  · refine (at3_block (G m c) (iblk m c 1 t) _ (fun _ => rfl) (fun _ => rfl) (fun _ => rfl) (fun _ => rfl) Nat.one_pos h1).trans ?_
    rw [(idx1 t).1, (idx1 t).2.1, (idx1 t).2.2]
    simp only [Nat.mul_zero, Nat.zero_add]

/-- The result array. -/
def res : S4096x4096.Idx → EReal := fun i => elt (Q m c) (G m c) (i 0).val (i 1).val

theorem final : (dats m 0 c).arrAt 2 cfg0.N = res m c :=
  (dats m 0 c).arrAt_eq_of_cover 2 (res m c) (fun t _ => by
    rw [flushed2]
    funext j
    have hi := idx2 t
    refine (out_pt m c t _).trans ?_
    rw [View.read_apply]
    show _ = elt (Q m c) (G m c) (win0_2.index t 0 * 1024 + 1 * (j 0).val) (win0_2.index t 1 * 128 + 1 * (j 1).val)
    rw [hi.1, hi.2, Nat.one_mul, Nat.one_mul, Nat.mul_comm _ 1024, Nat.mul_comm _ 128]) fun i => by
    have h0 : (i 0 : Nat) < 4096 := (i 0).isLt
    have h1 : (i 1 : Nat) < 4096 := (i 1).isLt
    let t : Fin cfg0.N := ⟨(i 0 : Nat) / 1024 + 4 * ((i 1 : Nat) / 128), by rw [show cfg0.N = 128 from N_0]; omega⟩
    have hi := idx2 t
    have ht : t.val = (i 0 : Nat) / 1024 + 4 * ((i 1 : Nat) / 128) := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; omega
    | ⟨1, _⟩ => show win0_2.index t 1 * 128 ≤ (i 1 : Nat) ∧ (i 1 : Nat) < win0_2.index t 1 * 128 + 128
                rw [hi.2]; omega

end Cert.Norm.Heads

end
-- ==== Proof.Norm.Claims.lean ====
/-
  The five claims about each of the two norms.
-/
module

public import proofs.«01_k».proof.Defs
public import proofs.«01_k».proof.Proof.Norm.Heads
public import proofs.«01_k».proof.Proof.Gen.Kernel31.Frame
public import proofs.«01_k».proof.Proof.Gen.Kernel32.Frame
public import proofs.«01_k».proof.Proof.Gen.Reference31Ideal.Read
public import proofs.«01_k».proof.Proof.Gen.Reference32Ideal.Read
public import Idealize.ShloMosaic.Adequacy
public import Idealize.ShloMosaic.Init

@[expose] public section

set_option maxRecDepth 16384

noncomputable section

open Idealize.ShloMosaic Idealize.ShloMosaic.TcCoe Idealize.ShloMosaic.ValueIdx Idealize.SL.Sem Cert.Coord
open scoped BigOperators

/-! ## The norm of a layer's input -/

namespace Cert.Norm

theorem frameP : Cert.quiescent_Kernel31 := fun m ρ _ => Cert.Kernel31.Gen.frame m ρ

theorem framePI : Cert.quiescent_Kernel31Ideal := fun m ρ _ => Cert.Kernel31Ideal.Gen.frame m ρ

theorem frameRI : Cert.quiescent_Reference31Ideal := fun m ρ _ =>
  (θ_run Cert.Reference31Ideal.defs _ _).mono
    (fun r h => ⟨fun c => (h c).2, Idealize.ShloMosaic.sem_eq_zero_of_no_sems (by decide) r.2⟩)
    (Cert.Reference31Ideal.Value.run m ρ)

/-- A sum that starts from the constant zero. -/
theorem from_zero (x : EReal) : Ideal.ofBits .f32 0x00000000#32 + x = x := by
  rw [show Ideal.ofBits .f32 0x00000000#32 = 0 by simp, zero_add]

open Cert.Reference31Ideal Cert.Reference31Ideal.Read in
theorem ref_eq (h : S4096x2048.Idx → EReal) (g : S1x2048.Idx → EReal) (i : S4096x2048.Idx) :
    val_main_v14 (F := Ideal) h g i = rms 2048 d2048 (at2 h (i 0).val) (i 1).val * at2 g 0 (i 1).val := by
  have h1 : (i 1).val < 2048 := (i 1).isLt
  rw [val_main_v14_apply, val_main_v13_apply, val_main_v10_apply, val_main_v9_apply, val_main_v8_apply, val_main_v7_apply,
    val_main_v6_apply, val_main_v5_apply, val_main_v4_apply, val_main_v3_apply, val_main_v2_apply, val_main_v12_apply,
    val_main_v11_apply, val_main_v0_apply]
  refine congrArg₂ (· * ·) (congrArg₂ (· * ·) (at2_eq h _)
    (congrArg Ideal.rsqrt (congrArg₂ (· + ·) (congrArg₂ Ideal.div ((from_zero _).trans ?_) rfl) rfl)))
    ((at2_eq g _).trans (congrArg (at2 g 0) ?_))
  · rw [Finset.sum_range]
    exact Finset.sum_congr rfl fun k _ => congrArg₂ (· * ·) (at2_eq h _) (at2_eq h _)
  · show (i 1).val % 2048 = _
    omega

theorem algebraic : Cert.algebraic_Kernel31Ideal_Reference31Ideal := by
  intro m ρ m' ρ' _ hagree
  refine ⟨fun c => res m c, ?_, ?_⟩
  · exact (θ_run Cert.Kernel31Ideal.defs _ _).mono (fun _ h c => ⟨(h c).1.trans (final m c), (h c).2⟩)
      (Cert.Kernel31Ideal.Value.run_blocks (F := Ideal) m ρ)
  refine (θ_run Cert.Reference31Ideal.defs _ _).mono (fun _ h c => ⟨(h c).1.trans ?_, (h c).2⟩)
    (Cert.Reference31Ideal.Value.run (F := Ideal) m' ρ')
  rw [(hagree c).1, (hagree c).2, Cert.Reference31Ideal.Read.val_main_v14_eq]
  exact funext fun i => ref_eq (H m c) (G m c) i

end Cert.Norm

/-! ## The norm of the queries and keys -/

namespace Cert.Norm.Heads

theorem frameP : Cert.quiescent_Kernel32 := fun m ρ _ => Cert.Kernel32.Gen.frame m ρ

theorem framePI : Cert.quiescent_Kernel32Ideal := fun m ρ _ => Cert.Kernel32Ideal.Gen.frame m ρ

theorem frameRI : Cert.quiescent_Reference32Ideal := fun m ρ _ =>
  (θ_run Cert.Reference32Ideal.defs _ _).mono
    (fun r h => ⟨fun c => (h c).2, Idealize.ShloMosaic.sem_eq_zero_of_no_sems (by decide) r.2⟩)
    (Cert.Reference32Ideal.Value.run m ρ)

open Cert.Reference32Ideal Cert.Reference32Ideal.Read in
/-- A query's or a key's element, by its row, its half, its head and its place in the head. -/
theorem split_eq (q : S4096x6144.Idx → EReal) (j : S4096x2x16x128.Idx) :
    val_main_v1 (F := Ideal) q j = at2 q (j 0).val (((j 1).val * 16 + (j 2).val) * 128 + (j 3).val) := by
  have h1 : (j 1).val < 2 := (j 1).isLt
  have h2 : (j 2).val < 16 := (j 2).isLt
  have h3 : (j 3).val < 128 := (j 3).isLt
  rw [val_main_v1_apply, val_main_v0_apply]
  refine (at2_eq q _).trans (congrArg₂ (at2 q) ?_ ?_)
  · show ((((j 0).val * 2 + (j 1).val) * 16 + (j 2).val) * 128 + (j 3).val) / 4096 = _; omega
  · show ((((j 0).val * 2 + (j 1).val) * 16 + (j 2).val) * 128 + (j 3).val) % 4096 = _; omega

open Cert.Reference32Ideal Cert.Reference32Ideal.Read in
theorem head_eq (q : S4096x6144.Idx → EReal) (g : S2x1x128.Idx → EReal) (j : S4096x2x16x128.Idx) :
    val_main_v14 (F := Ideal) q g j
      = rms 128 d128 (fun k => at2 q (j 0).val (((j 1).val * 16 + (j 2).val) * 128 + k)) (j 3).val * at3 g (j 1).val 0 (j 3).val := by
  rw [val_main_v14_apply, val_main_v11_apply, val_main_v10_apply, val_main_v9_apply, val_main_v8_apply, val_main_v7_apply,
    val_main_v6_apply, val_main_v5_apply, val_main_v4_apply, val_main_v3_apply, val_main_v13_apply, val_main_v12_apply]
  refine congrArg₂ (· * ·) (congrArg₂ (· * ·) (split_eq q j)
    (congrArg Ideal.rsqrt (congrArg₂ (· + ·) (congrArg₂ Ideal.div ((from_zero _).trans ?_) rfl) rfl))) (at3_eq g _)
  rw [Finset.sum_range]
  exact Finset.sum_congr rfl fun k _ => congrArg₂ (· * ·) (split_eq q _) (split_eq q _)

open Cert.Reference32Ideal Cert.Reference32Ideal.Read in
theorem ref_eq (q : S4096x6144.Idx → EReal) (g : S2x1x128.Idx → EReal) (i : S4096x4096.Idx) :
    val_main_v16 (F := Ideal) q g i = elt q g (i 0).val (i 1).val := by
  have h1 : (i 1).val < 4096 := (i 1).isLt
  rw [val_main_v16_apply, val_main_v15_apply]
  refine (head_eq q g (idx_main_v15 i)).trans ?_
  unfold elt
  rw [show ((idx_main_v15 i) 0).val = (i 0).val by show ((i 0).val * 4096 + (i 1).val) / 4096 = _; omega,
    show ((idx_main_v15 i) 1).val = (i 1).val / 2048 by show ((i 0).val * 4096 + (i 1).val) / 2048 % 2 = _; omega,
    show ((idx_main_v15 i) 2).val = (i 1).val / 128 % 16 by show ((i 0).val * 4096 + (i 1).val) / 128 % 16 = _; omega,
    show ((idx_main_v15 i) 3).val = (i 1).val % 128 by show ((i 0).val * 4096 + (i 1).val) % 128 = _; omega,
    show (i 1).val / 2048 * 16 + (i 1).val / 128 % 16 = (i 1).val / 128 by omega]

theorem algebraic : Cert.algebraic_Kernel32Ideal_Reference32Ideal := by
  intro m ρ m' ρ' _ hagree
  refine ⟨fun c => res m c, ?_, ?_⟩
  · exact (θ_run Cert.Kernel32Ideal.defs _ _).mono (fun _ h c => ⟨(h c).1.trans (final m c), (h c).2⟩)
      (Cert.Kernel32Ideal.Value.run_blocks (F := Ideal) m ρ)
  refine (θ_run Cert.Reference32Ideal.defs _ _).mono (fun _ h c => ⟨(h c).1.trans ?_, (h c).2⟩)
    (Cert.Reference32Ideal.Value.run (F := Ideal) m' ρ')
  rw [(hagree c).1, (hagree c).2, Cert.Reference32Ideal.Read.val_main_v16_eq]
  exact funext fun i => ref_eq (Q m c) (G m c) i

end Cert.Norm.Heads

end
-- ==== Proof.Norm.Bwd.lean ====
/-
  The backward of the norm of a row over the extended reals, and the kernel that runs it: one grid point works on 256 rows, and
  the gain's gradient is summed over the points.
-/
module

public import proofs.«01_k».proof.Proof.Norm.Rms
public import proofs.«01_k».proof.Proof.Gen.Kernel33Ideal.Value
public import Idealize.ShloMosaic.Lib.Tactic

@[expose] public section

set_option maxRecDepth 16384

noncomputable section

namespace Cert.Norm.Bwd

open Idealize.ShloMosaic Idealize.ShloMosaic.TcCoe Idealize.ShloMosaic.ValueIdx Idealize.SL.Sem Cert.Coord Cert.Mm
open Idealize.ShloMosaic.Pipeline (Dat)
open Cert.Kernel33Ideal Cert.Kernel33Ideal.Gen Cert.Kernel33Ideal.Value
open scoped BigOperators

/-! ## The gradients by rows -/

/-- The mean square of a row, with the constant added to it. -/
def ms (x : ℕ → EReal) : EReal :=
  Ideal.div (∑ s ∈ Finset.range 2048, x s * x s) d2048 + Ideal.ofBits .f32 0x358637BD#32

/-- The gradient of a row's mean square, by one element's share of it: `x` is the row, `g` the gain and `y` the gradient of the
normed row. -/
def dms (x g y : ℕ → EReal) : EReal :=
  Ideal.div ((∑ s ∈ Finset.range 2048, x s * (y s * g s))
    * (Ideal.ofBits .f32 0xBF000000#32 * Ideal.div (Ideal.rsqrt (ms x)) (ms x))) d2048

/-- The gradient of a row at an element. -/
def dx (x g y : ℕ → EReal) (k : ℕ) : EReal := (y k * g k * Ideal.rsqrt (ms x) + x k * dms x g y) + dms x g y * x k

/-- A row's term of the gain's gradient at an element. -/
def dg (x y : ℕ → EReal) (k : ℕ) : EReal := x k * Ideal.rsqrt (ms x) * y k

theorem ms_congr {x x' : ℕ → EReal} (h : ∀ s < 2048, x s = x' s) : ms x = ms x' := by
  unfold ms
  rw [Finset.sum_congr rfl fun s hs => congrArg₂ (· * ·) (h s (Finset.mem_range.mp hs)) (h s (Finset.mem_range.mp hs))]

theorem dms_congr {x x' g g' y y' : ℕ → EReal} (h : ∀ s < 2048, x s = x' s) (hg : ∀ s < 2048, g s = g' s)
    (hy : ∀ s < 2048, y s = y' s) : dms x g y = dms x' g' y' := by
  unfold dms
  rw [ms_congr h, Finset.sum_congr rfl fun s hs => congrArg₂ (· * ·) (h s (Finset.mem_range.mp hs))
    (congrArg₂ (· * ·) (hy s (Finset.mem_range.mp hs)) (hg s (Finset.mem_range.mp hs)))]

theorem dx_congr {x x' g g' y y' : ℕ → EReal} {k : ℕ} (hk : k < 2048) (h : ∀ s < 2048, x s = x' s)
    (hg : ∀ s < 2048, g s = g' s) (hy : ∀ s < 2048, y s = y' s) : dx x g y k = dx x' g' y' k := by
  unfold dx
  rw [dms_congr h hg hy, ms_congr h, h k hk, hg k hk, hy k hk]

theorem dg_congr {x x' y y' : ℕ → EReal} {k : ℕ} (hk : k < 2048) (h : ∀ s < 2048, x s = x' s)
    (hy : ∀ s < 2048, y s = y' s) : dg x y k = dg x' y' k := by
  unfold dg
  rw [ms_congr h, h k hk, hy k hk]

/-! ## One point's payloads -/

/-- A column made of a vector, and rows and columns spread over a block. -/
theorem cast_col (x : S256.Idx → EReal) (i : S256x1.Idx) : shapeCast S256x1 x shapeCasts_S256_S256x1 i = x (ix1 (i 0)) := by
  have h : (i 1).val = 0 := by have h : (i 1).val < 1 := (i 1).isLt; omega
  refine shapeCast_apply _ _ i (ix1 (i 0)) ?_
  rw [Shape.rowMajor_val_one, Shape.rowMajor_val_two]
  show (i 0).val = (i 0).val * 1 + (i 1).val
  omega

theorem cast_row (x : S2048.Idx → EReal) (i : S1x2048.Idx) :
    shapeCast S1x2048 x shapeCasts_S2048_S1x2048 i = x (ix1 (i 1)) := by
  have h : (i 0).val = 0 := by have h : (i 0).val < 1 := (i 0).isLt; omega
  refine shapeCast_apply _ _ i (ix1 (i 1)) ?_
  rw [Shape.rowMajor_val_one, Shape.rowMajor_val_two]
  show (i 1).val = (i 0).val * 2048 + (i 1).val
  omega

theorem spread_col (x : S256x1.Idx → EReal) (i : S256x2048.Idx) :
    broadcastTo S256x2048 x broadcasts_S256x1_S256x2048 i = x (ix2 (i 0) (0 : Fin 1)) :=
  broadcastTo_apply _ _ i _ fun a => match a with
    | ⟨0, _⟩ => rfl
    | ⟨1, _⟩ => rfl

theorem spread_row (x : S1x2048.Idx → EReal) (i : S256x2048.Idx) :
    broadcastTo S256x2048 x broadcasts_S1x2048_S256x2048 i = at2 x 0 (i 1).val :=
  (broadcastTo_apply _ _ i (ix2 (0 : Fin 1) (i 1)) fun a => match a with
    | ⟨0, _⟩ => rfl
    | ⟨1, _⟩ => rfl).trans (at2_eq x _)

variable (x0 : Vec Ideal S256x2048 .f32) (x1 : Vec Ideal S1x2048 .f32) (x2 x3 : Vec Ideal S256x2048 .f32)

theorem pay3_apply (i : S256x1.Idx) : k0_pay3 (F := Ideal) x0 i = ms (at2 x0 (i 0).val) := by
  refine congrArg₂ (· + ·) (congrArg₂ Ideal.div ((cast_col _ i).trans ?_) rfl) rfl
  refine (Ideal.multiReduction_add_single (mulf x0 x0) _ reduces_S256x2048_S256 _ _ (ix1 (i 0))).trans ?_
  rw [Finset.sum_range]
  exact Finset.sum_congr rfl fun k _ => congrArg₂ (· * ·) (at2_eq x0 _) (at2_eq x0 _)

theorem pay4_apply (i : S256x1.Idx) : k0_pay4 (F := Ideal) x0 i = Ideal.rsqrt (ms (at2 x0 (i 0).val)) :=
  congrArg Ideal.rsqrt (pay3_apply x0 i)

theorem pay5_apply (i : S1x2048.Idx) : k0_pay5 (F := Ideal) x0 x2 i
    = ∑ r ∈ Finset.range 256, dg (at2 x0 r) (at2 x2 r) (i 1).val := by
  refine (cast_row (multiReduction .add [0] S2048 (mulf (mulf x0 (broadcastTo S256x2048 (k0_pay4 x0) broadcasts_S256x1_S256x2048)) x2)
    0x00000000#32 reduces_S256x2048_S2048 (.inl rfl) rfl) i).trans ?_
  refine (Ideal.multiReduction_add_single (mulf (mulf x0 (broadcastTo S256x2048 (k0_pay4 x0) broadcasts_S256x1_S256x2048)) x2) _
    reduces_S256x2048_S2048 _ _ (ix1 (i 1))).trans ?_
  rw [Finset.sum_range]
  exact Finset.sum_congr rfl fun k _ => congrArg₂ (· * ·)
    (congrArg₂ (· * ·) (at2_eq x0 _) ((spread_col _ _).trans (pay4_apply x0 _))) (at2_eq x2 _)

/-- The gradient of the mean square as the point works it out. -/
def q : FVec Ideal S256x1 .f32 :=
  divf (mulf (shapeCast S256x1 (multiReduction .add [1] S256 (mulf x0 (mulf x2 (broadcastTo S256x2048 x1 broadcasts_S1x2048_S256x2048)))
    0x00000000#32 reduces_S256x2048_S256 (.inl rfl) rfl) shapeCasts_S256_S256x1)
    (mulf (broadcast S256x1 (Scalar.ofBits .f32 0xBF000000#32)) (divf (k0_pay4 x0) (k0_pay3 x0))))
    (broadcast S256x1 (Scalar.ofBits .f32 0x45000000#32))

theorem q_apply (i : S256x1.Idx) : q x0 x1 x2 i = dms (at2 x0 (i 0).val) (at2 x1 0) (at2 x2 (i 0).val) := by
  refine congrArg₂ Ideal.div (congrArg₂ (· * ·) ((cast_col _ i).trans ?_)
    (congrArg₂ (· * ·) rfl (congrArg₂ Ideal.div (pay4_apply x0 i) (pay3_apply x0 i)))) rfl
  refine (Ideal.multiReduction_add_single (mulf x0 (mulf x2 (broadcastTo S256x2048 x1 broadcasts_S1x2048_S256x2048))) _
    reduces_S256x2048_S256 _ _ (ix1 (i 0))).trans ?_
  rw [Finset.sum_range]
  exact Finset.sum_congr rfl fun k _ => congrArg₂ (· * ·) (at2_eq x0 _) (congrArg₂ (· * ·) (at2_eq x2 _) (spread_row x1 _))

/-- The sum of a row of one element. -/
theorem q_spread (i : S256x2048.Idx) : broadcastTo S256x2048 (shapeCast S256x1
      (multiReduction .add [1] S256 (q x0 x1 x2) 0x00000000#32 reduces_S256x1_S256 (.inl rfl) rfl) shapeCasts_S256_S256x1)
      broadcasts_S256x1_S256x2048 i
    = dms (at2 x0 (i 0).val) (at2 x1 0) (at2 x2 (i 0).val) := by
  refine (spread_col _ i).trans ((cast_col _ _).trans ?_)
  refine (Ideal.multiReduction_add_single (q x0 x1 x2) _ reduces_S256x1_S256 _ _ (ix1 (i 0))).trans ?_
  exact (Fin.sum_univ_one _).trans (q_apply x0 x1 x2 _)

theorem pay6_apply (i : S256x2048.Idx) : k0_pay6 (F := Ideal) x0 x1 x2 i
    = dx (at2 x0 (i 0).val) (at2 x1 0) (at2 x2 (i 0).val) (i 1).val :=
  congrArg₂ (· + ·) (congrArg₂ (· + ·)
    (congrArg₂ (· * ·) (congrArg₂ (· * ·) (at2_eq x2 i) (spread_row x1 i)) ((spread_col _ i).trans (pay4_apply x0 _)))
    (congrArg₂ (· * ·) (at2_eq x0 i) (q_spread x0 x1 x2 i))) (congrArg₂ (· * ·) (q_spread x0 x1 x2 i) (at2_eq x0 i))

theorem pay7_apply (i : S256x2048.Idx) : k0_pay7 (F := Ideal) x0 x1 x2 x3 i
    = dx (at2 x0 (i 0).val) (at2 x1 0) (at2 x2 (i 0).val) (i 1).val + at2 x3 (i 0).val (i 1).val :=
  congrArg₂ (· + ·) (pay6_apply x0 x1 x2 i) (at2_eq x3 i)

theorem pay2_apply (v p : Vec Ideal S1x2048 .f32) (i : S1x2048.Idx) : k0_pay2 (F := Ideal) v p i = p i + v i :=
  congrArg₂ (· + ·) (shapeCast_apply p shapeCasts_S1x2048_S1x2048 i i rfl) rfl

end Cert.Norm.Bwd

end
-- ==== Proof.Norm.BwdOut.lean ====
/-
  What each grid point leaves in the output buffers of the norm's backward kernel, as the point's payloads of its input blocks.
-/
module

public import proofs.«01_k».proof.Proof.Norm.Bwd

@[expose] public section

set_option maxRecDepth 16384

noncomputable section

namespace Cert.Norm.Bwd

open Idealize.ShloMosaic Idealize.ShloMosaic.TcCoe Idealize.SL.Sem Cert.Mm
open Cert.Kernel33Ideal Cert.Kernel33Ideal.Gen

variable {F : FTy → Type} [FloatOps F]
variable (c : Dev nD) (i : grid0.Coords) (a2 : Memref sig .tc .vmem S256x2048 .f32) (h2 : a2.IsWhole)
  (a3 : Memref sig .tc .vmem S1x2048 .f32) (h3 : a3.IsWhole) (a4 : Memref sig .tc .vmem S256x2048 .f32) (h4 : a4.IsWhole)
  (a5 : Memref sig .tc .vmem S256x2048 .f32) (h5 : a5.IsWhole) (a6 : Memref sig .tc .vmem S256x2048 .f32) (h6 : a6.IsWhole)
  (a7 : Memref sig .tc .vmem S256x2048 .bf16) (h7 : a7.IsWhole) (a8 : Memref sig .tc .vmem S1x2048 .f32) (h8 : a8.IsWhole)
  (x0 : Vec F S256x2048 .f32) (x1 : Vec F S1x2048 .f32) (x2 x3 : Vec F S256x2048 .f32) (p6 : Vec F S1x2048 .f32)

theorem out_A_4 (hc0 : cond0_0 i) (hc1 : ¬cond0_1 i) :
    out0_A_4 c i a2 h2 a3 h3 a4 h4 a5 h5 a6 h6 a7 h7 a8 h8 hc0 hc1 x0 x1 x2 x3 = k0_pay7 x0 x1 x2 x3 := by
  unfold out0_A_4
  rw [View.read_writes_eq_canon _ _ _ (cover0_A_4 c i a2 h2 a3 h3 a4 h4 a5 h5 a6 h6 a7 h7 a8 h8 hc0 hc1 x0 x1 x2 x3)]
  unfold kernelRun0_A
  dsimp only
  sl_unfold_words
  rw [View.canon_unit_zero hz2]
  simp only [View.readAt_eq_ld, h2.read_unread, h3.read_unread, h4.read_unread, h5.read_unread, h8.read_unread,
    View.ld_unit_zero (S := S256x2048) hz2, View.ld_unit_zero (S := S1x2048) hz2]

theorem out_A_5 (hc0 : cond0_0 i) (hc1 : ¬cond0_1 i) :
    out0_A_5 c i a2 h2 a3 h3 a4 h4 a5 h5 a6 h6 a7 h7 a8 h8 hc0 hc1 x0 x1 x2 x3 = k0_pay1 (k0_pay6 x0 x1 x2) x3 := by
  unfold out0_A_5
  rw [View.read_writes_eq_canon _ _ _ (cover0_A_5 c i a2 h2 a3 h3 a4 h4 a5 h5 a6 h6 a7 h7 a8 h8 hc0 hc1 x0 x1 x2 x3)]
  unfold kernelRun0_A
  dsimp only
  sl_unfold_words
  rw [View.canon_unit_zero hz2]
  simp only [View.readAt_eq_ld, h2.read_unread, h3.read_unread, h4.read_unread, h5.read_unread, h8.read_unread,
    View.ld_unit_zero (S := S256x2048) hz2, View.ld_unit_zero (S := S1x2048) hz2]

theorem out_A_6 (hc0 : cond0_0 i) (hc1 : ¬cond0_1 i) :
    out0_A_6 c i a2 h2 a3 h3 a4 h4 a5 h5 a6 h6 a7 h7 a8 h8 hc0 hc1 x0 x1 x2 x3 = k0_pay5 x0 x2 := by
  unfold out0_A_6
  rw [View.read_writes_eq_canon _ _ _ (cover0_A_6 c i a2 h2 a3 h3 a4 h4 a5 h5 a6 h6 a7 h7 a8 h8 hc0 hc1 x0 x1 x2 x3)]
  unfold kernelRun0_A
  dsimp only
  sl_unfold_words
  rw [View.canon_unit_zero hz2]
  simp only [View.readAt_eq_ld, h2.read_unread, h3.read_unread, h4.read_unread, h5.read_unread, h8.read_unread,
    View.ld_unit_zero (S := S256x2048) hz2, View.ld_unit_zero (S := S1x2048) hz2]

theorem out_B_4 (hc0 : ¬cond0_0 i) (hc1 : cond0_1 i) :
    out0_B_4 c i a2 h2 a3 h3 a4 h4 a5 h5 a6 h6 a7 h7 a8 h8 hc0 hc1 x0 x1 x2 x3 p6 = k0_pay7 x0 x1 x2 x3 := by
  unfold out0_B_4
  rw [View.read_writes_eq_canon _ _ _ (cover0_B_4 c i a2 h2 a3 h3 a4 h4 a5 h5 a6 h6 a7 h7 a8 h8 hc0 hc1 x0 x1 x2 x3 p6)]
  unfold kernelRun0_B
  dsimp only
  sl_unfold_words
  rw [View.canon_unit_zero hz2]
  simp only [View.readAt_eq_ld, h2.read_unread, h3.read_unread, h4.read_unread, h5.read_unread, h8.read_unread,
    View.ld_unit_zero (S := S256x2048) hz2, View.ld_unit_zero (S := S1x2048) hz2]

theorem out_B_5 (hc0 : ¬cond0_0 i) (hc1 : cond0_1 i) :
    out0_B_5 c i a2 h2 a3 h3 a4 h4 a5 h5 a6 h6 a7 h7 a8 h8 hc0 hc1 x0 x1 x2 x3 p6 = k0_pay1 (k0_pay6 x0 x1 x2) x3 := by
  unfold out0_B_5
  rw [View.read_writes_eq_canon _ _ _ (cover0_B_5 c i a2 h2 a3 h3 a4 h4 a5 h5 a6 h6 a7 h7 a8 h8 hc0 hc1 x0 x1 x2 x3 p6)]
  unfold kernelRun0_B
  dsimp only
  sl_unfold_words
  rw [View.canon_unit_zero hz2]
  simp only [View.readAt_eq_ld, h2.read_unread, h3.read_unread, h4.read_unread, h5.read_unread, h8.read_unread,
    View.ld_unit_zero (S := S256x2048) hz2, View.ld_unit_zero (S := S1x2048) hz2]

theorem out_B_6 (hc0 : ¬cond0_0 i) (hc1 : cond0_1 i) :
    out0_B_6 c i a2 h2 a3 h3 a4 h4 a5 h5 a6 h6 a7 h7 a8 h8 hc0 hc1 x0 x1 x2 x3 p6 = k0_pay2 (k0_pay5 x0 x2) p6 := by
  unfold out0_B_6
  rw [View.read_writes_eq_canon _ _ _ (cover0_B_6 c i a2 h2 a3 h3 a4 h4 a5 h5 a6 h6 a7 h7 a8 h8 hc0 hc1 x0 x1 x2 x3 p6)]
  unfold kernelRun0_B
  dsimp only
  sl_unfold_words
  rw [View.canon_unit_zero hz2]
  simp only [View.readAt_eq_ld, h2.read_unread, h3.read_unread, h4.read_unread, h5.read_unread, h8.read_unread,
    View.ld_unit_zero (S := S256x2048) hz2, View.ld_unit_zero (S := S1x2048) hz2]

end Cert.Norm.Bwd

end
-- ==== Proof.Norm.BwdPoints.lean ====
/-
  The output arrays of the norm's backward kernel: the row gradients block by block, and the gain's gradient as the sum the
  points carry along.
-/
module

public import proofs.«01_k».proof.Proof.Norm.BwdOut

@[expose] public section

set_option maxRecDepth 16384

noncomputable section

namespace Cert.Norm.Bwd

open Idealize.ShloMosaic Idealize.ShloMosaic.TcCoe Idealize.ShloMosaic.ValueIdx Idealize.SL.Sem Cert.Coord Cert.Mm
open Idealize.ShloMosaic.Pipeline (Dat)
open Cert.Kernel33Ideal Cert.Kernel33Ideal.Gen Cert.Kernel33Ideal.Value
open scoped BigOperators

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = 0 ∧ win0_6.index t 1 = 0 := by decide +kernel

section
variable (h : S4096x2048.Idx → EReal) (g : S1x2048.Idx → EReal) (y s : S4096x2048.Idx → EReal)

/-- The gradient of the norm's input at a row and a column, added to the gradient that comes past the norm. -/
def elt (r k : ℕ) : EReal := dx (at2 h r) (at2 g 0) (at2 y r) k + at2 s r k

/-- The gain's gradient at a column, of the first `n` rows. -/
def gain (n k : ℕ) : EReal := ∑ r ∈ Finset.range n, dg (at2 h r) (at2 y r) k
end

variable (m : (ℓ : Loc nD τ sig) → Buf (Elt Ideal) ℓ) (c : Dev nD)

abbrev H : S4096x2048.Idx → EReal := m ((c : Thread nD τ).loc main_arg0)
abbrev G : S1x2048.Idx → EReal := m ((c : Thread nD τ).loc main_arg1)
abbrev Y : S4096x2048.Idx → EReal := m ((c : Thread nD τ).loc main_arg2)
abbrev S : S4096x2048.Idx → EReal := m ((c : Thread nD τ).loc main_arg3)

/-! ## A point's input blocks -/

theorem blk0 (t : Fin cfg0.N) {r k : ℕ} (hr : r < 256) (hk : k < 2048) :
    at2 (n0 := 256) (n1 := 2048) (iblk m c 0 t) r k = at2 (H m c) (256 * t.val + r) k := by
  refine (at2_block (H m c) (iblk m c 0 t) _ (fun _ => rfl) (fun _ => rfl) (fun _ => rfl) hr hk).trans ?_
  rw [(idx0 t).1, (idx0 t).2, Nat.mul_zero, Nat.zero_add]

theorem blk1 (t : Fin cfg0.N) {k : ℕ} (hk : k < 2048) :
    at2 (n0 := 1) (n1 := 2048) (iblk m c 1 t) 0 k = at2 (G m c) 0 k := by
  refine (at2_block (G m c) (iblk m c 1 t) _ (fun _ => rfl) (fun _ => rfl) (fun _ => rfl) Nat.one_pos hk).trans ?_
  rw [(idx1 t).1, (idx1 t).2]
  simp only [Nat.mul_zero, Nat.zero_add]

theorem blk2 (t : Fin cfg0.N) {r k : ℕ} (hr : r < 256) (hk : k < 2048) :
    at2 (n0 := 256) (n1 := 2048) (iblk m c 2 t) r k = at2 (Y m c) (256 * t.val + r) k := by
  refine (at2_block (Y m c) (iblk m c 2 t) _ (fun _ => rfl) (fun _ => rfl) (fun _ => rfl) hr hk).trans ?_
  rw [(idx2 t).1, (idx2 t).2, Nat.mul_zero, Nat.zero_add]

theorem blk3 (t : Fin cfg0.N) {r k : ℕ} (hr : r < 256) (hk : k < 2048) :
    at2 (n0 := 256) (n1 := 2048) (iblk m c 3 t) r k = at2 (S m c) (256 * t.val + r) k := by
  refine (at2_block (S m c) (iblk m c 3 t) _ (fun _ => rfl) (fun _ => rfl) (fun _ => rfl) hr hk).trans ?_
  rw [(idx3 t).1, (idx3 t).2, Nat.mul_zero, Nat.zero_add]

theorem pay7_pt (t : Fin cfg0.N) (i : S256x2048.Idx) :
    k0_pay7 (F := Ideal) (iblk m c 0 t) (iblk m c 1 t) (iblk m c 2 t) (iblk m c 3 t) i
      = elt (H m c) (G m c) (Y m c) (S m c) (256 * t.val + (i 0).val) (i 1).val := by
  have h0 := idx2_lt0 i
  have h1 := idx2_lt1 i
  exact (pay7_apply (iblk m c 0 t) (iblk m c 1 t) (iblk m c 2 t) (iblk m c 3 t) i).trans (congrArg₂ (· + ·)
    (dx_congr h1 (fun s hs => blk0 m c t h0 hs) (fun s hs => blk1 m c t hs) fun s hs => blk2 m c t h0 hs) (blk3 m c t h0 h1))

theorem pay5_pt (t : Fin cfg0.N) (i : S1x2048.Idx) : k0_pay5 (F := Ideal) (iblk m c 0 t) (iblk m c 2 t) i
    = ∑ r ∈ Finset.range 256, dg (at2 (H m c) (256 * t.val + r)) (at2 (Y m c) (256 * t.val + r)) (i 1).val :=
  (pay5_apply (iblk m c 0 t) (iblk m c 2 t) i).trans (Finset.sum_congr rfl fun r hr =>
    dg_congr (idx2_lt1 i) (fun s hs => blk0 m c t (Finset.mem_range.mp hr) hs) fun s hs => blk2 m c t (Finset.mem_range.mp hr) hs)

/-- After a point, the three output buffers. -/
theorem outs_eq : ∀ (n : ℕ) (h : n < cfg0.N),
    (∀ i : S256x2048.Idx, (outsAt0 m c n h).1 i
      = elt (H m c) (G m c) (Y m c) (S m c) (256 * n + (i 0).val) (i 1).val)
    ∧ (∀ i : S256x2048.Idx, (outsAt0 m c n h).2.1 i
      = elt (H m c) (G m c) (Y m c) (S m c) (256 * n + (i 0).val) (i 1).val)
    ∧ (∀ i : S1x2048.Idx, (outsAt0 m c n h).2.2 i = gain (H m c) (Y m c) (256 * n + 256) (i 1).val) := by
  intro n
  induction n using Nat.strong_induction_on with
  | _ n ih =>
  intro h
  have hN : n < 16 := lt_of_lt_of_eq h (show cfg0.N = 16 from N_0)
  by_cases h0 : n = 0
  · rw [outsAt0_A m c ⟨n, h⟩ (by dsimp only; omega) (by dsimp only; omega), out_A_4, out_A_5, out_A_6]
    refine ⟨pay7_pt m c ⟨n, h⟩, pay7_pt m c ⟨n, h⟩, fun i => (pay5_pt m c ⟨n, h⟩ i).trans ?_⟩
    subst h0
    unfold gain
    simp only [Nat.mul_zero, Nat.zero_add]
  · rw [outsAt0_B m c ⟨n, h⟩ (by dsimp only; omega) (by dsimp only; omega), out_B_4, out_B_5, out_B_6]
    have hp := (ih (n - 1) (by omega) (by omega)).2.2
    have e : 256 * (n - 1) + 256 = 256 * n := by omega
    rw [e] at hp
    refine ⟨pay7_pt m c ⟨n, h⟩, pay7_pt m c ⟨n, h⟩, fun i => ?_⟩
    refine (pay2_apply (k0_pay5 (F := Ideal) (iblk m c 0 ⟨n, h⟩) (iblk m c 2 ⟨n, h⟩)) (outsAt0 m c (n - 1) _).2.2 i).trans ?_
    rw [pay5_pt, hp]
    exact (Finset.sum_range_add (fun r => dg (at2 (H m c) r) (at2 (Y m c) r) (i 1).val) (256 * n) 256).symm

/-! ## The result arrays -/

def resX : S4096x2048.Idx → EReal := fun i => elt (H m c) (G m c) (Y m c) (S m c) (i 0).val (i 1).val
def resG : S1x2048.Idx → EReal := fun i => gain (H m c) (Y m c) 4096 (i 1).val

theorem final_x : (dats m 0 c).arrAt 4 cfg0.N = resX m c :=
  (dats m 0 c).arrAt_eq_of_cover 4 (resX m c) (fun t _ => by
    rw [flushed4]
    funext j
    have hi := idx4 t
    refine ((outs_eq m c t.val t.isLt).1 _).trans ?_
    rw [View.read_apply]
    show _ = elt (H m c) (G m c) (Y m c) (S m c) (win0_4.index t 0 * 256 + 1 * (j 0).val) (win0_4.index t 1 * 2048 + 1 * (j 1).val)
    rw [hi.1, hi.2, Nat.one_mul, Nat.one_mul, Nat.mul_comm _ 256, Nat.zero_mul, Nat.zero_add]) fun i => by
    have h0 : (i 0 : Nat) < 4096 := (i 0).isLt
    have h1 : (i 1 : Nat) < 2048 := (i 1).isLt
    let t : Fin cfg0.N := ⟨(i 0 : Nat) / 256, by rw [show cfg0.N = 16 from N_0]; omega⟩
    have hi := idx4 t
    have ht : t.val = (i 0 : Nat) / 256 := rfl
    refine ⟨t, flush0_4 t, ?_⟩
    show i ∈ ((View.whole main_v0_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [hi.1]; omega
    | ⟨1, _⟩ => show win0_4.index t 1 * 2048 ≤ (i 1 : Nat) ∧ (i 1 : Nat) < win0_4.index t 1 * 2048 + 2048
                rw [hi.2]; omega

theorem final_xb : (dats m 0 c).arrAt 5 cfg0.N = resX m c :=
  (dats m 0 c).arrAt_eq_of_cover 5 (resX m c) (fun t _ => by
    rw [flushed5]
    funext j
    have hi := idx5 t
    refine ((outs_eq m c t.val t.isLt).2.1 _).trans ?_
    rw [View.read_apply]
    show _ = elt (H m c) (G m c) (Y m c) (S m c) (win0_5.index t 0 * 256 + 1 * (j 0).val) (win0_5.index t 1 * 2048 + 1 * (j 1).val)
    rw [hi.1, hi.2, Nat.one_mul, Nat.one_mul, Nat.mul_comm _ 256, Nat.zero_mul, Nat.zero_add]) fun i => by
    have h0 : (i 0 : Nat) < 4096 := (i 0).isLt
    have h1 : (i 1 : Nat) < 2048 := (i 1).isLt
    let t : Fin cfg0.N := ⟨(i 0 : Nat) / 256, by rw [show cfg0.N = 16 from N_0]; omega⟩
    have hi := idx5 t
    have ht : t.val = (i 0 : Nat) / 256 := rfl
    refine ⟨t, flush0_5 t, ?_⟩
    show i ∈ ((View.whole main_v0_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [hi.1]; omega
    | ⟨1, _⟩ => show win0_5.index t 1 * 2048 ≤ (i 1 : Nat) ∧ (i 1 : Nat) < win0_5.index t 1 * 2048 + 2048
                rw [hi.2]; omega

theorem final_g : (dats m 0 c).arrAt 6 cfg0.N = resG m c :=
  (dats m 0 c).arrAt_eq_of_cover 6 (resG m c) (fun t ht => by
    rw [flushed6]
    funext j
    have hi := idx6 t
    have hN : t.val < 16 := lt_of_lt_of_eq t.isLt (show cfg0.N = 16 from N_0)
    have h3 : t.val = 15 := by have := (flush0_6 t).mp ht; omega
    refine ((outs_eq m c t.val t.isLt).2.2 _).trans ?_
    rw [View.read_apply]
    show _ = gain (H m c) (Y m c) 4096 (win0_6.index t 1 * 2048 + 1 * (j 1).val)
    rw [hi.2, Nat.one_mul, h3, Nat.zero_mul, Nat.zero_add]) fun i => by
    have h0 : (i 0 : Nat) < 1 := (i 0).isLt
    have h1 : (i 1 : Nat) < 2048 := (i 1).isLt
    let t : Fin cfg0.N := ⟨15, by rw [show cfg0.N = 16 from N_0]; omega⟩
    have hi := idx6 t
    refine ⟨t, (flush0_6 t).mpr rfl, ?_⟩
    show i ∈ ((View.whole main_v0_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [hi.1]; omega
    | ⟨1, _⟩ => show win0_6.index t 1 * 2048 ≤ (i 1 : Nat) ∧ (i 1 : Nat) < win0_6.index t 1 * 2048 + 2048
                rw [hi.2]; omega

end Cert.Norm.Bwd

end
-- ==== Proof.Norm.BwdClaims.lean ====
/-
  The five claims about the norm's backward.
-/
module

public import proofs.«01_k».proof.Defs
public import proofs.«01_k».proof.Proof.Norm.BwdPoints
public import proofs.«01_k».proof.Proof.Norm.Claims
public import proofs.«01_k».proof.Proof.Gen.Kernel33.Frame
public import proofs.«01_k».proof.Proof.Gen.Reference33Ideal.Read
public import Idealize.ShloMosaic.Adequacy
public import Idealize.ShloMosaic.Init

@[expose] public section

set_option maxRecDepth 16384

noncomputable section

namespace Cert.Norm.Bwd

open Idealize.ShloMosaic Idealize.ShloMosaic.TcCoe Idealize.ShloMosaic.ValueIdx Idealize.SL.Sem Cert.Coord
open scoped BigOperators

theorem frameP : Cert.quiescent_Kernel33 := fun m ρ _ => Cert.Kernel33.Gen.frame m ρ

theorem framePI : Cert.quiescent_Kernel33Ideal := fun m ρ _ => Cert.Kernel33Ideal.Gen.frame m ρ

theorem frameRI : Cert.quiescent_Reference33Ideal := fun m ρ _ =>
  (θ_run Cert.Reference33Ideal.defs _ _).mono
    (fun r h => ⟨fun c => (h c).2.2.2, Idealize.ShloMosaic.sem_eq_zero_of_no_sems (by decide) r.2⟩)
    (Cert.Reference33Ideal.Value.run m ρ)

namespace Ref

open Cert.Reference33Ideal Cert.Reference33Ideal.Read

variable (h : S4096x2048.Idx → EReal) (g : S1x2048.Idx → EReal) (y s : S4096x2048.Idx → EReal)

theorem ms_eq (i : S4096x1.Idx) : val_main_v7 (F := Ideal) h i = ms (at2 h (i 0).val) := by
  rw [val_main_v7_apply, val_main_v6_apply, val_main_v5_apply, val_main_v4_apply, val_main_v3_apply, val_main_v2_apply]
  refine congrArg₂ (· + ·) (congrArg₂ Ideal.div ((from_zero _).trans ?_) rfl) rfl
  rw [Finset.sum_range]
  exact Finset.sum_congr rfl fun k _ => congrArg₂ (· * ·) (at2_eq h _) (at2_eq h _)

theorem rt_eq (i : S4096x1.Idx) : val_main_v8 (F := Ideal) h i = Ideal.rsqrt (ms (at2 h (i 0).val)) :=
  congrArg Ideal.rsqrt (ms_eq h i)

theorem gain_eq (i : S4096x2048.Idx) : val_main_v20 (F := Ideal) g i = at2 g 0 (i 1).val := by
  have h1 : (i 1).val < 2048 := (i 1).isLt
  rw [val_main_v20_apply, val_main_v14_apply, val_main_v0_apply]
  refine (at2_eq g _).trans (congrArg (at2 g 0) ?_)
  show (i 1).val % 2048 = _
  omega

theorem dms_eq (i : S4096x1.Idx) : val_main_v30 (F := Ideal) h g y i = dms (at2 h (i 0).val) (at2 g 0) (at2 y (i 0).val) := by
  have h1 : (i 1).val = 0 := by have h1 : (i 1).val < 1 := (i 1).isLt; omega
  rw [val_main_v30_apply, val_main_v28_apply, val_main_v25_apply, val_main_v24_apply, val_main_v11_apply, val_main_v9_apply]
  refine congrArg₂ Ideal.div (congrArg₂ (· * ·) ((from_zero _).trans ?_)
    (congrArg₂ (· * ·) ?_ (congrArg₂ Ideal.div (rt_eq h i) (ms_eq h i)))) ?_
  · rw [Finset.sum_range]
    refine Finset.sum_congr rfl fun k _ => ?_
    rw [val_main_v23_apply, val_main_v21_apply]
    refine (congrArg₂ (· * ·) (at2_eq h _) (congrArg₂ (· * ·) (at2_eq y _) (gain_eq g _))).trans ?_
    show at2 h ((i 0).val * 1 + (i 1).val) k.val * (at2 y ((i 0).val * 1 + (i 1).val) k.val * at2 g 0 k.val) = _
    rw [h1, Nat.mul_one, Nat.add_zero]
  · rw [val_main_v10_apply]; rfl
  · rw [val_main_v29_apply]; rfl

theorem spread_eq (i : S4096x2048.Idx) :
    val_main_v32 (F := Ideal) h g y i = dms (at2 h (i 0).val) (at2 g 0) (at2 y (i 0).val) := by
  rw [val_main_v32_apply, val_main_v31_apply]
  exact (from_zero _).trans ((Fin.sum_univ_one _).trans (dms_eq h g y _))

theorem elt_eq (i : S4096x2048.Idx) : val_main_v38 (F := Ideal) h g y s i = elt h g y s (i 0).val (i 1).val := by
  rw [val_main_v38_apply, val_main_v36_apply, val_main_v35_apply, val_main_v34_apply, val_main_v33_apply, val_main_v27_apply,
    val_main_v26_apply, val_main_v21_apply]
  exact congrArg₂ (· + ·) (congrArg₂ (· + ·) (congrArg₂ (· + ·)
    (congrArg₂ (· * ·) (congrArg₂ (· * ·) (at2_eq y i) (gain_eq g i)) (rt_eq h _))
    (congrArg₂ (· * ·) (at2_eq h i) (spread_eq h g y i))) (congrArg₂ (· * ·) (spread_eq h g y i) (at2_eq h i))) (at2_eq s i)

theorem dg_eq (i : S1x2048.Idx) : val_main_v37 (F := Ideal) h y i = gain h y 4096 (i 1).val := by
  have h1 : (i 1).val < 2048 := (i 1).isLt
  rw [val_main_v37_apply, val_main_v22_apply]
  refine (from_zero _).trans ((Fin.sum_univ_one _).trans ?_)
  rw [val_main_v19_apply, val_main_v18_apply]
  refine (from_zero _).trans ?_
  unfold gain
  rw [Finset.sum_range]
  refine Finset.sum_congr rfl fun k _ => ?_
  rw [val_main_v17_apply, val_main_v13_apply, val_main_v12_apply]
  refine (congrArg₂ (· * ·) (congrArg₂ (· * ·) (at2_eq h _) (rt_eq h _)) (at2_eq y _)).trans ?_
  show dg (at2 h k.val) (at2 y k.val) (0 * 2048 + (i 1).val) = _
  rw [Nat.zero_mul, Nat.zero_add]

end Ref

theorem algebraic : Cert.algebraic_Kernel33Ideal_Reference33Ideal := by
  intro m ρ m' ρ' _ hagree
  refine ⟨fun c => resX m c, fun c => resX m c, fun c => resG m c, ?_, ?_⟩
  · exact (θ_run Cert.Kernel33Ideal.defs _ _).mono
      (fun _ h c => ⟨(h c).1.trans (final_x m c), (h c).2.1.trans (final_xb m c), (h c).2.2.1.trans (final_g m c), (h c).2.2.2⟩)
      (Cert.Kernel33Ideal.Value.run_blocks (F := Ideal) m ρ)
  refine (θ_run Cert.Reference33Ideal.defs _ _).mono
    (fun _ h c => ⟨(h c).1.trans ?_, (h c).2.1.trans ?_, (h c).2.2.1.trans ?_, (h c).2.2.2⟩)
    (Cert.Reference33Ideal.Value.run (F := Ideal) m' ρ')
  · rw [Cert.Reference33Ideal.Read.val_main_v38_eq, (hagree c).1, (hagree c).2.1, (hagree c).2.2.1, (hagree c).2.2.2]
    exact funext fun i => Ref.elt_eq (H m c) (G m c) (Y m c) (S m c) i
  · rw [Cert.Reference33Ideal.Read.val_main_v39_eq, (hagree c).1, (hagree c).2.1, (hagree c).2.2.1, (hagree c).2.2.2]
    exact funext fun i => Ref.elt_eq (H m c) (G m c) (Y m c) (S m c) i
  · rw [(hagree c).1, (hagree c).2.2.1, Cert.Reference33Ideal.Read.val_main_v37_eq]
    exact funext fun i => Ref.dg_eq (H m c) (Y m c) i

end Cert.Norm.Bwd

end
-- ==== Proof.Dt.Claims.lean ====
/-
  The softplus of the step sizes over the extended reals: the kernel that applies it to 256 rows at a grid point, its result
  array, and the five claims about it.
-/
module

public import proofs.«01_k».proof.Defs
public import proofs.«01_k».proof.Proof.Mm.Fwd
public import proofs.«01_k».proof.Proof.Gen.Kernel34.Frame
public import proofs.«01_k».proof.Proof.Gen.Kernel34Ideal.Value
public import proofs.«01_k».proof.Proof.Gen.Reference34Ideal.Read
public import Idealize.ShloMosaic.Adequacy
public import Idealize.ShloMosaic.Init

@[expose] public section

set_option maxRecDepth 16384

noncomputable section

namespace Cert.Dt

open Idealize.ShloMosaic Idealize.ShloMosaic.TcCoe Idealize.ShloMosaic.ValueIdx Idealize.SL.Sem Cert.Coord Cert.Mm
open Idealize.ShloMosaic.Pipeline (Dat)
open Cert.Kernel34Ideal Cert.Kernel34Ideal.Gen Cert.Kernel34Ideal.Value

/-- The softplus: the positive part, and the logarithm of one plus the exponential of minus the absolute value. -/
def softplus (x : EReal) : EReal := max x 0 + Ideal.log1p (Ideal.exp (-max x (-x)))

theorem zero_bits : Ideal.ofBits .f32 0x00000000#32 = 0 := by simp

theorem out_apply (x0 : Vec Ideal S256x128 .f32) (x1 : Vec Ideal S1x128 .f32) (y : S256x128.Idx) :
    out0_2 x0 x1 y = softplus (at2 x0 (y 0).val (y 1).val + at2 x1 0 (y 1).val) := by
  unfold out0_2
  rw [View.ld_unit_zero (S := S256x128) hz2, View.ld_unit_zero (S := S1x128) hz2, canon2_eq]
  have e : x0 (ix2_0 y) + x1 (ix2_1 y) = at2 x0 (y 0).val (y 1).val + at2 x1 0 (y 1).val :=
    congrArg₂ (· + ·) (at2_eq x0 _) (at2_eq x1 _)
  show max (x0 (ix2_0 y) + x1 (ix2_1 y)) (Ideal.ofBits .f32 0x00000000#32)
    + Ideal.log1p (Ideal.exp (Ideal.ofBits .f32 0x00000000#32
      - max (x0 (ix2_0 y) + x1 (ix2_1 y)) (-(x0 (ix2_0 y) + x1 (ix2_1 y))))) = _
  rw [e, zero_bits, zero_sub]
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

variable (m : (ℓ : Loc nD τ sig) → Buf (Elt Ideal) ℓ) (c : Dev nD)

abbrev X : S4096x128.Idx → EReal := m ((c : Thread nD τ).loc main_arg0)
abbrev B : S1x128.Idx → EReal := m ((c : Thread nD τ).loc main_arg1)

/-- The result at a row and a column. -/
def elt (r s : ℕ) : EReal := softplus (at2 (X m c) r s + at2 (B m c) 0 s)

theorem out_pt (t : Fin cfg0.N) (i : S256x128.Idx) : out0_2 (F := Ideal) (iblk m c 0 t) (iblk m c 1 t) i
    = elt m c (256 * t.val + (i 0).val) (i 1).val := by
  refine (out_apply (iblk m c 0 t) (iblk m c 1 t) i).trans (congrArg softplus (congrArg₂ (· + ·) ?_ ?_))
  · refine (at2_block (X m c) (iblk m c 0 t) _ (fun _ => rfl) (fun _ => rfl) (fun _ => rfl) (idx2_lt0 i) (idx2_lt1 i)).trans ?_
    rw [(idx0 t).1, (idx0 t).2, Nat.mul_zero, Nat.zero_add]
  · refine (at2_block (B m c) (iblk m c 1 t) _ (fun _ => rfl) (fun _ => rfl) (fun _ => rfl) Nat.one_pos (idx2_lt1 i)).trans ?_
    rw [(idx1 t).1, (idx1 t).2]
    simp only [Nat.mul_zero, Nat.zero_add]

/-- The result array. -/
def res : S4096x128.Idx → EReal := fun i => elt m c (i 0).val (i 1).val

theorem final : (dats m 0 c).arrAt 2 cfg0.N = res m c :=
  (dats m 0 c).arrAt_eq_of_cover 2 (res m c) (fun t _ => by
    rw [flushed2]
    funext j
    have hi := idx2 t
    refine (out_pt m c t _).trans ?_
    rw [View.read_apply]
    show _ = elt m c (win0_2.index t 0 * 256 + 1 * (j 0).val) (win0_2.index t 1 * 128 + 1 * (j 1).val)
    rw [hi.1, hi.2, Nat.one_mul, Nat.one_mul, Nat.mul_comm _ 256, Nat.zero_mul, Nat.zero_add]) fun i => by
    have h0 : (i 0 : Nat) < 4096 := (i 0).isLt
    have h1 : (i 1 : Nat) < 128 := (i 1).isLt
    let t : Fin cfg0.N := ⟨(i 0 : Nat) / 256, by rw [show cfg0.N = 16 from N_0]; omega⟩
    have hi := idx2 t
    have ht : t.val = (i 0 : Nat) / 256 := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256
                rw [hi.1]; omega
    | ⟨1, _⟩ => show win0_2.index t 1 * 128 ≤ (i 1 : Nat) ∧ (i 1 : Nat) < win0_2.index t 1 * 128 + 128
                rw [hi.2]; omega

/-! ## The claims -/

theorem frameP : Cert.quiescent_Kernel34 := fun m ρ _ => Cert.Kernel34.Gen.frame m ρ

theorem framePI : Cert.quiescent_Kernel34Ideal := fun m ρ _ => Cert.Kernel34Ideal.Gen.frame m ρ

theorem frameRI : Cert.quiescent_Reference34Ideal := fun m ρ _ =>
  (θ_run Cert.Reference34Ideal.defs _ _).mono
    (fun r h => ⟨fun c => (h c).2, Idealize.ShloMosaic.sem_eq_zero_of_no_sems (by decide) r.2⟩)
    (Cert.Reference34Ideal.Value.run m ρ)

open Cert.Reference34Ideal.Read in
theorem arg_eq (x : S4096x128.Idx → EReal) (b : S1x128.Idx → EReal) (i : S4096x128.Idx) :
    val_main_v3 (F := Ideal) x b i = at2 x (i 0).val (i 1).val + at2 b 0 (i 1).val := by
  have h1 : (i 1).val < 128 := (i 1).isLt
  rw [val_main_v3_apply, val_main_v2_apply, val_main_v1_apply, val_main_v0_apply]
  refine congrArg₂ (· + ·) (at2_eq x i) ((at2_eq b _).trans (congrArg (at2 b 0) ?_))
  show (i 1).val % 128 = _
  omega

open Cert.Reference34Ideal.Read in
/-- The reference chooses another value where its argument differs from itself, which no extended real does. -/
theorem ref_eq (x : S4096x128.Idx → EReal) (b : S1x128.Idx → EReal) (i : S4096x128.Idx) :
    val_main_v4 (F := Ideal) x b i = softplus (at2 x (i 0).val (i 1).val + at2 b 0 (i 1).val) := by
  rw [← arg_eq x b i, val_main_v4_apply, val_main_call0_v4_apply, val_main_call0_v11_apply, val_main_call0_v10_apply,
    val_main_call0_v9_apply, val_main_call0_v8_apply, val_main_call0_v7_apply, val_main_call0_v3_apply, val_main_call0_v2_apply,
    val_main_call0_v1_apply, val_main_call0_v0_apply, val_main_call0_cst_apply]
  generalize val_main_v3 (F := Ideal) x b i = z
  have hs : (FloatOps.subf z (FloatOps.ofBits (F := Ideal) .f32 0x00000000#32) : EReal) = z := by
    show z - Ideal.ofBits .f32 0x00000000#32 = z
    rw [zero_bits, sub_zero]
  rw [hs]
  refine (if_neg ?_).trans ?_
  · show ¬ Ideal.cmp .une z z = 1
    simp [Ideal.cmp]
  show max z (Ideal.ofBits .f32 0x00000000#32) + Ideal.log1p (Ideal.exp (-max z (-z))) = _
  rw [zero_bits]
  rfl

theorem algebraic : Cert.algebraic_Kernel34Ideal_Reference34Ideal := by
  intro m ρ m' ρ' _ hagree
  refine ⟨fun c => res m c, ?_, ?_⟩
  · exact (θ_run Cert.Kernel34Ideal.defs _ _).mono (fun _ h c => ⟨(h c).1.trans (final m c), (h c).2⟩)
      (Cert.Kernel34Ideal.Value.run_blocks (F := Ideal) m ρ)
  refine (θ_run Cert.Reference34Ideal.defs _ _).mono (fun _ h c => ⟨(h c).1.trans ?_, (h c).2⟩)
    (Cert.Reference34Ideal.Value.run (F := Ideal) m' ρ')
  rw [(hagree c).1, (hagree c).2, Cert.Reference34Ideal.Read.val_main_v4_eq]
  exact funext fun i => ref_eq (X m c) (B m c) i

end Cert.Dt

end
-- ==== Proof.Norm.GmAct.lean ====
/-
  The exact Gaussian-error unit of both halves of a projection, the second half normed: one grid point takes 256 rows of both
  halves. Its result arrays, and the five claims about it.
-/
module

public import proofs.«01_k».proof.Proof.Norm.Claims
public import proofs.«01_k».proof.Proof.Gen.Kernel36.Frame
public import proofs.«01_k».proof.Proof.Gen.Kernel36Ideal.Value
public import proofs.«01_k».proof.Proof.Gen.Reference36Ideal.Read

@[expose] public section

set_option maxRecDepth 16384

noncomputable section

namespace Cert.Norm.GmAct

open Idealize.ShloMosaic Idealize.ShloMosaic.TcCoe Idealize.ShloMosaic.ValueIdx Idealize.SL.Sem Cert.Coord Cert.Mm
open Idealize.ShloMosaic.Pipeline (Dat)
open Cert.Kernel36Ideal Cert.Kernel36Ideal.Gen Cert.Kernel36Ideal.Value
open scoped BigOperators

/-- Half a number times one plus the error function of the number over the root of two, the constants as they are written. -/
def gelu (x : EReal) : EReal :=
  Ideal.ofBits .f32 0x3F000000#32 * x * (Ideal.ofBits .f32 0x3F800000#32 + Ideal.erf (x * Ideal.ofBits .f32 0x3F3504F3#32))

/-- The same by the complementary error function at the negated argument. -/
theorem gelu_erfc (x : EReal) :
    Ideal.ofBits .f32 0x3F000000#32 * x * Ideal.erfc (-x * Ideal.ofBits .f32 0x3F3504F3#32) = gelu x := by
  unfold gelu
  rw [neg_mul, Ideal.erfc_neg, show Ideal.ofBits .f32 0x3F800000#32 = 1 by simp]

theorem out3_apply (x0 x1 : Vec Ideal S256x2048 .f32) (x2 : Vec Ideal S1x2048 .f32) (y : S256x2048.Idx) :
    out0_3 x0 x1 x2 y = gelu (at2 x0 (y 0).val (y 1).val) := by
  unfold out0_3
  rw [View.canon_unit_zero hz2, View.ld_unit_zero (S := S256x2048) hz2]
  exact congrArg gelu (at2_eq x0 y)

theorem out4_apply (x0 x1 : Vec Ideal S256x2048 .f32) (x2 : Vec Ideal S1x2048 .f32) (y : S256x2048.Idx) :
    out0_4 x0 x1 x2 y = rms 2048 d2048 (fun k => gelu (at2 x1 (y 0).val k)) (y 1).val * at2 x2 0 (y 1).val := by
  unfold out0_4
  rw [View.ld_unit_zero (S := S256x2048) hz2, View.ld_unit_zero (S := S1x2048) hz2, canon4_eq]
  refine congrArg₂ (· * ·) (congrArg₂ (· * ·) (congrArg gelu (at2_eq x1 _))
    (congrArg Ideal.rsqrt (congrArg₂ (· + ·) (congrArg₂ Ideal.div ?_ rfl) rfl))) (at2_eq x2 _)
  refine (Ideal.multiReduction_add_single _ _ reduces_S256x2048_S256 _ _ (ix4_2 y)).trans ?_
  rw [Finset.sum_range]
  exact Finset.sum_congr rfl fun k _ => congrArg₂ (· * ·) (congrArg gelu (at2_eq x1 _)) (congrArg gelu (at2_eq x1 _))

theorem idx0 : ∀ t : Fin grid0.N, win0_0.index t 0 = t.val ∧ win0_0.index t 1 = 0 := by decide +kernel
theorem idx1 : ∀ t : Fin grid0.N, win0_1.index t 0 = t.val ∧ win0_1.index t 1 = 1 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel

variable (m : (ℓ : Loc nD τ sig) → Buf (Elt Ideal) ℓ) (c : Dev nD)

abbrev P : S4096x4096.Idx → EReal := m ((c : Thread nD τ).loc main_arg0)
abbrev G : S1x2048.Idx → EReal := m ((c : Thread nD τ).loc main_arg1)

/-- The first result at a row and a column. -/
def eltU (p : S4096x4096.Idx → EReal) (r s : ℕ) : EReal := gelu (at2 p r s)

/-- The second result at a row and a column. -/
def eltV (p : S4096x4096.Idx → EReal) (g : S1x2048.Idx → EReal) (r s : ℕ) : EReal :=
  rms 2048 d2048 (fun k => gelu (at2 p r (2048 + k))) s * at2 g 0 s

theorem outU_pt (t : Fin cfg0.N) (i : S256x2048.Idx) :
    out0_3 (F := Ideal) (iblk m c 0 t) (iblk m c 1 t) (iblk m c 2 t) i = eltU (P m c) (256 * t.val + (i 0).val) (i 1).val := by
  refine (out3_apply (iblk m c 0 t) (iblk m c 1 t) (iblk m c 2 t) i).trans (congrArg gelu ?_)
  refine (at2_block (P m c) (iblk m c 0 t) _ (fun _ => rfl) (fun _ => rfl) (fun _ => rfl) (idx2_lt0 i) (idx2_lt1 i)).trans ?_
  rw [(idx0 t).1, (idx0 t).2, Nat.mul_zero, Nat.zero_add]

theorem outV_pt (t : Fin cfg0.N) (i : S256x2048.Idx) :
    out0_4 (F := Ideal) (iblk m c 0 t) (iblk m c 1 t) (iblk m c 2 t) i
      = eltV (P m c) (G m c) (256 * t.val + (i 0).val) (i 1).val := by
  refine (out4_apply (iblk m c 0 t) (iblk m c 1 t) (iblk m c 2 t) i).trans
    (congrArg₂ (· * ·) (rms_congr (idx2_lt1 i) fun s hs => congrArg gelu ?_) ?_)
  · refine (at2_block (P m c) (iblk m c 1 t) _ (fun _ => rfl) (fun _ => rfl) (fun _ => rfl) (idx2_lt0 i) hs).trans ?_
    rw [(idx1 t).1, (idx1 t).2, Nat.mul_one]
  · refine (at2_block (G m c) (iblk m c 2 t) _ (fun _ => rfl) (fun _ => rfl) (fun _ => rfl) Nat.one_pos (idx2_lt1 i)).trans ?_
    rw [(idx2 t).1, (idx2 t).2]
    simp only [Nat.mul_zero, Nat.zero_add]

/-- The result arrays. -/
def resU : S4096x2048.Idx → EReal := fun i => eltU (P m c) (i 0).val (i 1).val
def resV : S4096x2048.Idx → EReal := fun i => eltV (P m c) (G m c) (i 0).val (i 1).val

theorem finalU : (dats m 0 c).arrAt 3 cfg0.N = resU m c :=
  (dats m 0 c).arrAt_eq_of_cover 3 (resU m c) (fun t _ => by
    rw [flushed3]
    funext j
    have hi := idx3 t
    refine (outU_pt m c t _).trans ?_
    rw [View.read_apply]
    show _ = eltU (P m c) (win0_3.index t 0 * 256 + 1 * (j 0).val) (win0_3.index t 1 * 2048 + 1 * (j 1).val)
    rw [hi.1, hi.2, Nat.one_mul, Nat.one_mul, Nat.mul_comm _ 256, Nat.zero_mul, Nat.zero_add]) fun i => by
    have h0 : (i 0 : Nat) < 4096 := (i 0).isLt
    have h1 : (i 1 : Nat) < 2048 := (i 1).isLt
    let t : Fin cfg0.N := ⟨(i 0 : Nat) / 256, by rw [show cfg0.N = 16 from N_0]; omega⟩
    have hi := idx3 t
    have ht : t.val = (i 0 : Nat) / 256 := rfl
    refine ⟨t, flush0_3 t, ?_⟩
    show i ∈ ((View.whole main_v0_0).slice (win0_3.rect t)).set
    rw [View.set_slice_whole, Rect.mem_set_unit]
    intro a
    match a with
    | ⟨0, _⟩ => show win0_3.index t 0 * 256 ≤ (i 0 : Nat) ∧ (i 0 : Nat) < win0_3.index t 0 * 256 + 256
                rw [hi.1]; omega
    | ⟨1, _⟩ => show win0_3.index t 1 * 2048 ≤ (i 1 : Nat) ∧ (i 1 : Nat) < win0_3.index t 1 * 2048 + 2048
                rw [hi.2]; omega

theorem finalV : (dats m 0 c).arrAt 4 cfg0.N = resV m c :=
  (dats m 0 c).arrAt_eq_of_cover 4 (resV m c) (fun t _ => by
    rw [flushed4]
    funext j
    have hi := idx4 t
    refine (outV_pt m c t _).trans ?_
    rw [View.read_apply]
    show _ = eltV (P m c) (G m c) (win0_4.index t 0 * 256 + 1 * (j 0).val) (win0_4.index t 1 * 2048 + 1 * (j 1).val)
    rw [hi.1, hi.2, Nat.one_mul, Nat.one_mul, Nat.mul_comm _ 256, Nat.zero_mul, Nat.zero_add]) fun i => by
    have h0 : (i 0 : Nat) < 4096 := (i 0).isLt
    have h1 : (i 1 : Nat) < 2048 := (i 1).isLt
    let t : Fin cfg0.N := ⟨(i 0 : Nat) / 256, by rw [show cfg0.N = 16 from N_0]; omega⟩
    have hi := idx4 t
    have ht : t.val = (i 0 : Nat) / 256 := rfl
    refine ⟨t, flush0_4 t, ?_⟩
    show i ∈ ((View.whole main_v0_1).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [hi.1]; omega
    | ⟨1, _⟩ => show win0_4.index t 1 * 2048 ≤ (i 1 : Nat) ∧ (i 1 : Nat) < win0_4.index t 1 * 2048 + 2048
                rw [hi.2]; omega

/-! ## The claims -/

theorem frameP : Cert.quiescent_Kernel36 := fun m ρ _ => Cert.Kernel36.Gen.frame m ρ

theorem framePI : Cert.quiescent_Kernel36Ideal := fun m ρ _ => Cert.Kernel36Ideal.Gen.frame m ρ

theorem frameRI : Cert.quiescent_Reference36Ideal := fun m ρ _ =>
  (θ_run Cert.Reference36Ideal.defs _ _).mono
    (fun r h => ⟨fun c => (h c).2.2, Idealize.ShloMosaic.sem_eq_zero_of_no_sems (by decide) r.2⟩)
    (Cert.Reference36Ideal.Value.run m ρ)

open Cert.Reference36Ideal.Read in
theorem unit_eq (p : S4096x4096.Idx → EReal) (i : S4096x4096.Idx) :
    val_main_v6 (F := Ideal) p i = gelu (at2 p (i 0).val (i 1).val) := by
  rw [val_main_v6_apply, val_main_v5_apply, val_main_v4_apply, val_main_v3_apply, val_main_v2_apply, val_main_v1_apply,
    val_main_v0_apply]
  exact (gelu_erfc (p i)).trans (congrArg gelu (at2_eq p i))

open Cert.Reference36Ideal.Read in
theorem refU_eq (p : S4096x4096.Idx → EReal) (i : S4096x2048.Idx) :
    val_main_v7 (F := Ideal) p i = eltU p (i 0).val (i 1).val := by
  rw [val_main_v7_apply]
  exact unit_eq p _

open Cert.Reference36Ideal.Read in
theorem half_eq (p : S4096x4096.Idx → EReal) (i : S4096x2048.Idx) :
    val_main_v8 (F := Ideal) p i = gelu (at2 p (i 0).val (2048 + (i 1).val)) := by
  rw [val_main_v8_apply]
  exact unit_eq p _

open Cert.Reference36Ideal.Read in
theorem refV_eq (p : S4096x4096.Idx → EReal) (g : S1x2048.Idx → EReal) (i : S4096x2048.Idx) :
    val_main_v23 (F := Ideal) p g i = eltV p g (i 0).val (i 1).val := by
  have h1 : (i 1).val < 2048 := (i 1).isLt
  rw [val_main_v23_apply, val_main_v22_apply, val_main_v19_apply, val_main_v18_apply, val_main_v17_apply, val_main_v16_apply,
    val_main_v15_apply, val_main_v14_apply, val_main_v13_apply, val_main_v12_apply, val_main_v11_apply, val_main_v21_apply,
    val_main_v20_apply, val_main_v9_apply]
  refine congrArg₂ (· * ·) (congrArg₂ (· * ·) (half_eq p i)
    (congrArg Ideal.rsqrt (congrArg₂ (· + ·) (congrArg₂ Ideal.div ((from_zero _).trans ?_) rfl) rfl)))
    ((at2_eq g _).trans (congrArg (at2 g 0) ?_))
  · rw [Finset.sum_range]
    exact Finset.sum_congr rfl fun k _ => congrArg₂ (· * ·) (half_eq p _) (half_eq p _)
  · show (i 1).val % 2048 = _
    omega

theorem algebraic : Cert.algebraic_Kernel36Ideal_Reference36Ideal := by
  intro m ρ m' ρ' _ hagree
  refine ⟨fun c => resU m c, fun c => resV m c, ?_, ?_⟩
  · exact (θ_run Cert.Kernel36Ideal.defs _ _).mono
      (fun _ h c => ⟨(h c).1.trans (finalU m c), (h c).2.1.trans (finalV m c), (h c).2.2⟩)
      (Cert.Kernel36Ideal.Value.run_blocks (F := Ideal) m ρ)
  refine (θ_run Cert.Reference36Ideal.defs _ _).mono (fun _ h c => ⟨(h c).1.trans ?_, (h c).2.1.trans ?_, (h c).2.2⟩)
    (Cert.Reference36Ideal.Value.run (F := Ideal) m' ρ')
  · rw [(hagree c).1, Cert.Reference36Ideal.Read.val_main_v7_eq]
    exact funext fun i => refU_eq (P m c) i
  · rw [(hagree c).1, (hagree c).2, Cert.Reference36Ideal.Read.val_main_v23_eq]
    exact funext fun i => refV_eq (P m c) (G m c) i

end Cert.Norm.GmAct

end
-- ==== Proof.Norm.SsdGate.lean ====
/-
  The gated norm: a result times the sigmoid-weighted gate, normed group by group. One grid point takes 1024 rows of one group
  of 512. Its result array, and the five claims about it.
-/
module

public import proofs.«01_k».proof.Proof.Norm.Claims
public import proofs.«01_k».proof.Proof.Gen.Kernel35.Frame
public import proofs.«01_k».proof.Proof.Gen.Kernel35Ideal.Value
public import proofs.«01_k».proof.Proof.Gen.Reference35Ideal.Read

@[expose] public section

set_option maxRecDepth 16384

noncomputable section

namespace Cert.Norm.SsdGate

open Idealize.ShloMosaic Idealize.ShloMosaic.TcCoe Idealize.ShloMosaic.ValueIdx Idealize.SL.Sem Cert.Coord Cert.Mm
open Idealize.ShloMosaic.Pipeline (Dat)
open Cert.Kernel35Ideal Cert.Kernel35Ideal.Gen Cert.Kernel35Ideal.Value
open scoped BigOperators

/-- A number times its sigmoid, written as one quotient. -/
def silu (z : EReal) : EReal := Ideal.div z (1 + Ideal.exp (-z))

theorem one_word : Ideal.ofBits .f32 0x3F800000#32 = 1 := by simp
theorem zero_word : Ideal.ofBits .f32 0x00000000#32 = 0 := by simp

theorem exp_nonneg (x : EReal) : 0 ≤ Ideal.exp x := by
  induction x with
  | bot => exact le_refl _
  | top => exact le_top
  | coe r => exact EReal.coe_nonneg.mpr (Real.exp_pos r).le

/-- The quotient is the product with the sigmoid: one plus an exponential isn't zero. -/
theorem silu_eq (z : EReal) : z * Ideal.div 1 (1 + Ideal.exp (-z)) = silu z := by
  have h : (1 : EReal) + Ideal.exp (-z) ≠ 0 := by
    have h1 : (0 : EReal) < 1 + Ideal.exp (-z) :=
      lt_of_lt_of_le zero_lt_one (le_add_of_nonneg_right (exp_nonneg _))
    exact ne_of_gt h1
  unfold silu Ideal.div
  rw [if_neg h, if_neg h, one_mul]

/-- The number of a group's elements, as the kernel and the reference write it. -/
abbrev d512 : EReal := Ideal.ofBits .f32 0x44000000#32

theorem gate_apply (x0 x1 : Vec Ideal S1024x512 .f32) (i : S1024x512.Idx) :
    x0 i * Ideal.div (x1 i) (Ideal.ofBits .f32 0x3F800000#32 + Ideal.exp (Ideal.ofBits .f32 0x00000000#32 - x1 i))
      = at2 x0 (i 0).val (i 1).val * silu (at2 x1 (i 0).val (i 1).val) := by
  rw [one_word, zero_word, zero_sub]
  exact congrArg₂ (· * ·) (at2_eq x0 i) (congrArg silu (at2_eq x1 i))

theorem out_apply (x0 x1 : Vec Ideal S1024x512 .f32) (x2 : Vec Ideal S1x1x512 .f32) (y : S1024x512.Idx) :
    out0_3 x0 x1 x2 y = rms 512 d512 (fun k => at2 x0 (y 0).val k * silu (at2 x1 (y 0).val k)) (y 1).val
      * at3 x2 0 0 (y 1).val := by
  unfold out0_3
  rw [View.ld_unit_zero (S := S1024x512) hz2, View.ld_unit_zero (S := S1024x512) hz2, View.ld_unit_zero (S := S1x1x512) hz3,
    canon3_eq]
  refine congrArg₂ (· * ·) (congrArg₂ (· * ·) (gate_apply x0 x1 _)
    (congrArg Ideal.rsqrt (congrArg₂ (· + ·) (congrArg₂ Ideal.div ?_ rfl) rfl))) (at3_eq x2 _)
  refine (Ideal.multiReduction_add_single _ _ reduces_S1024x512_S1024 _ _ (ix3_3 y)).trans ?_
  rw [Finset.sum_range]
  exact Finset.sum_congr rfl fun k _ => congrArg₂ (· * ·) (gate_apply x0 x1 _) (gate_apply x0 x1 _)

theorem idx0 : ∀ t : Fin grid0.N, win0_0.index t 0 = t.val % 4 ∧ win0_0.index t 1 = t.val / 4 := by decide +kernel
theorem idx1 : ∀ t : Fin grid0.N, win0_1.index t 0 = t.val % 4 ∧ win0_1.index t 1 = t.val / 4 := by decide +kernel
theorem idx2 : ∀ t : Fin grid0.N, win0_2.index t 0 = t.val / 4 ∧ win0_2.index t 1 = 0 ∧ win0_2.index t 2 = 0 := by decide +kernel
theorem idx3 : ∀ t : Fin grid0.N, win0_3.index t 0 = t.val % 4 ∧ win0_3.index t 1 = t.val / 4 := by decide +kernel

variable (m : (ℓ : Loc nD τ sig) → Buf (Elt Ideal) ℓ) (c : Dev nD)

abbrev Y : S4096x4096.Idx → EReal := m ((c : Thread nD τ).loc main_arg0)
abbrev Z : S4096x4096.Idx → EReal := m ((c : Thread nD τ).loc main_arg1)
abbrev G : S8x1x512.Idx → EReal := m ((c : Thread nD τ).loc main_arg2)

/-- The result at a row and a column of group `s / 512`. -/
def elt (y z : S4096x4096.Idx → EReal) (g : S8x1x512.Idx → EReal) (r s : ℕ) : EReal :=
  rms 512 d512 (fun k => at2 y r (s / 512 * 512 + k) * silu (at2 z r (s / 512 * 512 + k))) (s % 512)
    * at3 g (s / 512) 0 (s % 512)

theorem out_pt (t : Fin cfg0.N) (i : S1024x512.Idx) :
    out0_3 (F := Ideal) (iblk m c 0 t) (iblk m c 1 t) (iblk m c 2 t) i
      = elt (Y m c) (Z m c) (G m c) (1024 * (t.val % 4) + (i 0).val) (512 * (t.val / 4) + (i 1).val) := by
  have h1 := idx2_lt1 i
  unfold elt
  rw [show (512 * (t.val / 4) + (i 1).val) / 512 * 512 = 512 * (t.val / 4) by omega,
    show (512 * (t.val / 4) + (i 1).val) % 512 = (i 1).val by omega,
    show (512 * (t.val / 4) + (i 1).val) / 512 = t.val / 4 by omega]
  refine (out_apply (iblk m c 0 t) (iblk m c 1 t) (iblk m c 2 t) i).trans
    (congrArg₂ (· * ·) (rms_congr h1 fun s hs => congrArg₂ (· * ·) ?_ (congrArg silu ?_)) ?_)
  · refine (at2_block (Y m c) (iblk m c 0 t) _ (fun _ => rfl) (fun _ => rfl) (fun _ => rfl) (idx2_lt0 i) hs).trans ?_
    rw [(idx0 t).1, (idx0 t).2]
  · refine (at2_block (Z m c) (iblk m c 1 t) _ (fun _ => rfl) (fun _ => rfl) (fun _ => rfl) (idx2_lt0 i) hs).trans ?_
    rw [(idx1 t).1, (idx1 t).2]
  · refine (at3_block (G m c) (iblk m c 2 t) _ (fun _ => rfl) (fun _ => rfl) (fun _ => rfl) (fun _ => rfl) Nat.one_pos h1).trans ?_
    rw [(idx2 t).1, (idx2 t).2.1, (idx2 t).2.2]
    simp only [Nat.mul_zero, Nat.zero_add, Nat.one_mul, Nat.add_zero]

/-- The result array. -/
def res : S4096x4096.Idx → EReal := fun i => elt (Y m c) (Z m c) (G m c) (i 0).val (i 1).val

theorem final : (dats m 0 c).arrAt 3 cfg0.N = res m c :=
  (dats m 0 c).arrAt_eq_of_cover 3 (res m c) (fun t _ => by
    rw [flushed3]
    funext j
    have hi := idx3 t
    refine (out_pt m c t _).trans ?_
    rw [View.read_apply]
    show _ = elt (Y m c) (Z m c) (G m c) (win0_3.index t 0 * 1024 + 1 * (j 0).val) (win0_3.index t 1 * 512 + 1 * (j 1).val)
    rw [hi.1, hi.2, Nat.one_mul, Nat.one_mul, Nat.mul_comm _ 1024, Nat.mul_comm _ 512]) fun i => by
    have h0 : (i 0 : Nat) < 4096 := (i 0).isLt
    have h1 : (i 1 : Nat) < 4096 := (i 1).isLt
    let t : Fin cfg0.N := ⟨(i 0 : Nat) / 1024 + 4 * ((i 1 : Nat) / 512), by rw [show cfg0.N = 32 from N_0]; omega⟩
    have hi := idx3 t
    have ht : t.val = (i 0 : Nat) / 1024 + 4 * ((i 1 : Nat) / 512) := rfl
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [hi.1]; omega
    | ⟨1, _⟩ => show win0_3.index t 1 * 512 ≤ (i 1 : Nat) ∧ (i 1 : Nat) < win0_3.index t 1 * 512 + 512
                rw [hi.2]; omega

/-! ## The claims -/

theorem frameP : Cert.quiescent_Kernel35 := fun m ρ _ => Cert.Kernel35.Gen.frame m ρ

theorem framePI : Cert.quiescent_Kernel35Ideal := fun m ρ _ => Cert.Kernel35Ideal.Gen.frame m ρ

theorem frameRI : Cert.quiescent_Reference35Ideal := fun m ρ _ =>
  (θ_run Cert.Reference35Ideal.defs _ _).mono
    (fun r h => ⟨fun c => (h c).2, Idealize.ShloMosaic.sem_eq_zero_of_no_sems (by decide) r.2⟩)
    (Cert.Reference35Ideal.Value.run m ρ)

open Cert.Reference35Ideal.Read in
/-- The gated result before the norm. -/
theorem gated_eq (y z : S4096x4096.Idx → EReal) (i : S4096x4096.Idx) :
    val_main_v1 (F := Ideal) y z i = at2 y (i 0).val (i 1).val * silu (at2 z (i 0).val (i 1).val) := by
  rw [val_main_v1_apply, val_main_v0_apply, val_main_call0_v5_apply, val_main_call0_v4_apply, val_main_call0_cst_0_apply,
    val_main_call0_v3_apply, val_main_call0_v2_apply, val_main_call0_cst_apply, val_main_call0_v1_apply, val_main_call0_v0_apply]
  refine congrArg₂ (· * ·) (at2_eq y i) ?_
  rw [← at2_eq z i]
  show z i * Ideal.div (Ideal.ofBits .f32 0x3F800000#32) (Ideal.ofBits .f32 0x3F800000#32 + Ideal.exp (-z i)) = _
  rw [one_word]
  exact silu_eq (z i)

open Cert.Reference35Ideal.Read in
/-- The same by its row, its group and its place in the group. -/
theorem split_eq (y z : S4096x4096.Idx → EReal) (j : Cert.Reference35Ideal.S4096x8x512.Idx) :
    val_main_v2 (F := Ideal) y z j = at2 y (j 0).val ((j 1).val * 512 + (j 2).val)
      * silu (at2 z (j 0).val ((j 1).val * 512 + (j 2).val)) := by
  have h1 : (j 1).val < 8 := (j 1).isLt
  have h2 : (j 2).val < 512 := (j 2).isLt
  rw [val_main_v2_apply]
  refine (gated_eq y z _).trans ?_
  rw [show ((idx_main_v2 j) 0).val = (j 0).val by show (((j 0).val * 8 + (j 1).val) * 512 + (j 2).val) / 4096 = _; omega,
    show ((idx_main_v2 j) 1).val = (j 1).val * 512 + (j 2).val by
      show (((j 0).val * 8 + (j 1).val) * 512 + (j 2).val) % 4096 = _; omega]

open Cert.Reference35Ideal.Read in
theorem group_eq (y z : S4096x4096.Idx → EReal) (g : S8x1x512.Idx → EReal) (j : Cert.Reference35Ideal.S4096x8x512.Idx) :
    val_main_v16 (F := Ideal) y z g j
      = rms 512 d512 (fun k => at2 y (j 0).val ((j 1).val * 512 + k) * silu (at2 z (j 0).val ((j 1).val * 512 + k))) (j 2).val
        * at3 g (j 1).val 0 (j 2).val := by
  have h1 : (j 1).val < 8 := (j 1).isLt
  have h2 : (j 2).val < 512 := (j 2).isLt
  rw [val_main_v16_apply, val_main_v13_apply, val_main_v12_apply, val_main_v11_apply, val_main_v10_apply, val_main_v9_apply,
    val_main_v8_apply, val_main_v7_apply, val_main_v6_apply, val_main_v5_apply, val_main_v15_apply, val_main_v14_apply,
    val_main_v3_apply]
  refine congrArg₂ (· * ·) (congrArg₂ (· * ·) (split_eq y z j)
    (congrArg Ideal.rsqrt (congrArg₂ (· + ·) (congrArg₂ Ideal.div ((from_zero _).trans ?_) rfl) rfl))) ((at3_eq g _).trans ?_)
  · rw [Finset.sum_range]
    exact Finset.sum_congr rfl fun k _ => congrArg₂ (· * ·) (split_eq y z _) (split_eq y z _)
  · show at3 g (((j 1).val * 512 + (j 2).val) / 512) 0 (((j 1).val * 512 + (j 2).val) % 512) = _
    rw [show ((j 1).val * 512 + (j 2).val) / 512 = (j 1).val by omega,
      show ((j 1).val * 512 + (j 2).val) % 512 = (j 2).val by omega]

open Cert.Reference35Ideal.Read in
theorem ref_eq (y z : S4096x4096.Idx → EReal) (g : S8x1x512.Idx → EReal) (i : S4096x4096.Idx) :
    val_main_v18 (F := Ideal) y z g i = elt y z g (i 0).val (i 1).val := by
  have h1 : (i 1).val < 4096 := (i 1).isLt
  rw [val_main_v18_apply, val_main_v17_apply]
  refine (group_eq y z g (idx_main_v17 i)).trans ?_
  unfold elt
  rw [show ((idx_main_v17 i) 0).val = (i 0).val by show ((i 0).val * 4096 + (i 1).val) / 4096 = _; omega,
    show ((idx_main_v17 i) 1).val = (i 1).val / 512 by show ((i 0).val * 4096 + (i 1).val) / 512 % 8 = _; omega,
    show ((idx_main_v17 i) 2).val = (i 1).val % 512 by show ((i 0).val * 4096 + (i 1).val) % 512 = _; omega]

theorem algebraic : Cert.algebraic_Kernel35Ideal_Reference35Ideal := by
  intro m ρ m' ρ' _ hagree
  refine ⟨fun c => res m c, ?_, ?_⟩
  · exact (θ_run Cert.Kernel35Ideal.defs _ _).mono (fun _ h c => ⟨(h c).1.trans (final m c), (h c).2⟩)
      (Cert.Kernel35Ideal.Value.run_blocks (F := Ideal) m ρ)
  refine (θ_run Cert.Reference35Ideal.defs _ _).mono (fun _ h c => ⟨(h c).1.trans ?_, (h c).2⟩)
    (Cert.Reference35Ideal.Value.run (F := Ideal) m' ρ')
  rw [(hagree c).1, (hagree c).2.1, (hagree c).2.2, Cert.Reference35Ideal.Read.val_main_v18_eq]
  exact funext fun i => ref_eq (Y m c) (Z m c) (G m c) i

end Cert.Norm.SsdGate

end
-- ==== Proof.Gate.Claims.lean ====
/-
  The five claims about the gate's backward kernel.
-/
module

public import proofs.«01_k».proof.Defs
public import proofs.«01_k».proof.Proof.Gate.Ref
public import proofs.«01_k».proof.Proof.Gen.Kernel.Frame
public import Idealize.ShloMosaic.Adequacy
public import Idealize.ShloMosaic.Init

@[expose] public section

set_option maxRecDepth 16384

noncomputable section

namespace Cert.Gate.Claims

open Idealize.ShloMosaic Idealize.ShloMosaic.TcCoe Idealize.SL.Sem

theorem frameP : Cert.quiescent_Kernel := fun m ρ _ => Cert.Kernel.Gen.frame m ρ

theorem framePI : Cert.quiescent_KernelIdeal := fun m ρ _ => Cert.KernelIdeal.Gen.frame m ρ

theorem frameRI : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run m ρ)

/-- The kernel's four results and the reference's are the same sums. -/
theorem algebraic : Cert.algebraic_KernelIdeal_ReferenceIdeal := by
  intro m ρ m' ρ' _ hagree
  refine ⟨fun c => resU m c, fun c => resV m c, fun c => resW m c, fun c => resB m c, ?_, ?_⟩
  · exact (θ_run Cert.KernelIdeal.defs _ _).mono
      (fun _ h c => ⟨(h c).1.trans (final_u m c), (h c).2.1.trans (final_v m c), (h c).2.2.1.trans (final_w m c),
        (h c).2.2.2.1.trans (final_b m c), (h c).2.2.2.2⟩)
      (Cert.KernelIdeal.Value.run_blocks (F := Ideal) m ρ)
  refine (θ_run Cert.ReferenceIdeal.defs _ _).mono
    (fun _ h c => ⟨(h c).1.trans ?_, (h c).2.1.trans ?_, (h c).2.2.1.trans ?_, (h c).2.2.2.1.trans ?_, (h c).2.2.2.2⟩)
    (Cert.ReferenceIdeal.Value.run (F := Ideal) m' ρ')
  · rw [(hagree c).2.1, (hagree c).2.2.1, (hagree c).2.2.2.1, (hagree c).2.2.2.2, Cert.ReferenceIdeal.Read.val_main_v32_eq]
    exact funext fun i => Ref.v32_eq (V' m c) (W m c) (B m c) (DY m c) i
  · rw [(hagree c).1, (hagree c).2.2.1, (hagree c).2.2.2.2, Cert.ReferenceIdeal.Read.val_main_v33_eq]
    exact funext fun i => Ref.v33_eq (U m c) (W m c) (DY m c) i
  · rw [(hagree c).1, (hagree c).2.1, (hagree c).2.2.2.2, Cert.ReferenceIdeal.Read.val_main_v31_eq]
    exact funext fun i => Ref.v31_eq (U m c) (V' m c) (DY m c) i
  · rw [(hagree c).1, (hagree c).2.2.2.2, Cert.ReferenceIdeal.Read.val_main_v26_eq]
    exact funext fun i => Ref.v26_eq (U m c) (DY m c) i

end Cert.Gate.Claims

end
-- ==== Proof.Attn.Rules.lean ====
/-
  Rules for a program that loads and stores windows of buffers it owns: a load reads the window of the contents, a
  store puts its payload over the window. Also: a program equal to another may be replaced by it.
-/
module

public import proofs.«01_k».proof.Proof.Gen.Kernel2Ideal.Frame
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- A weakest precondition of the kernel's body on core `c`. -/
abbrev run {α : Type} (c : Thread nD τ) (P : Prog (TpuEff nD τ sig (Elt F) Λ₀ c.2) α) (Q : α → sProp 𝕄) : sProp 𝕄 :=
  wp frame (wpE (defs₀ (F := F)) Variants.none c none) Set.univ P Q

variable {c : Thread nD τ} {α β : Type} {sp : CoreSpace} {s : Shape} {e : EltTy}

/-- A load of a window of an owned buffer. -/
theorem own_load {Q : α → sProp 𝕄} (m : Memref sig c.2.kind sp s e) {q : PosShare TreeShare} {X : s.Idx → Elt F e}
    {off off' size : Fin s.rank → ℕ} {inb : ∀ a, off a + size a ≤ s.size a} {hl : m.view.LoadsAt (Rect.unit off size inb).toLoadRect}
    {k : ((Rect.unit off size inb).toLoadRect.shape.Idx → Elt F e) → Prog (TpuEff nD τ sig (Elt F) Λ₀ c.2) α}
    (h : off = off') (inb' : ∀ a, off' a + size a ≤ s.size a) :
    (owns c m q X : sProp 𝕄) ⊢ iprop((owns c m q X -∗ run c (k (VecWindow.window X off' size inb')) Q)
      -∗ run c (.op (.load m (Rect.unit off size inb).toLoadRect hl) k) Q) := by
  unfold owns
  iintro ⟨%f, %hf, H⟩ K
  subst hf
  rw [← View.readAt_unit m.view f inb h inb']
  iapply (wp_load Variants.none c none Set.univ (S := m.view.set) (View.setOn_subset_set _ _)) $$ H
  iintro H
  iapply K
  iexists f
  isplitr; · ipureintro; rfl
  iexact H

/-- A store of a window of an owned buffer. -/
theorem own_store {Q : α → sProp 𝕄} (m : Memref sig c.2.kind sp s e) {X : s.Idx → Elt F e}
    {off off' size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ c.2) α} (h : off = off') :
    (owns c m fullShare X : sProp 𝕄) ⊢ iprop((owns c m fullShare (VecWindow.put X off' size w) -∗ run c (k ⟨⟩) Q)
      -∗ run c (.op (.store m (Rect.unit off size inb) w Finset.univ hx hm) k) Q) := by
  unfold owns
  iintro ⟨%f, %hf, H⟩ K
  subst hf
  iapply (wp_store_writes₀ Variants.none c none Set.univ (S := m.view.set) (by rw [View.set_slice]; exact View.setOn_subset_set _ _)) $$ H
  iintro H
  iapply K
  iexists _
  isplitr
  · ipureintro; exact View.read_writes_cons_put m.view f inb w [] h
  iexact H

/-- What holds of a program holds of one equal to it. -/
theorem run_eq {Q : α → sProp 𝕄} {P P' : Prog (TpuEff nD τ sig (Elt F) Λ₀ c.2) α} {X : sProp 𝕄} (e : P = P') (h : X ⊢ run c P' Q) : X ⊢ run c P Q := e ▸ h

/-- Two programs one after the other. -/
theorem run_seq {Q : α → sProp 𝕄} {P : Prog (TpuEff nD τ sig (Elt F) Λ₀ c.2) β} {k : β → Prog (TpuEff nD τ sig (Elt F) Λ₀ c.2) α} {X : sProp 𝕄} {Y : β → sProp 𝕄}
    (h : X ⊢ run c P Y) (hk : ∀ r, Y r ⊢ run c (k r) Q) : X ⊢ run c (P >>= k) Q :=
  (h.trans ((wp frame (wpE (defs₀ (F := F)) Variants.none c none) Set.univ P).mono hk)).trans
    (Entails.of_eq (wp_bind frame (wpE (defs₀ (F := F)) Variants.none c none) Set.univ P k Q).symm)

/-- The end of a program. -/
theorem run_pure {Q : α → sProp 𝕄} {a : α} : Q a ⊢ run c (pure a) Q :=
  (fupd_intro (PROP := sProp 𝕄)).trans (Entails.of_eq (wp_pure frame (wpE (defs₀ (F := F)) Variants.none c none) Set.univ a Q).symm)

/-- `own_load` for a load bound to what follows. -/
theorem own_load_bind {Q : α → sProp 𝕄} (m : Memref sig c.2.kind sp s e) {q : PosShare TreeShare} {X : s.Idx → Elt F e}
    {off size : Fin s.rank → ℕ} {inb : ∀ a, off a + size a ≤ s.size a} {hl : m.view.LoadsAt (Rect.unit off size inb).toLoadRect}
    {k : ((Rect.unit off size inb).toLoadRect.shape.Idx → Elt F e) → Prog (TpuEff nD τ sig (Elt F) Λ₀ c.2) α} :
    (owns c m q X : sProp 𝕄) ⊢ iprop((owns c m q X -∗ run c (k (VecWindow.window X off size inb)) Q)
      -∗ run c (Prog.lift (.load m (Rect.unit off size inb).toLoadRect hl) >>= k) Q) :=
  own_load m rfl inb

/-- `own_store` for a store bound to what follows. -/
theorem own_store_bind {Q : α → sProp 𝕄} (m : Memref sig c.2.kind sp s e) {X : s.Idx → Elt F e}
    {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ c.2) α} :
    (owns c m fullShare X : sProp 𝕄) ⊢ iprop((owns c m fullShare (VecWindow.put X off size w) -∗ run c (k ⟨⟩) Q)
      -∗ run c (Prog.lift (.store m (Rect.unit off size inb) w Finset.univ hx hm) >>= k) Q) :=
  own_store m rfl

end Cert.Attn
-- ==== Proof.Attn.Prog.lean ====
/-
  The kernel's two passes over a block of columns, as programs over the rows they touch (`R` rows from row `ro` on),
  with the values they compute named.
-/
module

public import proofs.«01_k».proof.Proof.Attn.Rules

@[expose] public section

set_option maxRecDepth 16384

noncomputable section

namespace Cert.Attn

open Idealize.ShloMosaic Idealize.ShloMosaic.TcCoe Idealize.ShloMosaic.Tactic
open Idealize.SL.Sem
open Cert.Kernel2Ideal Cert.Kernel2Ideal.Gen

variable {F : FTy → Type} [FloatOps F]

/-- A vector shape, a matrix shape and a rank-3 shape. -/
abbrev Sh1 (A : ℕ) : Shape := ⟨1, ![A]⟩
abbrev Sh (A B : ℕ) : Shape := ⟨2, ![A, B]⟩
abbrev Sh3 (A B C : ℕ) : Shape := ⟨3, ![A, B, C]⟩

/-- What the operations on `R` rows ask of the shapes. -/
structure Ev (R : ℕ) : Prop where
  io0 : (Sh R 256).Iotas .tc 32 [0]
  io1 : (Sh R 256).Iotas .tc 32 [1]
  pos : 0 < (Sh R 128).numel
  pos3 : 0 < (Sh3 1 R 128).numel
  drop : (Sh3 1 R 128).ShapeCasts (Sh R 128)
  add : (Sh R 128).ShapeCasts (Sh3 1 R 128)
  red : (Sh R 256).Reduces [1] (Sh1 R)
  col : (Sh1 R).ShapeCasts (Sh R 1)
  bro : (Sh R 1).Broadcasts (Sh R 128)
  cat : Shape.Concatenates [Sh R 128, Sh R 128] (Sh R 256) 1
  same : (Sh R 128).ShapeCasts (Sh R 128)
  lt : FTy.bits .bf16 < FTy.bits .f32

/-- The product of two matrices over their rows. -/
def dotTN (K M N : ℕ) : DotDims (Sh K M) (Sh K N) (Sh M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section
variable {R : ℕ}

abbrev cst0 (A B : ℕ) : FVec F (Sh A B) .f32 := constant (Sh A B) .f32 0x00000000#32
abbrev all (A B : ℕ) (b : BitVec 32) : FVec F (Sh A B) .f32 := broadcast (Sh A B) (Scalar.ofBits .f32 b)

/-- The rows and columns of a diagonal block at or below which nothing is masked. -/
def maskAt (ev : Ev R) (off : BitVec 32) : IVec (Sh R 256) 1 :=
  cmpi .slt (addi (broadcast (Sh R 256) off) (iota .tc (Sh R 256) 32 [1] ev.io1))
    (addi (broadcast (Sh R 256) off) (iota .tc (Sh R 256) 32 [0] ev.io0))

/-- Zero where a mask is given and does not hold. -/
def sel (mask : Option (IVec (Sh R 256) 1)) (x : FVec F (Sh R 256) .f32) : FVec F (Sh R 256) .f32 :=
  match mask with
  | none => x
  | some mk => select mk x (all R 256 0x00000000#32)

def zOf (q : FVec F (Sh R 128) .bf16) (k : FVec F (Sh 256 128) .bf16) : FVec F (Sh R 256) .f32 :=
  mulf (matmul (DotDims.transposedRhs R 128 256) none q k (cst0 R 256)) (all R 256 0x3DB504F3#32)

def lbOf (z : FVec F (Sh R 256) .f32) : FVec F (Sh R 256) .f32 :=
  subf (minimumf z (all R 256 0x00000000#32))
    (log (addf (all R 256 0x3F800000#32) (exp (subf (all R 256 0x00000000#32) (absf z)))))

def l1Of (mask : Option (IVec (Sh R 256) 1)) (z : FVec F (Sh R 256) .f32) : FVec F (Sh R 256) .f32 :=
  sel mask (subf (lbOf z) z)

def hiOf (ev : Ev R) (x : FVec F (Sh R 256) .f32) : FVec F (Sh R 256) .bf16 := truncf .bf16 x ev.lt
def loOf (ev : Ev R) (x : FVec F (Sh R 256) .f32) : FVec F (Sh R 256) .bf16 :=
  truncf .bf16 (subf x (extf .f32 (hiOf ev x) ev.lt)) ev.lt

/-- A block's rows summed, the sum in each of the 128 columns. -/
def rowsOf (ev : Ev R) (x : FVec F (Sh R 256) .f32) : FVec F (Sh R 128) .f32 :=
  broadcastTo (Sh R 128) (shapeCast (Sh R 1) (multiReduction .add [1] (Sh1 R) x 0x00000000#32 ev.red (.inl rfl) rfl) ev.col) ev.bro

/-- A block times a triangle of ones, in two parts. -/
def triOf (ev : Ev R) (x : FVec F (Sh R 256) .f32) (m : FVec F (Sh 256 256) .bf16) : FVec F (Sh R 256) .f32 :=
  addf (matmul (DotDims.plain R 256 256) none (hiOf ev x) m (cst0 R 256))
    (matmul (DotDims.plain R 256 256) none (loOf ev x) m (cst0 R 256))

def wideOf (ev : Ev R) (x : FVec F (Sh R 128) .f32) : FVec F (Sh R 256) .f32 :=
  concatenate (Sh R 256) 1 [⟨Sh R 128, x⟩, ⟨Sh R 128, x⟩] ev.cat

def aOf (ev : Ev R) (mask : Option (IVec (Sh R 256) 1)) (up : FVec F (Sh 256 256) .bf16) (z : FVec F (Sh R 256) .f32)
    (cb : FVec F (Sh3 1 R 128) .f32) : FVec F (Sh R 256) .f32 :=
  sel mask (exp (addf (addf (lbOf z) (wideOf ev (shapeCast (Sh R 128) cb ev.drop))) (triOf ev (l1Of mask z) up)))

def eOf (a : FVec F (Sh R 256) .f32) (o : FVec F (Sh R 128) .bf16) (v : FVec F (Sh 256 128) .bf16) : FVec F (Sh R 256) .f32 :=
  mulf (matmul (DotDims.transposedRhs R 128 256) none o v (cst0 R 256)) a

def dzOf (ev : Ev R) (mask : Option (IVec (Sh R 256) 1)) (lw : FVec F (Sh 256 256) .bf16) (z e : FVec F (Sh R 256) .f32)
    (ce : FVec F (Sh R 128) .f32) : FVec F (Sh R 256) .bf16 :=
  truncf .bf16 (sel mask (mulf (subf e (mulf (addf e (addf (wideOf ev ce) (triOf ev e lw))) (exp (lbOf z)))) (all R 256 0x3DB504F3#32))) ev.lt

/-- The products that the three gradients gain. -/
def dqOf (dz : FVec F (Sh R 256) .bf16) (k : FVec F (Sh 256 128) .bf16) : FVec F (Sh R 128) .f32 :=
  matmul (DotDims.plain R 256 128) none dz k (cst0 R 128)
def dkOf (dz : FVec F (Sh R 256) .bf16) (q : FVec F (Sh R 128) .bf16) : FVec F (Sh 256 128) .f32 :=
  matmul (dotTN R 256 128) none dz q (cst0 256 128)
def dvOf (ev : Ev R) (a : FVec F (Sh R 256) .f32) (o : FVec F (Sh R 128) .bf16) : FVec F (Sh 256 128) .f32 :=
  matmul (dotTN R 256 128) none (truncf .bf16 a ev.lt) o (cst0 256 128)

end

/-- The buffers the passes work on. -/
structure Bufs where
  q : Memref sig .tc .vmem (Sh 2048 128) .bf16
  k : Memref sig .tc .vmem (Sh 4096 128) .bf16
  v : Memref sig .tc .vmem (Sh 4096 128) .bf16
  o : Memref sig .tc .vmem (Sh 2048 128) .bf16
  cb : Memref sig .tc .vmem (Sh3 16 2048 128) .f32
  c : Memref sig .tc .vmem (Sh 2048 128) .f32
  ce : Memref sig .tc .vmem (Sh 2048 128) .f32
  dq : Memref sig .tc .vmem (Sh 2048 128) .f32
  dk : Memref sig .tc .vmem (Sh 4096 128) .f32
  dv : Memref sig .tc .vmem (Sh 4096 128) .f32

abbrev P (F : FTy → Type) (α : Type) := Prog (TpuEff nD τ sig (Elt F) Λ₀ .tc) α

section
variable {A B A' B' : ℕ} {e : EltTy}

abbrev ld2 (m : Memref sig .tc .vmem (Sh A B) e) (off : Fin 2 → ℕ) (A' B' : ℕ)
    (inb : ∀ a, off a + (Sh A' B').size a ≤ (Sh A B).size a) (h : 0 < (Sh A' B').numel) : P F (Vec F (Sh A' B') e) :=
  Prog.lift (.load m (Rect.unit (s := Sh A B) off (Sh A' B').size inb).toLoadRect (View.loadsAt_vmem h))

abbrev st2 (m : Memref sig .tc .vmem (Sh A B) .f32) (off : Fin 2 → ℕ) (A' B' : ℕ)
    (inb : ∀ a, off a + (Sh A' B').size a ≤ (Sh A B).size a) (h : 0 < (Sh A' B').numel) (w : Vec F (Sh A' B') .f32) : P F PUnit :=
  Prog.lift (.store m (Rect.unit (s := Sh A B) off (Sh A' B').size inb) w Finset.univ (View.stores_vmem_bits_univ h rfl) (.inl rfl))

abbrev ld3 {C : ℕ} (m : Memref sig .tc .vmem (Sh3 A B C) e) (off : Fin 3 → ℕ) (A' B' C' : ℕ)
    (inb : ∀ a, off a + (Sh3 A' B' C').size a ≤ (Sh3 A B C).size a) (h : 0 < (Sh3 A' B' C').numel) : P F (Vec F (Sh3 A' B' C') e) :=
  Prog.lift (.load m (Rect.unit (s := Sh3 A B C) off (Sh3 A' B' C').size inb).toLoadRect (View.loadsAt_vmem h))

abbrev st3 {C : ℕ} (m : Memref sig .tc .vmem (Sh3 A B C) .f32) (off : Fin 3 → ℕ) (A' B' C' : ℕ)
    (inb : ∀ a, off a + (Sh3 A' B' C').size a ≤ (Sh3 A B C).size a) (h : 0 < (Sh3 A' B' C').numel) (w : Vec F (Sh3 A' B' C') .f32) : P F PUnit :=
  Prog.lift (.store m (Rect.unit (s := Sh3 A B C) off (Sh3 A' B' C').size inb) w Finset.univ (View.stores_vmem_bits_univ h rfl) (.inl rfl))

end

/-- Where a pass over a block of columns works: `R` rows from row `ro` on, the block's rows of k and v, its slab of the
    kept sums. -/
structure At (R : ℕ) where
  ro : ℕ
  ok : Fin 2 → ℕ
  oc : Fin 3 → ℕ
  mask : Option (IVec (Sh R 256) 1)

/-- The windows lie inside their buffers. -/
structure At.In {R : ℕ} (p : At R) : Prop where
  r : ∀ a, (![p.ro, 0] : Fin 2 → ℕ) a + (Sh R 128).size a ≤ (Sh 2048 128).size a
  k : ∀ a, p.ok a + (Sh 256 128).size a ≤ (Sh 4096 128).size a
  c : ∀ a, p.oc a + (Sh3 1 R 128).size a ≤ (Sh3 16 2048 128).size a
  h : 0 < (Sh 256 128).numel
  same : (Sh 256 128).ShapeCasts (Sh 256 128)

/-- The first pass over a block: keep the running sums, then add the block's. -/
def pass1 (B : Bufs) {R : ℕ} (ev : Ev R) (p : At R) (hp : p.In) : P F PUnit := do
  let q ← ld2 B.q ![p.ro, 0] R 128 hp.r ev.pos
  let k ← ld2 B.k p.ok 256 128 hp.k hp.h
  let c ← ld2 B.c ![p.ro, 0] R 128 hp.r ev.pos
  let _ ← ld3 B.cb p.oc 1 R 128 hp.c ev.pos3
  st3 B.cb p.oc 1 R 128 hp.c ev.pos3 (shapeCast (Sh3 1 R 128) c ev.add)
  let _ ← ld2 B.c ![p.ro, 0] R 128 hp.r ev.pos
  st2 B.c ![p.ro, 0] R 128 hp.r ev.pos (shapeCast (Sh R 128) (addf c (rowsOf ev (l1Of p.mask (zOf q k)))) ev.same)
  pure ⟨⟩

/-- The second pass over a block, after its rows of k are loaded. -/
def pass2K (B : Bufs) {R : ℕ} (ev : Ev R) (p : At R) (hp : p.In) (up lw : FVec F (Sh 256 256) .bf16)
    (k : Vec F (Sh 256 128) .bf16) : P F PUnit := do
  let v ← ld2 B.v p.ok 256 128 hp.k hp.h
  let q ← ld2 B.q ![p.ro, 0] R 128 hp.r ev.pos
  let o ← ld2 B.o ![p.ro, 0] R 128 hp.r ev.pos
  let cb ← ld3 B.cb p.oc 1 R 128 hp.c ev.pos3
  let ce ← ld2 B.ce ![p.ro, 0] R 128 hp.r ev.pos
  let dq ← ld2 B.dq ![p.ro, 0] R 128 hp.r ev.pos
  let _ ← ld2 B.dq ![p.ro, 0] R 128 hp.r ev.pos
  st2 B.dq ![p.ro, 0] R 128 hp.r ev.pos (shapeCast (Sh R 128) (addf dq (dqOf (dzOf ev p.mask lw (zOf q k) (eOf (aOf ev p.mask up (zOf q k) cb) o v) ce) k)) ev.same)
  let _ ← ld2 B.ce ![p.ro, 0] R 128 hp.r ev.pos
  st2 B.ce ![p.ro, 0] R 128 hp.r ev.pos (shapeCast (Sh R 128) (addf ce (rowsOf ev (eOf (aOf ev p.mask up (zOf q k) cb) o v))) ev.same)
  let dk ← ld2 B.dk p.ok 256 128 hp.k hp.h
  let _ ← ld2 B.dk p.ok 256 128 hp.k hp.h
  st2 B.dk p.ok 256 128 hp.k hp.h (shapeCast (Sh 256 128) (addf dk (dkOf (dzOf ev p.mask lw (zOf q k) (eOf (aOf ev p.mask up (zOf q k) cb) o v) ce) q)) hp.same)
  let dv ← ld2 B.dv p.ok 256 128 hp.k hp.h
  let _ ← ld2 B.dv p.ok 256 128 hp.k hp.h
  st2 B.dv p.ok 256 128 hp.k hp.h (shapeCast (Sh 256 128) (addf dv (dvOf ev (aOf ev p.mask up (zOf q k) cb) o)) hp.same)
  pure ⟨⟩

/-- The second pass over a block. -/
def pass2 (B : Bufs) {R : ℕ} (ev : Ev R) (p : At R) (hp : p.In) (up lw : FVec F (Sh 256 256) .bf16) : P F PUnit :=
  ld2 B.k p.ok 256 128 hp.k hp.h >>= pass2K B ev p hp up lw

end Cert.Attn
-- ==== Proof.Attn.Real.lean ====
/-
  The attention's gradients of one head over the reals, and matrices of real entries under the operations.
-/
module

public import proofs.«01_k».proof.Proof.Attn.Prog
public import proofs.«01_k».proof.Proof.Coord

@[expose] public section

set_option maxRecDepth 16384

noncomputable section

namespace Cert.Attn

open Idealize.ShloMosaic Idealize.ShloMosaic.ValueIdx
open scoped BigOperators
open Finset (range Ico)
open Cert.Coord

theorem coe_sum {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

theorem exp_coe (x : ℝ) : Ideal.exp (x : EReal) = ((Real.exp x : ℝ) : EReal) := rfl
theorem log_coe {x : ℝ} (h : 0 < x) : Ideal.log (x : EReal) = ((Real.log x : ℝ) : EReal) := if_neg (not_le.mpr h)

theorem zero_word : Ideal.ofBits .f32 0x00000000#32 = ((0 : ℝ) : EReal) := by simp
theorem one_word : Ideal.ofBits .f32 0x3F800000#32 = ((1 : ℝ) : EReal) := by simp

/-- The scale of the logits, as the programs round it. -/
def scl : ℝ := (Ideal.ofBits .f32 0x3DB504F3#32).toReal

theorem scl_word : Ideal.ofBits .f32 0x3DB504F3#32 = (scl : EReal) := by
  refine (EReal.coe_toReal ?_ ?_).symm
  all_goals
    show Ideal.ieee 8 23 0x3DB504F3#32 ≠ _
    unfold Ideal.ieee
    rw [if_neg (by decide), if_neg (by decide)]
  · exact EReal.coe_ne_top _
  · exact EReal.coe_ne_bot _

/-- The logarithm of the logistic function. -/
def lg (z : ℝ) : ℝ := min z 0 - Real.log (1 + Real.exp (-|z|))

/-- One head's arrays. -/
structure Head where
  q : ℕ → ℕ → ℝ
  k : ℕ → ℕ → ℝ
  v : ℕ → ℕ → ℝ
  o : ℕ → ℕ → ℝ

namespace Head
variable (H : Head)

def z (i j : ℕ) : ℝ := (∑ x ∈ range 128, H.q i x * H.k j x) * scl
def L (i j : ℕ) : ℝ := if j < i then lg (H.z i j) - H.z i j else 0
def C (i n : ℕ) : ℝ := ∑ j ∈ Ico n 4096, H.L i j
def a (i j : ℕ) : ℝ := if j < i then Real.exp (lg (H.z i j) + H.C i (j + 1)) else 0
def e (i j : ℕ) : ℝ := (∑ x ∈ range 128, H.o i x * H.v j x) * H.a i j
def E (i n : ℕ) : ℝ := ∑ j ∈ range n, H.e i j
def dz (i j : ℕ) : ℝ := if j < i then (H.e i j - (H.e i j + H.E i j) * Real.exp (lg (H.z i j))) * scl else 0
def dq (n i x : ℕ) : ℝ := ∑ j ∈ range n, H.dz i j * H.k j x
def dk (n j x : ℕ) : ℝ := ∑ i ∈ range n, H.dz i j * H.q i x
def dv (n j x : ℕ) : ℝ := ∑ i ∈ range n, H.a i j * H.o i x

end Head

/-- A matrix with real entries. -/
def Mat {A B : ℕ} (x : (Sh A B).Idx → EReal) (f : ℕ → ℕ → ℝ) : Prop := ∀ i, x i = ((f (i 0).val (i 1).val : ℝ) : EReal)

namespace Mat
section
variable {A B : ℕ} {x y : FVec Ideal (Sh A B) .f32} {f g : ℕ → ℕ → ℝ}

theorem congr (hx : Mat x f) (h : ∀ i j, i < A → j < B → f i j = g i j) : Mat x g := fun i => by
  rw [hx i, h _ _ (i 0).isLt (i 1).isLt]

theorem add (hx : Mat x f) (hy : Mat y g) : Mat (addf x y) fun i j => f i j + g i j := fun i => by
  show x i + y i = _
  rw [hx i, hy i, EReal.coe_add]
theorem sub (hx : Mat x f) (hy : Mat y g) : Mat (subf x y) fun i j => f i j - g i j := fun i => by
  show x i - y i = _
  rw [hx i, hy i, EReal.coe_sub]
theorem mul (hx : Mat x f) (hy : Mat y g) : Mat (mulf x y) fun i j => f i j * g i j := fun i => by
  show x i * y i = _
  rw [hx i, hy i, EReal.coe_mul]
theorem exp (hx : Mat x f) : Mat (Idealize.ShloMosaic.exp x) fun i j => Real.exp (f i j) := fun i => by
  show Ideal.exp (x i) = _
  rw [hx i, exp_coe]
theorem log (hx : Mat x f) (h : ∀ i j, 0 < f i j) : Mat (Idealize.ShloMosaic.log x) fun i j => Real.log (f i j) := fun i => by
  show Ideal.log (x i) = _
  rw [hx i, log_coe (h _ _)]
theorem abs (hx : Mat x f) : Mat (absf x) fun i j => |f i j| := fun i => by
  show max (x i) (-x i) = _
  rw [hx i, ← EReal.coe_neg, coe_max]
  rfl
theorem min (hx : Mat x f) (hy : Mat y g) : Mat (minimumf x y) fun i j => Min.min (f i j) (g i j) := fun i => by
  show Min.min (x i) (y i) = _
  rw [hx i, hy i, coe_min]
theorem zero : Mat (all (F := Ideal) A B 0x00000000#32) fun _ _ => 0 := fun _ => zero_word
theorem one : Mat (all (F := Ideal) A B 0x3F800000#32) fun _ _ => 1 := fun _ => one_word
theorem scale : Mat (all (F := Ideal) A B 0x3DB504F3#32) fun _ _ => scl := fun _ => scl_word

theorem lbOf {z : FVec Ideal (Sh A 256) .f32} (hz : Mat z f) : Mat (lbOf z) fun i j => lg (f i j) :=
  (hz.min zero).sub ((one.add ((zero.sub hz.abs).exp)).log fun i j => by positivity) |>.congr fun i j _ _ => by
    unfold lg; rw [zero_sub]

end

/-- A product of matrices with real entries, over one axis of each. -/
theorem dot {A B A' B' M N K : ℕ} (D : DotDims (Sh A B) (Sh A' B') (Sh M N)) {φ ψ : FTy} {x : FVec Ideal (Sh A B) φ} {y : FVec Ideal (Sh A' B') ψ}
    {f g : ℕ → ℕ → ℝ} (hx : Mat x f) (hy : Mat y g) (hr : D.contr.rank = 1) (hs : D.contr.size ⟨0, by omega⟩ = K)
    (u w : ℕ → ℕ → ℕ → ℝ)
    (hu : ∀ j k, f (D.lhsIdx j k 0).val (D.lhsIdx j k 1).val = u (j 0).val (j 1).val (k ⟨0, by omega⟩).val)
    (hw : ∀ j k, g (D.rhsIdx j k 0).val (D.rhsIdx j k 1).val = w (j 0).val (j 1).val (k ⟨0, by omega⟩).val) :
    Mat (matmul D none x y (cst0 M N)) fun r c => ∑ k ∈ range K, u r c k * w r c k := fun j => by
  refine (Ideal.matmul_apply D none _ _ _ _).trans ?_
  have h0 : (cst0 (F := Ideal) M N) j = 0 := by show Ideal.ofBits .f32 0x00000000#32 = 0; simp
  rw [h0, zero_add, sum_dot1 D K hr hs x y j (fun k => (u (j 0).val (j 1).val k : EReal)) (fun k => (w (j 0).val (j 1).val k : EReal))
    (fun k => (hx _).trans (by rw [hu])) (fun k => (hy _).trans (by rw [hw])), ← coe_sum]
  exact Finset.sum_congr rfl fun k _ => (EReal.coe_mul _ _).symm

section
variable {R : ℕ} {f g : ℕ → ℕ → ℝ}

theorem dotT {N K : ℕ} {φ ψ : FTy} {x : FVec Ideal (Sh R K) φ} {y : FVec Ideal (Sh N K) ψ} (hx : Mat x f) (hy : Mat y g) :
    Mat (matmul (DotDims.transposedRhs R K N) none x y (cst0 R N)) fun r c => ∑ k ∈ range K, f r k * g c k :=
  dot _ hx hy rfl rfl _ _ (fun j k => rfl) fun j k => rfl
theorem dotP {N K : ℕ} {φ ψ : FTy} {x : FVec Ideal (Sh R K) φ} {y : FVec Ideal (Sh K N) ψ} (hx : Mat x f) (hy : Mat y g) :
    Mat (matmul (DotDims.plain R K N) none x y (cst0 R N)) fun r c => ∑ k ∈ range K, f r k * g k c :=
  dot _ hx hy rfl rfl _ _ (fun j k => rfl) fun j k => rfl
theorem dotL {M N : ℕ} {φ ψ : FTy} {x : FVec Ideal (Sh R M) φ} {y : FVec Ideal (Sh R N) ψ} (hx : Mat x f) (hy : Mat y g) :
    Mat (matmul (dotTN R M N) none x y (cst0 M N)) fun r c => ∑ k ∈ range R, f k r * g k c :=
  dot _ hx hy rfl rfl _ _ (fun j k => rfl) fun j k => rfl

end
end Mat

end Cert.Attn
-- ==== Proof.Attn.Flat.lean ====
/-
  The kernel's body as one sequence of passes: the first pass over the diagonal blocks from the last, over the whole
  blocks before them from the last; the second pass over the whole blocks from the first, then over the diagonal ones.
-/
module

public import proofs.«01_k».proof.Proof.Attn.Prog

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Facts]

local notation "𝕄" => MT nD τ sig Unit (Elt F) ℕ (UR sig nD τ) ℕ

theorem ev256 : Ev 256 :=
  ⟨iota_S256x256_d0_w32, iota_S256x256_d1_w32, h_S256x128, h_S1x256x128, shapeCasts_S1x256x128_S256x128, shapeCasts_S256x128_S1x256x128,
    reduces_S256x256_S256, shapeCasts_S256_S256x1, broadcasts_S256x1_S256x128, concatenates_S256x128_S256x128_S256x256_d1,
    shapeCasts_S256x128_S256x128, bitsLt_bf16_f32⟩
theorem ev512 : Ev 512 :=
  ⟨iota_S512x256_d0_w32, iota_S512x256_d1_w32, h_S512x128, h_S1x512x128, shapeCasts_S1x512x128_S512x128, shapeCasts_S512x128_S1x512x128,
    reduces_S512x256_S512, shapeCasts_S512_S512x1, broadcasts_S512x1_S512x128, concatenates_S512x128_S512x128_S512x256_d1,
    shapeCasts_S512x128_S512x128, bitsLt_bf16_f32⟩
theorem ev768 : Ev 768 :=
  ⟨iota_S768x256_d0_w32, iota_S768x256_d1_w32, h_S768x128, h_S1x768x128, shapeCasts_S1x768x128_S768x128, shapeCasts_S768x128_S1x768x128,
    reduces_S768x256_S768, shapeCasts_S768_S768x1, broadcasts_S768x1_S768x128, concatenates_S768x128_S768x128_S768x256_d1,
    shapeCasts_S768x128_S768x128, bitsLt_bf16_f32⟩
theorem ev1024 : Ev 1024 :=
  ⟨iota_S1024x256_d0_w32, iota_S1024x256_d1_w32, h_S1024x128, h_S1x1024x128, shapeCasts_S1x1024x128_S1024x128, shapeCasts_S1024x128_S1x1024x128,
    reduces_S1024x256_S1024, shapeCasts_S1024_S1024x1, broadcasts_S1024x1_S1024x128, concatenates_S1024x128_S1024x128_S1024x256_d1,
    shapeCasts_S1024x128_S1024x128, bitsLt_bf16_f32⟩
theorem ev1280 : Ev 1280 :=
  ⟨iota_S1280x256_d0_w32, iota_S1280x256_d1_w32, h_S1280x128, h_S1x1280x128, shapeCasts_S1x1280x128_S1280x128, shapeCasts_S1280x128_S1x1280x128,
    reduces_S1280x256_S1280, shapeCasts_S1280_S1280x1, broadcasts_S1280x1_S1280x128, concatenates_S1280x128_S1280x128_S1280x256_d1,
    shapeCasts_S1280x128_S1280x128, bitsLt_bf16_f32⟩
theorem ev1536 : Ev 1536 :=
  ⟨iota_S1536x256_d0_w32, iota_S1536x256_d1_w32, h_S1536x128, h_S1x1536x128, shapeCasts_S1x1536x128_S1536x128, shapeCasts_S1536x128_S1x1536x128,
    reduces_S1536x256_S1536, shapeCasts_S1536_S1536x1, broadcasts_S1536x1_S1536x128, concatenates_S1536x128_S1536x128_S1536x256_d1,
    shapeCasts_S1536x128_S1536x128, bitsLt_bf16_f32⟩
theorem ev1792 : Ev 1792 :=
  ⟨iota_S1792x256_d0_w32, iota_S1792x256_d1_w32, h_S1792x128, h_S1x1792x128, shapeCasts_S1x1792x128_S1792x128, shapeCasts_S1792x128_S1x1792x128,
    reduces_S1792x256_S1792, shapeCasts_S1792_S1792x1, broadcasts_S1792x1_S1792x128, concatenates_S1792x128_S1792x128_S1792x256_d1,
    shapeCasts_S1792x128_S1792x128, bitsLt_bf16_f32⟩
theorem ev2048 : Ev 2048 :=
  ⟨iota_S2048x256_d0_w32, iota_S2048x256_d1_w32, h_S2048x128, h_S1x2048x128, shapeCasts_S1x2048x128_S2048x128, shapeCasts_S2048x128_S1x2048x128,
    reduces_S2048x256_S2048, shapeCasts_S2048_S2048x1, broadcasts_S2048x1_S2048x128, concatenates_S2048x128_S2048x128_S2048x256_d1,
    shapeCasts_S2048x128_S2048x128, bitsLt_bf16_f32⟩

def dg7 (i : grid0.Coords) : At 256 := ⟨1792, k0_off1 i 7#32, k0_off2 i, some (maskAt ev256 1792#32)⟩
def dg6 (i : grid0.Coords) : At 512 := ⟨1536, k0_off1 i 6#32, k0_off3 i, some (maskAt ev512 1536#32)⟩
def dg5 (i : grid0.Coords) : At 768 := ⟨1280, k0_off1 i 5#32, k0_off4 i, some (maskAt ev768 1280#32)⟩
def dg4 (i : grid0.Coords) : At 1024 := ⟨1024, k0_off1 i 4#32, k0_off5 i, some (maskAt ev1024 1024#32)⟩
def dg3 (i : grid0.Coords) : At 1280 := ⟨768, k0_off1 i 3#32, k0_off6 i, some (maskAt ev1280 768#32)⟩
def dg2 (i : grid0.Coords) : At 1536 := ⟨512, k0_off1 i 2#32, k0_off7 i, some (maskAt ev1536 512#32)⟩
def dg1 (i : grid0.Coords) : At 1792 := ⟨256, k0_off1 i 1#32, k0_off8 i, some (maskAt ev1792 256#32)⟩
def dg0 (i : grid0.Coords) : At 2048 := ⟨0, k0_off1 i 0#32, k0_off9 i, some (maskAt ev2048 0#32)⟩

theorem dg7_in (i : grid0.Coords) : (dg7 i).In :=
  ⟨inb_S2048x128_S256x128_1792_0, k0_off1_inb i 7, k0_off2_inb i, h_S256x128, shapeCasts_S256x128_S256x128⟩
theorem dg6_in (i : grid0.Coords) : (dg6 i).In :=
  ⟨inb_S2048x128_S512x128_1536_0, k0_off1_inb i 6, k0_off3_inb i, h_S256x128, shapeCasts_S256x128_S256x128⟩
theorem dg5_in (i : grid0.Coords) : (dg5 i).In :=
  ⟨inb_S2048x128_S768x128_1280_0, k0_off1_inb i 5, k0_off4_inb i, h_S256x128, shapeCasts_S256x128_S256x128⟩
theorem dg4_in (i : grid0.Coords) : (dg4 i).In :=
  ⟨inb_S2048x128_S1024x128_1024_0, k0_off1_inb i 4, k0_off5_inb i, h_S256x128, shapeCasts_S256x128_S256x128⟩
theorem dg3_in (i : grid0.Coords) : (dg3 i).In :=
  ⟨inb_S2048x128_S1280x128_768_0, k0_off1_inb i 3, k0_off6_inb i, h_S256x128, shapeCasts_S256x128_S256x128⟩
theorem dg2_in (i : grid0.Coords) : (dg2 i).In :=
  ⟨inb_S2048x128_S1536x128_512_0, k0_off1_inb i 2, k0_off7_inb i, h_S256x128, shapeCasts_S256x128_S256x128⟩
theorem dg1_in (i : grid0.Coords) : (dg1 i).In :=
  ⟨inb_S2048x128_S1792x128_256_0, k0_off1_inb i 1, k0_off8_inb i, h_S256x128, shapeCasts_S256x128_S256x128⟩
theorem dg0_in (i : grid0.Coords) : (dg0 i).In :=
  ⟨inb_S2048x128_S2048x128_0_0, k0_off1_inb i 0, k0_off9_inb i, h_S256x128, shapeCasts_S256x128_S256x128⟩

def lp1 (i : grid0.Coords) (t : Fin (k0_t1_loop i).trips) : At 2048 := ⟨0, k0_off10 i t, k0_off11 i t, none⟩

theorem lp1_in (i : grid0.Coords) (t : Fin (k0_t1_loop i).trips) : (lp1 i t).In :=
  ⟨inb_S2048x128_S2048x128_0_0, k0_off10_inb i t, k0_off11_inb i t, h_S256x128, shapeCasts_S256x128_S256x128⟩

def lp2 (i : grid0.Coords) (t : Fin (k0_t2_loop i).trips) : At 2048 := ⟨0, k0_off12 i t, k0_off13 i t, none⟩

theorem lp2_in (i : grid0.Coords) (t : Fin (k0_t2_loop i).trips) : (lp2 i t).In :=
  ⟨inb_S2048x128_S2048x128_0_0, k0_off12_inb i t, k0_off13_inb i t, h_S256x128, shapeCasts_S256x128_S256x128⟩

def lp3 (i : grid0.Coords) (t : Fin (k0_t3_loop i).trips) : At 2048 := ⟨0, k0_off14 i t, k0_off15 i t, none⟩

theorem lp3_in (i : grid0.Coords) (t : Fin (k0_t3_loop i).trips) : (lp3 i t).In :=
  ⟨inb_S2048x128_S2048x128_0_0, k0_off14_inb i t, k0_off15_inb i t, h_S256x128, shapeCasts_S256x128_S256x128⟩

def lp4 (i : grid0.Coords) (t : Fin (k0_t4_loop i).trips) : At 2048 := ⟨0, k0_off16 i t, k0_off17 i t, none⟩

theorem lp4_in (i : grid0.Coords) (t : Fin (k0_t4_loop i).trips) : (lp4 i t).In :=
  ⟨inb_S2048x128_S2048x128_0_0, k0_off16_inb i t, k0_off17_inb i t, h_S256x128, shapeCasts_S256x128_S256x128⟩

/-- The two triangles of ones, as the kernel makes them. -/
def upper : FVec F (Sh 256 256) .bf16 :=
  truncf .bf16 (sitofp .f32 (extui 32 (cmpi .sgt (iota .tc (Sh 256 256) 32 [0] ev256.io0) (iota .tc (Sh 256 256) 32 [1] ev256.io1)) natLt_1_32)) bitsLt_bf16_f32
def lower : FVec F (Sh 256 256) .bf16 :=
  truncf .bf16 (sitofp .f32 (extui 32 (cmpi .slt (iota .tc (Sh 256 256) 32 [0] ev256.io0) (iota .tc (Sh 256 256) 32 [1] ev256.io1)) natLt_1_32)) bitsLt_bf16_f32

/-- The whole blocks before the diagonal ones, in both passes; then the first diagonal block's rows of k. -/
def mid (B : Bufs) (i : grid0.Coords) : P F (Σ' (x : BitVec 32) (y : BitVec 32), Vec F S256x128 .bf16) := do
  Scf.Loop.for (k0_t1_loop i) (k0_t1_ok i) ⟨⟩ fun t _ => pass1 B ev2048 (lp1 i t) (lp1_in i t)
  Scf.Loop.for (k0_t2_loop i) (k0_t2_ok i) ⟨⟩ fun t _ => pass1 B ev2048 (lp2 i t) (lp2_in i t)
  Scf.Loop.for (k0_t3_loop i) (k0_t3_ok i) ⟨⟩ fun t _ => pass2 B ev2048 (lp3 i t) (lp3_in i t) upper lower
  Scf.Loop.for (k0_t4_loop i) (k0_t4_ok i) ⟨⟩ fun t _ => pass2 B ev2048 (lp4 i t) (lp4_in i t) upper lower
  let k ← ld2 B.k (dg0 i).ok 256 128 (dg0_in i).k (dg0_in i).h
  pure ⟨Scalar.addi (Scalar.muli (BitVec.ofNat 32 (i 1).val) 8#32) 0#32, Scalar.muli (Scalar.addi (Scalar.muli (BitVec.ofNat 32 (i 1).val) 8#32) 0#32) 256#32, k⟩

/-- The second pass over the diagonal blocks; then the rows' gradient. -/
def diag2 (B : Bufs) (i : grid0.Coords) (k : Vec F S256x128 .bf16) : P F (Σ' (x : BitVec 32), Vec F S2048x128 .f32) := do
  pass2K B ev2048 (dg0 i) (dg0_in i) upper lower k
  pass2 B ev1792 (dg1 i) (dg1_in i) upper lower
  pass2 B ev1536 (dg2 i) (dg2_in i) upper lower
  pass2 B ev1280 (dg3 i) (dg3_in i) upper lower
  pass2 B ev1024 (dg4 i) (dg4_in i) upper lower
  pass2 B ev768 (dg5 i) (dg5_in i) upper lower
  pass2 B ev512 (dg6 i) (dg6_in i) upper lower
  pass2 B ev256 (dg7 i) (dg7_in i) upper lower
  let x ← ld2 B.dq ![0, 0] 2048 128 inb_S2048x128_S2048x128_0_0 h_S2048x128
  pure ⟨BitVec.ofNat 32 (i 1).val, x⟩

/-- The body between the zeroing and the write of the results. -/
def flat (B : Bufs) (i : grid0.Coords) : P F (Σ' (x : BitVec 32), Vec F S2048x128 .f32) := do
  pass1 B ev256 (dg7 i) (dg7_in i)
  pass1 B ev512 (dg6 i) (dg6_in i)
  pass1 B ev768 (dg5 i) (dg5_in i)
  pass1 B ev1024 (dg4 i) (dg4_in i)
  pass1 B ev1280 (dg3 i) (dg3_in i)
  pass1 B ev1536 (dg2 i) (dg2_in i)
  pass1 B ev1792 (dg1 i) (dg1_in i)
  pass1 B ev2048 (dg0 i) (dg0_in i)
  let r ← mid B i
  diag2 B i r.2.2

section
variable (i : grid0.Coords) (arg2 : Memref sig .tc .vmem S2048x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S16x2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S4096x128 .f32) (harg13 : arg13.IsWhole) (arg14 : Memref sig .tc .vmem S4096x128 .f32) (harg14 : arg14.IsWhole)

/-- The buffers, by what the body calls them. -/
abbrev bufs : Bufs := ⟨arg2, arg3, arg4, arg5, arg9, arg10, arg11, arg12, arg13, arg14⟩

/-- What the body's first part computes. -/
abbrev first5 : Σ' (arg1 : BitVec 32) (v5 : FVec F S256x256 .bf16) (v9 : FVec F S256x256 .bf16) (v26 : BitVec 32) (v28 : BitVec 32), IVec S256x256 1 :=
  ⟨BitVec.ofNat 32 (i 1).val, upper, lower, Scalar.addi (Scalar.muli (BitVec.ofNat 32 (i 1).val) 8#32) 7#32,
    Scalar.muli (Scalar.addi (Scalar.muli (BitVec.ofNat 32 (i 1).val) 8#32) 7#32) 256#32, maskAt ev256 1792#32⟩

/-- The passes, once the first part has run. -/
theorem part34_run (c : Dev nD) {X Y : sProp 𝕄} {Q : (Σ' (x : BitVec 32), Vec F S2048x128 .f32) → sProp 𝕄}
    (h5 : X ⊢ run c.tc (k0_part5 i arg2 harg2 arg3 harg3 arg4 harg4 arg5 harg5 arg6 harg6 arg7 harg7 arg8 harg8 arg9 harg9 arg10 harg10 arg11 harg11 arg12 harg12 arg13 harg13 arg14 harg14)
      fun r => iprop(⌜r = first5 i⌝ ∗ Y))
    (hf : Y ⊢ run c.tc (flat (bufs arg2 arg3 arg4 arg5 arg9 arg10 arg11 arg12 arg13 arg14) i) Q) :
    X ⊢ run c.tc (k0_part34 i arg2 harg2 arg3 harg3 arg4 harg4 arg5 harg5 arg6 harg6 arg7 harg7 arg8 harg8 arg9 harg9 arg10 harg10 arg11 harg11 arg12 harg12 arg13 harg13 arg14 harg14) Q := by
  unfold k0_part34
  refine run_seq h5 fun r => ?_
  iintro ⟨%e, H⟩
  subst e
  iapply (run_eq (P' := flat (bufs arg2 arg3 arg4 arg5 arg9 arg10 arg11 arg12 arg13 arg14) i) (by sl_kernel_rfl) hf) $$ H

end

end Cert.Attn
-- ==== Proof.Attn.Spec.lean ====
/-
  What the passes do to the contents of the buffers, and that the programs do it.
-/
module

public import proofs.«01_k».proof.Proof.Attn.Flat

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Cert.Kernel2Ideal Cert.Kernel2Ideal.Gen

variable {F : FTy → Type} [FloatOps F] [Facts]

local notation "𝕄" => MT nD τ sig Unit (Elt F) ℕ (UR sig nD τ) ℕ

/-- The contents of the buffers. -/
structure St (F : FTy → Type) where
  q : Vec F (Sh 2048 128) .bf16
  k : Vec F (Sh 4096 128) .bf16
  v : Vec F (Sh 4096 128) .bf16
  o : Vec F (Sh 2048 128) .bf16
  cb : Vec F (Sh3 16 2048 128) .f32
  c : Vec F (Sh 2048 128) .f32
  ce : Vec F (Sh 2048 128) .f32
  dq : Vec F (Sh 2048 128) .f32
  dk : Vec F (Sh 4096 128) .f32
  dv : Vec F (Sh 4096 128) .f32

/-- The buffers hold `S`. -/
def held (c : Dev nD) (B : Bufs) (S : St F) : sProp 𝕄 :=
  iprop(owns c.tc B.q fullShare S.q ∗ owns c.tc B.k fullShare S.k ∗ owns c.tc B.v fullShare S.v ∗ owns c.tc B.o fullShare S.o
    ∗ owns c.tc B.cb fullShare S.cb ∗ owns c.tc B.c fullShare S.c ∗ owns c.tc B.ce fullShare S.ce
    ∗ owns c.tc B.dq fullShare S.dq ∗ owns c.tc B.dk fullShare S.dk ∗ owns c.tc B.dv fullShare S.dv)

section
variable {R : ℕ} (ev : Ev R) (p : At R) (hp : p.In) (S : St F)

/-- The rows, columns and blocks a pass reads. -/
abbrev qW : Vec F (Sh R 128) .bf16 := window S.q ![p.ro, 0] (Sh R 128).size hp.r
abbrev oW : Vec F (Sh R 128) .bf16 := window S.o ![p.ro, 0] (Sh R 128).size hp.r
abbrev kW : Vec F (Sh 256 128) .bf16 := window S.k p.ok (Sh 256 128).size hp.k
abbrev vW : Vec F (Sh 256 128) .bf16 := window S.v p.ok (Sh 256 128).size hp.k
abbrev cW : Vec F (Sh R 128) .f32 := window S.c ![p.ro, 0] (Sh R 128).size hp.r
abbrev ceW : Vec F (Sh R 128) .f32 := window S.ce ![p.ro, 0] (Sh R 128).size hp.r
abbrev dqW : Vec F (Sh R 128) .f32 := window S.dq ![p.ro, 0] (Sh R 128).size hp.r
abbrev dkW : Vec F (Sh 256 128) .f32 := window S.dk p.ok (Sh 256 128).size hp.k
abbrev dvW : Vec F (Sh 256 128) .f32 := window S.dv p.ok (Sh 256 128).size hp.k
abbrev cbW : Vec F (Sh3 1 R 128) .f32 := window S.cb p.oc (Sh3 1 R 128).size hp.c

/-- The first pass over a block. -/
def step1 : St F := { S with
  cb := put S.cb p.oc (Sh3 1 R 128).size (shapeCast (Sh3 1 R 128) (cW p hp S) ev.add)
  c := put S.c ![p.ro, 0] (Sh R 128).size (shapeCast (Sh R 128) (addf (cW p hp S) (rowsOf ev (l1Of p.mask (zOf (qW p hp S) (kW p hp S))))) ev.same) }

/-- The second pass's blocks. -/
abbrev zB : FVec F (Sh R 256) .f32 := zOf (qW p hp S) (kW p hp S)
abbrev aB : FVec F (Sh R 256) .f32 := aOf ev p.mask upper (zB p hp S) (cbW p hp S)
abbrev eB : FVec F (Sh R 256) .f32 := eOf (aB ev p hp S) (oW p hp S) (vW p hp S)
abbrev dzB : FVec F (Sh R 256) .bf16 := dzOf ev p.mask lower (zB p hp S) (eB ev p hp S) (ceW p hp S)

/-- The second pass over a block. -/
def step2 : St F := { S with
  dq := put S.dq ![p.ro, 0] (Sh R 128).size (shapeCast (Sh R 128) (addf (dqW p hp S) (dqOf (dzB ev p hp S) (kW p hp S))) ev.same)
  ce := put S.ce ![p.ro, 0] (Sh R 128).size (shapeCast (Sh R 128) (addf (ceW p hp S) (rowsOf ev (eB ev p hp S))) ev.same)
  dk := put S.dk p.ok (Sh 256 128).size (shapeCast (Sh 256 128) (addf (dkW p hp S) (dkOf (dzB ev p hp S) (qW p hp S))) hp.same)
  dv := put S.dv p.ok (Sh 256 128).size (shapeCast (Sh 256 128) (addf (dvW p hp S) (dvOf ev (aB ev p hp S) (oW p hp S))) hp.same) }

theorem pass1_run (c : Dev nD) (B : Bufs) :
    (held c B S : sProp 𝕄) ⊢ run c.tc (pass1 B ev p hp) fun _ => held c B (step1 ev p hp S) := by
  unfold pass1 held step1
  iintro ⟨Hq, Hk, Hv, Ho, Hcb, Hc, Hce, Hdq, Hdk, Hdv⟩
  iapply (own_load_bind (c := c.tc) B.q) $$ Hq; iintro Hq
  iapply (own_load_bind (c := c.tc) B.k) $$ Hk; iintro Hk
  iapply (own_load_bind (c := c.tc) B.c) $$ Hc; iintro Hc
  iapply (own_load_bind (c := c.tc) B.cb) $$ Hcb; iintro Hcb
  iapply (own_store_bind (c := c.tc) B.cb) $$ Hcb; iintro Hcb
  iapply (own_load_bind (c := c.tc) B.c) $$ Hc; iintro Hc
  iapply (own_store_bind (c := c.tc) B.c) $$ Hc; iintro Hc
  iapply (run_pure (c := c.tc))
  isplitl [Hq]; · iexact Hq
  isplitl [Hk]; · iexact Hk
  isplitl [Hv]; · iexact Hv
  isplitl [Ho]; · iexact Ho
  isplitl [Hcb]; · iexact Hcb
  isplitl [Hc]; · iexact Hc
  isplitl [Hce]; · iexact Hce
  isplitl [Hdq]; · iexact Hdq
  isplitl [Hdk]; · iexact Hdk
  iexact Hdv

theorem pass2K_run (c : Dev nD) (B : Bufs) :
    (held c B S : sProp 𝕄) ⊢ run c.tc (pass2K B ev p hp upper lower (kW p hp S)) fun _ => held c B (step2 ev p hp S) := by
  unfold pass2K held step2
  iintro ⟨Hq, Hk, Hv, Ho, Hcb, Hc, Hce, Hdq, Hdk, Hdv⟩
  iapply (own_load_bind (c := c.tc) B.v) $$ Hv; iintro Hv
  iapply (own_load_bind (c := c.tc) B.q) $$ Hq; iintro Hq
  iapply (own_load_bind (c := c.tc) B.o) $$ Ho; iintro Ho
  iapply (own_load_bind (c := c.tc) B.cb) $$ Hcb; iintro Hcb
  iapply (own_load_bind (c := c.tc) B.ce) $$ Hce; iintro Hce
  iapply (own_load_bind (c := c.tc) B.dq) $$ Hdq; iintro Hdq
  iapply (own_load_bind (c := c.tc) B.dq) $$ Hdq; iintro Hdq
  iapply (own_store_bind (c := c.tc) B.dq) $$ Hdq; iintro Hdq
  iapply (own_load_bind (c := c.tc) B.ce) $$ Hce; iintro Hce
  iapply (own_store_bind (c := c.tc) B.ce) $$ Hce; iintro Hce
  iapply (own_load_bind (c := c.tc) B.dk) $$ Hdk; iintro Hdk
  iapply (own_load_bind (c := c.tc) B.dk) $$ Hdk; iintro Hdk
  iapply (own_store_bind (c := c.tc) B.dk) $$ Hdk; iintro Hdk
  iapply (own_load_bind (c := c.tc) B.dv) $$ Hdv; iintro Hdv
  iapply (own_load_bind (c := c.tc) B.dv) $$ Hdv; iintro Hdv
  iapply (own_store_bind (c := c.tc) B.dv) $$ Hdv; iintro Hdv
  iapply (run_pure (c := c.tc))
  isplitl [Hq]; · iexact Hq
  isplitl [Hk]; · iexact Hk
  isplitl [Hv]; · iexact Hv
  isplitl [Ho]; · iexact Ho
  isplitl [Hcb]; · iexact Hcb
  isplitl [Hc]; · iexact Hc
  isplitl [Hce]; · iexact Hce
  isplitl [Hdq]; · iexact Hdq
  isplitl [Hdk]; · iexact Hdk
  iexact Hdv

/-- A load of a block's rows of k. -/
theorem loadK_run (c : Dev nD) (B : Bufs) {α : Type} {k : Vec F (Sh 256 128) .bf16 → P F α} {Q : α → sProp 𝕄}
    (h : (held c B S : sProp 𝕄) ⊢ run c.tc (k (kW p hp S)) Q) :
    (held c B S : sProp 𝕄) ⊢ run c.tc (ld2 B.k p.ok 256 128 hp.k hp.h >>= k) Q := by
  unfold held at h ⊢
  iintro ⟨Hq, Hk, Hv, Ho, Hcb, Hc, Hce, Hdq, Hdk, Hdv⟩
  iapply (own_load_bind (c := c.tc) B.k) $$ Hk; iintro Hk
  iapply h
  isplitl [Hq]; · iexact Hq
  isplitl [Hk]; · iexact Hk
  isplitl [Hv]; · iexact Hv
  isplitl [Ho]; · iexact Ho
  isplitl [Hcb]; · iexact Hcb
  isplitl [Hc]; · iexact Hc
  isplitl [Hce]; · iexact Hce
  isplitl [Hdq]; · iexact Hdq
  isplitl [Hdk]; · iexact Hdk
  iexact Hdv

theorem pass2_run (c : Dev nD) (B : Bufs) :
    (held c B S : sProp 𝕄) ⊢ run c.tc (pass2 B ev p hp upper lower) fun _ => held c B (step2 ev p hp S) :=
  loadK_run p hp S c B (pass2K_run ev p hp S c B)

end

end Cert.Attn
-- ==== Proof.Attn.Block.lean ====
/-
  The kernel's blocks of real entries: what each of its values is, entry by entry.
-/
module

public import proofs.«01_k».proof.Proof.Attn.Real
public import proofs.«01_k».proof.Proof.Attn.Spec

@[expose] public section

set_option maxRecDepth 16384

noncomputable section

namespace Cert.Attn

open Idealize.ShloMosaic Idealize.ShloMosaic.ValueIdx
open scoped BigOperators
open Finset (range Ico)
open VecWindow (window put)
open Cert.Coord Cert.Kernel2Ideal.Gen

/-- A value kept where the mask holds, for the entries of a block whose columns start at `J` and rows at `I`. -/
def Masks {R : ℕ} (mask : Option (IVec (Sh R 256) 1)) (I J : ℕ) : Prop :=
  ∀ (x : FVec Ideal (Sh R 256) .f32) (f : ℕ → ℕ → ℝ), Mat x f → Mat (sel mask x) fun r l => if J + l < I + r then f r l else 0

theorem Masks.whole {R I J : ℕ} (h : J + 256 ≤ I) : Masks (R := R) none I J := fun x f hx =>
  hx.congr fun i j _ hj => (if_pos (by omega)).symm

theorem toInt_small {n : ℕ} (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

theorem slt_small {a b : ℕ} (ha : a < 2 ^ 31) (hb : b < 2 ^ 31) : (BitVec.ofNat 32 a).slt (BitVec.ofNat 32 b) = decide (a < b) := by
  unfold BitVec.slt
  rw [toInt_small ha, toInt_small hb]
  exact decide_eq_decide.mpr Nat.cast_lt

theorem lt_words {off a b : ℕ} (hoff : off < 4096) (ha : a < 4096) (hb : b < 4096) :
    IntOp.cmpi .slt (BitVec.ofNat 32 off + BitVec.ofNat 32 a) (BitVec.ofNat 32 off + BitVec.ofNat 32 b) = BitVec.ofBool (decide (a < b)) := by
  show BitVec.ofBool (BitVec.slt _ _) = _
  rw [← BitVec.ofNat_add, ← BitVec.ofNat_add, slt_small (by omega) (by omega)]
  congr 1
  exact decide_eq_decide.mpr (by omega)

theorem Masks.diag {R : ℕ} (ev : Ev R) (hR : R ≤ 2048) (off : ℕ) (hoff : off < 4096) (I : ℕ) :
    Masks (some (maskAt ev (BitVec.ofNat 32 off))) I I := fun x f hx i => by
  have h : maskAt ev (BitVec.ofNat 32 off) i = BitVec.ofBool (decide ((i 1).val < (i 0).val)) := by
    show IntOp.cmpi .slt (BitVec.ofNat 32 off + iota .tc (Sh R 256) 32 [1] ev.io1 i) (BitVec.ofNat 32 off + iota .tc (Sh R 256) 32 [0] ev.io0 i) = _
    rw [iota_single_apply, iota_single_apply]
    exact lt_words hoff (lt_trans (i 1).isLt (by show 256 < 4096; omega)) (lt_of_lt_of_le (i 0).isLt (by show R ≤ 4096; omega))
  show Scalar.select (maskAt ev (BitVec.ofNat 32 off) i) (x i) (all (F := Ideal) R 256 0x00000000#32 i) = _
  rw [h, hx i, Mat.zero i]
  by_cases hl : (i 1).val < (i 0).val
  · rw [decide_eq_true hl]
    show ((f _ _ : ℝ) : EReal) = ((if I + (i 1).val < I + (i 0).val then _ else _ : ℝ) : EReal)
    rw [if_pos (by omega)]
  · rw [decide_eq_false hl]
    show ((0 : ℝ) : EReal) = ((if I + (i 1).val < I + (i 0).val then _ else _ : ℝ) : EReal)
    rw [if_neg (by omega)]

/-- A one-bit word as a number. -/
theorem bit_real (b : Bool) : (((((BitVec.ofBool b).setWidth 32).toInt : ℤ) : ℝ) : EReal) = ((if b then 1 else 0 : ℝ) : EReal) := by
  cases b <;> simp

/-- A triangle's entries. -/
theorem upper_mat : Mat (upper (F := Ideal)) fun r c => if c < r then 1 else 0 := fun i => by
  have h : (cmpi .sgt (iota .tc (Sh 256 256) 32 [0] ev256.io0) (iota .tc (Sh 256 256) 32 [1] ev256.io1)) i = BitVec.ofBool (decide ((i 1).val < (i 0).val)) := by
    show IntOp.cmpi .sgt (iota .tc (Sh 256 256) 32 [0] ev256.io0 i) (iota .tc (Sh 256 256) 32 [1] ev256.io1 i) = _
    rw [iota_single_apply, iota_single_apply]
    show BitVec.ofBool (BitVec.slt _ _) = _
    have h0 : (i 0).val < 256 := (i 0).isLt
    have h1 : (i 1).val < 256 := (i 1).isLt
    rw [slt_small (by omega) (by omega)]
  refine (show upper (F := Ideal) i = ((((BitVec.setWidth 32 ((cmpi .sgt (iota .tc (Sh 256 256) 32 [0] ev256.io0) (iota .tc (Sh 256 256) 32 [1] ev256.io1)) i)).toInt : ℤ) : ℝ) : EReal) from rfl).trans ?_
  rw [h, bit_real]
  simp
theorem lower_mat : Mat (lower (F := Ideal)) fun r c => if r < c then 1 else 0 := fun i => by
  have h : (cmpi .slt (iota .tc (Sh 256 256) 32 [0] ev256.io0) (iota .tc (Sh 256 256) 32 [1] ev256.io1)) i = BitVec.ofBool (decide ((i 0).val < (i 1).val)) := by
    show IntOp.cmpi .slt (iota .tc (Sh 256 256) 32 [0] ev256.io0 i) (iota .tc (Sh 256 256) 32 [1] ev256.io1 i) = _
    rw [iota_single_apply, iota_single_apply]
    show BitVec.ofBool (BitVec.slt _ _) = _
    have h0 : (i 0).val < 256 := (i 0).isLt
    have h1 : (i 1).val < 256 := (i 1).isLt
    rw [slt_small (by omega) (by omega)]
  refine (show lower (F := Ideal) i = ((((BitVec.setWidth 32 ((cmpi .slt (iota .tc (Sh 256 256) 32 [0] ev256.io0) (iota .tc (Sh 256 256) 32 [1] ev256.io1)) i)).toInt : ℤ) : ℝ) : EReal) from rfl).trans ?_
  rw [h, bit_real]
  simp

namespace Mat
section
variable {R : ℕ} {f g : ℕ → ℕ → ℝ}

theorem zOf {q : FVec Ideal (Sh R 128) .bf16} {k : FVec Ideal (Sh 256 128) .bf16} (hq : Mat q f) (hk : Mat k g) :
    Mat (zOf q k) fun r l => (∑ x ∈ range 128, f r x * g l x) * scl := (dotT hq hk).mul scale

theorem rowsOf (ev : Ev R) {x : FVec Ideal (Sh R 256) .f32} (hx : Mat x f) : Mat (rowsOf ev x) fun r _ => ∑ l ∈ range 256, f r l := fun i => by
  unfold Attn.rowsOf
  rw [broadcastTo_apply _ ev.bro i (ix2 (i 0) (0 : Fin 1)) (fun a => by
      match a with
      | ⟨0, _⟩ =>
        show (i 0).val = if R = 1 then 0 else (i 0).val
        split
        · have := (i 0).isLt; have h : (Sh R 128).size 0 = R := rfl; omega
        · rfl
      | ⟨1, _⟩ => rfl),
    shapeCast_apply _ ev.col _ (ix1 (i 0)) (by
      rw [Shape.rowMajor_val_two, Shape.rowMajor_val_one]
      show (i 0).val = (i 0).val * 1 + 0
      omega)]
  refine (Ideal.multiReduction_add_single x _ ev.red _ _ _).trans ?_
  show (∑ k : Fin 256, x (ev.red.lift _ k)) = _
  rw [← coe_sum, Finset.sum_range]
  refine Finset.sum_congr rfl fun k _ => ?_
  rw [hx]
  rfl

theorem triOf (ev : Ev R) {x : FVec Ideal (Sh R 256) .f32} {m : FVec Ideal (Sh 256 256) .bf16} (hx : Mat x f) (hm : Mat m g) :
    Mat (triOf ev x m) fun r l => ∑ l' ∈ range 256, f r l' * g l' l := by
  have hh : Mat (hiOf ev x) f := hx
  have hl : Mat (loOf ev x) fun r l => f r l - f r l := hx.sub hx
  exact ((dotP hh hm).add (dotP hl hm)).congr fun i j _ _ => by simp

theorem wideOf (ev : Ev R) {x : FVec Ideal (Sh R 128) .f32} {f : ℕ → ℝ} (hx : Mat x fun r _ => f r) :
    Mat (wideOf ev x) fun r _ => f r := fun i => by
  unfold Attn.wideOf
  by_cases h : (i 1).val < 128
  · rw [concatenate_pair_apply_left 1 x x ev.cat i rfl (ix2 (i 0) ⟨(i 1).val, h⟩) (fun b => by
      match b with
      | ⟨0, _⟩ => rfl
      | ⟨1, _⟩ => rfl), hx]
    rfl
  · have h1 : (i 1).val < 256 := (i 1).isLt
    rw [concatenate_pair_apply_right 1 x x ev.cat i rfl rfl (ix2 (i 0) ⟨(i 1).val - 128, by omega⟩) (fun b hb => by
      match b with
      | ⟨0, _⟩ => rfl
      | ⟨1, _⟩ => exact absurd rfl hb) (by show (i 1).val - 128 + 128 = (i 1).val; omega), hx]
    rfl

theorem l1Of {mask : Option (IVec (Sh R 256) 1)} {I J : ℕ} (hm : Masks mask I J) {z : FVec Ideal (Sh R 256) .f32} (hz : Mat z f) :
    Mat (l1Of mask z) fun r l => if J + l < I + r then lg (f r l) - f r l else 0 := hm _ _ (hz.lbOf.sub hz)

end

section
variable {A B : ℕ} {φ : FTy} {f g : ℕ → ℕ → ℝ}

theorem window {x : FVec Ideal (Sh A B) φ} (hx : Mat x f) (off : Fin 2 → ℕ) (A' B' : ℕ)
    (inb : ∀ a : Fin 2, off a + (Sh A' B').size a ≤ (Sh A B).size a) :
    Mat (A := A') (B := B') (VecWindow.window (s := Sh A B) x off (Sh A' B').size inb) fun r c => f (off 0 + r) (off 1 + c) := fun i => by
  show x ((Rect.unit (s := Sh A B) off (Sh A' B').size inb).emb i) = _
  rw [hx]
  show ((f (off 0 + 1 * (i 0).val) (off 1 + 1 * (i 1).val) : ℝ) : EReal) = _
  rw [one_mul, one_mul]

/-- Whole rows written. -/
theorem put {x : FVec Ideal (Sh A B) φ} (hx : Mat x f) (n A' : ℕ) {w : FVec Ideal (Sh A' B) φ} (hw : Mat w g) :
    Mat (VecWindow.put (s := Sh A B) x ![n, 0] (Sh A' B).size w) fun r c => if n ≤ r ∧ r < n + A' then g (r - n) c else f r c := fun i => by
  by_cases h : ∀ a : Fin (Sh A B).rank, (![n, 0] : Fin 2 → ℕ) a ≤ (i a).val ∧ (i a).val < (![n, 0] : Fin 2 → ℕ) a + (Sh A' B).size a
  · refine (dif_pos h).trans ?_
    rw [hw]
    show _ = ((if n ≤ (i 0).val ∧ (i 0).val < n + A' then g ((i 0).val - n) (i 1).val else f (i 0).val (i 1).val : ℝ) : EReal)
    rw [if_pos (show n ≤ (i 0).val ∧ (i 0).val < n + A' from h 0)]
    rfl
  · refine (dif_neg h).trans ?_
    rw [hx]
    show _ = ((if n ≤ (i 0).val ∧ (i 0).val < n + A' then g ((i 0).val - n) (i 1).val else f (i 0).val (i 1).val : ℝ) : EReal)
    rw [if_neg fun h0 => h fun a => by
      match a with
      | ⟨0, _⟩ => exact h0
      | ⟨1, _⟩ => exact ⟨Nat.zero_le _, by show (i 1).val < 0 + B; have h1 : (i 1).val < B := (i 1).isLt; omega⟩]

end
end Mat

end Cert.Attn
-- ==== Proof.Attn.Sums.lean ====
/-
  Sums over blocks of 256 columns, of the attention's gradients over the reals.
-/
module

public import proofs.«01_k».proof.Proof.Attn.Real

@[expose] public section

noncomputable section

namespace Cert.Attn

open scoped BigOperators
open Finset (range Ico)

theorem sum_split (f : ℕ → ℝ) (m n : ℕ) : ∑ i ∈ range (m + n), f i = ∑ i ∈ range m, f i + ∑ i ∈ range n, f (m + i) := Finset.sum_range_add f m n

theorem ico_split (f : ℕ → ℝ) {J n N : ℕ} (h : J + n ≤ N) : ∑ j ∈ Ico J N, f j = ∑ l ∈ range n, f (J + l) + ∑ j ∈ Ico (J + n) N, f j := by
  rw [← Finset.sum_Ico_consecutive f (Nat.le_add_right J n) h, Finset.sum_Ico_eq_sum_range, Nat.add_sub_cancel_left]

/-- The terms of a block past one of them. -/
theorem ico_tail (f : ℕ → ℝ) {J N l : ℕ} (hl : l < 256) (h : J + 256 ≤ N) :
    ∑ j ∈ Ico (J + l + 1) N, f j = ∑ j ∈ Ico (J + 256) N, f j + ∑ l' ∈ range 256, f (J + l') * (if l < l' then 1 else 0) := by
  have h1 : ∑ l' ∈ range 256, f (J + l') * (if l < l' then 1 else 0) = ∑ l' ∈ range (l + 1 + (255 - l)), f (J + l') * (if l < l' then (1 : ℝ) else 0) := by
    congr 2; omega
  rw [h1, sum_split, Finset.sum_eq_zero (s := range (l + 1)) fun l' h' => by rw [if_neg (by have := Finset.mem_range.mp h'; omega), mul_zero],
    ico_split f (J := J + l + 1) (n := 255 - l) (by omega), show J + l + 1 + (255 - l) = J + 256 by omega, zero_add, add_comm]
  congr 1
  exact Finset.sum_congr rfl fun x _ => by rw [if_pos (by omega), mul_one]; congr 1; omega

/-- The terms before one of a block's. -/
theorem range_head (f : ℕ → ℝ) {J l : ℕ} (hl : l < 256) :
    ∑ j ∈ range (J + l), f j = ∑ j ∈ range J, f j + ∑ l' ∈ range 256, f (J + l') * (if l' < l then 1 else 0) := by
  have h1 : ∑ l' ∈ range 256, f (J + l') * (if l' < l then 1 else 0) = ∑ l' ∈ range (l + (256 - l)), f (J + l') * (if l' < l then (1 : ℝ) else 0) := by
    congr 2; omega
  rw [h1, sum_split f J l, sum_split _ l, Finset.sum_eq_zero (s := range (256 - l)) fun l' h' => by rw [if_neg (by omega), mul_zero], add_zero]
  congr 1
  exact Finset.sum_congr rfl fun x hx => by rw [if_pos (Finset.mem_range.mp hx), mul_one]

namespace Head
variable (H : Head) {i j : ℕ}

theorem L_zero (h : i ≤ j) : H.L i j = 0 := if_neg (by omega)
theorem a_zero (h : i ≤ j) : H.a i j = 0 := if_neg (by omega)
theorem e_zero (h : i ≤ j) : H.e i j = 0 := by unfold e; rw [H.a_zero h, mul_zero]
theorem dz_zero (h : i ≤ j) : H.dz i j = 0 := if_neg (by omega)

theorem C_block (i : ℕ) {J : ℕ} (h : J + 256 ≤ 4096) : H.C i J = H.C i (J + 256) + ∑ l ∈ range 256, H.L i (J + l) := by
  unfold C
  rw [ico_split _ h, add_comm]

theorem C_zero {n : ℕ} (h : i ≤ n) : H.C i n = 0 :=
  Finset.sum_eq_zero fun j hj => H.L_zero (h.trans (Finset.mem_Ico.mp hj).1)

theorem C_in (i : ℕ) {J l : ℕ} (hl : l < 256) (h : J + 256 ≤ 4096) :
    H.C i (J + l + 1) = H.C i (J + 256) + ∑ l' ∈ range 256, H.L i (J + l') * (if l < l' then 1 else 0) := ico_tail _ hl h

theorem E_block (i J : ℕ) : H.E i (J + 256) = H.E i J + ∑ l ∈ range 256, H.e i (J + l) := sum_split _ _ _
theorem E_in (i : ℕ) {J l : ℕ} (hl : l < 256) :
    H.E i (J + l) = H.E i J + ∑ l' ∈ range 256, H.e i (J + l') * (if l' < l then 1 else 0) := range_head _ hl

theorem dq_block (i J x : ℕ) : H.dq (J + 256) i x = H.dq J i x + ∑ l ∈ range 256, H.dz i (J + l) * H.k (J + l) x := sum_split _ _ _

/-- A column's rows at or above its own, added to, leave the sum. -/
theorem dk_rows {I R : ℕ} (j x : ℕ) (m : ℕ) (h : ∀ i, m ≤ i → i < I → i ≤ j) (hm : m ≤ I) :
    H.dk (I + R) j x = H.dk m j x + ∑ r ∈ range R, H.dz (I + r) j * H.q (I + r) x := by
  obtain ⟨d, rfl⟩ := Nat.exists_eq_add_of_le hm
  unfold dk
  rw [sum_split, sum_split _ m d, Finset.sum_eq_zero (s := range d) fun r hr => by
    rw [H.dz_zero (h _ (by omega) (by have := Finset.mem_range.mp hr; omega)), zero_mul], add_zero]
theorem dv_rows {I R : ℕ} (j x : ℕ) (m : ℕ) (h : ∀ i, m ≤ i → i < I → i ≤ j) (hm : m ≤ I) :
    H.dv (I + R) j x = H.dv m j x + ∑ r ∈ range R, H.a (I + r) j * H.o (I + r) x := by
  obtain ⟨d, rfl⟩ := Nat.exists_eq_add_of_le hm
  unfold dv
  rw [sum_split, sum_split _ m d, Finset.sum_eq_zero (s := range d) fun r hr => by
    rw [H.a_zero (h _ (by omega) (by have := Finset.mem_range.mp hr; omega)), zero_mul], add_zero]

end Head

end Cert.Attn
-- ==== Proof.Attn.Inv.lean ====
/-
  What the buffers hold between the passes, over the reals: the sums of a head's gradients over the blocks done so far.
-/
module

public import proofs.«01_k».proof.Proof.Attn.Block
public import proofs.«01_k».proof.Proof.Attn.Sums

@[expose] public section

set_option maxRecDepth 16384

noncomputable section

namespace Cert.Attn

open Idealize.ShloMosaic Idealize.ShloMosaic.ValueIdx
open scoped BigOperators
open Finset (range Ico)
open VecWindow (window put)
open Cert.Coord

/-- A pass's place: block `jb` of the columns, the rows of row block `qi` that it touches. -/
structure Pos {R : ℕ} (p : At R) (qi jb : ℕ) : Prop where
  rows : p.ro + R = 2048
  ro : p.ro = 256 * (jb - 8 * qi)
  ok : p.ok = ![256 * jb, 0]
  oc : p.oc = ![jb, p.ro, 0]
  lt : jb < 8 * qi + 8
  two : qi < 2
  mask : Masks p.mask (2048 * qi + p.ro) (256 * jb)

/-- The buffers that only are read hold the head's arrays, at row block `qi`. -/
structure InsOk (H : Head) (qi : ℕ) (S : St Ideal) : Prop where
  q : Mat S.q fun r x => H.q (2048 * qi + r) x
  k : Mat S.k H.k
  v : Mat S.v H.v
  o : Mat S.o fun r x => H.o (2048 * qi + r) x

/-- The kept sums of the blocks from `n` on. -/
def CbOk (H : Head) (qi n : ℕ) (cb : FVec Ideal (Sh3 16 2048 128) .f32) : Prop :=
  ∀ y, n ≤ (y 0).val → (y 0).val < 8 * qi + 8 → 256 * ((y 0).val - 8 * qi) ≤ (y 1).val →
    cb y = ((H.C (2048 * qi + (y 1).val) (256 * ((y 0).val + 1)) : ℝ) : EReal)

/-- During the first passes: the blocks from `n` on are done. -/
structure Inv1 (H : Head) (qi n : ℕ) (S : St Ideal) : Prop where
  ins : InsOk H qi S
  c : Mat S.c fun r _ => H.C (2048 * qi + r) (256 * n)
  cb : CbOk H qi n S.cb
  ce : Mat S.ce fun _ _ => 0
  dq : Mat S.dq fun _ _ => 0
  dk : Mat S.dk fun j x => H.dk (2048 * qi) j x
  dv : Mat S.dv fun j x => H.dv (2048 * qi) j x

/-- During the second passes: the blocks below `n` are done. -/
structure Inv2 (H : Head) (qi n : ℕ) (S : St Ideal) : Prop where
  ins : InsOk H qi S
  cb : CbOk H qi 0 S.cb
  ce : Mat S.ce fun r _ => H.E (2048 * qi + r) (256 * n)
  dq : Mat S.dq fun r x => H.dq (256 * n) (2048 * qi + r) x
  dk : Mat S.dk fun j x => if j < 256 * n then H.dk (2048 * qi + 2048) j x else H.dk (2048 * qi) j x
  dv : Mat S.dv fun j x => if j < 256 * n then H.dv (2048 * qi + 2048) j x else H.dv (2048 * qi) j x

theorem Inv1.turn {H : Head} {qi : ℕ} {S : St Ideal} (h : Inv1 H qi 0 S) : Inv2 H qi 0 S where
  ins := h.ins
  cb := h.cb
  ce := h.ce.congr fun i j _ _ => rfl
  dq := h.dq.congr fun i j _ _ => rfl
  dk := h.dk.congr fun i j _ _ => by rw [if_neg (by omega)]
  dv := h.dv.congr fun i j _ _ => by rw [if_neg (by omega)]

theorem Pos.le {R : ℕ} {p : At R} {qi jb : ℕ} (hP : Pos p qi jb) : 256 * jb + 256 ≤ 4096 := by have := hP.lt; have := hP.two; omega
theorem Pos.top {R : ℕ} {p : At R} {qi jb : ℕ} (hP : Pos p qi jb) {r : ℕ} (h : r < p.ro) : 2048 * qi + r < 256 * jb := by have := hP.ro; omega

section
variable {R : ℕ} (ev : Ev R) {p : At R} (hp : p.In) {H : Head} {qi jb : ℕ} (hP : Pos p qi jb) {S : St Ideal}
include hP

theorem q_mat (hI : InsOk H qi S) : Mat (qW p hp S) fun r x => H.q (2048 * qi + p.ro + r) x :=
  (hI.q.window ![p.ro, 0] R 128 hp.r).congr fun i j _ _ => by
    show H.q (2048 * qi + (p.ro + i)) (0 + j) = _
    rw [zero_add, add_assoc]
theorem o_mat (hI : InsOk H qi S) : Mat (oW p hp S) fun r x => H.o (2048 * qi + p.ro + r) x :=
  (hI.o.window ![p.ro, 0] R 128 hp.r).congr fun i j _ _ => by
    show H.o (2048 * qi + (p.ro + i)) (0 + j) = _
    rw [zero_add, add_assoc]
theorem k_mat (hI : InsOk H qi S) : Mat (kW p hp S) fun l x => H.k (256 * jb + l) x :=
  (hI.k.window p.ok 256 128 hp.k).congr fun i j _ _ => by
    rw [hP.ok]
    show H.k (256 * jb + i) (0 + j) = _
    rw [zero_add]
theorem v_mat (hI : InsOk H qi S) : Mat (vW p hp S) fun l x => H.v (256 * jb + l) x :=
  (hI.v.window p.ok 256 128 hp.k).congr fun i j _ _ => by
    rw [hP.ok]
    show H.v (256 * jb + i) (0 + j) = _
    rw [zero_add]

theorem z_mat (hI : InsOk H qi S) : Mat (zB p hp S) fun r l => H.z (2048 * qi + p.ro + r) (256 * jb + l) :=
  ((q_mat hp hP hI).zOf (k_mat hp hP hI)).congr fun i j _ _ => rfl

theorem l_mat (hI : InsOk H qi S) : Mat (l1Of p.mask (zB p hp S)) fun r l => H.L (2048 * qi + p.ro + r) (256 * jb + l) :=
  ((z_mat hp hP hI).l1Of hP.mask).congr fun i j _ _ => rfl

theorem c_mat {f : ℕ → ℝ} {x : FVec Ideal (Sh 2048 128) .f32} (hx : Mat x fun r _ => f (2048 * qi + r)) :
    Mat (A := R) (B := 128) (window (s := Sh 2048 128) x ![p.ro, 0] (Sh R 128).size hp.r) fun r _ => f (2048 * qi + p.ro + r) :=
  (hx.window ![p.ro, 0] R 128 hp.r).congr fun i j _ _ => by
    show f (2048 * qi + (p.ro + i)) = _
    rw [add_assoc]

/-- The first pass. -/
theorem Inv1.step (h : Inv1 H qi (jb + 1) S) : Inv1 H qi jb (step1 ev p hp S) where
  ins := ⟨h.ins.q, h.ins.k, h.ins.v, h.ins.o⟩
  ce := h.ce
  dq := h.dq
  dk := h.dk
  dv := h.dv
  c := by
    have hw := (c_mat hp hP (f := fun i => H.C i (256 * (jb + 1))) h.c).add ((l_mat hp hP h.ins).rowsOf ev)
    show Mat (put S.c ![p.ro, 0] (Sh R 128).size (shapeCast (Sh R 128) _ ev.same)) _
    rw [shapeCast_self]
    refine (h.c.put p.ro R hw).congr fun i j hi _ => ?_
    split
    · rename_i hin
      rw [H.C_block _ hP.le, show 256 * (jb + 1) = 256 * jb + 256 by omega, show 2048 * qi + p.ro + (i - p.ro) = 2048 * qi + i by omega]
    · rename_i hout
      have := hP.top (r := i) (by have := hP.rows; omega)
      rw [H.C_zero (by omega), H.C_zero (by omega)]
  cb := fun y h0 h1 h2 => by
    show put (s := Sh3 16 2048 128) S.cb p.oc (Sh3 1 R 128).size (shapeCast (Sh3 1 R 128) (cW p hp S) ev.add) y = _
    rw [hP.oc]
    have hy1 : (y 1).val < 2048 := (y 1).isLt
    have hy2 : (y 2).val < 128 := (y 2).isLt
    by_cases hj : (y 0).val = jb
    · have hr : p.ro ≤ (y 1).val := by have := hP.ro; omega
      have hin : ∀ a : Fin (Sh3 16 2048 128).rank, (![jb, p.ro, 0] : Fin 3 → ℕ) a ≤ (y a).val ∧ (y a).val < (![jb, p.ro, 0] : Fin 3 → ℕ) a + (Sh3 1 R 128).size a :=
        fun a => by
          match a with
          | ⟨0, _⟩ => exact ⟨le_of_eq hj.symm, by show (y 0).val < jb + 1; omega⟩
          | ⟨1, _⟩ => exact ⟨hr, by show (y 1).val < p.ro + R; rw [hP.rows]; exact hy1⟩
          | ⟨2, _⟩ => exact ⟨Nat.zero_le _, by show (y 2).val < 0 + 128; omega⟩
      refine (dif_pos hin).trans ?_
      rw [shapeCast_apply _ ev.add _ (ix2 ⟨(y 1).val - p.ro, by have := hP.rows; omega⟩ ⟨(y 2).val, hy2⟩) (by
        rw [Shape.rowMajor_val_two, Shape.rowMajor_val_three]
        show ((y 1).val - p.ro) * 128 + (y 2).val = (((y 0).val - jb) * R + ((y 1).val - p.ro)) * 128 + ((y 2).val - 0)
        rw [hj, Nat.sub_self, zero_mul, zero_add, Nat.sub_zero])]
      refine (c_mat hp hP (f := fun i => H.C i (256 * (jb + 1))) h.c _).trans ?_
      show ((H.C (2048 * qi + p.ro + ((y 1).val - p.ro)) (256 * (jb + 1)) : ℝ) : EReal) = _
      rw [hj, show 2048 * qi + p.ro + ((y 1).val - p.ro) = 2048 * qi + (y 1).val by omega]
    · refine (dif_neg fun hin => hj ?_).trans (h.cb y (by omega) h1 h2)
      have h3 : jb ≤ (y 0).val ∧ (y 0).val < jb + 1 := hin 0
      omega

/-- The second pass's blocks. -/
theorem a_mat (h : Inv2 H qi jb S) : Mat (aB ev p hp S) fun r l => H.a (2048 * qi + p.ro + r) (256 * jb + l) := by
  have hc : Mat (shapeCast (Sh R 128) (cbW p hp S) ev.drop) fun r _ => H.C (2048 * qi + p.ro + r) (256 * jb + 256) := fun i => by
    have hi0 : (i 0).val < R := (i 0).isLt
    rw [shapeCast_apply _ ev.drop i (ix3 (0 : Fin 1) (i 0) (i 1)) (by
      rw [Shape.rowMajor_val_two, Shape.rowMajor_val_three]
      show (0 * R + (i 0).val) * 128 + (i 1).val = (i 0).val * 128 + (i 1).val
      rw [zero_mul, zero_add])]
    show S.cb ((Rect.unit (s := Sh3 16 2048 128) p.oc (Sh3 1 R 128).size hp.c).emb _) = _
    have e0 : ((Rect.unit (s := Sh3 16 2048 128) p.oc (Sh3 1 R 128).size hp.c).emb (ix3 (0 : Fin 1) (i 0) (i 1)) 0).val = jb := by
      show p.oc 0 + 1 * 0 = jb
      rw [hP.oc]; rfl
    have e1 : ((Rect.unit (s := Sh3 16 2048 128) p.oc (Sh3 1 R 128).size hp.c).emb (ix3 (0 : Fin 1) (i 0) (i 1)) 1).val = p.ro + (i 0).val := by
      show p.oc 1 + 1 * (i 0).val = _
      rw [hP.oc, one_mul]; rfl
    rw [h.cb _ (Nat.zero_le _) (by rw [e0]; exact hP.lt) (by rw [e0, e1, ← hP.ro]; omega), e0, e1]
    congr 2
    omega
  refine (hP.mask _ _ ((((z_mat hp hP h.ins).lbOf.add (hc.wideOf ev)).add ((l_mat hp hP h.ins).triOf ev upper_mat)).exp)).congr fun i j hi hj => ?_
  unfold Head.a
  split
  · rw [H.C_in _ hj hP.le, add_assoc]
  · rfl

theorem e_mat (h : Inv2 H qi jb S) : Mat (eB ev p hp S) fun r l => H.e (2048 * qi + p.ro + r) (256 * jb + l) :=
  ((Mat.dotT (o_mat hp hP h.ins) (v_mat hp hP h.ins)).mul (a_mat ev hp hP h)).congr fun i j _ _ => rfl

theorem dz_mat (h : Inv2 H qi jb S) : Mat (dzB ev p hp S) fun r l => H.dz (2048 * qi + p.ro + r) (256 * jb + l) := by
  have hE := e_mat ev hp hP h
  have hc := c_mat hp hP (f := fun i => H.E i (256 * jb)) h.ce
  refine (hP.mask _ _ ((hE.sub ((hE.add ((hc.wideOf ev).add (hE.triOf ev lower_mat))).mul (z_mat hp hP h.ins).lbOf.exp)).mul Mat.scale)).congr fun i j hi hj => ?_
  unfold Head.dz
  split
  · rw [H.E_in _ hj]
  · rfl

/-- The second pass. -/
theorem Inv2.step (h : Inv2 H qi jb S) : Inv2 H qi (jb + 1) (step2 ev p hp S) where
  ins := ⟨h.ins.q, h.ins.k, h.ins.v, h.ins.o⟩
  cb := h.cb
  ce := by
    have hw := (c_mat hp hP (f := fun i => H.E i (256 * jb)) h.ce).add ((e_mat ev hp hP h).rowsOf ev)
    show Mat (put S.ce ![p.ro, 0] (Sh R 128).size (shapeCast (Sh R 128) _ ev.same)) _
    rw [shapeCast_self]
    refine (h.ce.put p.ro R hw).congr fun i j hi _ => ?_
    rw [show 256 * (jb + 1) = 256 * jb + 256 by omega, H.E_block]
    split
    · rw [show 2048 * qi + p.ro + (i - p.ro) = 2048 * qi + i by omega]
    · have := hP.top (r := i) (by have := hP.rows; omega)
      rw [Finset.sum_eq_zero fun l _ => H.e_zero (by omega), add_zero]
  dq := by
    have hq : Mat (dqW p hp S) fun r x => H.dq (256 * jb) (2048 * qi + p.ro + r) x :=
      (h.dq.window ![p.ro, 0] R 128 hp.r).congr fun i j _ _ => by
        show H.dq _ (2048 * qi + (p.ro + i)) (0 + j) = _
        rw [zero_add, add_assoc]
    have hw := hq.add (Mat.dotP (φ := .bf16) (ψ := .bf16) (dz_mat ev hp hP h) (k_mat hp hP h.ins))
    show Mat (put S.dq ![p.ro, 0] (Sh R 128).size (shapeCast (Sh R 128) _ ev.same)) _
    rw [shapeCast_self]
    refine (h.dq.put p.ro R hw).congr fun i j hi _ => ?_
    rw [show 256 * (jb + 1) = 256 * jb + 256 by omega, H.dq_block]
    split
    · rw [show 2048 * qi + p.ro + (i - p.ro) = 2048 * qi + i by omega]
    · have := hP.top (r := i) (by have := hP.rows; omega)
      rw [Finset.sum_eq_zero fun l _ => by rw [H.dz_zero (by omega), zero_mul], add_zero]
  dk := by
    have hk : Mat (dkW p hp S) fun l x => H.dk (2048 * qi) (256 * jb + l) x :=
      (h.dk.window p.ok 256 128 hp.k).congr fun i j _ _ => by
        rw [hP.ok]
        show (if 256 * jb + i < 256 * jb then _ else H.dk _ (256 * jb + i) (0 + j)) = _
        rw [if_neg (by omega), zero_add]
    have hw := hk.add (Mat.dotL (φ := .bf16) (ψ := .bf16) (dz_mat ev hp hP h) (q_mat hp hP h.ins))
    show Mat (put S.dk p.ok (Sh 256 128).size (shapeCast (Sh 256 128) _ hp.same)) _
    rw [shapeCast_self, hP.ok]
    refine (h.dk.put (256 * jb) 256 hw).congr fun i j hi _ => ?_
    split
    · rw [if_pos (by omega), show 256 * jb + (i - 256 * jb) = i by omega, show 2048 * qi + 2048 = 2048 * qi + p.ro + R by have := hP.rows; omega]
      exact (H.dk_rows i j _ (fun r h1 h2 => by have := hP.top (r := r - 2048 * qi) (by omega); omega) (by omega)).symm
    · split
      · rw [if_pos (by omega)]
      · rw [if_neg (by omega)]
  dv := by
    have hk : Mat (dvW p hp S) fun l x => H.dv (2048 * qi) (256 * jb + l) x :=
      (h.dv.window p.ok 256 128 hp.k).congr fun i j _ _ => by
        rw [hP.ok]
        show (if 256 * jb + i < 256 * jb then _ else H.dv _ (256 * jb + i) (0 + j)) = _
        rw [if_neg (by omega), zero_add]
    have ha : Mat (truncf .bf16 (aB ev p hp S) ev.lt) _ := a_mat ev hp hP h
    have hw := hk.add (Mat.dotL (φ := .bf16) (ψ := .bf16) ha (o_mat hp hP h.ins))
    show Mat (put S.dv p.ok (Sh 256 128).size (shapeCast (Sh 256 128) _ hp.same)) _
    rw [shapeCast_self, hP.ok]
    refine (h.dv.put (256 * jb) 256 hw).congr fun i j hi _ => ?_
    split
    · rw [if_pos (by omega), show 256 * jb + (i - 256 * jb) = i by omega, show 2048 * qi + 2048 = 2048 * qi + p.ro + R by have := hP.rows; omega]
      exact (H.dv_rows i j _ (fun r h1 h2 => by have := hP.top (r := r - 2048 * qi) (by omega); omega) (by omega)).symm
    · split
      · rw [if_pos (by omega)]
      · rw [if_neg (by omega)]

end

end Cert.Attn
-- ==== Proof.Attn.Offs.lean ====
/-
  Where the passes work, in natural numbers: block `8 b + d` of the columns for the diagonal ones of the rows' block `b`,
  blocks `8 b - 1 - t` and `t` for the whole ones.
-/
module

public import proofs.«01_k».proof.Proof.Attn.Flat

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Cert.Kernel2Ideal Cert.Kernel2Ideal.Gen

variable {F : FTy → Type} [FloatOps F] [Facts]

local notation "𝕄" => MT nD τ sig Unit (Elt F) ℕ (UR sig nD τ) ℕ

theorem two (i : grid0.Coords) : (i 1).val = 0 ∨ (i 1).val = 1 := by
  have : (i 1).val < 2 := (i 1).isLt
  omega
theorem eight (n : ℕ) (h : n < 8 * 1) : n = 0 ∨ n = 1 ∨ n = 2 ∨ n = 3 ∨ n = 4 ∨ n = 5 ∨ n = 6 ∨ n = 7 := by omega

theorem dg0_ok (i : grid0.Coords) : (dg0 i).ok = ![256 * (8 * (i 1).val + 0), 0] := by
  show k0_off1 i 0#32 = _
  unfold k0_off1
  rcases two i with h | h <;> rw [h] <;> rfl
theorem dg0_oc (i : grid0.Coords) : (dg0 i).oc = ![8 * (i 1).val + 0, 0, 0] := by
  show k0_off9 i = _
  unfold k0_off9
  rcases two i with h | h <;> rw [h] <;> rfl
theorem dg1_ok (i : grid0.Coords) : (dg1 i).ok = ![256 * (8 * (i 1).val + 1), 0] := by
  show k0_off1 i 1#32 = _
  unfold k0_off1
  rcases two i with h | h <;> rw [h] <;> rfl
theorem dg1_oc (i : grid0.Coords) : (dg1 i).oc = ![8 * (i 1).val + 1, 256, 0] := by
  show k0_off8 i = _
  unfold k0_off8
  rcases two i with h | h <;> rw [h] <;> rfl
theorem dg2_ok (i : grid0.Coords) : (dg2 i).ok = ![256 * (8 * (i 1).val + 2), 0] := by
  show k0_off1 i 2#32 = _
  unfold k0_off1
  rcases two i with h | h <;> rw [h] <;> rfl
theorem dg2_oc (i : grid0.Coords) : (dg2 i).oc = ![8 * (i 1).val + 2, 512, 0] := by
  show k0_off7 i = _
  unfold k0_off7
  rcases two i with h | h <;> rw [h] <;> rfl
theorem dg3_ok (i : grid0.Coords) : (dg3 i).ok = ![256 * (8 * (i 1).val + 3), 0] := by
  show k0_off1 i 3#32 = _
  unfold k0_off1
  rcases two i with h | h <;> rw [h] <;> rfl
theorem dg3_oc (i : grid0.Coords) : (dg3 i).oc = ![8 * (i 1).val + 3, 768, 0] := by
  show k0_off6 i = _
  unfold k0_off6
  rcases two i with h | h <;> rw [h] <;> rfl
theorem dg4_ok (i : grid0.Coords) : (dg4 i).ok = ![256 * (8 * (i 1).val + 4), 0] := by
  show k0_off1 i 4#32 = _
  unfold k0_off1
  rcases two i with h | h <;> rw [h] <;> rfl
theorem dg4_oc (i : grid0.Coords) : (dg4 i).oc = ![8 * (i 1).val + 4, 1024, 0] := by
  show k0_off5 i = _
  unfold k0_off5
  rcases two i with h | h <;> rw [h] <;> rfl
theorem dg5_ok (i : grid0.Coords) : (dg5 i).ok = ![256 * (8 * (i 1).val + 5), 0] := by
  show k0_off1 i 5#32 = _
  unfold k0_off1
  rcases two i with h | h <;> rw [h] <;> rfl
theorem dg5_oc (i : grid0.Coords) : (dg5 i).oc = ![8 * (i 1).val + 5, 1280, 0] := by
  show k0_off4 i = _
  unfold k0_off4
  rcases two i with h | h <;> rw [h] <;> rfl
theorem dg6_ok (i : grid0.Coords) : (dg6 i).ok = ![256 * (8 * (i 1).val + 6), 0] := by
  show k0_off1 i 6#32 = _
  unfold k0_off1
  rcases two i with h | h <;> rw [h] <;> rfl
theorem dg6_oc (i : grid0.Coords) : (dg6 i).oc = ![8 * (i 1).val + 6, 1536, 0] := by
  show k0_off3 i = _
  unfold k0_off3
  rcases two i with h | h <;> rw [h] <;> rfl
theorem dg7_ok (i : grid0.Coords) : (dg7 i).ok = ![256 * (8 * (i 1).val + 7), 0] := by
  show k0_off1 i 7#32 = _
  unfold k0_off1
  rcases two i with h | h <;> rw [h] <;> rfl
theorem dg7_oc (i : grid0.Coords) : (dg7 i).oc = ![8 * (i 1).val + 7, 1792, 0] := by
  show k0_off2 i = _
  unfold k0_off2
  rcases two i with h | h <;> rw [h] <;> rfl
theorem trips1 (i : grid0.Coords) : (k0_t1_loop i).trips = 8 * (i 1).val := by
  unfold k0_t1_loop
  rcases two i with h | h <;> rw [h] <;> rfl
theorem trips2 (i : grid0.Coords) : (k0_t2_loop i).trips = 0 := by
  unfold k0_t2_loop
  rcases two i with h | h <;> rw [h] <;> rfl
theorem trips3 (i : grid0.Coords) : (k0_t3_loop i).trips = 8 * (i 1).val := by
  unfold k0_t3_loop
  rcases two i with h | h <;> rw [h] <;> rfl
theorem trips4 (i : grid0.Coords) : (k0_t4_loop i).trips = 0 := by
  unfold k0_t4_loop
  rcases two i with h | h <;> rw [h] <;> rfl
theorem lp1_ok (i : grid0.Coords) (t : Fin (k0_t1_loop i).trips) : (lp1 i t).ok = ![256 * (8 * (i 1).val - 1 - t.val), 0] := by
  have ht : t.val < 8 * (i 1).val := trips1 i ▸ t.isLt
  show k0_off10 i t = _
  obtain ⟨n, hn⟩ := t
  rcases two i with h | h
  · rw [h] at ht; exact absurd ht (by omega)
  · rw [h] at ht
    unfold k0_off10
    try rw [h]
    dsimp only at ht ⊢
    obtain rfl | rfl | rfl | rfl | rfl | rfl | rfl | rfl := eight n ht <;> rfl
theorem lp1_oc (i : grid0.Coords) (t : Fin (k0_t1_loop i).trips) : (lp1 i t).oc = ![8 * (i 1).val - 1 - t.val, 0, 0] := by
  have ht : t.val < 8 * (i 1).val := trips1 i ▸ t.isLt
  show k0_off11 i t = _
  obtain ⟨n, hn⟩ := t
  rcases two i with h | h
  · rw [h] at ht; exact absurd ht (by omega)
  · rw [h] at ht
    unfold k0_off11
    try rw [h]
    dsimp only at ht ⊢
    obtain rfl | rfl | rfl | rfl | rfl | rfl | rfl | rfl := eight n ht <;> rfl
theorem lp3_ok (i : grid0.Coords) (t : Fin (k0_t3_loop i).trips) : (lp3 i t).ok = ![256 * (t.val), 0] := by
  have ht : t.val < 8 * (i 1).val := trips3 i ▸ t.isLt
  show k0_off14 i t = _
  obtain ⟨n, hn⟩ := t
  rcases two i with h | h
  · rw [h] at ht; exact absurd ht (by omega)
  · rw [h] at ht
    unfold k0_off14
    try rw [h]
    dsimp only at ht ⊢
    obtain rfl | rfl | rfl | rfl | rfl | rfl | rfl | rfl := eight n ht <;> rfl
theorem lp3_oc (i : grid0.Coords) (t : Fin (k0_t3_loop i).trips) : (lp3 i t).oc = ![t.val, 0, 0] := by
  have ht : t.val < 8 * (i 1).val := trips3 i ▸ t.isLt
  show k0_off15 i t = _
  obtain ⟨n, hn⟩ := t
  rcases two i with h | h
  · rw [h] at ht; exact absurd ht (by omega)
  · rw [h] at ht
    unfold k0_off15
    try rw [h]
    dsimp only at ht ⊢
    obtain rfl | rfl | rfl | rfl | rfl | rfl | rfl | rfl := eight n ht <;> rfl

theorem cond1_iff (i : grid0.Coords) : Scalar.cmpi .ne (Scalar.extui (Scalar.cmpi .eq (BitVec.ofNat 32 (i 1).val) 0#32) : BitVec 32) 0#32 = 1#1 ↔ (i 1).val = 0 := by
  rcases two i with h | h <;> rw [h] <;> decide
theorem cond2_iff (i : grid0.Coords) : k0_cond2 i = 1#1 ↔ (i 1).val = 1 := by
  unfold k0_cond2
  rcases two i with h | h <;> rw [h] <;> decide

end Cert.Attn
-- ==== Proof.Attn.Body.lean ====
/-
  The kernel's body on the contents of its buffers: the zeroing, the passes in their order, the write of the results.
-/
module

public import proofs.«01_k».proof.Proof.Attn.Spec

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Cert.Kernel2Ideal Cert.Kernel2Ideal.Gen

variable {F : FTy → Type} [FloatOps F] [Facts]

local notation "𝕄" => MT nD τ sig Unit (Elt F) ℕ (UR sig nD τ) ℕ

/-- A loop's trips on the contents, one after the other. -/
def trips {n : ℕ} (f : Fin n → St F → St F) (S : St F) : ℕ → St F
  | 0 => S
  | t + 1 => if h : t < n then f ⟨t, h⟩ (trips f S t) else trips f S t

theorem trips_succ {n : ℕ} (f : Fin n → St F → St F) (S : St F) (t : Fin n) :
    trips f S (t.val + 1) = f t (trips f S t.val) := dif_pos t.isLt

theorem loop_run (c : Dev nD) (B : Bufs) (L : Scf.Loop 32) (hok : L.OK) (body : Fin L.trips → PUnit → P F PUnit)
    (f : Fin L.trips → St F → St F)
    (h : ∀ t S, (held c B S : sProp 𝕄) ⊢ run c.tc (body t ⟨⟩) fun _ => held c B (f t S)) (S : St F) :
    (held c B S : sProp 𝕄) ⊢ run c.tc (Scf.Loop.for L hok ⟨⟩ body) fun _ => held c B (trips f S L.trips) := by
  refine BIBase.Entails.trans ?_ (Scf.wp_for frame (wpE (defs₀ (F := F)) Variants.none c.tc none) Set.univ L.lb L.ub L.st hok ⟨⟩ body
    (fun t _ => held c B (trips f S t)) (fun t _ => by
      show held c B (trips f S t.val) ⊢ _
      rw [trips_succ]; exact h t _))
  iintro H
  isplitl [H]; · iexact H
  iintro %acc H; iexact H

/-- The passes, on the contents: over the diagonal blocks, over the whole ones, over the diagonal ones. -/
def headSt (i : grid0.Coords) (S : St F) : St F :=
  let S := step1 ev256 (dg7 i) (dg7_in i) S
  let S := step1 ev512 (dg6 i) (dg6_in i) S
  let S := step1 ev768 (dg5 i) (dg5_in i) S
  let S := step1 ev1024 (dg4 i) (dg4_in i) S
  let S := step1 ev1280 (dg3 i) (dg3_in i) S
  let S := step1 ev1536 (dg2 i) (dg2_in i) S
  let S := step1 ev1792 (dg1 i) (dg1_in i) S
  let S := step1 ev2048 (dg0 i) (dg0_in i) S
  S

def midSt (i : grid0.Coords) (S : St F) : St F :=
  let S := trips (fun t => step1 ev2048 (lp1 i t) (lp1_in i t)) S (k0_t1_loop i).trips
  let S := trips (fun t => step1 ev2048 (lp2 i t) (lp2_in i t)) S (k0_t2_loop i).trips
  let S := trips (fun t => step2 ev2048 (lp3 i t) (lp3_in i t)) S (k0_t3_loop i).trips
  let S := trips (fun t => step2 ev2048 (lp4 i t) (lp4_in i t)) S (k0_t4_loop i).trips
  S

def tailSt (i : grid0.Coords) (S : St F) : St F :=
  let S := step2 ev2048 (dg0 i) (dg0_in i) S
  let S := step2 ev1792 (dg1 i) (dg1_in i) S
  let S := step2 ev1536 (dg2 i) (dg2_in i) S
  let S := step2 ev1280 (dg3 i) (dg3_in i) S
  let S := step2 ev1024 (dg4 i) (dg4_in i) S
  let S := step2 ev768 (dg5 i) (dg5_in i) S
  let S := step2 ev512 (dg6 i) (dg6_in i) S
  let S := step2 ev256 (dg7 i) (dg7_in i) S
  S

def passesSt (i : grid0.Coords) (S : St F) : St F := tailSt i (midSt i (headSt i S))

theorem window_whole {A B : ℕ} {e : EltTy} (x : Vec F (Sh A B) e) (inb : ∀ a, (![0, 0] : Fin 2 → ℕ) a + (Sh A B).size a ≤ (Sh A B).size a) :
    window x ![0, 0] (Sh A B).size inb = x := by
  funext y
  refine congrArg x (funext fun a => Fin.ext ?_)
  show (![0, 0] : Fin 2 → ℕ) a + 1 * (y a).val = (y a).val
  match a with
  | ⟨0, _⟩ => show 0 + 1 * _ = _; omega
  | ⟨1, _⟩ => show 0 + 1 * _ = _; omega

theorem put_whole {A B : ℕ} {e : EltTy} (x w : Vec F (Sh A B) e) : put x ![0, 0] (Sh A B).size w = w := by
  have inb : ∀ a, (![0, 0] : Fin 2 → ℕ) a + (Sh A B).size a ≤ (Sh A B).size a := fun a => by
    match a with
    | ⟨0, _⟩ => show 0 + _ ≤ _; omega
    | ⟨1, _⟩ => show 0 + _ ≤ _; omega
  exact (window_whole (F := F) (e := e) (put x ![0, 0] (Sh A B).size w) inb).symm.trans (VecWindow.window_put_same x _ _ inb w)

theorem mid_run (c : Dev nD) (B : Bufs) (i : grid0.Coords) (S : St F) :
    (held c B S : sProp 𝕄) ⊢ run c.tc (mid B i) fun r =>
      iprop(⌜r.2.2 = kW (dg0 i) (dg0_in i) (midSt i S)⌝ ∗ held c B (midSt i S)) := by
  unfold mid midSt
  refine run_seq (loop_run c B _ _ _ _ (fun t S => pass1_run _ _ _ S c B) _) fun _ => ?_
  refine run_seq (loop_run c B _ _ _ _ (fun t S => pass1_run _ _ _ S c B) _) fun _ => ?_
  refine run_seq (loop_run c B _ _ _ _ (fun t S => pass2_run _ _ _ S c B) _) fun _ => ?_
  refine run_seq (loop_run c B _ _ _ _ (fun t S => pass2_run _ _ _ S c B) _) fun _ => ?_
  refine loadK_run (dg0 i) (dg0_in i) _ c B ?_
  iintro H
  iapply (run_pure (c := c.tc))
  isplitr; · ipureintro; rfl
  iexact H

theorem diag2_run (c : Dev nD) (B : Bufs) (i : grid0.Coords) (S : St F) :
    (held c B S : sProp 𝕄) ⊢ run c.tc (diag2 B i (kW (dg0 i) (dg0_in i) S)) fun r =>
      iprop(⌜r = ⟨BitVec.ofNat 32 (i 1).val, (tailSt i S).dq⟩⌝ ∗ held c B (tailSt i S)) := by
  unfold diag2 tailSt
  refine run_seq (pass2K_run _ _ _ _ c B) fun _ => ?_
  refine run_seq (pass2_run _ _ _ _ c B) fun _ => ?_
  refine run_seq (pass2_run _ _ _ _ c B) fun _ => ?_
  refine run_seq (pass2_run _ _ _ _ c B) fun _ => ?_
  refine run_seq (pass2_run _ _ _ _ c B) fun _ => ?_
  refine run_seq (pass2_run _ _ _ _ c B) fun _ => ?_
  refine run_seq (pass2_run _ _ _ _ c B) fun _ => ?_
  refine run_seq (pass2_run _ _ _ _ c B) fun _ => ?_
  unfold held
  iintro ⟨Hq, Hk, Hv, Ho, Hcb, Hc, Hce, Hdq, Hdk, Hdv⟩
  iapply (own_load_bind (c := c.tc) B.dq) $$ Hdq; iintro Hdq
  rw [window_whole]
  iapply (run_pure (c := c.tc))
  isplitr; · ipureintro; rfl
  isplitl [Hq]; · iexact Hq
  isplitl [Hk]; · iexact Hk
  isplitl [Hv]; · iexact Hv
  isplitl [Ho]; · iexact Ho
  isplitl [Hcb]; · iexact Hcb
  isplitl [Hc]; · iexact Hc
  isplitl [Hce]; · iexact Hce
  isplitl [Hdq]; · iexact Hdq
  isplitl [Hdk]; · iexact Hdk
  iexact Hdv

theorem flat_run (c : Dev nD) (B : Bufs) (i : grid0.Coords) (S : St F) :
    (held c B S : sProp 𝕄) ⊢ run c.tc (flat B i) fun r =>
      iprop(⌜r = ⟨BitVec.ofNat 32 (i 1).val, (passesSt i S).dq⟩⌝ ∗ held c B (passesSt i S)) := by
  unfold flat passesSt headSt
  refine run_seq (pass1_run _ _ _ _ c B) fun _ => ?_
  refine run_seq (pass1_run _ _ _ _ c B) fun _ => ?_
  refine run_seq (pass1_run _ _ _ _ c B) fun _ => ?_
  refine run_seq (pass1_run _ _ _ _ c B) fun _ => ?_
  refine run_seq (pass1_run _ _ _ _ c B) fun _ => ?_
  refine run_seq (pass1_run _ _ _ _ c B) fun _ => ?_
  refine run_seq (pass1_run _ _ _ _ c B) fun _ => ?_
  refine run_seq (pass1_run _ _ _ _ c B) fun _ => ?_
  refine run_seq (mid_run c B i _) fun r => ?_
  iintro ⟨%e, H⟩
  rw [e]
  iapply (diag2_run c B i _) $$ H

end Cert.Attn
-- ==== Proof.Attn.Whole.lean ====
/-
  The kernel's whole body on the contents of its buffers.
-/
module

public import proofs.«01_k».proof.Proof.Attn.Body

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Cert.Kernel2Ideal Cert.Kernel2Ideal.Gen

variable {F : FTy → Type} [FloatOps F] [Facts]

local notation "𝕄" => MT nD τ sig Unit (Elt F) ℕ (UR sig nD τ) ℕ

section
variable (i : grid0.Coords) (arg2 : Memref sig .tc .vmem S2048x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S16x2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S4096x128 .f32) (harg13 : arg13.IsWhole) (arg14 : Memref sig .tc .vmem S4096x128 .f32) (harg14 : arg14.IsWhole)

/-- Zeros over a whole buffer. -/
abbrev zeros (A B : ℕ) (h : (Sh A B).ShapeCasts (Sh A B)) : Vec F (Sh A B) .f32 := shapeCast (Sh A B) (all A B 0x00000000#32) h

abbrev z4096 : Vec F (Sh 4096 128) .f32 := zeros 4096 128 shapeCasts_S4096x128_S4096x128
abbrev z2048 : Vec F (Sh 2048 128) .f32 := zeros 2048 128 shapeCasts_S2048x128_S2048x128

/-- The test for the first of a head's two blocks of rows. -/
abbrev cond1 : BitVec 1 := Scalar.cmpi .ne (Scalar.extui (Scalar.cmpi .eq (BitVec.ofNat 32 (i 1).val) 0#32) : BitVec 32) 0#32

/-- The sums over the rows start at zero. -/
def zeroKV (B : Bufs) : P F PUnit := do
  let _ ← ld2 B.dk ![0, 0] 4096 128 inb_S4096x128_S4096x128_0_0 h_S4096x128
  st2 B.dk ![0, 0] 4096 128 inb_S4096x128_S4096x128_0_0 h_S4096x128 z4096
  let _ ← ld2 B.dv ![0, 0] 4096 128 inb_S4096x128_S4096x128_0_0 h_S4096x128
  st2 B.dv ![0, 0] 4096 128 inb_S4096x128_S4096x128_0_0 h_S4096x128 z4096
  pure ⟨⟩

def zeroRows (B : Bufs) : P F PUnit := do
  let _ ← ld2 B.c ![0, 0] 2048 128 inb_S2048x128_S2048x128_0_0 h_S2048x128
  st2 B.c ![0, 0] 2048 128 inb_S2048x128_S2048x128_0_0 h_S2048x128 z2048
  let _ ← ld2 B.ce ![0, 0] 2048 128 inb_S2048x128_S2048x128_0_0 h_S2048x128
  st2 B.ce ![0, 0] 2048 128 inb_S2048x128_S2048x128_0_0 h_S2048x128 z2048
  let _ ← ld2 B.dq ![0, 0] 2048 128 inb_S2048x128_S2048x128_0_0 h_S2048x128
  st2 B.dq ![0, 0] 2048 128 inb_S2048x128_S2048x128_0_0 h_S2048x128 z2048
  pure ⟨⟩

/-- The contents the passes start from. -/
def startSt (S : St F) : St F := { S with
  c := z2048
  ce := z2048
  dq := z2048
  dk := if cond1 i = 1#1 then z4096 else S.dk
  dv := if cond1 i = 1#1 then z4096 else S.dv }

theorem part5_run (c : Dev nD) (S : St F) :
    (held c (bufs arg2 arg3 arg4 arg5 arg9 arg10 arg11 arg12 arg13 arg14) S : sProp 𝕄) ⊢ run c.tc (k0_part5 i arg2 harg2 arg3 harg3 arg4 harg4 arg5 harg5 arg6 harg6 arg7 harg7 arg8 harg8 arg9 harg9 arg10 harg10 arg11 harg11 arg12 harg12 arg13 harg13 arg14 harg14)
      fun r => iprop(⌜r = first5 (F := F) i⌝ ∗ held c (bufs arg2 arg3 arg4 arg5 arg9 arg10 arg11 arg12 arg13 arg14) (startSt i S)) := by
  refine run_eq (P' := if h : cond1 i = 1#1 then zeroKV (F := F) (bufs arg2 arg3 arg4 arg5 arg9 arg10 arg11 arg12 arg13 arg14) >>= fun _ => zeroRows (F := F) (bufs arg2 arg3 arg4 arg5 arg9 arg10 arg11 arg12 arg13 arg14) >>= fun _ => pure (first5 (F := F) i)
    else zeroRows (F := F) (bufs arg2 arg3 arg4 arg5 arg9 arg10 arg11 arg12 arg13 arg14) >>= fun _ => pure (first5 (F := F) i)) (by sl_kernel_rfl) ?_
  have hrest : (held c (bufs arg2 arg3 arg4 arg5 arg9 arg10 arg11 arg12 arg13 arg14) { S with
      dk := if cond1 i = 1#1 then z4096 else S.dk
      dv := if cond1 i = 1#1 then z4096 else S.dv } : sProp 𝕄) ⊢ run c.tc (zeroRows (F := F) (bufs arg2 arg3 arg4 arg5 arg9 arg10 arg11 arg12 arg13 arg14) >>= fun _ => pure (first5 (F := F) i))
        fun r => iprop(⌜r = first5 (F := F) i⌝ ∗ held c (bufs arg2 arg3 arg4 arg5 arg9 arg10 arg11 arg12 arg13 arg14) (startSt i S)) := by
    refine run_seq (Y := fun _ => held c (bufs arg2 arg3 arg4 arg5 arg9 arg10 arg11 arg12 arg13 arg14) (startSt i S)) ?_ fun _ => ?_
    · unfold zeroRows held startSt
      iintro ⟨Hq, Hk, Hv, Ho, Hcb, Hc, Hce, Hdq, Hdk, Hdv⟩
      iapply (own_load_bind (c := c.tc) arg10) $$ Hc; iintro Hc
      iapply (own_store_bind (c := c.tc) arg10) $$ Hc; iintro Hc
      iapply (own_load_bind (c := c.tc) arg11) $$ Hce; iintro Hce
      iapply (own_store_bind (c := c.tc) arg11) $$ Hce; iintro Hce
      iapply (own_load_bind (c := c.tc) arg12) $$ Hdq; iintro Hdq
      iapply (own_store_bind (c := c.tc) arg12) $$ Hdq; iintro Hdq
      rw [put_whole, put_whole, put_whole]
      iapply (run_pure (c := c.tc))
      isplitl [Hq]; · iexact Hq
      isplitl [Hk]; · iexact Hk
      isplitl [Hv]; · iexact Hv
      isplitl [Ho]; · iexact Ho
      isplitl [Hcb]; · iexact Hcb
      isplitl [Hc]; · iexact Hc
      isplitl [Hce]; · iexact Hce
      isplitl [Hdq]; · iexact Hdq
      isplitl [Hdk]; · iexact Hdk
      iexact Hdv
    · iintro H
      iapply (run_pure (c := c.tc))
      isplitr; · ipureintro; rfl
      iexact H
  by_cases h : cond1 i = 1#1
  · rw [dif_pos h]
    rw [if_pos h, if_pos h] at hrest
    refine run_seq ?_ fun _ => hrest
    · unfold zeroKV held
      iintro ⟨Hq, Hk, Hv, Ho, Hcb, Hc, Hce, Hdq, Hdk, Hdv⟩
      iapply (own_load_bind (c := c.tc) arg13) $$ Hdk; iintro Hdk
      iapply (own_store_bind (c := c.tc) arg13) $$ Hdk; iintro Hdk
      iapply (own_load_bind (c := c.tc) arg14) $$ Hdv; iintro Hdv
      iapply (own_store_bind (c := c.tc) arg14) $$ Hdv; iintro Hdv
      rw [put_whole, put_whole]
      iapply (run_pure (c := c.tc))
      isplitl [Hq]; · iexact Hq
      isplitl [Hk]; · iexact Hk
      isplitl [Hv]; · iexact Hv
      isplitl [Ho]; · iexact Ho
      isplitl [Hcb]; · iexact Hcb
      isplitl [Hc]; · iexact Hc
      isplitl [Hce]; · iexact Hce
      isplitl [Hdq]; · iexact Hdq
      isplitl [Hdk]; · iexact Hdk
      iexact Hdv
  · rw [dif_neg h]
    rw [if_neg h, if_neg h] at hrest
    exact hrest

/-- The sums over the rows, written out. -/
def outKV : P F PUnit := do
  let x ← ld2 arg13 ![0, 0] 4096 128 inb_S4096x128_S4096x128_0_0 h_S4096x128
  let _ ← ld2 arg7 ![0, 0] 4096 128 inb_S4096x128_S4096x128_0_0 h_S4096x128
  st2 arg7 ![0, 0] 4096 128 inb_S4096x128_S4096x128_0_0 h_S4096x128 x
  let y ← ld2 arg14 ![0, 0] 4096 128 inb_S4096x128_S4096x128_0_0 h_S4096x128
  let _ ← ld2 arg8 ![0, 0] 4096 128 inb_S4096x128_S4096x128_0_0 h_S4096x128
  Prog.lift (.store arg8 (Rect.unit (s := S4096x128) ![0, 0] S4096x128.size inb_S4096x128_S4096x128_0_0) (truncf .bf16 y bitsLt_bf16_f32) Finset.univ (View.stores_vmem h_S4096x128 (harg8.storeExact_slice rfl _ packedbf16_S4096x128_S4096x128_0_0) (fun _ => rfl)) (.inl rfl))
  pure ⟨⟩

/-- The contents after the whole body. -/
def bodySt (S : St F) : St F := passesSt i (startSt i S)

/-- The results' buffers after the body: the rows' gradient; the sums over the rows where they are complete. -/
theorem cc0_run (c : Dev nD) (S : St F) (d6 : Vec F (Sh 2048 128) .f32) (d7 : Vec F (Sh 4096 128) .f32) (d8 : Vec F (Sh 4096 128) .bf16) :
    iprop(held c (bufs arg2 arg3 arg4 arg5 arg9 arg10 arg11 arg12 arg13 arg14) S ∗ owns c.tc arg6 fullShare d6 ∗ owns c.tc arg7 fullShare d7 ∗ owns c.tc arg8 fullShare d8)
      ⊢ (run c.tc (cc0_attn_bwd i arg2 harg2 arg3 harg3 arg4 harg4 arg5 harg5 arg6 harg6 arg7 harg7 arg8 harg8 arg9 harg9 arg10 harg10 arg11 harg11 arg12 harg12 arg13 harg13 arg14 harg14) fun _ =>
        iprop(held c (bufs arg2 arg3 arg4 arg5 arg9 arg10 arg11 arg12 arg13 arg14) (bodySt i S) ∗ owns c.tc arg6 fullShare (bodySt i S).dq
          ∗ owns c.tc arg7 fullShare (if k0_cond2 i = 1#1 then (bodySt i S).dk else d7)
          ∗ owns c.tc arg8 fullShare (if k0_cond2 i = 1#1 then truncf .bf16 (bodySt i S).dv bitsLt_bf16_f32 else d8)) : sProp 𝕄) := by
  refine run_eq (P' := k0_part34 i arg2 harg2 arg3 harg3 arg4 harg4 arg5 harg5 arg6 harg6 arg7 harg7 arg8 harg8 arg9 harg9 arg10 harg10 arg11 harg11 arg12 harg12 arg13 harg13 arg14 harg14 >>= fun r =>
    ld2 arg6 ![0, 0] 2048 128 inb_S2048x128_S2048x128_0_0 h_S2048x128 >>= fun _ =>
    st2 arg6 ![0, 0] 2048 128 inb_S2048x128_S2048x128_0_0 h_S2048x128 r.2 >>= fun _ =>
    if h : k0_cond2 i = 1#1 then outKV arg7 arg8 harg8 arg13 arg14 else pure ⟨⟩) (by sl_kernel_rfl) ?_
  refine run_seq (Y := fun r => iprop((⌜r = ⟨BitVec.ofNat 32 (i 1).val, (bodySt i S).dq⟩⌝ ∗ held c (bufs arg2 arg3 arg4 arg5 arg9 arg10 arg11 arg12 arg13 arg14) (bodySt i S))
    ∗ owns c.tc arg6 fullShare d6 ∗ owns c.tc arg7 fullShare d7 ∗ owns c.tc arg8 fullShare d8)) ?_ fun r => ?_
  · iintro ⟨H, K⟩
    iapply (wp_frame_r frame (wpE (defs₀ (F := F)) Variants.none c.tc none) Set.univ)
    isplitl [H]
    · iapply (part34_run i arg2 harg2 arg3 harg3 arg4 harg4 arg5 harg5 arg6 harg6 arg7 harg7 arg8 harg8 arg9 harg9 arg10 harg10 arg11 harg11 arg12 harg12 arg13 harg13 arg14 harg14 c (part5_run i arg2 harg2 arg3 harg3 arg4 harg4 arg5 harg5 arg6 harg6 arg7 harg7 arg8 harg8 arg9 harg9 arg10 harg10 arg11 harg11 arg12 harg12 arg13 harg13 arg14 harg14 c S) (flat_run c _ i _)) $$ H
    · iexact K
  · unfold held
    iintro ⟨⟨%e, ⟨Hq, Hk, Hv, Ho, Hcb, Hc, Hce, Hdq, Hdk, Hdv⟩⟩, H6, H7, H8⟩
    subst e
    iapply (own_load_bind (c := c.tc) arg6) $$ H6; iintro H6
    iapply (own_store_bind (c := c.tc) arg6) $$ H6; iintro H6
    rw [put_whole]
    by_cases h : k0_cond2 i = 1#1
    · rw [dif_pos h, if_pos h, if_pos h]
      unfold outKV
      iapply (own_load_bind (c := c.tc) arg13) $$ Hdk; iintro Hdk
      iapply (own_load_bind (c := c.tc) arg7) $$ H7; iintro H7
      iapply (own_store_bind (c := c.tc) arg7) $$ H7; iintro H7
      iapply (own_load_bind (c := c.tc) arg14) $$ Hdv; iintro Hdv
      iapply (own_load_bind (c := c.tc) arg8) $$ H8; iintro H8
      iapply (own_store_bind (c := c.tc) arg8) $$ H8; iintro H8
      rw [put_whole, put_whole, window_whole, window_whole]
      iapply (run_pure (c := c.tc))
      isplitl [Hq Hk Hv Ho Hcb Hc Hce Hdq Hdk Hdv]
      · isplitl [Hq]; · iexact Hq
        isplitl [Hk]; · iexact Hk
        isplitl [Hv]; · iexact Hv
        isplitl [Ho]; · iexact Ho
        isplitl [Hcb]; · iexact Hcb
        isplitl [Hc]; · iexact Hc
        isplitl [Hce]; · iexact Hce
        isplitl [Hdq]; · iexact Hdq
        isplitl [Hdk]; · iexact Hdk
        iexact Hdv
      isplitl [H6]; · iexact H6
      isplitl [H7]; · iexact H7
      iexact H8
    · rw [dif_neg h, if_neg h, if_neg h]
      iapply (run_pure (c := c.tc))
      isplitl [Hq Hk Hv Ho Hcb Hc Hce Hdq Hdk Hdv]
      · isplitl [Hq]; · iexact Hq
        isplitl [Hk]; · iexact Hk
        isplitl [Hv]; · iexact Hv
        isplitl [Ho]; · iexact Ho
        isplitl [Hcb]; · iexact Hcb
        isplitl [Hc]; · iexact Hc
        isplitl [Hce]; · iexact Hce
        isplitl [Hdq]; · iexact Hdq
        isplitl [Hdk]; · iexact Hdk
        iexact Hdv
      isplitl [H6]; · iexact H6
      isplitl [H7]; · iexact H7
      iexact H8

end

end Cert.Attn
-- ==== Proof.Attn.Passes.lean ====
/-
  What a grid point's passes leave, over the reals: its rows' gradient, and the columns' gradients with its rows added.
-/
module

public import proofs.«01_k».proof.Proof.Attn.Inv
public import proofs.«01_k».proof.Proof.Attn.Offs
public import proofs.«01_k».proof.Proof.Attn.Whole

@[expose] public section

set_option maxRecDepth 16384

noncomputable section

namespace Cert.Attn

open Idealize.ShloMosaic Idealize.ShloMosaic.ValueIdx
open scoped BigOperators
open Cert.Kernel2Ideal Cert.Kernel2Ideal.Gen

/-- What each trip keeps, all of them keep. -/
theorem trips_inv {F : FTy → Type} [FloatOps F] {n : ℕ} (f : Fin n → St F → St F) (I : ℕ → St F → Prop) {S : St F} (h0 : I 0 S)
    (hs : ∀ (t : Fin n) S, I t.val S → I (t.val + 1) (f t S)) : I n (trips f S n) := by
  have h : ∀ m, m ≤ n → I m (trips f S m) := fun m => by
    induction m with
    | zero => exact fun _ => h0
    | succ m ih => exact fun hm => (trips_succ f S ⟨m, hm⟩).symm ▸ hs ⟨m, hm⟩ _ (ih (by omega))
  exact h n le_rfl

variable (i : grid0.Coords)

theorem Pos.diag {R : ℕ} (ev : Ev R) {p : At R} (D : ℕ) (hD : D < 8) (hr : p.ro + R = 2048) (ho : p.ro = 256 * D)
    (hok : p.ok = ![256 * (8 * (i 1).val + D), 0]) (hoc : p.oc = ![8 * (i 1).val + D, p.ro, 0])
    (hm : p.mask = some (maskAt ev (BitVec.ofNat 32 (256 * D)))) : Pos p (i 1).val (8 * (i 1).val + D) where
  rows := hr
  ro := by omega
  ok := hok
  oc := hoc
  lt := by omega
  two := (i 1).isLt
  mask := by
    rw [hm, show 2048 * (i 1).val + p.ro = 256 * (8 * (i 1).val + D) by omega]
    exact Masks.diag ev (by omega) _ (by omega) _

theorem Pos.whole {p : At 2048} {jb : ℕ} (hjb : jb < 8 * (i 1).val) (ho : p.ro = 0) (hok : p.ok = ![256 * jb, 0]) (hoc : p.oc = ![jb, 0, 0])
    (hm : p.mask = none) : Pos p (i 1).val jb where
  rows := by omega
  ro := by omega
  ok := hok
  oc := by rw [ho]; exact hoc
  lt := by omega
  two := (i 1).isLt
  mask := by
    rw [hm]
    exact Masks.whole (by omega)

theorem pos0 : Pos (dg0 i) (i 1).val (8 * (i 1).val + 0) := .diag i ev2048 0 (by omega) rfl rfl (dg0_ok i) (dg0_oc i) rfl
theorem pos1 : Pos (dg1 i) (i 1).val (8 * (i 1).val + 1) := .diag i ev1792 1 (by omega) rfl rfl (dg1_ok i) (dg1_oc i) rfl
theorem pos2 : Pos (dg2 i) (i 1).val (8 * (i 1).val + 2) := .diag i ev1536 2 (by omega) rfl rfl (dg2_ok i) (dg2_oc i) rfl
theorem pos3 : Pos (dg3 i) (i 1).val (8 * (i 1).val + 3) := .diag i ev1280 3 (by omega) rfl rfl (dg3_ok i) (dg3_oc i) rfl
theorem pos4 : Pos (dg4 i) (i 1).val (8 * (i 1).val + 4) := .diag i ev1024 4 (by omega) rfl rfl (dg4_ok i) (dg4_oc i) rfl
theorem pos5 : Pos (dg5 i) (i 1).val (8 * (i 1).val + 5) := .diag i ev768 5 (by omega) rfl rfl (dg5_ok i) (dg5_oc i) rfl
theorem pos6 : Pos (dg6 i) (i 1).val (8 * (i 1).val + 6) := .diag i ev512 6 (by omega) rfl rfl (dg6_ok i) (dg6_oc i) rfl
theorem pos7 : Pos (dg7 i) (i 1).val (8 * (i 1).val + 7) := .diag i ev256 7 (by omega) rfl rfl (dg7_ok i) (dg7_oc i) rfl

theorem posA (t : Fin (k0_t1_loop i).trips) : Pos (lp1 i t) (i 1).val (8 * (i 1).val - 1 - t.val) :=
  .whole i (by have := lt_of_lt_of_eq t.isLt (trips1 i); omega) rfl (lp1_ok i t) (lp1_oc i t) rfl
theorem posB (t : Fin (k0_t3_loop i).trips) : Pos (lp3 i t) (i 1).val t.val :=
  .whole i (lt_of_lt_of_eq t.isLt (trips3 i)) rfl (lp3_ok i t) (lp3_oc i t) rfl

variable {H : Head} {S : St Ideal}

theorem head_inv (h : Inv1 H (i 1).val (8 * (i 1).val + 8) S) : Inv1 H (i 1).val (8 * (i 1).val) (headSt i S) := by
  have h7 := Inv1.step ev256 (dg7_in i) (pos7 i) h
  have h6 := Inv1.step ev512 (dg6_in i) (pos6 i) h7
  have h5 := Inv1.step ev768 (dg5_in i) (pos5 i) h6
  have h4 := Inv1.step ev1024 (dg4_in i) (pos4 i) h5
  have h3 := Inv1.step ev1280 (dg3_in i) (pos3 i) h4
  have h2 := Inv1.step ev1536 (dg2_in i) (pos2 i) h3
  have h1 := Inv1.step ev1792 (dg1_in i) (pos1 i) h2
  have h0 := Inv1.step ev2048 (dg0_in i) (pos0 i) h1
  exact h0

theorem mid_inv (h : Inv1 H (i 1).val (8 * (i 1).val) S) : Inv2 H (i 1).val (8 * (i 1).val) (midSt i S) := by
  have h1 : Inv1 H (i 1).val 0 (trips (fun t => step1 ev2048 (lp1 i t) (lp1_in i t)) S (k0_t1_loop i).trips) := by
    have hT := trips_inv (fun t => step1 ev2048 (lp1 i t) (lp1_in i t)) (fun t S => Inv1 H (i 1).val (8 * (i 1).val - t) S) h fun t S hS => by
      have ht := lt_of_lt_of_eq t.isLt (trips1 i)
      rw [show 8 * (i 1).val - (t.val + 1) = 8 * (i 1).val - 1 - t.val by omega]
      refine Inv1.step ev2048 (lp1_in i t) (posA i t) ?_
      rw [show 8 * (i 1).val - 1 - t.val + 1 = 8 * (i 1).val - t.val by omega]
      exact hS
    have e : 8 * (i 1).val - (k0_t1_loop i).trips = 0 := by rw [trips1]; omega
    exact e ▸ hT
  have h2 := trips_inv (fun t => step1 ev2048 (lp2 i t) (lp2_in i t)) (fun _ S => Inv1 H (i 1).val 0 S) h1
    fun t _ _ => absurd (lt_of_lt_of_eq t.isLt (trips2 i)) (by omega)
  have h3 := trips_inv (fun t => step2 ev2048 (lp3 i t) (lp3_in i t)) (fun t S => Inv2 H (i 1).val t S) h2.turn
    fun t S hS => Inv2.step ev2048 (lp3_in i t) (posB i t) hS
  have h4 := trips_inv (fun t => step2 ev2048 (lp4 i t) (lp4_in i t)) (fun _ S => Inv2 H (i 1).val (k0_t3_loop i).trips S) h3
    fun t _ _ => absurd (lt_of_lt_of_eq t.isLt (trips4 i)) (by omega)
  have e : (k0_t3_loop i).trips = 8 * (i 1).val := trips3 i
  exact e ▸ h4

theorem tail_inv (h : Inv2 H (i 1).val (8 * (i 1).val) S) : Inv2 H (i 1).val (8 * (i 1).val + 8) (tailSt i S) := by
  have h0 := Inv2.step ev2048 (dg0_in i) (pos0 i) h
  have h1 := Inv2.step ev1792 (dg1_in i) (pos1 i) h0
  have h2 := Inv2.step ev1536 (dg2_in i) (pos2 i) h1
  have h3 := Inv2.step ev1280 (dg3_in i) (pos3 i) h2
  have h4 := Inv2.step ev1024 (dg4_in i) (pos4 i) h3
  have h5 := Inv2.step ev768 (dg5_in i) (pos5 i) h4
  have h6 := Inv2.step ev512 (dg6_in i) (pos6 i) h5
  have h7 := Inv2.step ev256 (dg7_in i) (pos7 i) h6
  exact h7

theorem zeros_mat {A B : ℕ} (h : (Sh A B).ShapeCasts (Sh A B)) : Mat (zeros (F := Ideal) A B h) fun _ _ => 0 := by
  unfold zeros
  rw [shapeCast_self]
  exact Mat.zero

/-- A point's results. -/
theorem body_mat (hI : InsOk H (i 1).val S) (hd : (i 1).val = 0 ∨ Mat S.dk (fun j x => H.dk (2048 * (i 1).val) j x) ∧ Mat S.dv fun j x => H.dv (2048 * (i 1).val) j x) :
    Mat (bodySt i S).dq (fun r x => H.dq 4096 (2048 * (i 1).val + r) x) ∧ Mat (bodySt i S).dk (fun j x => H.dk (2048 * (i 1).val + 2048) j x)
      ∧ Mat (bodySt i S).dv fun j x => H.dv (2048 * (i 1).val + 2048) j x := by
  have hz : Mat (z4096 (F := Ideal)) fun _ _ => 0 := zeros_mat _
  have hz' : Mat (z2048 (F := Ideal)) fun _ _ => 0 := zeros_mat _
  have h0 : Inv1 H (i 1).val (8 * (i 1).val + 8) (startSt i S) := by
    refine ⟨⟨hI.q, hI.k, hI.v, hI.o⟩, hz'.congr fun r _ hr _ => (H.C_zero (by omega)).symm, fun y h1 h2 _ => absurd h1 (by omega), hz', hz', ?_, ?_⟩
    · show Mat (A := 4096) (B := 128) (if cond1 i = 1#1 then (z4096 (F := Ideal)) else S.dk : Vec Ideal (Sh 4096 128) .f32) _
      by_cases hc : cond1 i = 1#1
      · rw [if_pos hc, (cond1_iff i).mp hc]
        exact hz.congr fun _ _ _ _ => by unfold Head.dk; simp
      · rw [if_neg hc]
        exact (hd.resolve_left fun h => hc ((cond1_iff i).mpr h)).1
    · show Mat (A := 4096) (B := 128) (if cond1 i = 1#1 then (z4096 (F := Ideal)) else S.dv : Vec Ideal (Sh 4096 128) .f32) _
      by_cases hc : cond1 i = 1#1
      · rw [if_pos hc, (cond1_iff i).mp hc]
        exact hz.congr fun _ _ _ _ => by unfold Head.dv; simp
      · rw [if_neg hc]
        exact (hd.resolve_left fun h => hc ((cond1_iff i).mpr h)).2
  have h1 := tail_inv i (mid_inv i (head_inv i h0))
  have hi : (i 1).val < 2 := (i 1).isLt
  refine ⟨h1.dq.congr fun r x hr _ => ?_, h1.dk.congr fun j x _ _ => ?_, h1.dv.congr fun j x _ _ => ?_⟩
  · unfold Head.dq
    refine Finset.sum_subset (Finset.range_mono (by omega)) fun j _ hj => ?_
    rw [H.dz_zero (by have := Finset.mem_range.not.mp hj; omega), zero_mul]
  · split
    · rfl
    · rw [H.dk_rows (I := 2048 * (i 1).val) (R := 2048) j x (2048 * (i 1).val) (fun i' h1 h2 => by omega) le_rfl]
      rw [Finset.sum_eq_zero fun r hr => by rw [H.dz_zero (by have := Finset.mem_range.mp hr; omega), zero_mul], add_zero]
  · split
    · rfl
    · rw [H.dv_rows (I := 2048 * (i 1).val) (R := 2048) j x (2048 * (i 1).val) (fun i' h1 h2 => by omega) le_rfl]
      rw [Finset.sum_eq_zero fun r hr => by rw [H.a_zero (by have := Finset.mem_range.mp hr; omega), zero_mul], add_zero]

end Cert.Attn
-- ==== Proof.Attn.Agree.lean ====
/-
  The body reads of the columns' sums only what it has itself written: its results don't depend on what the buffer held before.
-/
module

public import proofs.«01_k».proof.Proof.Attn.Whole
public import proofs.«01_k».proof.Proof.Attn.Offs

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Cert.Kernel2Ideal Cert.Kernel2Ideal.Gen

variable {F : FTy → Type} [FloatOps F] [Facts]

local notation "𝕄" => MT nD τ sig Unit (Elt F) ℕ (UR sig nD τ) ℕ

/-- The entries of the columns' sums a pass over a block reads or writes. -/
def inW (R : ℕ) (oc : Fin 3 → ℕ) (y : (Sh3 16 2048 128).Idx) : Prop := ∀ a, oc a ≤ (y a).val ∧ (y a).val < oc a + (Sh3 1 R 128).size a

/-- The contents are the same but for the columns' sums, and these are the same at `A`. -/
def Agr (A : (Sh3 16 2048 128).Idx → Prop) (S S' : St F) : Prop :=
  ∃ x, S' = { S with cb := x } ∧ ∀ y, A y → S.cb y = x y

theorem Agr.mono {A B : (Sh3 16 2048 128).Idx → Prop} {S S' : St F} (h : Agr A S S') (hB : ∀ y, B y → A y) : Agr B S S' := by
  obtain ⟨x, h1, h2⟩ := h
  exact ⟨x, h1, fun y hy => h2 y (hB y hy)⟩

section
variable {R : ℕ} (ev : Ev R) (p : At R) (hp : p.In) {A : (Sh3 16 2048 128).Idx → Prop} {S S' : St F}

theorem Agr.step1 (h : Agr A S S') : Agr (fun y => A y ∨ inW R p.oc y) (step1 ev p hp S) (step1 ev p hp S') := by
  obtain ⟨x, rfl, h2⟩ := h
  refine ⟨_, rfl, fun y hy => ?_⟩
  show put S.cb p.oc (Sh3 1 R 128).size _ y = put x p.oc (Sh3 1 R 128).size _ y
  unfold VecWindow.put
  by_cases hw : ∀ a : Fin (Sh3 16 2048 128).rank, p.oc a ≤ (y a).val ∧ (y a).val < p.oc a + (Sh3 1 R 128).size a
  · rw [dif_pos hw, dif_pos hw]
  · rw [dif_neg hw, dif_neg hw]
    exact h2 y (hy.resolve_right hw)

theorem Agr.step2 (h : Agr A S S') (hA : ∀ y, inW R p.oc y → A y) : Agr A (step2 ev p hp S) (step2 ev p hp S') := by
  obtain ⟨x, rfl, h2⟩ := h
  have hcb : window x p.oc (Sh3 1 R 128).size hp.c = window S.cb p.oc (Sh3 1 R 128).size hp.c := by
    funext y
    refine (h2 _ (hA _ fun a => ?_)).symm
    have := (y a).isLt
    show p.oc a ≤ p.oc a + 1 * (y a).val ∧ p.oc a + 1 * (y a).val < p.oc a + (Sh3 1 R 128).size a
    have h : (y a).val < (Sh3 1 R 128).size a := this
    omega
  refine ⟨x, ?_, h2⟩
  unfold Attn.step2 dzB eB aB cbW
  dsimp only
  rw [hcb]

end

theorem Agr.trips1 {n R : ℕ} (f : Fin n → St F → St F) (oc : Fin n → Fin 3 → ℕ) {A : (Sh3 16 2048 128).Idx → Prop} {S S' : St F} (h : Agr A S S')
    (hf : ∀ t (B : (Sh3 16 2048 128).Idx → Prop) (T T' : St F), Agr B T T' → Agr (fun y => B y ∨ inW R (oc t) y) (f t T) (f t T')) (k : ℕ) (hk : k ≤ n) :
    Agr (fun y => A y ∨ ∃ t : Fin n, t.val < k ∧ inW R (oc t) y) (trips f S k) (trips f S' k) := by
  induction k with
  | zero => exact h.mono fun y hy => hy.resolve_right fun ⟨t, ht, _⟩ => absurd ht (by omega)
  | succ k ih =>
    rw [trips_succ f S ⟨k, hk⟩, trips_succ f S' ⟨k, hk⟩]
    refine (hf ⟨k, hk⟩ _ _ _ (ih (by omega))).mono ?_
    rintro y (hy | ⟨t, ht, hy⟩)
    · exact .inl (.inl hy)
    · by_cases e : t.val < k
      · exact .inl (.inr ⟨t, e, hy⟩)
      · have : t = ⟨k, hk⟩ := Fin.ext (show t.val = k by omega)
        exact .inr (this ▸ hy)

theorem Agr.trips2 {n : ℕ} (f : Fin n → St F → St F) {A : (Sh3 16 2048 128).Idx → Prop} {S S' : St F} (h : Agr A S S')
    (hf : ∀ t (T T' : St F), Agr A T T' → Agr A (f t T) (f t T')) (k : ℕ) (hk : k ≤ n) :
    Agr A (trips f S k) (trips f S' k) := by
  induction k with
  | zero => exact h
  | succ k ih =>
    rw [trips_succ f S ⟨k, hk⟩, trips_succ f S' ⟨k, hk⟩]
    exact hf _ _ _ (ih (by omega))

variable (i : grid0.Coords) {S S' : St F}

/-- The entries the first passes write. -/
def diagW (y : (Sh3 16 2048 128).Idx) : Prop :=
  inW 2048 (dg0 i).oc y ∨ inW 1792 (dg1 i).oc y ∨ inW 1536 (dg2 i).oc y ∨ inW 1280 (dg3 i).oc y ∨ inW 1024 (dg4 i).oc y ∨ inW 768 (dg5 i).oc y ∨ inW 512 (dg6 i).oc y ∨ inW 256 (dg7 i).oc y
def loopW (y : (Sh3 16 2048 128).Idx) : Prop := ∃ t : Fin (k0_t1_loop i).trips, inW 2048 (lp1 i t).oc y

theorem head_agr {A : (Sh3 16 2048 128).Idx → Prop} (h : Agr A S S') : Agr (diagW i) (headSt i S) (headSt i S') := by
  unfold headSt
  refine ((((((((h.step1 ev256 (dg7 i) (dg7_in i)).step1 ev512 (dg6 i) (dg6_in i)).step1 ev768 (dg5 i) (dg5_in i)).step1 ev1024 (dg4 i) (dg4_in i)).step1
    ev1280 (dg3 i) (dg3_in i)).step1 ev1536 (dg2 i) (dg2_in i)).step1 ev1792 (dg1 i) (dg1_in i)).step1 ev2048 (dg0 i) (dg0_in i)).mono ?_
  intro y hy
  unfold diagW at hy
  tauto

theorem mid_agr (h : Agr (diagW i) S S') : Agr (diagW i) (midSt i S) (midSt i S') := by
  unfold midSt
  have h1 := h.trips1 (R := 2048) (fun t => step1 ev2048 (lp1 i t) (lp1_in i t)) (fun t => (lp1 i t).oc) (fun t B T T' hT => hT.step1 ev2048 (lp1 i t) (lp1_in i t)) _ le_rfl
  have h2 := (h1.mono (B := fun y => diagW i y ∨ loopW i y) (by
    rintro y (hy | ⟨t, hy⟩)
    · exact .inl hy
    · exact .inr ⟨t, t.isLt, hy⟩)).trips1 (R := 2048) (fun t => step1 ev2048 (lp2 i t) (lp2_in i t)) (fun t => (lp2 i t).oc) (fun t B T T' hT => hT.step1 ev2048 (lp2 i t) (lp2_in i t)) _ le_rfl
  have h3 := (h2.mono (B := fun y => diagW i y ∨ loopW i y) fun y hy => .inl hy).trips2 (fun t => step2 ev2048 (lp3 i t) (lp3_in i t)) (fun t T T' hT => hT.step2 ev2048 (lp3 i t) (lp3_in i t) fun y hy => by
    refine .inr ?_
    have ht : t.val < 8 * (i 1).val := trips3 i ▸ t.isLt
    refine ⟨⟨8 * (i 1).val - 1 - t.val, lt_of_lt_of_eq (by omega) (trips1 i).symm⟩, ?_⟩
    rw [lp1_oc]
    rw [lp3_oc] at hy
    have : 8 * (i 1).val - 1 - (8 * (i 1).val - 1 - t.val) = t.val := by omega
    dsimp only
    rw [this]
    exact hy) _ le_rfl
  have h4 := h3.trips2 (fun t => step2 ev2048 (lp4 i t) (lp4_in i t)) (fun t T T' hT => absurd (lt_of_lt_of_eq t.isLt (trips4 i)) (Nat.not_lt_zero _)) _ le_rfl
  exact h4.mono fun y hy => .inl hy

theorem tail_agr (h : Agr (diagW i) S S') : Agr (diagW i) (tailSt i S) (tailSt i S') := by
  unfold tailSt
  refine (((((((h.step2 ev2048 (dg0 i) (dg0_in i) ?_).step2 ev1792 (dg1 i) (dg1_in i) ?_).step2 ev1536 (dg2 i) (dg2_in i) ?_).step2 ev1280 (dg3 i) (dg3_in i) ?_).step2
    ev1024 (dg4 i) (dg4_in i) ?_).step2 ev768 (dg5 i) (dg5_in i) ?_).step2 ev512 (dg6 i) (dg6_in i) ?_).step2 ev256 (dg7 i) (dg7_in i) ?_ <;>
  · intro y hy
    unfold diagW
    tauto

/-- The body from contents that differ in what it doesn't read. -/
theorem body_agr (hq : S.q = S'.q) (hk : S.k = S'.k) (hv : S.v = S'.v) (ho : S.o = S'.o)
    (hd : cond1 i = 1#1 ∨ S.dk = S'.dk ∧ S.dv = S'.dv) : ∃ x, bodySt i S' = { bodySt i S with cb := x } := by
  have h0 : Agr (fun _ => False) (startSt i S) (startSt i S') := by
    refine ⟨S'.cb, ?_, fun y hy => hy.elim⟩
    unfold startSt
    rcases hd with hd | ⟨h1, h2⟩
    · simp only [if_pos hd, hq, hk, hv, ho]
    · simp only [h1, h2, hq, hk, hv, ho]
  obtain ⟨x, h, -⟩ := tail_agr i (mid_agr i (head_agr i h0))
  exact ⟨x, h⟩

/-- The body leaves its blocks as they are. -/
def Ins (S S' : St F) : Prop := S'.q = S.q ∧ S'.k = S.k ∧ S'.v = S.v ∧ S'.o = S.o

theorem ins_trips {n : ℕ} (f : Fin n → St F → St F) (hf : ∀ t S, Ins S (f t S)) (S : St F) (k : ℕ) : Ins S (trips f S k) := by
  induction k with
  | zero => exact ⟨rfl, rfl, rfl, rfl⟩
  | succ k ih =>
    unfold trips
    split
    · rename_i h
      obtain ⟨a, b, c, d⟩ := hf ⟨k, h⟩ (trips f S k)
      exact ⟨a.trans ih.1, b.trans ih.2.1, c.trans ih.2.2.1, d.trans ih.2.2.2⟩
    · exact ih

theorem Ins.trans {S T U : St F} (h : Ins S T) (h' : Ins T U) : Ins S U :=
  ⟨h'.1.trans h.1, h'.2.1.trans h.2.1, h'.2.2.1.trans h.2.2.1, h'.2.2.2.trans h.2.2.2⟩

theorem ins_step1 {R : ℕ} (ev : Ev R) (p : At R) (hp : p.In) (S : St F) : Ins S (step1 ev p hp S) := ⟨rfl, rfl, rfl, rfl⟩
theorem ins_step2 {R : ℕ} (ev : Ev R) (p : At R) (hp : p.In) (S : St F) : Ins S (step2 ev p hp S) := ⟨rfl, rfl, rfl, rfl⟩

theorem ins_head (S : St F) : Ins S (headSt i S) := by
  unfold headSt
  exact (((((((ins_step1 _ _ _ _).trans (ins_step1 _ _ _ _)).trans (ins_step1 _ _ _ _)).trans (ins_step1 _ _ _ _)).trans (ins_step1 _ _ _ _)).trans
    (ins_step1 _ _ _ _)).trans (ins_step1 _ _ _ _)).trans (ins_step1 _ _ _ _)

theorem ins_tail (S : St F) : Ins S (tailSt i S) := by
  unfold tailSt
  exact (((((((ins_step2 _ _ _ _).trans (ins_step2 _ _ _ _)).trans (ins_step2 _ _ _ _)).trans (ins_step2 _ _ _ _)).trans (ins_step2 _ _ _ _)).trans
    (ins_step2 _ _ _ _)).trans (ins_step2 _ _ _ _)).trans (ins_step2 _ _ _ _)

theorem ins_mid (S : St F) : Ins S (midSt i S) := by
  unfold midSt
  exact (((ins_trips _ (fun _ _ => ins_step1 _ _ _ _) _ _).trans (ins_trips _ (fun _ _ => ins_step1 _ _ _ _) _ _)).trans
    (ins_trips _ (fun _ _ => ins_step2 _ _ _ _) _ _)).trans (ins_trips _ (fun _ _ => ins_step2 _ _ _ _) _ _)

theorem ins_body (S : St F) : Ins S (bodySt i S) := by
  unfold bodySt passesSt
  exact Ins.trans (T := midSt i (headSt i (startSt i S))) (Ins.trans (Ins.trans (T := startSt i S) ⟨rfl, rfl, rfl, rfl⟩ (ins_head i _)) (ins_mid i _)) (ins_tail i _)

end Cert.Attn
-- ==== Proof.Attn.Frame.lean ====
/-
  The attention's backward call: what its buffers hold point by point, its run, and that its arguments stay as they were.
-/
module

public import proofs.«01_k».proof.Proof.Attn.Agree
public import proofs.«01_k».proof.Proof.Gen.Kernel2Ideal.Frame
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord1 : ∀ t : Fin grid0.N, ((grid0.coords t) 1).val = t.val % 2 := by decide +kernel

/-- The contents a point's body is entered with: its blocks, the sums over the rows so far, zeros elsewhere. -/
def enter (c : Dev nD) (t : Fin cfg0.N) (dk dv : Vec F (Sh 4096 128) .f32) : St F where
  q := iblk m c 0 t
  k := iblk m c 1 t
  v := iblk m c 2 t
  o := iblk m c 3 t
  cb := broadcast (Sh3 16 2048 128) (Scalar.ofBits .f32 0x00000000#32)
  c := z2048
  ce := z2048
  dq := z2048
  dk := dk
  dv := dv

/-- What the buffers hold after the body at position `n`. -/
def stAt (c : Dev nD) : (n : ℕ) → n < cfg0.N → St F
  | 0, hn => bodySt (grid0.coords ⟨0, hn⟩) (enter m c ⟨0, hn⟩ z4096 z4096)
  | n + 1, hn => bodySt (grid0.coords ⟨n + 1, hn⟩)
      (enter m c ⟨n + 1, hn⟩ (stAt c n (Nat.lt_of_succ_lt hn)).dk (stAt c n (Nat.lt_of_succ_lt hn)).dv)

/-- A whole buffer of the kernel's own. -/
abbrev sc0 : Memref sig .tc .vmem S16x2048x128 .f32 := Memref.whole cc0_scratch0
abbrev sc1 : Memref sig .tc .vmem S2048x128 .f32 := Memref.whole cc0_scratch1
abbrev sc2 : Memref sig .tc .vmem S2048x128 .f32 := Memref.whole cc0_scratch2
abbrev sc3 : Memref sig .tc .vmem S2048x128 .f32 := Memref.whole cc0_scratch3
abbrev sc4 : Memref sig .tc .vmem S4096x128 .f32 := Memref.whole cc0_scratch4
abbrev sc5 : Memref sig .tc .vmem S4096x128 .f32 := Memref.whole cc0_scratch5

/-- The buffers of the kernel's own, the last two at given contents. -/
def keeps (c : Dev nD) (dk dv : Vec F (Sh 4096 128) .f32) : sProp 𝕄 :=
  iprop((∃ d, owns c.tc sc0 fullShare d) ∗ (∃ d, owns c.tc sc1 fullShare d) ∗ (∃ d, owns c.tc sc2 fullShare d) ∗ (∃ d, owns c.tc sc3 fullShare d)
    ∗ owns c.tc sc4 fullShare dk ∗ owns c.tc sc5 fullShare dv)

theorem PhiA_eq (c : Dev nD) : (Pipeline.ΦA spec0 c : sProp 𝕄)
    = iprop(iprop((∃ d, owns c.tc sc0 fullShare d) ∗ (∃ d, owns c.tc sc1 fullShare d) ∗ (∃ d, owns c.tc sc2 fullShare d) ∗ (∃ d, owns c.tc sc3 fullShare d)
      ∗ (∃ d, owns c.tc sc4 fullShare d) ∗ (∃ d, owns c.tc sc5 fullShare d)) ∗ (∃ r, prngReg c r)) := by
  unfold Pipeline.ΦA; rw [scopedRest0_eq]; simp only [sc0, sc1, sc2, sc3, sc4, sc5, owns_whole]; try rfl

/-- The invariant before position `n`. -/
def PhiS (c : Dev nD) : (n : ℕ) → n ≤ cfg0.N → sProp 𝕄
  | 0, _ => Pipeline.ΦA spec0 c
  | n + 1, hn => iprop(keeps c (stAt m c n hn).dk (stAt m c n hn).dv ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).dq
    | ⟨5, _⟩ => (stAt m c t.val t.isLt).dk
    | ⟨6, _⟩ => truncf .bf16 (stAt m c t.val t.isLt).dv bitsLt_bf16_f32
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (stAt m c t.val t.isLt).dq := by dsimp only [dats]
theorem after_5 (c : Dev nD) (t : Fin cfg0.N) : (dats m 0 c).after 5 t = (stAt m c t.val t.isLt).dk := by dsimp only [dats]
theorem after_6 (c : Dev nD) (t : Fin cfg0.N) : (dats m 0 c).after 6 t = truncf .bf16 (stAt m c t.val t.isLt).dv bitsLt_bf16_f32 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

/-- A result that only a head's last point writes: there it is the point's; elsewhere it is handed back. -/
theorem leaves_last (c : Dev nD) (t : Fin cfg0.N) (w : Fin cfg0.W) (hi : cfg0.idle w (cfg0.grid.coords t) = !(k0_cond2 (grid0.coords t) == 1#1))
    (hf : (cfg0.win w).flush t = true ↔ t.val % 2 = 1) (d) :
    (if k0_cond2 (grid0.coords t) = 1#1 then owns c.tc ((cfg0.win w).stage (cfg0.slots t w)) fullShare ((dats m 0 c).after w t)
      else owns c.tc ((cfg0.win w).stage (cfg0.slots t w)) fullShare ((dats m 0 c).before w t d) : sProp 𝕄) ⊢ (dats m 0 c).leavesExact w t := by
  unfold Pipeline.Dat.leavesExact
  by_cases h : k0_cond2 (grid0.coords t) = 1#1
  · have hi' : cfg0.idle w (cfg0.grid.coords t) = false := by rw [hi, h]; rfl
    rw [if_pos h, hi']
  · have hi' : cfg0.idle w (cfg0.grid.coords t) = true := by
      rw [hi, beq_eq_false_iff_ne.mpr h]; rfl
    have hf' : (cfg0.win w).flush t = false := by
      rw [Bool.eq_false_iff]
      intro e
      exact h ((cond2_iff _).mpr ((coord1 t).trans (hf.mp e)))
    rw [if_neg h, hi', hf']
    iintro H
    iexists d
    iexact H

/-- What the run needs of a point: the body from any contents of the buffers of the kernel's own, but for the
    sums over the rows at a head's second point. -/
theorem point_run (c : Dev nD) (t : Fin cfg0.N) (dk dv : Vec F (Sh 4096 128) .f32)
    (hst : ∀ x0 x1 x2 x3, ∃ x, bodySt (grid0.coords t) ⟨iblk m c 0 t, iblk m c 1 t, iblk m c 2 t, iblk m c 3 t, x0, x1, x2, x3, dk, dv⟩
      = { stAt m c t.val t.isLt with cb := x }) :
    iprop((keeps c dk dv ∗ (∃ r, prngReg c r)) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
      ⊢ wp frame (wpE (defs₀ (F := F)) Variants.none c none) Set.univ (bodyAt0 t) (fun _ => bodyPost m c t) := by
  unfold bodyPost keeps
  simp only [before_0, before_1, before_2, before_3]
  rw [show (dats m 0 c).owesAt () t.succ = (dats m 0 c).owesAt () t.castSucc from rfl, after_0, after_1, after_2, after_3, after_4,
    show (dats m 0 c).Φ t.succ = iprop(keeps c (stAt m c t.val t.isLt).dk (stAt m c t.val t.isLt).dv ∗ (∃ r, prngReg c r)) from rfl]
  unfold keeps
  iintro ⟨⟨⟨⟨%x0, S0⟩, ⟨%x1, S1⟩, ⟨%x2, S2⟩, ⟨%x3, S3⟩, S4, S5⟩, Hg⟩, Ho, ⟨%d0, H0⟩, ⟨%d1, H1⟩, ⟨%d2, H2⟩, ⟨%d3, H3⟩, ⟨%d4, H4⟩, ⟨%d5, H5⟩, ⟨%d6, H6⟩⟩
  obtain ⟨x, hx⟩ := hst x0 x1 x2 x3
  have hrun := cc0_run (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    sc0 (Memref.isWhole_whole _) sc1 (Memref.isWhole_whole _) sc2 (Memref.isWhole_whole _) sc3 (Memref.isWhole_whole _) sc4 (Memref.isWhole_whole _) sc5 (Memref.isWhole_whole _)
    c ⟨iblk m c 0 t, iblk m c 1 t, iblk m c 2 t, iblk m c 3 t, x0, x1, x2, x3, dk, dv⟩ ((dats m 0 c).before 4 t d4) ((dats m 0 c).before 5 t d5) ((dats m 0 c).before 6 t d6)
  obtain ⟨e0, e1, e2, e3⟩ := ins_body (grid0.coords t) ⟨iblk m c 0 t, iblk m c 1 t, iblk m c 2 t, iblk m c 3 t, x0, x1, x2, x3, dk, dv⟩
  rw [hx] at hrun e0 e1 e2 e3
  dsimp only at e0 e1 e2 e3
  unfold held at hrun
  dsimp only at hrun
  rw [e0, e1, e2, e3] at hrun
  iapply ((sep_mono hrun (.rfl (P := iprop((∃ r, prngReg c r) ∗ (dats m 0 c).owesAt () t.castSucc)))).trans
    ((wp_frame_r frame (wpE (defs₀ (F := F)) Variants.none c.tc none) Set.univ).trans (wp_mono frame (wpE (defs₀ (F := F)) Variants.none c.tc none) Set.univ (fun _ => ?_))))
  · iintro ⟨⟨⟨H0, H1, H2, H3, S0, S1, S2, S3, S4, S5⟩, H4, H5, H6⟩, Hg, Ho⟩
    isplitl [S0 S1 S2 S3 S4 S5 Hg]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexact S4
        iexact S5
      · iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves_last m c t 5 rfl (flush0_5 t) d5)
      rw [after_5]
      by_cases h : k0_cond2 (grid0.coords t) = 1#1
      · rw [if_pos h, if_pos h]; iexact H5
      · rw [if_neg h, if_neg h]; iexact H5
    · iapply (leaves_last m c t 6 rfl (flush0_6 t) d6)
      rw [after_6]
      by_cases h : k0_cond2 (grid0.coords t) = 1#1
      · rw [if_pos h, if_pos h]; iexact H6
      · rw [if_neg h, if_neg h]; iexact H6
  · isplitl [S0 S1 S2 S3 S4 S5 H0 H1 H2 H3 H4 H5 H6]
    · isplitl [S0 S1 S2 S3 S4 S5 H0 H1 H2 H3]
      · isplitl [H0]; · iexact H0
        isplitl [H1]; · iexact H1
        isplitl [H2]; · iexact H2
        isplitl [H3]; · iexact H3
        isplitl [S0]; · iexact S0
        isplitl [S1]; · iexact S1
        isplitl [S2]; · iexact S2
        isplitl [S3]; · iexact S3
        isplitl [S4]; · iexact S4
        iexact S5
      isplitl [H4]; · iexact H4
      isplitl [H5]; · iexact H5
      iexact H6
    isplitl [Hg]; · iexact Hg
    iexact Ho

theorem sound_body (c : Dev nD) (t : Fin cfg0.N) :
    bodyPre m c t ⊢ wp frame (wpE (defs₀ (F := F)) Variants.none c none) Set.univ (bodyAt0 t) (fun _ => bodyPost m c t) := by
  unfold bodyPre
  obtain ⟨n, hn⟩ := t
  rw [PhiS_castSucc m c ⟨n, hn⟩]
  cases n with
  | zero =>
    have h1 : cond1 (grid0.coords ⟨0, hn⟩) = 1#1 := (cond1_iff _).mpr (coord1 _)
    show iprop(Pipeline.ΦA spec0 c ∗ _) ⊢ _
    rw [PhiA_eq]
    iintro ⟨⟨⟨S0, S1, S2, S3, ⟨%x4, S4⟩, ⟨%x5, S5⟩⟩, Hg⟩, H⟩
    iapply (point_run m c ⟨0, hn⟩ x4 x5 fun x0 x1 x2 x3 =>
      body_agr (grid0.coords ⟨0, hn⟩) (S := enter m c ⟨0, hn⟩ z4096 z4096) rfl rfl rfl rfl (.inl h1))
    isplitl [S0 S1 S2 S3 S4 S5 Hg]
    · isplitl [S0 S1 S2 S3 S4 S5]
      · unfold keeps
        isplitl [S0]; · iexact S0
        isplitl [S1]; · iexact S1
        isplitl [S2]; · iexact S2
        isplitl [S3]; · iexact S3
        isplitl [S4]; · iexact S4
        iexact S5
      · iexact Hg
    iexact H
  | succ n =>
    exact point_run m c ⟨n + 1, hn⟩ _ _ fun x0 x1 x2 x3 =>
      body_agr (grid0.coords ⟨n + 1, hn⟩) (S := enter m c ⟨n + 1, hn⟩ (stAt m c n (Nat.lt_of_succ_lt hn)).dk (stAt m c n (Nat.lt_of_succ_lt hn)).dv) rfl rfl rfl rfl (.inr ⟨rfl, rfl⟩)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = iprop(keeps c (stAt m c 31 (by decide)).dk (stAt m c 31 (by decide)).dv ∗ (∃ r, prngReg c r)) from rfl, PhiA_eq]
  unfold keeps
  iintro ⟨⟨S0, S1, S2, S3, S4, S5⟩, Hg⟩
  isplitl [S0 S1 S2 S3 S4 S5]
  · isplitl [S0]; · iexact S0
    isplitl [S1]; · iexact S1
    isplitl [S2]; · iexact S2
    isplitl [S3]; · iexact S3
    isplitl [S4]; · iexists _; iexact S4
    iexists _; iexact S5
  · iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Attn
-- ==== Proof.Attn.Points.lean ====
/-
  The attention's gradients' result arrays, over the reals: the grid is 16 heads by 2 blocks of 2048 rows.
-/
module

public import proofs.«01_k».proof.Proof.Attn.Passes
public import proofs.«01_k».proof.Proof.Attn.Frame

@[expose] public section

set_option maxRecDepth 16384

noncomputable section

namespace Cert.Attn

open Idealize.ShloMosaic Idealize.ShloMosaic.TcCoe Idealize.ShloMosaic.ValueIdx Idealize.SL.Sem
open Cert.Kernel2Ideal Cert.Kernel2Ideal.Gen
open scoped BigOperators

/-- Head `h` of the arrays. -/
def headOf (X0 X1 X2 : ℕ → ℕ → ℝ) (h : ℕ) : Head where
  q i x := X0 i (128 * h + x)
  k i x := X0 i (2048 + 128 * h + x)
  v i x := X1 i (4096 + 128 * h + x)
  o i x := X2 i (128 * h + x)

theorem idx0 : ∀ t : Fin grid0.N, win0_0.index t 0 = t.val % 2 ∧ win0_0.index t 1 = t.val / 2 := by decide +kernel
theorem idx1 : ∀ t : Fin grid0.N, win0_1.index t 0 = 0 ∧ win0_1.index t 1 = 16 + t.val / 2 := by decide +kernel
theorem idx2 : ∀ t : Fin grid0.N, win0_2.index t 0 = 0 ∧ win0_2.index t 1 = 32 + t.val / 2 := by decide +kernel
theorem idx3 : ∀ t : Fin grid0.N, win0_3.index t 0 = t.val % 2 ∧ win0_3.index t 1 = t.val / 2 := by decide +kernel
theorem idx4 : ∀ t : Fin grid0.N, win0_4.index t 0 = t.val % 2 ∧ win0_4.index t 1 = t.val / 2 := by decide +kernel
theorem idx5 : ∀ t : Fin grid0.N, win0_5.index t 0 = 0 ∧ win0_5.index t 1 = t.val / 2 := by decide +kernel
theorem idx6 : ∀ t : Fin grid0.N, win0_6.index t 0 = 0 ∧ win0_6.index t 1 = t.val / 2 := by decide +kernel

variable (m : (ℓ : Loc nD τ sig) → Buf (Elt Ideal) ℓ) (c : Dev nD)

/-- The arguments hold real numbers. -/
structure Args (X0 X1 X2 : ℕ → ℕ → ℝ) : Prop where
  a0 : Mat (A := 4096) (B := 4096) (m ((c : Thread nD τ).loc main_arg0)) X0
  a1 : ∀ i : (Sh 4096 6144).Idx, 4096 ≤ (i 1).val → (m ((c : Thread nD τ).loc main_arg1) : (Sh 4096 6144).Idx → EReal) i = ((X1 (i 0).val (i 1).val : ℝ) : EReal)
  a2 : Mat (A := 4096) (B := 2048) (m ((c : Thread nD τ).loc main_arg2)) X2

variable {m c} {X0 X1 X2 : ℕ → ℕ → ℝ} (hA : Args m c X0 X1 X2)
include hA

theorem blk0 (t : Fin cfg0.N) : Mat (A := 2048) (B := 128) (iblk m c 0 t) fun r x => X0 (2048 * (t.val % 2) + r) (128 * (t.val / 2) + x) := fun i => by
  have hi := idx0 t
  unfold iblk
  rw [View.read_apply]
  show V m c main_arg0 _ = _
  unfold V
  refine (hA.a0 _).trans ?_
  show ((X0 (win0_0.index t 0 * 2048 + 1 * (i 0).val) (win0_0.index t 1 * 128 + 1 * (i 1).val) : ℝ) : EReal) = _
  rw [hi.1, hi.2, one_mul, one_mul, mul_comm, mul_comm (t.val / 2)]

theorem blk1 (t : Fin cfg0.N) : Mat (A := 4096) (B := 128) (iblk m c 1 t) fun r x => X0 r (2048 + 128 * (t.val / 2) + x) := fun i => by
  have hi := idx1 t
  unfold iblk
  rw [View.read_apply]
  show V m c main_arg0 _ = _
  unfold V
  refine (hA.a0 _).trans ?_
  show ((X0 (win0_1.index t 0 * 4096 + 1 * (i 0).val) (win0_1.index t 1 * 128 + 1 * (i 1).val) : ℝ) : EReal) = _
  rw [hi.1, hi.2, one_mul, one_mul, zero_mul, zero_add, show (16 + t.val / 2) * 128 = 2048 + 128 * (t.val / 2) by omega]

theorem blk2 (t : Fin cfg0.N) : Mat (A := 4096) (B := 128) (iblk m c 2 t) fun r x => X1 r (4096 + 128 * (t.val / 2) + x) := fun i => by
  have hi := idx2 t
  unfold iblk
  rw [View.read_apply]
  show V m c main_arg1 _ = _
  unfold V
  refine (hA.a1 _ (by show 4096 ≤ win0_2.index t 1 * 128 + 1 * (i 1).val; rw [hi.2]; omega)).trans ?_
  show ((X1 (win0_2.index t 0 * 4096 + 1 * (i 0).val) (win0_2.index t 1 * 128 + 1 * (i 1).val) : ℝ) : EReal) = _
  rw [hi.1, hi.2, one_mul, one_mul, zero_mul, zero_add, show (32 + t.val / 2) * 128 = 4096 + 128 * (t.val / 2) by omega]

theorem blk3 (t : Fin cfg0.N) : Mat (A := 2048) (B := 128) (iblk m c 3 t) fun r x => X2 (2048 * (t.val % 2) + r) (128 * (t.val / 2) + x) := fun i => by
  have hi := idx3 t
  unfold iblk
  rw [View.read_apply]
  show V m c main_arg2 _ = _
  unfold V
  refine (hA.a2 _).trans ?_
  show ((X2 (win0_3.index t 0 * 2048 + 1 * (i 0).val) (win0_3.index t 1 * 128 + 1 * (i 1).val) : ℝ) : EReal) = _
  rw [hi.1, hi.2, one_mul, one_mul, mul_comm, mul_comm (t.val / 2)]

theorem enter_ok (t : Fin cfg0.N) (dk dv : Vec Ideal (Sh 4096 128) .f32) :
    InsOk (headOf X0 X1 X2 (t.val / 2)) ((grid0.coords t) 1).val (enter m c t dk dv) := by
  rw [coord1 t]
  exact ⟨blk0 hA t, blk1 hA t, blk2 hA t, blk3 hA t⟩

/-- The contents after each point. -/
theorem stAt_mat : ∀ (n : ℕ) (hn : n < cfg0.N),
    Mat (stAt m c n hn).dq (fun r x => (headOf X0 X1 X2 (n / 2)).dq 4096 (2048 * (n % 2) + r) x)
    ∧ Mat (stAt m c n hn).dk (fun j x => (headOf X0 X1 X2 (n / 2)).dk (2048 * (n % 2) + 2048) j x)
    ∧ Mat (stAt m c n hn).dv (fun j x => (headOf X0 X1 X2 (n / 2)).dv (2048 * (n % 2) + 2048) j x)
  | 0, hn => by
    have h := body_mat (grid0.coords ⟨0, hn⟩) (enter_ok hA ⟨0, hn⟩ z4096 z4096) (.inl (coord1 ⟨0, hn⟩))
    rw [coord1 ⟨0, hn⟩] at h
    exact h
  | n + 1, hn => by
    have ih := stAt_mat n (Nat.lt_of_succ_lt hn)
    have h := body_mat (grid0.coords ⟨n + 1, hn⟩)
      (enter_ok hA ⟨n + 1, hn⟩ (stAt m c n (Nat.lt_of_succ_lt hn)).dk (stAt m c n (Nat.lt_of_succ_lt hn)).dv) (by
        rw [coord1 ⟨n + 1, hn⟩]
        by_cases hp : (n + 1) % 2 = 0
        · exact .inl hp
        · refine .inr ⟨?_, ?_⟩
          · show Mat (stAt m c n (Nat.lt_of_succ_lt hn)).dk fun j x => (headOf X0 X1 X2 ((n + 1) / 2)).dk (2048 * ((n + 1) % 2)) j x
            rw [show (n + 1) / 2 = n / 2 by omega, show 2048 * ((n + 1) % 2) = 2048 * (n % 2) + 2048 by omega]
            exact ih.2.1
          · show Mat (stAt m c n (Nat.lt_of_succ_lt hn)).dv fun j x => (headOf X0 X1 X2 ((n + 1) / 2)).dv (2048 * ((n + 1) % 2)) j x
            rw [show (n + 1) / 2 = n / 2 by omega, show 2048 * ((n + 1) % 2) = 2048 * (n % 2) + 2048 by omega]
            exact ih.2.2)
    rw [coord1 ⟨n + 1, hn⟩] at h
    exact h

omit hA

/-- The three gradients as arrays over the model's columns. -/
def dqR (X0 X1 X2 : ℕ → ℕ → ℝ) (r d : ℕ) : ℝ := (headOf X0 X1 X2 (d / 128)).dq 4096 r (d % 128)
def dkR (X0 X1 X2 : ℕ → ℕ → ℝ) (r d : ℕ) : ℝ := (headOf X0 X1 X2 (d / 128)).dk 4096 r (d % 128)
def dvR (X0 X1 X2 : ℕ → ℕ → ℝ) (r d : ℕ) : ℝ := (headOf X0 X1 X2 (d / 128)).dv 4096 r (d % 128)

/-- An array of real numbers. -/
def ofReal2 (f : ℕ → ℕ → ℝ) : (Sh 4096 2048).Idx → EReal := fun i => ((f (i 0).val (i 1).val : ℝ) : EReal)

include hA

theorem final_dq : (dats m 0 c).arrAt 4 cfg0.N = ofReal2 (dqR X0 X1 X2) :=
  (dats m 0 c).arrAt_eq_of_cover 4 _ (fun t ht => by
    show (cfg0.win 4).cut (grid0.coords t) ((dats m 0 c).after 4 t) = _
    rw [after_4]
    funext j
    have hi := idx4 t
    have h1 : (j 1 : Nat) < 128 := (j 1).isLt
    refine ((stAt_mat hA t.val t.isLt).1 j).trans ?_
    rw [View.read_apply]
    show _ = ((dqR X0 X1 X2 (win0_4.index t 0 * 2048 + 1 * (j 0).val) (win0_4.index t 1 * 128 + 1 * (j 1).val) : ℝ) : EReal)
    unfold dqR
    rw [hi.1, hi.2, one_mul, one_mul, mul_comm (t.val % 2),
      show (t.val / 2 * 128 + (j 1).val) / 128 = t.val / 2 by omega, show (t.val / 2 * 128 + (j 1).val) % 128 = (j 1).val by omega]) fun i => by
    have h0 : (i 0 : Nat) < 4096 := (i 0).isLt
    have h1 : (i 1 : Nat) < 2048 := (i 1).isLt
    let t : Fin cfg0.N := ⟨2 * ((i 1 : Nat) / 128) + (i 0 : Nat) / 2048, by rw [show cfg0.N = 32 from N_0]; omega⟩
    have hi := idx4 t
    have ht : t.val = 2 * ((i 1 : Nat) / 128) + (i 0 : Nat) / 2048 := rfl
    refine ⟨t, flush0_4 t, ?_⟩
    show i ∈ ((View.whole main_v0_0).slice (win0_4.rect t)).set
    rw [View.set_slice_whole, Rect.mem_set_unit]
    intro a
    match a with
    | ⟨0, _⟩ => show win0_4.index t 0 * 2048 ≤ (i 0 : Nat) ∧ (i 0 : Nat) < win0_4.index t 0 * 2048 + 2048
                rw [hi.1]; omega
    | ⟨1, _⟩ => show win0_4.index t 1 * 128 ≤ (i 1 : Nat) ∧ (i 1 : Nat) < win0_4.index t 1 * 128 + 128
                rw [hi.2]; omega

theorem final_dk : (dats m 0 c).arrAt 5 cfg0.N = ofReal2 (dkR X0 X1 X2) :=
  (dats m 0 c).arrAt_eq_of_cover 5 _ (fun t ht => by
    show (cfg0.win 5).cut (grid0.coords t) ((dats m 0 c).after 5 t) = _
    rw [after_5]
    funext j
    have hi := idx5 t
    have h1 : (j 1 : Nat) < 128 := (j 1).isLt
    refine ((stAt_mat hA t.val t.isLt).2.1 j).trans ?_
    rw [View.read_apply]
    show _ = ((dkR X0 X1 X2 (win0_5.index t 0 * 4096 + 1 * (j 0).val) (win0_5.index t 1 * 128 + 1 * (j 1).val) : ℝ) : EReal)
    unfold dkR
    rw [hi.1, hi.2, one_mul, one_mul, zero_mul, zero_add, (flush0_5 t).mp ht,
      show (t.val / 2 * 128 + (j 1).val) / 128 = t.val / 2 by omega, show (t.val / 2 * 128 + (j 1).val) % 128 = (j 1).val by omega]) fun i => by
    have h0 : (i 0 : Nat) < 4096 := (i 0).isLt
    have h1 : (i 1 : Nat) < 2048 := (i 1).isLt
    let t : Fin cfg0.N := ⟨2 * ((i 1 : Nat) / 128) + 1, by rw [show cfg0.N = 32 from N_0]; omega⟩
    have hi := idx5 t
    have ht : t.val = 2 * ((i 1 : Nat) / 128) + 1 := rfl
    refine ⟨t, (flush0_5 t).mpr (by rw [ht]; omega), ?_⟩
    show i ∈ ((View.whole main_v0_1).slice (win0_5.rect t)).set
    rw [View.set_slice_whole, Rect.mem_set_unit]
    intro a
    match a with
    | ⟨0, _⟩ => show win0_5.index t 0 * 4096 ≤ (i 0 : Nat) ∧ (i 0 : Nat) < win0_5.index t 0 * 4096 + 4096
                rw [hi.1]; omega
    | ⟨1, _⟩ => show win0_5.index t 1 * 128 ≤ (i 1 : Nat) ∧ (i 1 : Nat) < win0_5.index t 1 * 128 + 128
                rw [hi.2]; omega

theorem final_dv : (dats m 0 c).arrAt 6 cfg0.N = ofReal2 (dvR X0 X1 X2) :=
  (dats m 0 c).arrAt_eq_of_cover 6 _ (fun t ht => by
    show (cfg0.win 6).cut (grid0.coords t) ((dats m 0 c).after 6 t) = _
    rw [after_6]
    funext j
    have hi := idx6 t
    have h1 : (j 1 : Nat) < 128 := (j 1).isLt
    refine ((stAt_mat hA t.val t.isLt).2.2 j).trans ?_
    rw [View.read_apply]
    show _ = ((dvR X0 X1 X2 (win0_6.index t 0 * 4096 + 1 * (j 0).val) (win0_6.index t 1 * 128 + 1 * (j 1).val) : ℝ) : EReal)
    unfold dvR
    rw [hi.1, hi.2, one_mul, one_mul, zero_mul, zero_add, (flush0_6 t).mp ht,
      show (t.val / 2 * 128 + (j 1).val) / 128 = t.val / 2 by omega, show (t.val / 2 * 128 + (j 1).val) % 128 = (j 1).val by omega]) fun i => by
    have h0 : (i 0 : Nat) < 4096 := (i 0).isLt
    have h1 : (i 1 : Nat) < 2048 := (i 1).isLt
    let t : Fin cfg0.N := ⟨2 * ((i 1 : Nat) / 128) + 1, by rw [show cfg0.N = 32 from N_0]; omega⟩
    have hi := idx6 t
    have ht : t.val = 2 * ((i 1 : Nat) / 128) + 1 := rfl
    refine ⟨t, (flush0_6 t).mpr (by rw [ht]; omega), ?_⟩
    show i ∈ ((View.whole main_v0_2).slice (win0_6.rect t)).set
    rw [View.set_slice_whole, Rect.mem_set_unit]
    intro a
    match a with
    | ⟨0, _⟩ => show win0_6.index t 0 * 4096 ≤ (i 0 : Nat) ∧ (i 0 : Nat) < win0_6.index t 0 * 4096 + 4096
                rw [hi.1]; omega
    | ⟨1, _⟩ => show win0_6.index t 1 * 128 ≤ (i 1 : Nat) ∧ (i 1 : Nat) < win0_6.index t 1 * 128 + 128
                rw [hi.2]; omega

end Cert.Attn
-- ==== Proof.Attn.Scan.lean ====
/-
  Host operations on arrays of real entries: the running sums along the last axis and the logarithm of the logistic function.
-/
module

public import proofs.«01_k».proof.Proof.Attn.Block
public import Idealize.ShloMosaic.Lib.StableHlo

@[expose] public section

set_option maxRecDepth 16384

noncomputable section

namespace Cert.Attn

open Idealize.ShloMosaic Idealize.ShloMosaic.ValueIdx
open scoped BigOperators
open Finset (range Ico)

/-- An array of three axes with real entries. -/
def Cub {A B C : ℕ} (x : (Sh3 A B C).Idx → EReal) (f : ℕ → ℕ → ℕ → ℝ) : Prop :=
  ∀ i, x i = ((f (i 0).val (i 1).val (i 2).val : ℝ) : EReal)

theorem Cub.congr {A B C : ℕ} {x : (Sh3 A B C).Idx → EReal} {f g : ℕ → ℕ → ℕ → ℝ} (hx : Cub x f)
    (h : ∀ a b c, a < A → b < B → c < C → f a b c = g a b c) : Cub x g := fun i => by
  rw [hx i, h _ _ _ (i 0).isLt (i 1).isLt (i 2).isLt]

theorem foldl_real {ι : Type} (l : List ι) (g : ι → EReal) (f : ι → ℝ) (hg : ∀ a, g a = (f a : EReal)) (z : ℝ) :
    l.foldl (fun r a => r + g a) (z : EReal) = ((z + (l.map f).sum : ℝ) : EReal) := by
  induction l generalizing z with
  | nil => simp
  | cons a l ih => rw [List.foldl_cons, hg a, ← EReal.coe_add, ih, List.map_cons, List.sum_cons, add_assoc]

theorem finRange_sum (M : ℕ) (f : ℕ → ℝ) : ((List.finRange M).map fun n => f n.val).sum = ∑ w ∈ range M, f w := by
  rw [← List.ofFn_eq_map, List.sum_ofFn, Finset.sum_range]

theorem numel_row (N : ℕ) : (Sh3 1 1 N).numel = N := by
  show ∏ a : Fin 3, (![1, 1, N] : Fin 3 → ℕ) a = N
  rw [Fin.prod_univ_three]
  show 1 * 1 * N = N
  omega

theorem row_symm {N : ℕ} (n : Fin (Sh3 1 1 N).numel) :
    ((Sh3 1 1 N).rowMajor.symm n 0).val = 0 ∧ ((Sh3 1 1 N).rowMajor.symm n 1).val = 0 ∧ ((Sh3 1 1 N).rowMajor.symm n 2).val = n.val := by
  have h := Shape.rowMajor_val_three ((Sh3 1 1 N).rowMajor.symm n)
  rw [Equiv.apply_symm_apply] at h
  have h0 : ((Sh3 1 1 N).rowMajor.symm n 0).val < 1 := ((Sh3 1 1 N).rowMajor.symm n 0).isLt
  have h1 : ((Sh3 1 1 N).rowMajor.symm n 1).val < 1 := ((Sh3 1 1 N).rowMajor.symm n 1).isLt
  have h0' : ((Sh3 1 1 N).rowMajor.symm n 0).val = 0 := by omega
  have h1' : ((Sh3 1 1 N).rowMajor.symm n 1).val = 0 := by omega
  refine ⟨h0', h1', ?_⟩
  rw [h0', h1'] at h
  rw [h]
  show _ = (0 * 1 + 0) * N + _
  omega

/-- A sum over a window of the last axis's length, the array padded by zeros before and after. -/
theorem window_sum {A B N : ℕ} (lo hi : ℕ) {x : (Sh3 A B N).Idx → EReal} {f : ℕ → ℕ → ℕ → ℝ} (hx : Cub x f) (v : EReal) (hv : v = ((0 : ℝ) : EReal))
    (h : (Sh3 A B N).ReduceWindows ![1, 1, N] ![1, 1, 1] ![0, 0, lo] ![0, 0, hi] (Sh3 A B N)) :
    Cub (Ideal.hostReduceWindowAdd (s := Sh3 A B N) ![1, 1, N] ![1, 1, 1] ![0, 0, lo] ![0, 0, hi] h x v)
      fun a b j => ∑ w ∈ range N, if lo ≤ j + w ∧ j + w - lo < N then f a b (j + w - lo) else 0 := fun j => by
  subst hv
  unfold Ideal.hostReduceWindowAdd Host.reduceWindow
  refine (foldl_real (List.finRange (Sh3 1 1 N).numel) _
    (fun n => if lo ≤ (j 2).val + n.val ∧ (j 2).val + n.val - lo < N then f (j 0).val (j 1).val ((j 2).val + n.val - lo) else 0) (fun n => ?_) 0).trans ?_
  · obtain ⟨e0, e1, e2⟩ := row_symm n
    have hj0 : (j 0).val < A := (j 0).isLt
    have hj1 : (j 1).val < B := (j 1).isLt
    dsimp only
    split
    · next hin =>
      have h2 := hin 2
      change lo ≤ (j 2).val * 1 + ((Sh3 1 1 N).rowMajor.symm n 2).val ∧ (j 2).val * 1 + ((Sh3 1 1 N).rowMajor.symm n 2).val - lo < N at h2
      rw [e2, Nat.mul_one] at h2
      rw [if_pos h2]
      refine (hx _).trans ?_
      show ((f ((j 0).val * 1 + ((Sh3 1 1 N).rowMajor.symm n 0).val - 0) ((j 1).val * 1 + ((Sh3 1 1 N).rowMajor.symm n 1).val - 0)
        ((j 2).val * 1 + ((Sh3 1 1 N).rowMajor.symm n 2).val - lo) : ℝ) : EReal) = _
      rw [e0, e1, e2]
      simp only [Nat.mul_one, Nat.add_zero, Nat.sub_zero]
    · next hin =>
      rw [if_neg fun hle => hin fun a => by
        match a with
        | ⟨0, _⟩ =>
          show 0 ≤ (j 0).val * 1 + ((Sh3 1 1 N).rowMajor.symm n 0).val ∧ (j 0).val * 1 + ((Sh3 1 1 N).rowMajor.symm n 0).val - 0 < A
          rw [e0]; omega
        | ⟨1, _⟩ =>
          show 0 ≤ (j 1).val * 1 + ((Sh3 1 1 N).rowMajor.symm n 1).val ∧ (j 1).val * 1 + ((Sh3 1 1 N).rowMajor.symm n 1).val - 0 < B
          rw [e1]; omega
        | ⟨2, _⟩ =>
          show lo ≤ (j 2).val * 1 + ((Sh3 1 1 N).rowMajor.symm n 2).val ∧ (j 2).val * 1 + ((Sh3 1 1 N).rowMajor.symm n 2).val - lo < N
          rw [e2, Nat.mul_one]; exact hle]
  · rw [zero_add, finRange_sum _ fun n => if lo ≤ (j 2).val + n ∧ (j 2).val + n - lo < N then f (j 0).val (j 1).val ((j 2).val + n - lo) else 0, numel_row]

theorem window_host {A B N : ℕ} (lo hi : ℕ) (x : FVec Ideal (Sh3 A B N) .f32) {f : ℕ → ℕ → ℕ → ℝ} (hx : Cub x f) (v : FVec Ideal (⟨0, ![]⟩ : Shape) .f32)
    (hv : ∀ i, v i = ((0 : ℝ) : EReal))
    (h : (Sh3 A B N).ReduceWindows ![1, 1, N] ![1, 1, 1] ![0, 0, lo] ![0, 0, hi] (Sh3 A B N)) (hu : 0 < (⟨0, ![]⟩ : Shape).numel) :
    Cub (Host.reduceWindowAdd (s := Sh3 A B N) ![1, 1, N] ![1, 1, 1] ![0, 0, lo] ![0, 0, hi] x v h hu)
      fun a b j => ∑ w ∈ range N, if lo ≤ j + w ∧ j + w - lo < N then f a b (j + w - lo) else 0 :=
  window_sum lo hi hx _ (hv _) h

/-- The sum from an entry to the end. -/
theorem sum_after (N j : ℕ) (f : ℕ → ℝ) (hj : j < N) :
    (∑ w ∈ range N, if 0 ≤ j + w ∧ j + w - 0 < N then f (j + w - 0) else 0) = ∑ l ∈ Ico j N, f l := by
  rw [Finset.sum_Ico_eq_sum_range, ← Finset.sum_filter]
  refine Finset.sum_congr ?_ fun w _ => rfl
  ext w
  simp only [Finset.mem_filter, Finset.mem_range]
  omega

/-- The sum of the entries up to one. -/
theorem sum_upto (M j : ℕ) (f : ℕ → ℝ) (hj : j < M + 1) :
    (∑ w ∈ range (M + 1), if M ≤ j + w ∧ j + w - M < M + 1 then f (j + w - M) else 0) = ∑ l ∈ range (j + 1), f l := by
  rw [← Finset.sum_filter, show (range (M + 1)).filter (fun w => M ≤ j + w ∧ j + w - M < M + 1) = Ico (M - j) (M + 1) by
    ext w; simp only [Finset.mem_filter, Finset.mem_range, Finset.mem_Ico]; omega,
    Finset.sum_Ico_eq_sum_range, show M + 1 - (M - j) = j + 1 by omega]
  exact Finset.sum_congr rfl fun w _ => congrArg f (by omega)

theorem inf_word : Ideal.ofBits .f32 0x7F800000#32 = (⊤ : EReal) := by
  show Ideal.ieee 8 23 0x7F800000#32 = ⊤
  unfold Ideal.ieee
  rw [if_pos (by decide), if_pos (by decide), if_neg (by decide)]

theorem not_inf (r : ℝ) (T : EReal) (hT : T = ⊤) : Ideal.cmp .oeq (r : EReal) T = 0#1 := by
  subst hT
  show BitVec.ofBool (decide ((r : EReal) = ⊤)) = 0#1
  rw [decide_eq_false (EReal.coe_ne_top r)]; rfl

/-- The softplus of the negated number is the negated logarithm of the logistic function, -/
theorem soft {w : EReal} {z : ℝ} (hw : w = ((-z : ℝ) : EReal)) (c c' c'' : EReal) (hc : c = ((0 : ℝ) : EReal)) (hc' : c' = ((0 : ℝ) : EReal))
    (hc'' : c'' = ((0 : ℝ) : EReal)) :
    Scalar.select (Ideal.cmp .une (w - c') (w - c')) (w + c'') (max w c + Ideal.log1p (Ideal.exp (-(max (w - c') (-(w - c')))))) = ((-(lg z) : ℝ) : EReal) := by
  subst hw hc hc' hc''
  have h : Ideal.cmp .une (((-z : ℝ) : EReal) - ((0 : ℝ) : EReal)) (((-z : ℝ) : EReal) - ((0 : ℝ) : EReal)) = 0#1 := by
    show BitVec.ofBool (decide (_ ≠ _)) = 0#1
    rw [decide_eq_false (not_not.mpr rfl)]; rfl
  rw [h]
  show max ((-z : ℝ) : EReal) ((0 : ℝ) : EReal) + Ideal.log (1 + Ideal.exp _) = _
  rw [← EReal.coe_sub, ← EReal.coe_neg, coe_max, coe_max, ← EReal.coe_neg, exp_coe, ← EReal.coe_one, ← EReal.coe_add, log_coe (by positivity), ← EReal.coe_add]
  congr 1
  unfold lg
  have e : max (-z - 0) (-(-z - 0)) = |z| := by rw [sub_zero, neg_neg, max_comm]; rfl
  have e' : max (-z) 0 = -(min z 0) := by rw [← neg_zero, max_neg_neg, neg_zero]
  rw [e, e']
  ring

/-- and the exponential of the argument less the softplus the logistic function. -/
theorem logistic {w s : EReal} {z y : ℝ} (hw : w = (z : EReal)) (hs : s = (y : EReal)) (T T' c c' : EReal) (hT : T = ⊤) (hT' : T' = ⊤) :
    Ideal.exp (Scalar.select (Ideal.cmp .oeq w T) c w - Scalar.select (Ideal.cmp .oeq s T') c' s) = ((Real.exp (z - y) : ℝ) : EReal) := by
  subst hw hs
  rw [not_inf _ _ hT, not_inf _ _ hT']
  show Ideal.exp ((z : EReal) - (y : EReal)) = _
  rw [← EReal.coe_sub, exp_coe]

/-- The negated argument's logarithm is the argument's less the argument. -/
theorem lg_neg (z : ℝ) : lg (-z) = lg z - z := by
  unfold lg
  have h : min (-z) 0 = min z 0 - z := by
    rcases le_total z 0 with h | h
    · rw [min_eq_right (by linarith), min_eq_left h]; ring
    · rw [min_eq_left (by linarith), min_eq_right h]; ring
  rw [h, abs_neg]
  ring

theorem exp_lg (z : ℝ) : Real.exp (lg z) = 1 / (1 + Real.exp (-z)) := by
  unfold lg
  rw [Real.exp_sub, Real.exp_log (by positivity)]
  rcases le_total z 0 with h | h
  · rw [min_eq_left h, abs_of_nonpos h, neg_neg, div_eq_div_iff (by positivity) (by positivity), mul_add, ← Real.exp_add]
    simp [add_comm]
  · rw [min_eq_right h, abs_of_nonneg h, Real.exp_zero]

/-- The two sides of the logistic function make one. -/
theorem exp_lg_neg (z : ℝ) : Real.exp (lg z - z) = 1 - Real.exp (lg z) := by
  rw [Real.exp_sub, exp_lg, Real.exp_neg]
  have := Real.exp_pos z
  field_simp
  ring

end Cert.Attn
-- ==== Proof.Attn.Ref.lean ====
/-
  The reference's values over the reals: its 16 heads' arrays, entry by entry.
-/
module

public import proofs.«01_k».proof.Proof.Attn.Points
public import proofs.«01_k».proof.Proof.Attn.Scan
public import proofs.«01_k».proof.Proof.Gen.Reference2Ideal.Read

@[expose] public section

set_option maxRecDepth 16384

noncomputable section

namespace Cert.Attn

open Idealize.ShloMosaic Idealize.ShloMosaic.ValueIdx
open Cert.Reference2Ideal Cert.Reference2Ideal.Read
open scoped BigOperators
open Finset (range Ico)

/-- The arguments hold real numbers, the second in its last columns. -/
structure Reals (x0 : FVec Ideal S4096x4096 .bf16) (x1 : FVec Ideal S4096x6144 .bf16) (x2 : FVec Ideal S4096x2048 .bf16) (X0 X1 X2 : ℕ → ℕ → ℝ) : Prop where
  a0 : Mat (A := 4096) (B := 4096) x0 X0
  a1 : ∀ i : S4096x6144.Idx, 4096 ≤ (i 1).val → x1 i = ((X1 (i 0).val (i 1).val : ℝ) : EReal)
  a2 : Mat (A := 4096) (B := 2048) x2 X2

theorem headCol {r h d : ℕ} (hh : h < 16) (hd : d < 128) :
    ((r * 16 + h) * 128 + d) / 2048 = r ∧ ((r * 16 + h) * 128 + d) % 2048 = 128 * h + d := by omega

theorem unflat {r d : ℕ} (hd : d < 2048) :
    (r * 2048 + d) / 2048 = r ∧ (r * 2048 + d) / 128 % 16 = d / 128 ∧ (r * 2048 + d) % 128 = d % 128 := by omega

/-- A product over one axis, at an entry. -/
theorem dot_real (K : ℕ) (f g : Fin K → EReal) (u w : ℕ → ℝ) (hu : ∀ k, f k = (u k.val : EReal)) (hw : ∀ k, g k = (w k.val : EReal)) :
    (∑ k : Fin K, f k * g k) = ((∑ k ∈ range K, u k * w k : ℝ) : EReal) := by
  rw [Finset.sum_range, ← coe_sum]
  exact Finset.sum_congr rfl fun k _ => by rw [hu, hw, EReal.coe_mul]

variable {x0 : FVec Ideal S4096x4096 .bf16} {x1 : FVec Ideal S4096x6144 .bf16} {x2 : FVec Ideal S4096x2048 .bf16} {X0 X1 X2 : ℕ → ℕ → ℝ}
variable (hR : Reals x0 x1 x2 X0 X1 X2)
include hR

local notation "H" => headOf X0 X1 X2

theorem qR : Cub (A := 16) (B := 4096) (C := 128) (val_main_v7 (F := Ideal) x0) fun h i x => (H h).q i x := fun i => by
  rw [val_main_v7_apply, val_main_v6_apply, val_main_v3_apply, Ideal.extf_def, val_main_v0_apply]
  refine (hR.a0 _).trans ?_
  show ((X0 ((((i 1).val * 16 + (i 0).val) * 128 + (i 2).val) / 2048) ((((i 1).val * 16 + (i 0).val) * 128 + (i 2).val) % 2048) : ℝ) : EReal) = _
  obtain ⟨e, e'⟩ := headCol (r := (i 1).val) (show (i 0).val < 16 from (i 0).isLt) (show (i 2).val < 128 from (i 2).isLt)
  rw [e, e']
  rfl

theorem kR : Cub (A := 16) (B := 4096) (C := 128) (val_main_v9 (F := Ideal) x0) fun h i x => (H h).k i x := fun i => by
  rw [val_main_v9_apply, val_main_v8_apply, val_main_v4_apply, Ideal.extf_def, val_main_v1_apply]
  refine (hR.a0 _).trans ?_
  show ((X0 ((((i 1).val * 16 + (i 0).val) * 128 + (i 2).val) / 2048) (2048 + (((i 1).val * 16 + (i 0).val) * 128 + (i 2).val) % 2048) : ℝ) : EReal) = _
  obtain ⟨e, e'⟩ := headCol (r := (i 1).val) (show (i 0).val < 16 from (i 0).isLt) (show (i 2).val < 128 from (i 2).isLt)
  rw [e, e', ← add_assoc]
  rfl

theorem vR : Cub (A := 16) (B := 4096) (C := 128) (val_main_v11 (F := Ideal) x1) fun h i x => (H h).v i x := fun i => by
  rw [val_main_v11_apply, val_main_v10_apply, val_main_v5_apply, Ideal.extf_def, val_main_v2_apply]
  refine (hR.a1 _ (Nat.le_add_right _ _)).trans ?_
  show ((X1 ((((i 1).val * 16 + (i 0).val) * 128 + (i 2).val) / 2048) (4096 + (((i 1).val * 16 + (i 0).val) * 128 + (i 2).val) % 2048) : ℝ) : EReal) = _
  obtain ⟨e, e'⟩ := headCol (r := (i 1).val) (show (i 0).val < 16 from (i 0).isLt) (show (i 2).val < 128 from (i 2).isLt)
  rw [e, e', ← add_assoc]
  rfl

theorem oR : Cub (A := 16) (B := 4096) (C := 128) (val_main_v37 (F := Ideal) x2) fun h i x => (H h).o i x := fun i => by
  rw [val_main_v37_apply, val_main_v36_apply, val_main_v35_apply, Ideal.extf_def]
  refine (hR.a2 _).trans ?_
  show ((X2 ((((i 1).val * 16 + (i 0).val) * 128 + (i 2).val) / 2048) ((((i 1).val * 16 + (i 0).val) * 128 + (i 2).val) % 2048) : ℝ) : EReal) = _
  obtain ⟨e, e'⟩ := headCol (r := (i 1).val) (show (i 0).val < 16 from (i 0).isLt) (show (i 2).val < 128 from (i 2).isLt)
  rw [e, e']
  rfl

/-- The logits. -/
theorem zR : Cub (A := 16) (B := 4096) (C := 4096) (val_main_v14 (F := Ideal) x0) fun h i j => (H h).z i j := fun i => by
  rw [val_main_v14_apply, val_main_v12_apply, val_main_v13_apply, val_main_cst_apply]
  show _ * Ideal.ofBits .f32 0x3DB504F3#32 = _
  rw [scl_word, dot_real 128 _ _ (fun k => (H (i 0).val).q (i 1).val k) (fun k => (H (i 0).val).k (i 2).val k) (fun k => qR hR _) (fun k => kR hR _), ← EReal.coe_mul]
  rfl

omit hR in
/-- The mask: the columns before the row. -/
theorem maskR (i : S16x4096x4096.Idx) : val_main_v24_1 (F := Ideal) i = BitVec.ofBool (decide ((i 2).val < (i 1).val)) := by
  rw [val_main_v24_1_apply, val_main_v20_apply, val_main_v18_apply, val_main_v19_apply, val_main_v16_apply, val_main_v17_apply, val_main_v15_apply, val_main_v15_apply]
  show BitVec.ofBool ((BitVec.ofNat 32 (i 2).val).slt (BitVec.ofNat 32 (i 1).val)) = _
  have h1 : (i 1).val < 4096 := (i 1).isLt
  have h2 : (i 2).val < 4096 := (i 2).isLt
  rw [slt_small (by omega) (by omega)]

omit hR in
theorem mask'R (i : S16x4096x4096.Idx) : val_main_v29_1 (F := Ideal) i = BitVec.ofBool (decide ((i 2).val < (i 1).val)) := maskR i

omit hR in
/-- A value kept by the mask. -/
theorem keep (i : S16x4096x4096.Idx) (x y : EReal) (u : ℝ) (hx : x = (u : EReal)) (hy : y = ((0 : ℝ) : EReal)) :
    Scalar.select (BitVec.ofBool (decide ((i 2).val < (i 1).val))) x y = ((if (i 2).val < (i 1).val then u else 0 : ℝ) : EReal) := by
  subst hx hy
  by_cases h : (i 2).val < (i 1).val
  · rw [decide_eq_true h, if_pos h]; rfl
  · rw [decide_eq_false h, if_neg h]; rfl

/-- The softplus of the negated logits, -/
theorem softR (i : S16x4096x4096.Idx) : val_main_call0_v1_0 (F := Ideal) x0 i = ((-(lg ((H (i 0).val).z (i 1).val (i 2).val)) : ℝ) : EReal) :=
  soft (w := val_main_call0_v0 (F := Ideal) x0 i) (by
    rw [val_main_call0_v0_apply, zR hR i, EReal.coe_neg]; rfl) (val_main_call0_call0_v0 (F := Ideal) i) (val_main_call0_call0_v2 (F := Ideal) i)
    (val_main_call0_call0_v5 (F := Ideal) i)
    (by rw [val_main_call0_call0_v0_apply]; exact zero_word)
    (by rw [val_main_call0_call0_v2_apply]; exact zero_word)
    (by rw [val_main_call0_call0_v5_apply]; exact zero_word)

/-- and of the logits. -/
theorem soft'R (i : S16x4096x4096.Idx) : val_main_call1_v1_0 (F := Ideal) x0 i = ((-(lg (-((H (i 0).val).z (i 1).val (i 2).val))) : ℝ) : EReal) :=
  soft (w := val_main_call1_v0 (F := Ideal) x0 i) (by
    rw [val_main_call1_v0_apply, val_main_v22_apply, zR hR i, EReal.coe_neg, EReal.coe_neg]; rfl) (val_main_call1_call0_v0 (F := Ideal) i) (val_main_call1_call0_v2 (F := Ideal) i)
    (val_main_call1_call0_v5 (F := Ideal) i)
    (by rw [val_main_call1_call0_v0_apply]; exact zero_word)
    (by rw [val_main_call1_call0_v2_apply]; exact zero_word)
    (by rw [val_main_call1_call0_v5_apply]; exact zero_word)

/-- One less the logistic function of the logits, -/
theorem offR (i : S16x4096x4096.Idx) : val_main_v21_1 (F := Ideal) x0 i = ((1 - Real.exp (lg ((H (i 0).val).z (i 1).val (i 2).val)) : ℝ) : EReal) := by
  refine (logistic (w := val_main_call0_v0 (F := Ideal) x0 i) (z := -((H (i 0).val).z (i 1).val (i 2).val)) (by
    rw [val_main_call0_v0_apply, zR hR i, EReal.coe_neg]; rfl) (softR hR i) (val_main_call0_call0_v13 (F := Ideal) i) (val_main_call0_call0_v17 (F := Ideal) i)
    (val_main_call0_call0_v15 (F := Ideal) i) (val_main_call0_call0_v19 (F := Ideal) i)
    (by rw [val_main_call0_call0_v13_apply]; exact inf_word)
    (by rw [val_main_call0_call0_v17_apply]; exact inf_word)).trans ?_
  rw [← exp_lg_neg]
  congr 2
  ring

/-- and the logistic function. -/
theorem onR (i : S16x4096x4096.Idx) : val_main_v23_1 (F := Ideal) x0 i = ((Real.exp (lg ((H (i 0).val).z (i 1).val (i 2).val)) : ℝ) : EReal) := by
  refine (logistic (w := val_main_call1_v0 (F := Ideal) x0 i) (z := (H (i 0).val).z (i 1).val (i 2).val) (by
    rw [val_main_call1_v0_apply, val_main_v22_apply, zR hR i]; exact neg_neg _) (soft'R hR i) (val_main_call1_call0_v13 (F := Ideal) i) (val_main_call1_call0_v17 (F := Ideal) i)
    (val_main_call1_call0_v15 (F := Ideal) i) (val_main_call1_call0_v19 (F := Ideal) i)
    (by rw [val_main_call1_call0_v13_apply]; exact inf_word)
    (by rw [val_main_call1_call0_v17_apply]; exact inf_word)).trans ?_
  rw [lg_neg]
  congr 2
  ring

theorem LR : Cub (A := 16) (B := 4096) (C := 4096) (val_main_v24_0 (F := Ideal) x0) fun h i j => (H h).L i j := fun i => by
  rw [val_main_v24_0_apply, maskR]
  refine keep i _ _ (lg ((H (i 0).val).z (i 1).val (i 2).val) - (H (i 0).val).z (i 1).val (i 2).val) ?_ ?_
  · rw [val_main_v23_0_apply, soft'R hR i, lg_neg, EReal.coe_neg]; exact neg_neg _
  · rw [val_main_call2_v2_apply]; exact zero_word

theorem CR : Cub (A := 16) (B := 4096) (C := 4096) (val_main_v25 (F := Ideal) x0) fun h i j => (H h).C i j :=
  (window_host 0 4095 (val_main_v24_0 (F := Ideal) x0) (LR hR) (val_main_call3_v0 (F := Ideal)) (fun i => by rw [val_main_call3_v0_apply]; exact zero_word)
    Facts₀.reduceWindows_S16x4096x4096_S16x4096x4096_w1s1p0_0_w1s1p0_0_w4096s1p0_4095 Facts₀.h_S_).congr
    fun a b j _ _ hj => sum_after _ j (fun l => (H a).L b l) hj

/-- The weights where the mask doesn't reach too. -/
theorem wR : Cub (A := 16) (B := 4096) (C := 4096) (val_main_v28 (F := Ideal) x0) fun h i j => Real.exp (lg ((H h).z i j) + (H h).C i (j + 1)) := fun i => by
  have hj : (i 2).val < 4096 := (i 2).isLt
  rw [val_main_v28_apply, val_main_v27_apply, val_main_v26_apply, val_main_v21_0_apply, softR hR i, CR hR i, LR hR i]
  show Ideal.exp (-((-(lg _) : ℝ) : EReal) + (((H (i 0).val).C (i 1).val (i 2).val : ℝ) - (((H (i 0).val).L (i 1).val (i 2).val : ℝ) : EReal))) = _
  rw [← EReal.coe_neg, ← EReal.coe_sub, ← EReal.coe_add, exp_coe, neg_neg]
  have hC : (H (i 0).val).C (i 1).val (i 2).val = (H (i 0).val).L (i 1).val (i 2).val + (H (i 0).val).C (i 1).val ((i 2).val + 1) := by
    unfold Head.C
    exact Finset.sum_eq_sum_Ico_succ_bot hj _
  rw [hC, add_sub_cancel_left]

theorem aR : Cub (A := 16) (B := 4096) (C := 4096) (val_main_v31 (F := Ideal) x0) fun h i j => (H h).a i j := fun i => by
  rw [val_main_v31_apply, val_main_v30_apply, Ideal.extf_def, Ideal.truncf_def, val_main_v29_0_apply, mask'R]
  refine keep i _ _ _ (wR hR i) ?_
  rw [val_main_call4_v2_apply]; exact zero_word

theorem eR : Cub (A := 16) (B := 4096) (C := 4096) (val_main_v44 (F := Ideal) x0 x1 x2) fun h i j => (H h).e i j := fun i => by
  rw [val_main_v44_apply, val_main_v43_apply, mask'R, wR hR i]
  rw [keep i _ _ (∑ x ∈ range 128, (H (i 0).val).o (i 1).val x * (H (i 0).val).v (i 2).val x) ?_ ?_]
  · show (_ : EReal) * _ = ((_ * (if (i 2).val < (i 1).val then _ else _) : ℝ) : EReal)
    rw [← EReal.coe_mul]
    congr 1
    split <;> ring
  · rw [val_main_v42_apply, val_main_v41_apply, Ideal.extf_def, Ideal.truncf_def, val_main_v40_apply]
    exact dot_real 128 _ _ (fun k => (H (i 0).val).o (i 1).val k) (fun k => (H (i 0).val).v (i 2).val k) (fun k => oR hR _) (fun k => vR hR _)
  · rw [val_main_call5_v0_apply]; exact zero_word

theorem ER : Cub (A := 16) (B := 4096) (C := 4096) (val_main_v46 (F := Ideal) x0 x1 x2) fun h i j => (H h).E i (j + 1) :=
  (window_host 4095 0 (val_main_v44 (F := Ideal) x0 x1 x2) (eR hR) (val_main_call6_v0 (F := Ideal)) (fun i => by rw [val_main_call6_v0_apply]; exact zero_word)
    Facts₀.reduceWindows_S16x4096x4096_S16x4096x4096_w1s1p0_0_w1s1p0_0_w4096s1p4095_0 Facts₀.h_S_).congr
    fun a b j _ _ hj => sum_upto 4095 j (fun l => (H a).e b l) hj

theorem dzR : Cub (A := 16) (B := 4096) (C := 4096) (val_main_v54 (F := Ideal) x0 x1 x2) fun h i j => (H h).dz i j := fun i => by
  have hE : (H (i 0).val).E (i 1).val ((i 2).val + 1) = (H (i 0).val).E (i 1).val (i 2).val + (H (i 0).val).e (i 1).val (i 2).val := by
    unfold Head.E; exact Finset.sum_range_succ _ _
  rw [val_main_v54_apply, val_main_v53_apply, val_main_cst_2_apply, val_main_v52_apply, val_main_v50_apply, val_main_v49_apply, val_main_call8_v1_apply,
    val_main_call8_v0_apply, val_main_v51_apply, val_main_call9_v1_apply, val_main_call9_v0_apply, onR hR i, offR hR i, eR hR i, val_main_v48_apply, maskR,
    keep i _ _ ((H (i 0).val).E (i 1).val (i 2).val) ?_ ?_]
  · show (-(-(-((_ : ℝ) : EReal) * ((_ : ℝ) : EReal))) + -(-((_ : ℝ) : EReal) * ((_ : ℝ) : EReal))) * Ideal.ofBits .f32 0x3DB504F3#32 = ((if (i 2).val < (i 1).val then _ else _ : ℝ) : EReal)
    rw [scl_word, ← EReal.coe_neg, ← EReal.coe_neg, ← EReal.coe_mul, ← EReal.coe_mul, ← EReal.coe_neg, ← EReal.coe_neg, ← EReal.coe_neg, ← EReal.coe_add, ← EReal.coe_mul]
    congr 1
    by_cases h : (i 2).val < (i 1).val
    · rw [if_pos h, if_pos h]; ring
    · have he : (H (i 0).val).e (i 1).val (i 2).val = 0 := by unfold Head.e Head.a; rw [if_neg h, mul_zero]
      rw [if_neg h, if_neg h]
      show (-(-(-0 * _)) + -(-(H (i 0).val).e (i 1).val (i 2).val * _)) * _ = _
      rw [he]; ring
  · rw [val_main_v47_apply, val_main_v45_apply, eR hR i, ER hR i]
    show -(((H (i 0).val).e (i 1).val (i 2).val : ℝ) : EReal) + (((H (i 0).val).E (i 1).val ((i 2).val + 1) : ℝ) : EReal) = _
    rw [hE]
    rw [← EReal.coe_neg, ← EReal.coe_add]
    congr 1
    ring
  · rw [val_main_call7_v0_apply]; exact zero_word

/-- The three results. -/
theorem dqR_eq : val_main_v62 (F := Ideal) x0 x1 x2 = ofReal2 (dqR X0 X1 X2) := funext fun i => by
  obtain ⟨e, e1, e2⟩ := unflat (r := (i 0).val) (show (i 1).val < 2048 from (i 1).isLt)
  rw [val_main_v62_apply, val_main_v61_apply, val_main_v56_apply]
  refine (dot_real 4096 _ _ (fun k => (H (((i 0).val * 2048 + (i 1).val) / 128 % 16)).dz (((i 0).val * 2048 + (i 1).val) / 2048) k)
    (fun k => (H (((i 0).val * 2048 + (i 1).val) / 128 % 16)).k k (((i 0).val * 2048 + (i 1).val) % 128)) (fun k => dzR hR _) (fun k => kR hR _)).trans ?_
  rw [e, e1, e2]
  rfl

theorem dkR_eq : val_main_v60 (F := Ideal) x0 x1 x2 = ofReal2 (dkR X0 X1 X2) := funext fun i => by
  obtain ⟨e, e1, e2⟩ := unflat (r := (i 0).val) (show (i 1).val < 2048 from (i 1).isLt)
  rw [val_main_v60_apply, val_main_v59_apply, val_main_v55_apply]
  refine (dot_real 4096 _ _ (fun k => (H (((i 0).val * 2048 + (i 1).val) / 128 % 16)).dz k (((i 0).val * 2048 + (i 1).val) / 2048))
    (fun k => (H (((i 0).val * 2048 + (i 1).val) / 128 % 16)).q k (((i 0).val * 2048 + (i 1).val) % 128)) (fun k => dzR hR _) (fun k => qR hR _)).trans ?_
  rw [e, e1, e2]
  rfl

theorem dvR_eq : val_main_v63 (F := Ideal) x0 x2 = ofReal2 (dvR X0 X1 X2) := funext fun i => by
  obtain ⟨e, e1, e2⟩ := unflat (r := (i 0).val) (show (i 1).val < 2048 from (i 1).isLt)
  rw [val_main_v63_apply, Ideal.truncf_def, val_main_v58_apply, val_main_v57_apply, val_main_v39_apply, val_main_v38_apply]
  refine (dot_real 4096 _ _ (fun k => (H (((i 0).val * 2048 + (i 1).val) / 128 % 16)).o k (((i 0).val * 2048 + (i 1).val) % 128))
    (fun k => (H (((i 0).val * 2048 + (i 1).val) / 128 % 16)).a k (((i 0).val * 2048 + (i 1).val) / 2048)) (fun k => oR hR _) (fun k => aR hR _)).trans ?_
  rw [e, e1, e2]
  exact congrArg (fun r : ℝ => (r : EReal)) (Finset.sum_congr rfl fun k _ => mul_comm _ _)

end Cert.Attn
-- ==== Proof.Attn.Pre.lean ====
/-
  What the precondition says over the reals: the entries that the attention reads are real numbers.
-/
module

public import proofs.«01_k».proof.Proof.Attn.Ref
public import proofs.«01_k».proof.Pre_finite
public import Idealize.ShloMosaic.Lib.WordCmp

@[expose] public section

set_option maxRecDepth 16384

noncomputable section

namespace Cert.Attn

open Idealize.ShloMosaic Idealize.ShloMosaic.ValueIdx

theorem preFacts : Cert.Pre_finite.Facts where
  slices_S4096x4096_S4096x2048_0_0 := by decide
  slices_S4096x4096_S4096x2048_0_2048 := by decide
  slices_S4096x6144_S4096x2048_0_4096 := by decide
  bitsLt_bf16_f32 := by decide
  bcast_S_S4096x2048 := by decide

/-- A number whose absolute value is below infinity is real. -/
theorem real_of_bit {x T : EReal} (hT : T = ⊤) (h : Ideal.cmp .olt (max x (-x)) T = 1#1) : x = ((x.toReal : ℝ) : EReal) := by
  subst hT
  have h' : max x (-x) < ⊤ := (Idealize.ShloMosaic.WordCmp.ofBool_decide_eq_one_iff _).mp h
  rw [max_lt_iff] at h'
  refine (EReal.coe_toReal h'.1.ne ?_).symm
  intro e
  rw [e] at h'
  exact absurd h'.2 (by simp)

theorem and_one {a b : BitVec 1} (h : IntOp.andi a b = 1#1) : a = 1#1 ∧ b = 1#1 := by
  revert h; revert a b; decide

variable {x0 : FVec Ideal (Sh 4096 4096) .bf16} {x1 : FVec Ideal (Sh 4096 6144) .bf16} {x2 : FVec Ideal (Sh 4096 2048) .bf16}

theorem slice_entry {C : ℕ} {x : FVec Ideal (Sh 4096 C) .bf16} (o : ℕ) (h : (Sh 4096 C).Slices ![0, o] (Sh 4096 2048)) (i : (Sh 4096 C).Idx)
    (hi : o ≤ (i 1).val) (hi' : (i 1).val < o + 2048) :
    ∃ j, extractStridedSlice (Sh 4096 2048) ![0, o] x h j = x i := by
  have h0 : (i 0).val < 4096 := (i 0).isLt
  refine ⟨fun a => match a with
    | ⟨0, _⟩ => ⟨(i 0).val, h0⟩
    | ⟨1, _⟩ => ⟨(i 1).val - o, by show (i 1).val - o < 2048; omega⟩, ?_⟩
  refine extractStridedSlice_apply ![0, o] x h _ i fun a => ?_
  match a with
  | ⟨0, _⟩ => show (i 0).val = 0 + (i 0).val; omega
  | ⟨1, _⟩ => show (i 1).val = o + ((i 1).val - o); omega

/-- A number of an array, by its natural coordinates. -/
def realOf {A B : ℕ} (x : (Sh A B).Idx → EReal) (r c : ℕ) : ℝ := if h : r < A ∧ c < B then (x (ix2 ⟨r, h.1⟩ ⟨c, h.2⟩)).toReal else 0

theorem realOf_at {A B : ℕ} (x : (Sh A B).Idx → EReal) (i : (Sh A B).Idx) : realOf x (i 0).val (i 1).val = (x i).toReal := by
  unfold realOf
  rw [dif_pos ⟨(i 0).isLt, (i 1).isLt⟩]
  exact congrArg (fun j => (x j).toReal) (eq_ix2 i).symm

theorem reals_of_pre (h : @Cert.Pre_finite.fn preFacts Ideal _ x0 x1 x2 = fun _ => 1#1) :
    Reals x0 x1 x2 (realOf x0) (realOf x1) (realOf x2) := by
  have hb : ∀ i, @Cert.Pre_finite.fn preFacts Ideal _ x0 x1 x2 i = 1#1 := fun i => congrFun h i
  have hall : ∀ i : (Sh 4096 2048).Idx,
      (Ideal.cmp .olt (max (extractStridedSlice (Sh 4096 2048) ![0, 0] x0 preFacts.slices_S4096x4096_S4096x2048_0_0 i)
        (-(extractStridedSlice (Sh 4096 2048) ![0, 0] x0 preFacts.slices_S4096x4096_S4096x2048_0_0 i))) (Ideal.ofBits .f32 0x7F800000#32) = 1#1
      ∧ Ideal.cmp .olt (max (extractStridedSlice (Sh 4096 2048) ![0, 2048] x0 preFacts.slices_S4096x4096_S4096x2048_0_2048 i)
        (-(extractStridedSlice (Sh 4096 2048) ![0, 2048] x0 preFacts.slices_S4096x4096_S4096x2048_0_2048 i))) (Ideal.ofBits .f32 0x7F800000#32) = 1#1)
      ∧ Ideal.cmp .olt (max (extractStridedSlice (Sh 4096 2048) ![0, 4096] x1 preFacts.slices_S4096x6144_S4096x2048_0_4096 i)
        (-(extractStridedSlice (Sh 4096 2048) ![0, 4096] x1 preFacts.slices_S4096x6144_S4096x2048_0_4096 i))) (Ideal.ofBits .f32 0x7F800000#32) = 1#1
      ∧ Ideal.cmp .olt (max (x2 i) (-(x2 i))) (Ideal.ofBits .f32 0x7F800000#32) = 1#1 := fun i => by
    have hi := hb i
    change IntOp.andi (IntOp.andi (IntOp.andi _ _) _) _ = 1#1 at hi
    obtain ⟨h1, h4⟩ := and_one hi
    obtain ⟨h2, h3⟩ := and_one h1
    exact ⟨and_one h2, h3, h4⟩
  refine ⟨fun i => ?_, fun i hi => ?_, fun i => ?_⟩
  · rw [realOf_at]
    have h1 : (i 1).val < 4096 := (i 1).isLt
    by_cases hc : (i 1).val < 2048
    · obtain ⟨j, hj⟩ := slice_entry (x := x0) 0 preFacts.slices_S4096x4096_S4096x2048_0_0 i (by omega) (by omega)
      have := (hall j).1.1
      rw [hj] at this
      exact real_of_bit inf_word this
    · obtain ⟨j, hj⟩ := slice_entry (x := x0) 2048 preFacts.slices_S4096x4096_S4096x2048_0_2048 i (by omega) (by omega)
      have := (hall j).1.2
      rw [hj] at this
      exact real_of_bit inf_word this
  · rw [realOf_at]
    have h1 : (i 1).val < 6144 := (i 1).isLt
    obtain ⟨j, hj⟩ := slice_entry (x := x1) 4096 preFacts.slices_S4096x6144_S4096x2048_0_4096 i hi (by omega)
    have := (hall j).2.1
    rw [hj] at this
    exact real_of_bit inf_word this
  · rw [realOf_at]
    exact real_of_bit inf_word (hall i).2.2

end Cert.Attn
-- ==== Proof.Attn.Claims.lean ====
/-
  The five claims about the attention's backward kernel.
-/
module

public import proofs.«01_k».proof.Defs
public import proofs.«01_k».proof.Proof.Attn.Pre
public import proofs.«01_k».proof.Proof.Gen.Kernel2
public import Idealize.ShloMosaic.Adequacy
public import Idealize.ShloMosaic.Init

@[expose] public section

set_option maxRecDepth 16384

noncomputable section

namespace Cert.Attn.Claims

open Idealize.ShloMosaic Idealize.ShloMosaic.TcCoe Idealize.SL.Sem
open Cert.Attn Cert.Kernel2Ideal.Gen

/-- The two printed texts of the call have the same bodies. -/
theorem bodies_eq {F : FTy → Type} [FloatOps F] : Cert.Kernel2.defs₀ (F := F) = Cert.Kernel2Ideal.defs₀ :=
  congrArg Defs.onTc (funext fun l => funext fun a => match l, a with
    | 0, (t, s) => rfl
    | ⟨_ + 1, h⟩, _ => absurd h (Nat.not_lt.2 (Nat.le_add_left _ _)))

theorem defs_eq {F : FTy → Type} [FloatOps F] : Cert.Kernel2.defs (F := F) = Cert.Kernel2Ideal.defs :=
  congrArg (Pipeline.defs _) bodies_eq

/-- So one run serves both. -/
theorem frameP : Cert.quiescent_Kernel2 := fun m ρ _ => by
  rw [defs_eq]
  exact Cert.Attn.frame (F := Bits) m ρ

theorem framePI : Cert.quiescent_Kernel2Ideal := fun m ρ _ => Cert.Attn.frame (F := Ideal) m ρ

theorem framePI_finite : Cert.quiescent_Kernel2Ideal_pre_finite (hPre_finite := preFacts) := fun m ρ _ => Cert.Attn.frame (F := Ideal) m ρ

theorem frameRI : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run m ρ)

theorem frameRI_finite : Cert.quiescent_Reference2Ideal_pre_finite (hPre_finite := preFacts) := fun m ρ _ => frameRI m ρ trivial

/-- The arguments' real numbers. -/
def reals0 (m : (ℓ : Loc Cert.Kernel2Ideal.nD Cert.Kernel2Ideal.τ Cert.Kernel2Ideal.sig) → Buf (Elt Ideal) ℓ) (c : Dev Cert.Kernel2Ideal.nD) : ℕ → ℕ → ℝ :=
  realOf (A := 4096) (B := 4096) (m ((c.tc : Thread Cert.Kernel2Ideal.nD Cert.Kernel2Ideal.τ).loc Cert.Kernel2Ideal.main_arg0))
def reals1 (m : (ℓ : Loc Cert.Kernel2Ideal.nD Cert.Kernel2Ideal.τ Cert.Kernel2Ideal.sig) → Buf (Elt Ideal) ℓ) (c : Dev Cert.Kernel2Ideal.nD) : ℕ → ℕ → ℝ :=
  realOf (A := 4096) (B := 6144) (m ((c.tc : Thread Cert.Kernel2Ideal.nD Cert.Kernel2Ideal.τ).loc Cert.Kernel2Ideal.main_arg1))
def reals2 (m : (ℓ : Loc Cert.Kernel2Ideal.nD Cert.Kernel2Ideal.τ Cert.Kernel2Ideal.sig) → Buf (Elt Ideal) ℓ) (c : Dev Cert.Kernel2Ideal.nD) : ℕ → ℕ → ℝ :=
  realOf (A := 4096) (B := 2048) (m ((c.tc : Thread Cert.Kernel2Ideal.nD Cert.Kernel2Ideal.τ).loc Cert.Kernel2Ideal.main_arg2))

/-- The kernel's three results and the reference's are the same gradients, of arguments that are finite. -/
theorem algebraic : Cert.algebraic_Kernel2Ideal_Reference2Ideal_pre_finite (hPre_finite := preFacts) := by
  intro m ρ m' ρ' hpre hagree
  have hR := fun c => reals_of_pre (hpre c)
  have hA : ∀ c, Args m c (reals0 m c) (reals1 m c) (reals2 m c) := fun c => ⟨(hR c).a0, (hR c).a1, (hR c).a2⟩
  refine ⟨fun c => ofReal2 (dqR (reals0 m c) (reals1 m c) (reals2 m c)), fun c => ofReal2 (dkR (reals0 m c) (reals1 m c) (reals2 m c)), fun c => ofReal2 (dvR (reals0 m c) (reals1 m c) (reals2 m c)), ?_, ?_⟩
  · exact (θ_run Cert.Kernel2Ideal.defs _ _).mono
      (fun _ h c => ⟨((h.1 c).1 4).trans (final_dq (hA c)), ((h.1 c).1 5).trans (final_dk (hA c)), ((h.1 c).1 6).trans (final_dv (hA c)), h.2 c⟩)
      (θ_run_and (run_main (F := Ideal) m ρ) (frame_of m ρ (dats m) (A_eq m) (run_main m ρ)))
  have e0 : ∀ c, StableHlo.launchContents m' c (Proc.devRef .tc Cert.Reference2Ideal.main_arg0) = _ := fun c => (hagree c).1
  have e1 : ∀ c, StableHlo.launchContents m' c (Proc.devRef .tc Cert.Reference2Ideal.main_arg1) = _ := fun c => (hagree c).2.1
  have e2 : ∀ c, StableHlo.launchContents m' c (Proc.devRef .tc Cert.Reference2Ideal.main_arg2) = _ := fun c => (hagree c).2.2
  refine (θ_run Cert.Reference2Ideal.defs _ _).mono
    (fun _ h c => ⟨(h c).1.trans ?_, (h c).2.1.trans ?_, (h c).2.2.1.trans ?_, (h c).2.2.2⟩)
    (Cert.Reference2Ideal.Value.run (F := Ideal) m' ρ')
  · rw [Cert.Reference2Ideal.Read.val_main_v62_eq, e0 c, e1 c, e2 c]
    exact dqR_eq (hR c)
  · rw [Cert.Reference2Ideal.Read.val_main_v60_eq, e0 c, e1 c, e2 c]
    exact dkR_eq (hR c)
  · rw [Cert.Reference2Ideal.Read.val_main_v63_eq, e0 c, e2 c]
    exact dvR_eq (hR c)

end Cert.Attn.Claims

end
-- ==== Proof.Mm.Dwout.lean ====
/-
  The gradient of the MLP's output weights: the kernel's result array is `rᵀ · g`. Its grid is 8 by 2 blocks of the result
  by 2 blocks of the summed rows; the first block's product waits in the scratch for the second's.
-/
module

public import proofs.«01_k».proof.Proof.Mm.Sum
public import proofs.«01_k».proof.Proof.Gen.Kernel3Ideal.Value
public import Idealize.ShloMosaic.Lib.Tactic

@[expose] public section

set_option maxRecDepth 16384

noncomputable section

namespace Cert.Mm.Dwout

open Idealize.ShloMosaic Idealize.ShloMosaic.TcCoe Idealize.ShloMosaic.ValueIdx Idealize.SL.Sem Cert.Coord
open Idealize.ShloMosaic.Pipeline (Dat)
open Cert.Kernel3Ideal Cert.Kernel3Ideal.Gen Cert.Kernel3Ideal.Value
open scoped BigOperators

/-! ## One point's payloads -/

abbrev D := dot_S2048x1024_S2048x1024_S1024x1024_0_0_1_1_n_n

theorem dot_apply (x y : FVec Ideal S2048x1024 .bf16) (i : S1024x1024.Idx) :
    matmul D none x y (constant S1024x1024 .f32 0x00000000#32) i = tn (at2 x) (at2 y) 2048 (i 0).val (i 1).val := by
  refine (Ideal.matmul_apply D none _ _ _ _).trans ?_
  rw [zero_apply, zero_add]
  refine sum_dot1 D 2048 rfl rfl _ _ _ (fun k => at2 x k (i 0).val) (fun k => at2 y k (i 1).val) (fun k => ?_) (fun k => ?_)
  · refine (at2_eq x _).trans ?_
    congr 1 <;> simp [DotDims.lhsIdx, D, dot_S2048x1024_S2048x1024_S1024x1024_0_0_1_1_n_n] <;> rfl
  · refine (at2_eq y _).trans ?_
    congr 1 <;> simp [DotDims.rhsIdx, D, dot_S2048x1024_S2048x1024_S1024x1024_0_0_1_1_n_n] <;> rfl

theorem pay1_apply (x y : FVec Ideal S2048x1024 .bf16) (i : S1024x1024.Idx) :
    k0_pay1 (F := Ideal) x y i = tn (at2 x) (at2 y) 2048 (i 0).val (i 1).val := by
  unfold k0_pay1
  dsimp only
  rw [shapeCast_self]
  exact dot_apply x y i

theorem pay3_apply (p : FVec Ideal S1024x1024 .f32) (x y : FVec Ideal S2048x1024 .bf16) (i : S1024x1024.Idx) :
    k0_pay3 (F := Ideal) p x y i = p i + tn (at2 x) (at2 y) 2048 (i 0).val (i 1).val :=
  congrArg (p i + ·) (dot_apply x y i)

/-! ## What a point leaves in the buffers -/

section Out

variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S2048x1024 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S2048x1024) hz2,
    View.ld_unit_zero (S := S1024x1024) hz2]

end Out

/-! ## The grid -/

theorem idx0 : ∀ t : Fin grid0.N, win0_0.index t 0 = t.val % 2 ∧ win0_0.index t 1 = t.val / 4 := by decide +kernel
theorem idx1 : ∀ t : Fin grid0.N, win0_1.index t 0 = t.val % 2 ∧ win0_1.index t 1 = t.val / 2 % 2 := by decide +kernel

variable (m : (ℓ : Loc nD τ sig) → Buf (Elt Ideal) ℓ) (c : Dev nD)

abbrev R : S4096x8192.Idx → EReal := m ((c : Thread nD τ).loc main_arg0)
abbrev G : S4096x2048.Idx → EReal := m ((c : Thread nD τ).loc main_arg1)

theorem blk0 (t : Fin cfg0.N) (r k : ℕ) (hr : r < 2048) (hk : k < 1024) :
    at2 (n0 := 2048) (n1 := 1024) (iblk m c 0 t) r k = at2 (R m c) (2048 * (t.val % 2) + r) (1024 * (t.val / 4) + k) := by
  have hi := idx0 t
  have hN : t.val < 32 := N_0 ▸ t.isLt
  rw [at2_lt _ hr hk, at2_lt _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2048 + 1 * r = _; rw [hi.1]; show _ = 2048 * (t.val % 2) + r; omega
  | ⟨1, _⟩ => show win0_0.index t 1 * 1024 + 1 * k = _; rw [hi.2]; show _ = 1024 * (t.val / 4) + k; omega

theorem blk1 (t : Fin cfg0.N) (r k : ℕ) (hr : r < 2048) (hk : k < 1024) :
    at2 (n0 := 2048) (n1 := 1024) (iblk m c 1 t) r k = at2 (G m c) (2048 * (t.val % 2) + r) (1024 * (t.val / 2 % 2) + k) := by
  have hi := idx1 t
  have hN : t.val < 32 := N_0 ▸ t.isLt
  rw [at2_lt _ hr hk, at2_lt _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2048 + 1 * r = _; rw [hi.1]; show _ = 2048 * (t.val % 2) + r; omega
  | ⟨1, _⟩ => show win0_1.index t 1 * 1024 + 1 * k = _; rw [hi.2]; show _ = 1024 * (t.val / 2 % 2) + k; omega

/-- One point's product: the terms of its block of rows. -/
theorem dot_pt (t : Fin cfg0.N) (i : S1024x1024.Idx) :
    tn (at2 (n0 := 2048) (n1 := 1024) (iblk m c 0 t)) (at2 (n0 := 2048) (n1 := 1024) (iblk m c 1 t)) 2048 (i 0).val (i 1).val
      = ∑ k ∈ Finset.range 2048, at2 (R m c) (2048 * (t.val % 2) + k) (1024 * (t.val / 4) + (i 0).val)
          * at2 (G m c) (2048 * (t.val % 2) + k) (1024 * (t.val / 2 % 2) + (i 1).val) := by
  have h0 := idx2_lt0 i
  have h1 := idx2_lt1 i
  refine Finset.sum_congr rfl fun k hk => ?_
  have hk := Finset.mem_range.mp hk
  rw [blk0 m c t _ _ hk h0, blk1 m c t _ _ hk h1]

/-- The scratch after the first block of rows. -/
theorem first (n : ℕ) (h : n < cfg0.N) (h0 : n % 2 = 0) (i : S1024x1024.Idx) : (outsAt0 m c n h).2 i
    = tn (at2 (R m c)) (at2 (G m c)) 2048 (1024 * (n / 4) + (i 0).val) (1024 * (n / 2 % 2) + (i 1).val) := by
  rw [outsAt0_A m c ⟨n, h⟩ h0 (by dsimp only; omega), sout_A]
  refine (pay1_apply (iblk m c 0 ⟨n, h⟩) (iblk m c 1 ⟨n, h⟩) i).trans ((dot_pt m c ⟨n, h⟩ i).trans ?_)
  show ∑ k ∈ _, at2 (R m c) (2048 * (n % 2) + k) _ * at2 (G m c) (2048 * (n % 2) + k) _ = _
  rw [h0]
  refine Finset.sum_congr rfl fun k _ => ?_
  rw [Nat.mul_zero, Nat.zero_add]

/-- The result's block after the second. -/
theorem second (n : ℕ) (h : n < cfg0.N) (h1 : n % 2 = 1) (i : S1024x1024.Idx) : (outsAt0 m c n h).1 i
    = tn (at2 (R m c)) (at2 (G m c)) 4096 (1024 * (n / 4) + (i 0).val) (1024 * (n / 2 % 2) + (i 1).val) := by
  rw [outsAt0_B m c ⟨n, h⟩ (by dsimp only; omega) h1, out_B]
  refine (pay3_apply (outsAt0 m c (n - 1) _).2 (iblk m c 0 ⟨n, h⟩) (iblk m c 1 ⟨n, h⟩) i).trans ?_
  rw [dot_pt, first m c (n - 1) _ (by omega), show (n - 1) / 4 = n / 4 by omega, show (n - 1) / 2 = n / 2 by omega]
  show _ + ∑ k ∈ _, at2 (R m c) (2048 * (n % 2) + k) _ * at2 (G m c) (2048 * (n % 2) + k) _ = _
  rw [h1]
  exact tn_add (at2 (R m c)) (at2 (G m c)) 2048 2048 _ _

/-- The result array. -/
def res : S8192x2048.Idx → EReal := fun i => tn (at2 (R m c)) (at2 (G m c)) 4096 (i 0).val (i 1).val

theorem G2_eq : G2 (F := Ideal) m c = res m c := by
  funext i
  have h0 : (i 0).val < 8192 := (i 0).isLt
  have h1 : (i 1).val < 2048 := (i 1).isLt
  have hp : pt2Of i = 4 * ((i 0).val / 1024) + 2 * ((i 1).val / 1024) + 1 := by
    show 2 * (2 * ((i 0).val / 1024 - 0) + 1 * ((i 1).val / 1024 - 0)) + 1 = _
    omega
  have h : pt2Of i < cfg0.N := by rw [hp, show cfg0.N = 32 from N_0]; omega
  unfold G2
  rw [dif_pos h, ← outsAt0_sweep m c (pt2Of i) h, second m c _ h (by rw [hp]; omega), hp]
  refine congrArg₂ (tn (at2 (R m c)) (at2 (G m c)) 4096) ?_ ?_
  · show _ + (i 0).val % 1024 = _; omega
  · show _ + (i 1).val % 1024 = _; omega

end Cert.Mm.Dwout

end
-- ==== Proof.Mm.Dwin.lean ====
/-
  The gradient of the MLP's input weights: the kernel's result array is `hmᵀ · da`. Its grid is 2 by 8 blocks of the result
  by 2 blocks of the summed rows; the first block's product waits in the scratch for the second's.
-/
module

public import proofs.«01_k».proof.Proof.Mm.Dwout
public import proofs.«01_k».proof.Proof.Gen.Kernel5Ideal.Value
public import Idealize.ShloMosaic.Lib.Tactic

@[expose] public section

set_option maxRecDepth 16384

noncomputable section

namespace Cert.Mm.Dwin

open Idealize.ShloMosaic Idealize.ShloMosaic.TcCoe Idealize.ShloMosaic.ValueIdx Idealize.SL.Sem Cert.Coord
open Idealize.ShloMosaic.Pipeline (Dat)
open Cert.Kernel5Ideal Cert.Kernel5Ideal.Gen Cert.Kernel5Ideal.Value
open scoped BigOperators

/-! ## One point's payloads: those of the output weights' kernel, whose blocks have the same shape -/

theorem pay1_apply (x y : FVec Ideal S2048x1024 .bf16) (i : S1024x1024.Idx) :
    k0_pay1 (F := Ideal) x y i = tn (at2 x) (at2 y) 2048 (i 0).val (i 1).val :=
  Dwout.pay1_apply x y i

theorem pay3_apply (p : FVec Ideal S1024x1024 .f32) (x y : FVec Ideal S2048x1024 .bf16) (i : S1024x1024.Idx) :
    k0_pay3 (F := Ideal) p x y i = p i + tn (at2 x) (at2 y) 2048 (i 0).val (i 1).val :=
  Dwout.pay3_apply p x y i

/-! ## What a point leaves in the buffers -/

section Out

variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S2048x1024 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S2048x1024) hz2,
    View.ld_unit_zero (S := S1024x1024) hz2]

end Out

/-! ## The grid -/

theorem idx0 : ∀ t : Fin grid0.N, win0_0.index t 0 = t.val % 2 ∧ win0_0.index t 1 = t.val / 16 := by decide +kernel
theorem idx1 : ∀ t : Fin grid0.N, win0_1.index t 0 = t.val % 2 ∧ win0_1.index t 1 = t.val / 2 % 8 := by decide +kernel

variable (m : (ℓ : Loc nD τ sig) → Buf (Elt Ideal) ℓ) (c : Dev nD)

abbrev H : S4096x2048.Idx → EReal := m ((c : Thread nD τ).loc main_arg0)
abbrev A : S4096x8192.Idx → EReal := m ((c : Thread nD τ).loc main_arg1)

theorem blk0 (t : Fin cfg0.N) (r k : ℕ) (hr : r < 2048) (hk : k < 1024) :
    at2 (n0 := 2048) (n1 := 1024) (iblk m c 0 t) r k = at2 (H m c) (2048 * (t.val % 2) + r) (1024 * (t.val / 16) + k) := by
  have hi := idx0 t
  have hN : t.val < 32 := N_0 ▸ t.isLt
  rw [at2_lt _ hr hk, at2_lt _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2048 + 1 * r = _; rw [hi.1]; show _ = 2048 * (t.val % 2) + r; omega
  | ⟨1, _⟩ => show win0_0.index t 1 * 1024 + 1 * k = _; rw [hi.2]; show _ = 1024 * (t.val / 16) + k; omega

theorem blk1 (t : Fin cfg0.N) (r k : ℕ) (hr : r < 2048) (hk : k < 1024) :
    at2 (n0 := 2048) (n1 := 1024) (iblk m c 1 t) r k = at2 (A m c) (2048 * (t.val % 2) + r) (1024 * (t.val / 2 % 8) + k) := by
  have hi := idx1 t
  have hN : t.val < 32 := N_0 ▸ t.isLt
  rw [at2_lt _ hr hk, at2_lt _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2048 + 1 * r = _; rw [hi.1]; show _ = 2048 * (t.val % 2) + r; omega
  | ⟨1, _⟩ => show win0_1.index t 1 * 1024 + 1 * k = _; rw [hi.2]; show _ = 1024 * (t.val / 2 % 8) + k; omega

/-- One point's product: the terms of its block of rows. -/
theorem dot_pt (t : Fin cfg0.N) (i : S1024x1024.Idx) :
    tn (at2 (n0 := 2048) (n1 := 1024) (iblk m c 0 t)) (at2 (n0 := 2048) (n1 := 1024) (iblk m c 1 t)) 2048 (i 0).val (i 1).val
      = ∑ k ∈ Finset.range 2048, at2 (H m c) (2048 * (t.val % 2) + k) (1024 * (t.val / 16) + (i 0).val)
          * at2 (A m c) (2048 * (t.val % 2) + k) (1024 * (t.val / 2 % 8) + (i 1).val) := by
  have h0 := idx2_lt0 i
  have h1 := idx2_lt1 i
  refine Finset.sum_congr rfl fun k hk => ?_
  have hk := Finset.mem_range.mp hk
  rw [blk0 m c t _ _ hk h0, blk1 m c t _ _ hk h1]

/-- The scratch after the first block of rows. -/
theorem first (n : ℕ) (h : n < cfg0.N) (h0 : n % 2 = 0) (i : S1024x1024.Idx) : (outsAt0 m c n h).2 i
    = tn (at2 (H m c)) (at2 (A m c)) 2048 (1024 * (n / 16) + (i 0).val) (1024 * (n / 2 % 8) + (i 1).val) := by
  rw [outsAt0_A m c ⟨n, h⟩ h0 (by dsimp only; omega), sout_A]
  refine (pay1_apply (iblk m c 0 ⟨n, h⟩) (iblk m c 1 ⟨n, h⟩) i).trans ((dot_pt m c ⟨n, h⟩ i).trans ?_)
  show ∑ k ∈ _, at2 (H m c) (2048 * (n % 2) + k) _ * at2 (A m c) (2048 * (n % 2) + k) _ = _
  rw [h0]
  refine Finset.sum_congr rfl fun k _ => ?_
  rw [Nat.mul_zero, Nat.zero_add]

/-- The result's block after the second. -/
theorem second (n : ℕ) (h : n < cfg0.N) (h1 : n % 2 = 1) (i : S1024x1024.Idx) : (outsAt0 m c n h).1 i
    = tn (at2 (H m c)) (at2 (A m c)) 4096 (1024 * (n / 16) + (i 0).val) (1024 * (n / 2 % 8) + (i 1).val) := by
  rw [outsAt0_B m c ⟨n, h⟩ (by dsimp only; omega) h1, out_B]
  refine (pay3_apply (outsAt0 m c (n - 1) _).2 (iblk m c 0 ⟨n, h⟩) (iblk m c 1 ⟨n, h⟩) i).trans ?_
  rw [dot_pt, first m c (n - 1) _ (by omega), show (n - 1) / 16 = n / 16 by omega, show (n - 1) / 2 = n / 2 by omega]
  show _ + ∑ k ∈ _, at2 (H m c) (2048 * (n % 2) + k) _ * at2 (A m c) (2048 * (n % 2) + k) _ = _
  rw [h1]
  exact tn_add (at2 (H m c)) (at2 (A m c)) 2048 2048 _ _

/-- The result array. -/
def res : S2048x8192.Idx → EReal := fun i => tn (at2 (H m c)) (at2 (A m c)) 4096 (i 0).val (i 1).val

theorem G2_eq : G2 (F := Ideal) m c = res m c := by
  funext i
  have h0 : (i 0).val < 2048 := (i 0).isLt
  have h1 : (i 1).val < 8192 := (i 1).isLt
  have hp : pt2Of i = 16 * ((i 0).val / 1024) + 2 * ((i 1).val / 1024) + 1 := by
    show 2 * (8 * ((i 0).val / 1024 - 0) + 1 * ((i 1).val / 1024 - 0)) + 1 = _
    omega
  have h : pt2Of i < cfg0.N := by rw [hp, show cfg0.N = 32 from N_0]; omega
  unfold G2
  rw [dif_pos h, ← outsAt0_sweep m c (pt2Of i) h, second m c _ h (by rw [hp]; omega), hp]
  refine congrArg₂ (tn (at2 (H m c)) (at2 (A m c)) 4096) ?_ ?_
  · show _ + (i 0).val % 1024 = _; omega
  · show _ + (i 1).val % 1024 = _; omega

end Cert.Mm.Dwin

end
-- ==== Proof.Mm.ClaimsW.lean ====
/-
  The claims about the kernels of the MLP's weights' gradients.
-/
module

public import proofs.«01_k».proof.Defs
public import proofs.«01_k».proof.Proof.Mm.Dwin
public import proofs.«01_k».proof.Proof.Gen.Kernel3.Frame
public import proofs.«01_k».proof.Proof.Gen.Kernel5.Frame
public import proofs.«01_k».proof.Proof.Gen.Reference3Ideal.Read
public import proofs.«01_k».proof.Proof.Gen.Reference5Ideal.Read
public import Idealize.ShloMosaic.Adequacy
public import Idealize.ShloMosaic.Init

@[expose] public section

set_option maxRecDepth 16384

noncomputable section

open Idealize.ShloMosaic Idealize.ShloMosaic.TcCoe Idealize.ShloMosaic.ValueIdx Idealize.SL.Sem Cert.Coord

/-! ## The output weights -/

namespace Cert.Mm.Dwout

theorem frameP : Cert.quiescent_Kernel3 := fun m ρ _ => Cert.Kernel3.Gen.frame m ρ

theorem framePI : Cert.quiescent_Kernel3Ideal := fun m ρ _ => Cert.Kernel3Ideal.Gen.frame m ρ

theorem frameRI : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

open Cert.Reference3Ideal Cert.Reference3Ideal.Read in
/-- The reference's element: the same terms, its factors in the other order. -/
theorem ref_eq (r : S4096x8192.Idx → EReal) (g : S4096x2048.Idx → EReal) (i : S8192x2048.Idx) :
    val_main_v4 (F := Ideal) r g i = tn (at2 r) (at2 g) 4096 (i 0).val (i 1).val := by
  rw [val_main_v4_apply]
  show val_main_v3 (F := Ideal) r g i = _
  rw [val_main_v3_apply, val_main_v2_apply, tn, Finset.sum_range]
  refine Finset.sum_congr rfl fun k _ => (mul_comm _ _).trans ?_
  exact congrArg₂ _ (at2_eq r _) (at2_eq g _)

theorem algebraic : Cert.algebraic_Kernel3Ideal_Reference3Ideal := by
  intro m ρ m' ρ' _ hagree
  refine ⟨fun c => res m c, ?_, ?_⟩
  · exact (θ_run Cert.Kernel3Ideal.defs _ _).mono (fun _ h c => ⟨(h c).1.trans (G2_eq m c), (h c).2⟩)
      (Cert.Kernel3Ideal.Value.run (F := Ideal) m ρ)
  refine (θ_run Cert.Reference3Ideal.defs _ _).mono (fun _ h c => ⟨(h c).1.trans ?_, (h c).2⟩)
    (Cert.Reference3Ideal.Value.run (F := Ideal) m' ρ')
  rw [(hagree c).1, (hagree c).2, Cert.Reference3Ideal.Read.val_main_v4_eq]
  exact funext fun i => ref_eq (R m c) (G m c) i

end Cert.Mm.Dwout

/-! ## The input weights -/

namespace Cert.Mm.Dwin

theorem frameP : Cert.quiescent_Kernel5 := fun m ρ _ => Cert.Kernel5.Gen.frame m ρ

theorem framePI : Cert.quiescent_Kernel5Ideal := fun m ρ _ => Cert.Kernel5Ideal.Gen.frame m ρ

theorem frameRI : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

open Cert.Reference5Ideal Cert.Reference5Ideal.Read in
theorem ref_eq (h : S4096x2048.Idx → EReal) (a : S4096x8192.Idx → EReal) (i : S2048x8192.Idx) :
    val_main_v4 (F := Ideal) h a i = tn (at2 h) (at2 a) 4096 (i 0).val (i 1).val := by
  rw [val_main_v4_apply]
  show val_main_v3 (F := Ideal) h a i = _
  rw [val_main_v3_apply, val_main_v2_apply, tn, Finset.sum_range]
  refine Finset.sum_congr rfl fun k _ => (mul_comm _ _).trans ?_
  exact congrArg₂ _ (at2_eq h _) (at2_eq a _)

theorem algebraic : Cert.algebraic_Kernel5Ideal_Reference5Ideal := by
  intro m ρ m' ρ' _ hagree
  refine ⟨fun c => res m c, ?_, ?_⟩
  · exact (θ_run Cert.Kernel5Ideal.defs _ _).mono (fun _ h c => ⟨(h c).1.trans (G2_eq m c), (h c).2⟩)
      (Cert.Kernel5Ideal.Value.run (F := Ideal) m ρ)
  refine (θ_run Cert.Reference5Ideal.defs _ _).mono (fun _ h c => ⟨(h c).1.trans ?_, (h c).2⟩)
    (Cert.Reference5Ideal.Value.run (F := Ideal) m' ρ')
  rw [(hagree c).1, (hagree c).2, Cert.Reference5Ideal.Read.val_main_v4_eq]
  exact funext fun i => ref_eq (H m c) (A m c) i

end Cert.Mm.Dwin

end
-- ==== Proof.Mm.Da.lean ====
/-
  The gradient of the MLP's hidden values before their activation, the squared ReLU: the kernel's result array is
  `(g · w_outᵀ) · 2 · max(a, 0)` for layer 3's weights. Its grid is 4 by 8 blocks of the result.
-/
module

public import proofs.«01_k».proof.Proof.Mm.Sum
public import proofs.«01_k».proof.Proof.Gen.Kernel4Ideal.Value
public import Idealize.ShloMosaic.Lib.Tactic

@[expose] public section

set_option maxRecDepth 16384

noncomputable section

namespace Cert.Mm.Da

open Idealize.ShloMosaic Idealize.ShloMosaic.TcCoe Idealize.ShloMosaic.ValueIdx Idealize.SL.Sem Cert.Coord
open Idealize.ShloMosaic.Pipeline (Dat)
open Cert.Kernel4Ideal Cert.Kernel4Ideal.Gen Cert.Kernel4Ideal.Value
open scoped BigOperators

/-! ## One point's payload -/

abbrev D := dot_S1024x2048_S1024x2048_S1024x1024_1_1_0_0_n_n

/-- A block's product with the transpose of one layer's block of weights. -/
theorem dot_apply (x : FVec Ideal S1024x2048 .bf16) (w : FVec Ideal S1x1024x2048 .bf16) (i : S1024x1024.Idx) :
    matmul D none x (shapeCast S1024x2048 w shapeCasts_S1x1024x2048_S1024x2048) (constant S1024x1024 .f32 0x00000000#32) i
      = nt (at2 x) (at3 w 0) 2048 (i 0).val (i 1).val := by
  refine (Ideal.matmul_apply D none _ _ _ _).trans ?_
  rw [zero_apply, zero_add]
  refine sum_dot1 D 2048 rfl rfl _ _ _ (fun k => at2 x (i 0).val k) (fun k => at3 w 0 (i 1).val k) (fun k => ?_) (fun k => ?_)
  · refine (at2_eq x _).trans ?_
    congr 1 <;> simp [DotDims.lhsIdx, D, dot_S1024x2048_S1024x2048_S1024x1024_1_1_0_0_n_n] <;> rfl
  · refine (shapeCast_apply _ _ _ (ix3 (n0 := 1) (n1 := 1024) (n2 := 2048) 0 (D.rhsIdx i k 0) (D.rhsIdx i k 1)) ?_).trans
      ((at3_eq w _).trans ?_)
    · rw [Shape.rowMajor_val_two, Shape.rowMajor_val_three]
      show (0 * 1024 + (D.rhsIdx i k 0).val) * 2048 + (D.rhsIdx i k 1).val = (D.rhsIdx i k 0).val * 2048 + (D.rhsIdx i k 1).val
      omega
    · show at3 w 0 (D.rhsIdx i k 0).val (D.rhsIdx i k 1).val = _
      congr 1 <;> simp [DotDims.rhsIdx, D, dot_S1024x2048_S1024x2048_S1024x1024_1_1_0_0_n_n] <;> rfl

/-- The derivative of the squared ReLU. -/
def act (a : EReal) : EReal := Ideal.ofBits .f32 0x40000000#32 * max a 0

theorem act_nonpos (a : EReal) (h : a ≤ 0) : act a = 0 := by
  unfold act; rw [max_eq_right h, mul_zero]

theorem pay1_apply (x : FVec Ideal S1024x2048 .bf16) (w : FVec Ideal S1x1024x2048 .bf16) (a : FVec Ideal S1024x1024 .f32)
    (i : S1024x1024.Idx) :
    k0_pay1 (F := Ideal) x w a i = nt (at2 x) (at3 w 0) 2048 (i 0).val (i 1).val * act (a i) := by
  have hz : Ideal.ofBits .f32 0x00000000#32 = 0 := by simp
  refine (congrArg (· * (Ideal.ofBits .f32 0x40000000#32 * max (a i) (Ideal.ofBits .f32 0x00000000#32))) (dot_apply x w i) :
    k0_pay1 (F := Ideal) x w a i = _).trans ?_
  rw [hz]
  rfl

theorem out_eq {F : FTy → Type} [FloatOps F] (x0 : Vec F S1024x2048 .bf16) (x1 : Vec F S1x1024x2048 .bf16)
    (x2 : Vec F S1024x1024 .f32) : out0_3 x0 x1 x2 = k0_pay1 x0 x1 x2 := by
  unfold out0_3
  rw [View.canon_unit_zero hz2, View.ld_unit_zero (S := S1024x2048) hz2, View.ld_unit_zero (S := S1x1024x2048) hz3,
    View.ld_unit_zero (S := S1024x1024) hz2]

/-! ## The grid -/

theorem idx0 : ∀ t : Fin grid0.N, win0_0.index t 0 = t.val / 8 ∧ win0_0.index t 1 = 0 := by decide +kernel
theorem idx1 : ∀ t : Fin grid0.N, win0_1.index t 0 = 3 ∧ win0_1.index t 1 = t.val % 8 ∧ win0_1.index t 2 = 0 := by decide +kernel
theorem idx2 : ∀ t : Fin grid0.N, win0_2.index t 0 = t.val / 8 ∧ win0_2.index t 1 = t.val % 8 := by decide +kernel
theorem idx3 : ∀ t : Fin grid0.N, win0_3.index t 0 = t.val / 8 ∧ win0_3.index t 1 = t.val % 8 := by decide +kernel

variable (m : (ℓ : Loc nD τ sig) → Buf (Elt Ideal) ℓ) (c : Dev nD)

abbrev G : S4096x2048.Idx → EReal := m ((c : Thread nD τ).loc main_arg0)
abbrev W : S4x8192x2048.Idx → EReal := m ((c : Thread nD τ).loc main_arg1)
abbrev A : S4096x8192.Idx → EReal := m ((c : Thread nD τ).loc main_arg2)

theorem blk0 (t : Fin cfg0.N) (r k : ℕ) (hr : r < 1024) (hk : k < 2048) :
    at2 (n0 := 1024) (n1 := 2048) (iblk m c 0 t) r k = at2 (G m c) (1024 * (t.val / 8) + r) k := by
  have hi := idx0 t
  have hN : t.val < 32 := N_0 ▸ t.isLt
  rw [at2_lt _ hr hk, at2_lt _ (by omega) hk]
  unfold iblk
  rw [View.read_apply]
  show V m c main_arg0 _ = m (c.tc.loc main_arg0) _
  unfold V
  congr 1
  funext a
  apply Fin.ext
  match a with
  | ⟨0, _⟩ => show win0_0.index t 0 * 1024 + 1 * r = _; rw [hi.1]; show _ = 1024 * (t.val / 8) + r; omega
  | ⟨1, _⟩ => show win0_0.index t 1 * 2048 + 1 * k = _; rw [hi.2]; show _ = k; omega

theorem blk1 (t : Fin cfg0.N) (r k : ℕ) (hr : r < 1024) (hk : k < 2048) :
    at3 (n0 := 1) (n1 := 1024) (n2 := 2048) (iblk m c 1 t) 0 r k = at3 (W m c) 3 (1024 * (t.val % 8) + r) k := by
  have hi := idx1 t
  have hN : t.val < 32 := N_0 ▸ t.isLt
  rw [at3_lt _ (by decide) hr hk, at3_lt _ (by decide) (by omega) hk]
  unfold iblk
  rw [View.read_apply]
  show V m c main_arg1 _ = m (c.tc.loc main_arg1) _
  unfold V
  congr 1
  funext a
  apply Fin.ext
  match a with
  | ⟨0, _⟩ => show win0_1.index t 0 * 1 + 1 * 0 = _; rw [hi.1]
  | ⟨1, _⟩ => show win0_1.index t 1 * 1024 + 1 * r = _; rw [hi.2.1]; show _ = 1024 * (t.val % 8) + r; omega
  | ⟨2, _⟩ => show win0_1.index t 2 * 2048 + 1 * k = _; rw [hi.2.2]; show _ = k; omega

theorem blk2 (t : Fin cfg0.N) (r k : ℕ) (hr : r < 1024) (hk : k < 1024) :
    at2 (n0 := 1024) (n1 := 1024) (iblk m c 2 t) r k = at2 (A m c) (1024 * (t.val / 8) + r) (1024 * (t.val % 8) + k) := by
  have hi := idx2 t
  have hN : t.val < 32 := N_0 ▸ t.isLt
  rw [at2_lt _ hr hk, at2_lt _ (by omega) (by omega)]
  unfold iblk
  rw [View.read_apply]
  show V m c main_arg2 _ = m (c.tc.loc main_arg2) _
  unfold V
  congr 1
  funext a
  apply Fin.ext
  match a with
  | ⟨0, _⟩ => show win0_2.index t 0 * 1024 + 1 * r = _; rw [hi.1]; show _ = 1024 * (t.val / 8) + r; omega
  | ⟨1, _⟩ => show win0_2.index t 1 * 1024 + 1 * k = _; rw [hi.2]; show _ = 1024 * (t.val % 8) + k; omega

/-- The gradient at a row and a column. -/
def da (r s : ℕ) : EReal := nt (at2 (G m c)) (at3 (W m c) 3) 2048 r s * act (at2 (A m c) r s)

theorem pay1_pt (t : Fin cfg0.N) (i : S1024x1024.Idx) : k0_pay1 (F := Ideal) (iblk m c 0 t) (iblk m c 1 t) (iblk m c 2 t) i
    = da m c (1024 * (t.val / 8) + (i 0).val) (1024 * (t.val % 8) + (i 1).val) := by
  have h0 := idx2_lt0 i
  have h1 := idx2_lt1 i
  rw [pay1_apply, at2_eq (iblk m c 2 t) i, blk2 m c t _ _ h0 h1]
  refine congrArg (· * _) (Finset.sum_congr rfl fun k hk => ?_)
  have hk := Finset.mem_range.mp hk
  rw [blk0 m c t _ _ h0 hk, blk1 m c t _ _ h1 hk]

/-- The result array. -/
def res : S4096x8192.Idx → EReal := fun i => da m c (i 0).val (i 1).val

theorem final : (dats m 0 c).arrAt 3 cfg0.N = res m c :=
  (dats m 0 c).arrAt_eq_of_cover 3 (res m c) (fun t _ => by
    rw [flushed3, out_eq]
    funext j
    have hi := idx3 t
    refine (pay1_pt m c t _).trans ?_
    rw [View.read_apply]
    show _ = da m c (win0_3.index t 0 * 1024 + 1 * (j 0).val) (win0_3.index t 1 * 1024 + 1 * (j 1).val)
    rw [hi.1, hi.2, Nat.one_mul, Nat.one_mul, Nat.mul_comm _ 1024, Nat.mul_comm _ 1024]) fun i => by
    have h0 : (i 0 : Nat) < 4096 := (i 0).isLt
    have h1 : (i 1 : Nat) < 8192 := (i 1).isLt
    let t : Fin cfg0.N := ⟨8 * ((i 0 : Nat) / 1024) + (i 1 : Nat) / 1024, by rw [show cfg0.N = 32 from N_0]; omega⟩
    have hi := idx3 t
    have ht : t.val = 8 * ((i 0 : Nat) / 1024) + (i 1 : Nat) / 1024 := rfl
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [hi.1]; omega
    | ⟨1, _⟩ => show win0_3.index t 1 * 1024 ≤ (i 1 : Nat) ∧ (i 1 : Nat) < win0_3.index t 1 * 1024 + 1024
                rw [hi.2]; omega

end Cert.Mm.Da

end
-- ==== Proof.Mm.Dhm.lean ====
/-
  The gradient of the MLP's normalised input: the kernel's result array is `da · w_inᵀ` for layer 3's weights. Its grid is
  4 by 2 blocks of the result by 4 blocks of the summed axis; the partial sums wait in the scratch.
-/
module

public import proofs.«01_k».proof.Proof.Mm.Da
public import proofs.«01_k».proof.Proof.Gen.Kernel6Ideal.Value

@[expose] public section

set_option maxRecDepth 16384

noncomputable section

namespace Cert.Mm.Dhm

open Idealize.ShloMosaic Idealize.ShloMosaic.TcCoe Idealize.ShloMosaic.ValueIdx Idealize.SL.Sem Cert.Coord
open Idealize.ShloMosaic.Pipeline (Dat)
open Cert.Kernel6Ideal Cert.Kernel6Ideal.Gen Cert.Kernel6Ideal.Value
open scoped BigOperators

/-! ## One point's payloads -/

theorem pay1_apply (x : FVec Ideal S1024x2048 .bf16) (w : FVec Ideal S1x1024x2048 .bf16) (i : S1024x1024.Idx) :
    k0_pay1 (F := Ideal) x w i = nt (at2 x) (at3 w 0) 2048 (i 0).val (i 1).val := by
  unfold k0_pay1
  dsimp only
  rw [shapeCast_self]
  exact Da.dot_apply x w i

theorem pay3_apply (p : FVec Ideal S1024x1024 .f32) (x : FVec Ideal S1024x2048 .bf16) (w : FVec Ideal S1x1024x2048 .bf16)
    (i : S1024x1024.Idx) : k0_pay3 (F := Ideal) p x w i = p i + nt (at2 x) (at3 w 0) 2048 (i 0).val (i 1).val :=
  congrArg (p i + ·) (Da.dot_apply x w i)

/-- The partial sum kept in the scratch and the last one are the same value. -/
theorem pay2_eq {F : FTy → Type} [FloatOps F] (p : Vec F S1024x1024 .f32) (x : Vec F S1024x2048 .bf16)
    (w : Vec F S1x1024x2048 .bf16) : k0_pay2 p x w = k0_pay3 p x w := by
  unfold k0_pay2
  dsimp only
  rw [shapeCast_self]
  rfl

/-! ## What a point leaves in the buffers -/

section Out

variable {F : FTy → Type} [FloatOps F]
variable (c : Dev nD) (i : grid0.Coords) (a3 : Memref sig .tc .vmem S1024x2048 .bf16) (h3 : a3.IsWhole)
  (a4 : Memref sig .tc .vmem S1x1024x2048 .bf16) (h4 : a4.IsWhole) (a5 : Memref sig .tc .vmem S1024x1024 .f32) (h5 : a5.IsWhole)
  (a6 : Memref sig .tc .vmem S1024x1024 .f32) (h6 : a6.IsWhole)
  (x0 : Vec F S1024x2048 .bf16) (x1 : Vec F S1x1024x2048 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x2048) hz2,
    View.ld_unit_zero (S := S1x1024x2048) hz3]

theorem sout_B (hc0 : ¬cond0_0 i) (hc1 : cond0_1 i) (hc2 : ¬cond0_2 i) :
    sout0_B_0 c i a3 h3 a4 h4 a5 h5 a6 h6 hc0 hc1 hc2 x0 x1 p = k0_pay3 p x0 x1 := by
  unfold sout0_B_0
  rw [View.read_writes_eq_canon _ _ _ (scover0_B_0 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S1024x2048) hz2,
    View.ld_unit_zero (S := S1x1024x2048) hz3, View.ld_unit_zero (S := S1024x1024) hz2]
  exact pay2_eq p x0 x1

theorem out_C (hc0 : ¬cond0_0 i) (hc1 : ¬cond0_1 i) (hc2 : cond0_2 i) :
    out0_C_2 c i a3 h3 a4 h4 a5 h5 a6 h6 hc0 hc1 hc2 x0 x1 p = k0_pay3 p x0 x1 := by
  unfold out0_C_2
  rw [View.read_writes_eq_canon _ _ _ (cover0_C_2 c i a3 h3 a4 h4 a5 h5 a6 h6 hc0 hc1 hc2 x0 x1 p)]
  unfold kernelRun0_C
  dsimp only
  sl_unfold_words
  rw [View.canon_unit_zero hz2]
  simp only [View.readAt_eq_ld, h3.read_unread, h4.read_unread, h6.read_unread, View.ld_unit_zero (S := S1024x2048) hz2,
    View.ld_unit_zero (S := S1x1024x2048) hz3, View.ld_unit_zero (S := S1024x1024) hz2]

end Out

/-! ## The grid -/

theorem idx0 : ∀ t : Fin grid0.N, win0_0.index t 0 = t.val / 8 ∧ win0_0.index t 1 = t.val % 4 := by decide +kernel
theorem idx1 : ∀ t : Fin grid0.N, win0_1.index t 0 = 3 ∧ win0_1.index t 1 = t.val / 4 % 2 ∧ win0_1.index t 2 = t.val % 4 := by
  decide +kernel

variable (m : (ℓ : Loc nD τ sig) → Buf (Elt Ideal) ℓ) (c : Dev nD)

abbrev A : S4096x8192.Idx → EReal := m ((c : Thread nD τ).loc main_arg0)
abbrev W : S4x2048x8192.Idx → EReal := m ((c : Thread nD τ).loc main_arg1)

theorem blk0 (t : Fin cfg0.N) (r k : ℕ) (hr : r < 1024) (hk : k < 2048) :
    at2 (n0 := 1024) (n1 := 2048) (iblk m c 0 t) r k = at2 (A m c) (1024 * (t.val / 8) + r) (2048 * (t.val % 4) + k) := by
  have hi := idx0 t
  have hN : t.val < 32 := N_0 ▸ t.isLt
  rw [at2_lt _ hr hk, at2_lt _ (by omega) (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r = _; rw [hi.1]; show _ = 1024 * (t.val / 8) + r; omega
  | ⟨1, _⟩ => show win0_0.index t 1 * 2048 + 1 * k = _; rw [hi.2]; show _ = 2048 * (t.val % 4) + k; omega

theorem blk1 (t : Fin cfg0.N) (r k : ℕ) (hr : r < 1024) (hk : k < 2048) :
    at3 (n0 := 1) (n1 := 1024) (n2 := 2048) (iblk m c 1 t) 0 r k
      = at3 (W m c) 3 (1024 * (t.val / 4 % 2) + r) (2048 * (t.val % 4) + k) := by
  have hi := idx1 t
  have hN : t.val < 32 := N_0 ▸ t.isLt
  rw [at3_lt _ (by decide) hr hk, at3_lt _ (by decide) (by omega) (by omega)]
  unfold iblk
  rw [View.read_apply]
  show V m c main_arg1 _ = m (c.tc.loc main_arg1) _
  unfold V
  congr 1
  funext a
  apply Fin.ext
  match a with
  | ⟨0, _⟩ => show win0_1.index t 0 * 1 + 1 * 0 = _; rw [hi.1]
  | ⟨1, _⟩ => show win0_1.index t 1 * 1024 + 1 * r = _; rw [hi.2.1]; show _ = 1024 * (t.val / 4 % 2) + r; omega
  | ⟨2, _⟩ => show win0_1.index t 2 * 2048 + 1 * k = _; rw [hi.2.2]; show _ = 2048 * (t.val % 4) + k; omega

/-- One point's product: the terms of its block of the summed axis. -/
theorem dot_pt (t : Fin cfg0.N) (i : S1024x1024.Idx) :
    nt (at2 (n0 := 1024) (n1 := 2048) (iblk m c 0 t)) (at3 (n0 := 1) (n1 := 1024) (n2 := 2048) (iblk m c 1 t) 0) 2048 (i 0).val (i 1).val
      = ∑ k ∈ Finset.range 2048, at2 (A m c) (1024 * (t.val / 8) + (i 0).val) (2048 * (t.val % 4) + k)
          * at3 (W m c) 3 (1024 * (t.val / 4 % 2) + (i 1).val) (2048 * (t.val % 4) + k) := by
  have h0 := idx2_lt0 i
  have h1 := idx2_lt1 i
  refine Finset.sum_congr rfl fun k hk => ?_
  have hk := Finset.mem_range.mp hk
  rw [blk0 m c t _ _ h0 hk, blk1 m c t _ _ h1 hk]

/-- The first `2048 * q` terms of the block's element that point `n` works on. -/
abbrev part (n q : ℕ) (i : S1024x1024.Idx) : EReal :=
  nt (at2 (A m c)) (at3 (W m c) 3) (2048 * q) (1024 * (n / 8) + (i 0).val) (1024 * (n / 4 % 2) + (i 1).val)

/-- The last payload after the blocks before `n`'s. -/
theorem pay3_pt (n : ℕ) (h : n < cfg0.N) (p : FVec Ideal S1024x1024 .f32) (i : S1024x1024.Idx) (hp : p i = part m c n (n % 4) i) :
    k0_pay3 (F := Ideal) p (iblk m c 0 ⟨n, h⟩) (iblk m c 1 ⟨n, h⟩) i = part m c n (n % 4 + 1) i := by
  rw [pay3_apply, dot_pt, hp]
  exact nt_add (at2 (A m c)) (at3 (W m c) 3) (2048 * (n % 4)) 2048 _ _

/-- The scratch before the last block. -/
theorem partial_eq : ∀ (n : ℕ) (h : n < cfg0.N), n % 4 < 3 → ∀ i : S1024x1024.Idx,
    (outsAt0 m c n h).2 i = part m c n (n % 4 + 1) i := by
  intro n
  induction n using Nat.strong_induction_on with
  | _ n ih =>
  intro h h3 i
  by_cases h0 : n % 4 = 0
  · rw [outsAt0_A m c ⟨n, h⟩ h0 (by dsimp only; omega) (by dsimp only; omega), sout_A]
    refine (pay1_apply (iblk m c 0 ⟨n, h⟩) (iblk m c 1 ⟨n, h⟩) i).trans ((dot_pt m c ⟨n, h⟩ i).trans ?_)
    show ∑ k ∈ _, at2 (A m c) _ (2048 * (n % 4) + k) * at3 (W m c) 3 _ (2048 * (n % 4) + k) = _
    rw [h0]
    refine Finset.sum_congr rfl fun k _ => ?_
    rw [Nat.mul_zero, Nat.zero_add]
  · rw [outsAt0_B m c ⟨n, h⟩ h0 (by dsimp only; omega) (by dsimp only; omega), sout_B]
    refine pay3_pt m c n h (outsAt0 m c (n - 1) _).2 i ((ih (n - 1) (by omega) (by omega) (by omega) i).trans ?_)
    unfold part
    rw [show (n - 1) / 8 = n / 8 by omega, show (n - 1) / 4 = n / 4 by omega, show (n - 1) % 4 + 1 = n % 4 by omega]

/-- The result's block after the last. -/
theorem last_eq (n : ℕ) (h : n < cfg0.N) (h3 : n % 4 = 3) (i : S1024x1024.Idx) : (outsAt0 m c n h).1 i = part m c n 4 i := by
  rw [outsAt0_C m c ⟨n, h⟩ (by dsimp only; omega) (by dsimp only; omega) h3, out_C]
  refine (pay3_pt m c n h (outsAt0 m c (n - 1) _).2 i ((partial_eq m c (n - 1) (by omega) (by omega) i).trans ?_)).trans ?_
  · unfold part
    rw [show (n - 1) / 8 = n / 8 by omega, show (n - 1) / 4 = n / 4 by omega, show (n - 1) % 4 + 1 = n % 4 by omega]
  · rw [h3]

/-- The result array. -/
def res : S4096x2048.Idx → EReal := fun i => nt (at2 (A m c)) (at3 (W m c) 3) 8192 (i 0).val (i 1).val

theorem G2_eq : G2 (F := Ideal) m c = res m c := by
  funext i
  have h0 : (i 0).val < 4096 := (i 0).isLt
  have h1 : (i 1).val < 2048 := (i 1).isLt
  have hp : pt2Of i = 8 * ((i 0).val / 1024) + 4 * ((i 1).val / 1024) + 3 := by
    show 4 * (2 * ((i 0).val / 1024 - 0) + 1 * ((i 1).val / 1024 - 0)) + 3 = _
    omega
  have h : pt2Of i < cfg0.N := by rw [hp, show cfg0.N = 32 from N_0]; omega
  unfold G2
  rw [dif_pos h, ← outsAt0_sweep m c (pt2Of i) h, last_eq m c _ h (by rw [hp]; omega), hp]
  refine congrArg₂ (nt (at2 (A m c)) (at3 (W m c) 3) 8192) ?_ ?_
  · show _ + (i 0).val % 1024 = _; omega
  · show _ + (i 1).val % 1024 = _; omega

end Cert.Mm.Dhm

end
-- ==== Proof.Mm.ClaimsX.lean ====
/-
  The claims about the kernels of the MLP's activations' gradients.
-/
module

public import proofs.«01_k».proof.Defs
public import proofs.«01_k».proof.Proof.Mm.Dhm
public import proofs.«01_k».proof.Proof.Gen.Kernel4.Frame
public import proofs.«01_k».proof.Proof.Gen.Kernel6.Frame
public import proofs.«01_k».proof.Proof.Gen.Reference4Ideal.Read
public import proofs.«01_k».proof.Proof.Gen.Reference6Ideal.Read
public import Idealize.ShloMosaic.Adequacy
public import Idealize.ShloMosaic.Init

@[expose] public section

set_option maxRecDepth 16384

noncomputable section

open Idealize.ShloMosaic Idealize.ShloMosaic.TcCoe Idealize.ShloMosaic.ValueIdx Idealize.SL.Sem Cert.Coord

/-! ## The hidden values -/

namespace Cert.Mm.Da

theorem frameP : Cert.quiescent_Kernel4 := fun m ρ _ => Cert.Kernel4.Gen.frame m ρ

theorem framePI : Cert.quiescent_Kernel4Ideal := fun m ρ _ => Cert.Kernel4Ideal.Gen.frame m ρ

theorem frameRI : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

open Cert.Reference4Ideal Cert.Reference4Ideal.Read in
/-- Layer 3's weights, cut out of the stack. -/
theorem weights_eq (w : S4x8192x2048.Idx → EReal) (i : S8192x2048.Idx) :
    val_main_v9 (F := Ideal) w i = at3 w 3 (i 0).val (i 1).val := by
  have h0 : (i 0).val < 8192 := (i 0).isLt
  have h1 : (i 1).val < 2048 := (i 1).isLt
  rw [val_main_v9_apply]
  show val_main_v8 (F := Ideal) w i = _
  rw [val_main_v8_apply, val_main_v7_apply]
  refine (at3_eq w _).trans (congrArg₂ (at3 w 3) ?_ ?_)
  · show ((i 0).val * 2048 + (i 1).val) / 2048 % 8192 = _; omega
  · show ((i 0).val * 2048 + (i 1).val) % 2048 = _; omega

open Cert.Reference4Ideal Cert.Reference4Ideal.Read in
/-- The reference's element: where the hidden value isn't positive it is zero, as is the kernel's factor there. -/
theorem ref_eq (g : S4096x2048.Idx → EReal) (w : S4x8192x2048.Idx → EReal) (a : S4096x8192.Idx → EReal) (i : S4096x8192.Idx) :
    val_main_v16 (F := Ideal) g w a i
      = nt (at2 g) (at3 w 3) 2048 (i 0).val (i 1).val * act (at2 a (i 0).val (i 1).val) := by
  have hz : Ideal.ofBits .f32 0x00000000#32 = 0 := by simp
  have hd : val_main_v12 (F := Ideal) g w i = nt (at2 g) (at3 w 3) 2048 (i 0).val (i 1).val := by
    rw [val_main_v12_apply, nt, Finset.sum_range]
    exact Finset.sum_congr rfl fun k _ => congrArg₂ _ (at2_eq g _) (weights_eq w _)
  have hm : val_main_v6 (F := Ideal) a i = act (a i) := by
    rw [val_main_v6_apply, val_main_v5_apply, val_main_v0_apply, val_main_call0_v0_apply]
    show Ideal.ofBits .f32 0x40000000#32 * max (a i) (Ideal.ofBits .f32 0x00000000#32) = _
    rw [hz]
    rfl
  have hp : val_main_v13 (F := Ideal) g w a i = nt (at2 g) (at3 w 3) 2048 (i 0).val (i 1).val * act (a i) := by
    rw [val_main_v13_apply, hd, hm]
    rfl
  have hc : val_main_v2 (F := Ideal) a i = BitVec.ofBool (decide (0 < a i)) := by
    rw [val_main_v2_apply, val_main_v1_apply]
    show Ideal.cmp .ogt (a i) (Ideal.ofBits .f32 0x00000000#32) = _
    rw [hz]
    rfl
  have h14 : val_main_v14 (F := Ideal) i = 0 := by
    rw [val_main_v14_apply]
    exact hz
  rw [val_main_v16_apply]
  show val_main_v15 (F := Ideal) g w a i = _
  rw [val_main_v15_apply, hc, hp, h14, ← at2_eq a i]
  by_cases h : 0 < a i
  · rw [decide_eq_true h]; exact select_one _ _
  · rw [decide_eq_false h, act_nonpos _ (not_lt.mp h), mul_zero]; exact select_zero _ _

theorem algebraic : Cert.algebraic_Kernel4Ideal_Reference4Ideal := by
  intro m ρ m' ρ' _ hagree
  refine ⟨fun c => res m c, ?_, ?_⟩
  · exact (θ_run Cert.Kernel4Ideal.defs _ _).mono (fun _ h c => ⟨(h c).1.trans (final m c), (h c).2⟩)
      (Cert.Kernel4Ideal.Value.run_blocks (F := Ideal) m ρ)
  refine (θ_run Cert.Reference4Ideal.defs _ _).mono (fun _ h c => ⟨(h c).1.trans ?_, (h c).2⟩)
    (Cert.Reference4Ideal.Value.run (F := Ideal) m' ρ')
  rw [(hagree c).1, (hagree c).2.1, (hagree c).2.2, Cert.Reference4Ideal.Read.val_main_v16_eq]
  exact funext fun i => ref_eq (G m c) (W m c) (A m c) i

end Cert.Mm.Da

/-! ## The normalised input -/

namespace Cert.Mm.Dhm

theorem frameP : Cert.quiescent_Kernel6 := fun m ρ _ => Cert.Kernel6.Gen.frame m ρ

theorem framePI : Cert.quiescent_Kernel6Ideal := fun m ρ _ => Cert.Kernel6Ideal.Gen.frame m ρ

theorem frameRI : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)

open Cert.Reference6Ideal Cert.Reference6Ideal.Read in
theorem weights_eq (w : S4x2048x8192.Idx → EReal) (i : S2048x8192.Idx) :
    val_main_v2 (F := Ideal) w i = at3 w 3 (i 0).val (i 1).val := by
  have h0 : (i 0).val < 2048 := (i 0).isLt
  have h1 : (i 1).val < 8192 := (i 1).isLt
  rw [val_main_v2_apply]
  show val_main_v1 (F := Ideal) w i = _
  rw [val_main_v1_apply, val_main_v0_apply]
  refine (at3_eq w _).trans (congrArg₂ (at3 w 3) ?_ ?_)
  · show ((i 0).val * 8192 + (i 1).val) / 8192 % 2048 = _; omega
  · show ((i 0).val * 8192 + (i 1).val) % 8192 = _; omega

open Cert.Reference6Ideal Cert.Reference6Ideal.Read in
theorem ref_eq (a : S4096x8192.Idx → EReal) (w : S4x2048x8192.Idx → EReal) (i : S4096x2048.Idx) :
    val_main_v4 (F := Ideal) a w i = nt (at2 a) (at3 w 3) 8192 (i 0).val (i 1).val := by
  rw [val_main_v4_apply, nt, Finset.sum_range]
  exact Finset.sum_congr rfl fun k _ => congrArg₂ _ (at2_eq a _) (weights_eq w _)

theorem algebraic : Cert.algebraic_Kernel6Ideal_Reference6Ideal := by
  intro m ρ m' ρ' _ hagree
  refine ⟨fun c => res m c, ?_, ?_⟩
  · exact (θ_run Cert.Kernel6Ideal.defs _ _).mono (fun _ h c => ⟨(h c).1.trans (G2_eq m c), (h c).2⟩)
      (Cert.Kernel6Ideal.Value.run (F := Ideal) m ρ)
  refine (θ_run Cert.Reference6Ideal.defs _ _).mono (fun _ h c => ⟨(h c).1.trans ?_, (h c).2⟩)
    (Cert.Reference6Ideal.Value.run (F := Ideal) m' ρ')
  rw [(hagree c).1, (hagree c).2, Cert.Reference6Ideal.Read.val_main_v4_eq]
  exact funext fun i => ref_eq (A m c) (W m c) i

end Cert.Mm.Dhm

end
-- ==== Proof.Mm.Wo.lean ====
/-
  The gradient of an output projection's weights (the attention's and the gate's): the kernel's result array is `yᵀ · g`.
  Its grid is 2 by 2 blocks of the result by 2 blocks of the summed rows; the first block's product waits in the scratch
  for the second's.
-/
module

public import proofs.«01_k».proof.Proof.Mm.Dwout
public import proofs.«01_k».proof.Proof.Mm.Block
public import proofs.«01_k».proof.Proof.Gen.Kernel7Ideal.Value

@[expose] public section

set_option maxRecDepth 16384

noncomputable section

namespace Cert.Mm.Wo

open Idealize.ShloMosaic Idealize.ShloMosaic.TcCoe Idealize.ShloMosaic.ValueIdx Idealize.SL.Sem Cert.Coord
open Cert.Kernel7Ideal Cert.Kernel7Ideal.Gen Cert.Kernel7Ideal.Value

/-! ## What a point leaves in the buffers -/

section Out

variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S2048x1024 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S2048x1024) hz2,
    View.ld_unit_zero (S := S1024x1024) hz2]

end Out

/-! ## The grid -/

theorem idx0 : ∀ t : Fin grid0.N, win0_0.index t 0 = t.val % 2 ∧ win0_0.index t 1 = t.val / 2 / 2 := by decide +kernel
theorem idx1 : ∀ t : Fin grid0.N, win0_1.index t 0 = t.val % 2 ∧ win0_1.index t 1 = t.val / 2 % 2 := by decide +kernel

variable (m : (ℓ : Loc nD τ sig) → Buf (Elt Ideal) ℓ) (c : Dev nD)

abbrev X : S4096x2048.Idx → EReal := m ((c : Thread nD τ).loc main_arg0)
abbrev G : S4096x2048.Idx → EReal := m ((c : Thread nD τ).loc main_arg1)

/-- The result's block after the second block of rows. -/
theorem last (n : ℕ) (h : n < cfg0.N) (hn : n % 2 = 1) (i : S1024x1024.Idx) : (outsAt0 m c n h).1 i
    = tn (at2 (X m c)) (at2 (G m c)) 4096 (1024 * (n / 2 / 2) + (i 0).val) (1024 * (n / 2 % 2) + (i 1).val) :=
  blocks 2 (fun g b => tn (at2 (X m c)) (at2 (G m c)) (2048 * b) (1024 * (g / 2) + (i 0).val) (1024 * (g % 2) + (i 1).val))
    (fun n h => tn (at2 (n0 := 2048) (n1 := 1024) (iblk m c 0 ⟨n, h⟩)) (at2 (n0 := 2048) (n1 := 1024) (iblk m c 1 ⟨n, h⟩)) 2048
      (i 0).val (i 1).val)
    (fun n h => (outsAt0 m c n h).2 i) (fun n h => (outsAt0 m c n h).1 i) (by decide) (fun g => Finset.sum_range_zero _)
    (fun n h => tn_block _ _ _ _
      (fun k hk => (at2_block (X m c) (iblk m c 0 ⟨n, h⟩) _ (fun _ => rfl) (fun _ => rfl) (fun _ => rfl) hk (idx2_lt0 i)).trans
        (by rw [(idx0 ⟨n, h⟩).1, (idx0 ⟨n, h⟩).2]))
      (fun k hk => (at2_block (G m c) (iblk m c 1 ⟨n, h⟩) _ (fun _ => rfl) (fun _ => rfl) (fun _ => rfl) hk (idx2_lt1 i)).trans
        (by rw [(idx1 ⟨n, h⟩).1, (idx1 ⟨n, h⟩).2])))
    (fun n h hz => by
      rw [outsAt0_A m c ⟨n, h⟩ hz (by dsimp only; omega), sout_A]
      exact Dwout.pay1_apply (iblk m c 0 ⟨n, h⟩) (iblk m c 1 ⟨n, h⟩) i)
    (fun n h hz hl => absurd hl (by omega))
    (fun n h hl => by
      rw [outsAt0_B m c ⟨n, h⟩ (by dsimp only; omega) hl, out_B]
      exact Dwout.pay3_apply (outsAt0 m c (n - 1) _).2 (iblk m c 0 ⟨n, h⟩) (iblk m c 1 ⟨n, h⟩) i)
    n h hn

/-- The result array. -/
def res : S2048x2048.Idx → EReal := fun i => tn (at2 (X m c)) (at2 (G m c)) 4096 (i 0).val (i 1).val

theorem G2_eq : G2 (F := Ideal) m c = res m c := by
  funext i
  have h0 : (i 0).val < 2048 := (i 0).isLt
  have h1 : (i 1).val < 2048 := (i 1).isLt
  have hp : pt2Of i = 4 * ((i 0).val / 1024) + 2 * ((i 1).val / 1024) + 1 := by
    show 2 * (2 * ((i 0).val / 1024 - 0) + 1 * ((i 1).val / 1024 - 0)) + 1 = _
    omega
  have h : pt2Of i < cfg0.N := by rw [hp, show cfg0.N = 8 from N_0]; omega
  unfold G2
  rw [dif_pos h, ← outsAt0_sweep m c (pt2Of i) h, last m c _ h (by rw [hp]; omega), hp]
  refine congrArg₂ (tn (at2 (X m c)) (at2 (G m c)) 4096) ?_ ?_
  · show _ + (i 0).val % 1024 = _; omega
  · show _ + (i 1).val % 1024 = _; omega

end Cert.Mm.Wo

end
-- ==== Proof.Mm.Wqkv.lean ====
/-
  The gradient of the attention's input weights, and the same call for the state-space mixer's convolved part: the kernel's
  result array is `hnᵀ · dqkv`. Its grid is 2 by 6 blocks of the result by 2 blocks of the summed rows.
-/
module

public import proofs.«01_k».proof.Proof.Mm.Dwout
public import proofs.«01_k».proof.Proof.Mm.Block
public import proofs.«01_k».proof.Proof.Gen.Kernel8Ideal.Value

@[expose] public section

set_option maxRecDepth 16384

noncomputable section

namespace Cert.Mm.Wqkv

open Idealize.ShloMosaic Idealize.ShloMosaic.TcCoe Idealize.ShloMosaic.ValueIdx Idealize.SL.Sem Cert.Coord
open Cert.Kernel8Ideal Cert.Kernel8Ideal.Gen Cert.Kernel8Ideal.Value

/-! ## What a point leaves in the buffers -/

section Out

variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S2048x1024 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S2048x1024) hz2,
    View.ld_unit_zero (S := S1024x1024) hz2]

end Out

/-! ## The grid -/

theorem idx0 : ∀ t : Fin grid0.N, win0_0.index t 0 = t.val % 2 ∧ win0_0.index t 1 = t.val / 2 / 6 := by decide +kernel
theorem idx1 : ∀ t : Fin grid0.N, win0_1.index t 0 = t.val % 2 ∧ win0_1.index t 1 = t.val / 2 % 6 := by decide +kernel

variable (m : (ℓ : Loc nD τ sig) → Buf (Elt Ideal) ℓ) (c : Dev nD)

abbrev H : S4096x2048.Idx → EReal := m ((c : Thread nD τ).loc main_arg0)
abbrev Q : S4096x6144.Idx → EReal := m ((c : Thread nD τ).loc main_arg1)

/-- The result's block after the second block of rows. -/
theorem last (n : ℕ) (h : n < cfg0.N) (hn : n % 2 = 1) (i : S1024x1024.Idx) : (outsAt0 m c n h).1 i
    = tn (at2 (H m c)) (at2 (Q m c)) 4096 (1024 * (n / 2 / 6) + (i 0).val) (1024 * (n / 2 % 6) + (i 1).val) :=
  blocks 2 (fun g b => tn (at2 (H m c)) (at2 (Q m c)) (2048 * b) (1024 * (g / 6) + (i 0).val) (1024 * (g % 6) + (i 1).val))
    (fun n h => tn (at2 (n0 := 2048) (n1 := 1024) (iblk m c 0 ⟨n, h⟩)) (at2 (n0 := 2048) (n1 := 1024) (iblk m c 1 ⟨n, h⟩)) 2048
      (i 0).val (i 1).val)
    (fun n h => (outsAt0 m c n h).2 i) (fun n h => (outsAt0 m c n h).1 i) (by decide) (fun g => Finset.sum_range_zero _)
    (fun n h => tn_block _ _ _ _
      (fun k hk => (at2_block (H m c) (iblk m c 0 ⟨n, h⟩) _ (fun _ => rfl) (fun _ => rfl) (fun _ => rfl) hk (idx2_lt0 i)).trans
        (by rw [(idx0 ⟨n, h⟩).1, (idx0 ⟨n, h⟩).2]))
      (fun k hk => (at2_block (Q m c) (iblk m c 1 ⟨n, h⟩) _ (fun _ => rfl) (fun _ => rfl) (fun _ => rfl) hk (idx2_lt1 i)).trans
        (by rw [(idx1 ⟨n, h⟩).1, (idx1 ⟨n, h⟩).2])))
    (fun n h hz => by
      rw [outsAt0_A m c ⟨n, h⟩ hz (by dsimp only; omega), sout_A]
      exact Dwout.pay1_apply (iblk m c 0 ⟨n, h⟩) (iblk m c 1 ⟨n, h⟩) i)
    (fun n h hz hl => absurd hl (by omega))
    (fun n h hl => by
      rw [outsAt0_B m c ⟨n, h⟩ (by dsimp only; omega) hl, out_B]
      exact Dwout.pay3_apply (outsAt0 m c (n - 1) _).2 (iblk m c 0 ⟨n, h⟩) (iblk m c 1 ⟨n, h⟩) i)
    n h hn

/-- The result array. -/
def res : S2048x6144.Idx → EReal := fun i => tn (at2 (H m c)) (at2 (Q m c)) 4096 (i 0).val (i 1).val

theorem G2_eq : G2 (F := Ideal) m c = res m c := by
  funext i
  have h0 : (i 0).val < 2048 := (i 0).isLt
  have h1 : (i 1).val < 6144 := (i 1).isLt
  have hp : pt2Of i = 12 * ((i 0).val / 1024) + 2 * ((i 1).val / 1024) + 1 := by
    show 2 * (6 * ((i 0).val / 1024 - 0) + 1 * ((i 1).val / 1024 - 0)) + 1 = _
    omega
  have h : pt2Of i < cfg0.N := by rw [hp, show cfg0.N = 24 from N_0]; omega
  unfold G2
  rw [dif_pos h, ← outsAt0_sweep m c (pt2Of i) h, last m c _ h (by rw [hp]; omega), hp]
  refine congrArg₂ (tn (at2 (H m c)) (at2 (Q m c)) 4096) ?_ ?_
  · show _ + (i 0).val % 1024 = _; omega
  · show _ + (i 1).val % 1024 = _; omega

end Cert.Mm.Wqkv

end
-- ==== Proof.Mm.GmWin.lean ====
/-
  The gradient of the gate's input weights, and the same call for the state-space mixer's `z`: the kernel's result array is
  `hnᵀ · dp`. Its grid is 2 by 4 blocks of the result by 2 blocks of the summed rows.
-/
module

public import proofs.«01_k».proof.Proof.Mm.Dwout
public import proofs.«01_k».proof.Proof.Mm.Block
public import proofs.«01_k».proof.Proof.Gen.Kernel9Ideal.Value

@[expose] public section

set_option maxRecDepth 16384

noncomputable section

namespace Cert.Mm.GmWin

open Idealize.ShloMosaic Idealize.ShloMosaic.TcCoe Idealize.ShloMosaic.ValueIdx Idealize.SL.Sem Cert.Coord
open Cert.Kernel9Ideal Cert.Kernel9Ideal.Gen Cert.Kernel9Ideal.Value

/-! ## What a point leaves in the buffers -/

section Out

variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S2048x1024 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S2048x1024) hz2,
    View.ld_unit_zero (S := S1024x1024) hz2]

end Out

/-! ## The grid -/

theorem idx0 : ∀ t : Fin grid0.N, win0_0.index t 0 = t.val % 2 ∧ win0_0.index t 1 = t.val / 2 / 4 := by decide +kernel
theorem idx1 : ∀ t : Fin grid0.N, win0_1.index t 0 = t.val % 2 ∧ win0_1.index t 1 = t.val / 2 % 4 := by decide +kernel

variable (m : (ℓ : Loc nD τ sig) → Buf (Elt Ideal) ℓ) (c : Dev nD)

abbrev H : S4096x2048.Idx → EReal := m ((c : Thread nD τ).loc main_arg0)
abbrev P : S4096x4096.Idx → EReal := m ((c : Thread nD τ).loc main_arg1)

/-- The result's block after the second block of rows. -/
theorem last (n : ℕ) (h : n < cfg0.N) (hn : n % 2 = 1) (i : S1024x1024.Idx) : (outsAt0 m c n h).1 i
    = tn (at2 (H m c)) (at2 (P m c)) 4096 (1024 * (n / 2 / 4) + (i 0).val) (1024 * (n / 2 % 4) + (i 1).val) :=
  blocks 2 (fun g b => tn (at2 (H m c)) (at2 (P m c)) (2048 * b) (1024 * (g / 4) + (i 0).val) (1024 * (g % 4) + (i 1).val))
    (fun n h => tn (at2 (n0 := 2048) (n1 := 1024) (iblk m c 0 ⟨n, h⟩)) (at2 (n0 := 2048) (n1 := 1024) (iblk m c 1 ⟨n, h⟩)) 2048
      (i 0).val (i 1).val)
    (fun n h => (outsAt0 m c n h).2 i) (fun n h => (outsAt0 m c n h).1 i) (by decide) (fun g => Finset.sum_range_zero _)
    (fun n h => tn_block _ _ _ _
      (fun k hk => (at2_block (H m c) (iblk m c 0 ⟨n, h⟩) _ (fun _ => rfl) (fun _ => rfl) (fun _ => rfl) hk (idx2_lt0 i)).trans
        (by rw [(idx0 ⟨n, h⟩).1, (idx0 ⟨n, h⟩).2]))
      (fun k hk => (at2_block (P m c) (iblk m c 1 ⟨n, h⟩) _ (fun _ => rfl) (fun _ => rfl) (fun _ => rfl) hk (idx2_lt1 i)).trans
        (by rw [(idx1 ⟨n, h⟩).1, (idx1 ⟨n, h⟩).2])))
    (fun n h hz => by
      rw [outsAt0_A m c ⟨n, h⟩ hz (by dsimp only; omega), sout_A]
      exact Dwout.pay1_apply (iblk m c 0 ⟨n, h⟩) (iblk m c 1 ⟨n, h⟩) i)
    (fun n h hz hl => absurd hl (by omega))
    (fun n h hl => by
      rw [outsAt0_B m c ⟨n, h⟩ (by dsimp only; omega) hl, out_B]
      exact Dwout.pay3_apply (outsAt0 m c (n - 1) _).2 (iblk m c 0 ⟨n, h⟩) (iblk m c 1 ⟨n, h⟩) i)
    n h hn

/-- The result array. -/
def res : S2048x4096.Idx → EReal := fun i => tn (at2 (H m c)) (at2 (P m c)) 4096 (i 0).val (i 1).val

theorem G2_eq : G2 (F := Ideal) m c = res m c := by
  funext i
  have h0 : (i 0).val < 2048 := (i 0).isLt
  have h1 : (i 1).val < 4096 := (i 1).isLt
  have hp : pt2Of i = 8 * ((i 0).val / 1024) + 2 * ((i 1).val / 1024) + 1 := by
    show 2 * (4 * ((i 0).val / 1024 - 0) + 1 * ((i 1).val / 1024 - 0)) + 1 = _
    omega
  have h : pt2Of i < cfg0.N := by rw [hp, show cfg0.N = 16 from N_0]; omega
  unfold G2
  rw [dif_pos h, ← outsAt0_sweep m c (pt2Of i) h, last m c _ h (by rw [hp]; omega), hp]
  refine congrArg₂ (tn (at2 (H m c)) (at2 (P m c)) 4096) ?_ ?_
  · show _ + (i 0).val % 1024 = _; omega
  · show _ + (i 1).val % 1024 = _; omega

end Cert.Mm.GmWin

end
-- ==== Proof.Mm.SsdWo.lean ====
/-
  The gradient of the state-space mixer's output weights: the kernel's result array is `ynᵀ · g`. Its grid is 4 by 2 blocks
  of the result by 2 blocks of the summed rows.
-/
module

public import proofs.«01_k».proof.Proof.Mm.Dwout
public import proofs.«01_k».proof.Proof.Mm.Block
public import proofs.«01_k».proof.Proof.Gen.Kernel10Ideal.Value

@[expose] public section

set_option maxRecDepth 16384

noncomputable section

namespace Cert.Mm.SsdWo

open Idealize.ShloMosaic Idealize.ShloMosaic.TcCoe Idealize.ShloMosaic.ValueIdx Idealize.SL.Sem Cert.Coord
open Cert.Kernel10Ideal Cert.Kernel10Ideal.Gen Cert.Kernel10Ideal.Value

/-! ## What a point leaves in the buffers -/

section Out

variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S2048x1024 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S2048x1024) hz2,
    View.ld_unit_zero (S := S1024x1024) hz2]

end Out

/-! ## The grid -/

theorem idx0 : ∀ t : Fin grid0.N, win0_0.index t 0 = t.val % 2 ∧ win0_0.index t 1 = t.val / 2 / 2 := by decide +kernel
theorem idx1 : ∀ t : Fin grid0.N, win0_1.index t 0 = t.val % 2 ∧ win0_1.index t 1 = t.val / 2 % 2 := by decide +kernel

variable (m : (ℓ : Loc nD τ sig) → Buf (Elt Ideal) ℓ) (c : Dev nD)

abbrev Y : S4096x4096.Idx → EReal := m ((c : Thread nD τ).loc main_arg0)
abbrev G : S4096x2048.Idx → EReal := m ((c : Thread nD τ).loc main_arg1)

/-- The result's block after the second block of rows. -/
theorem last (n : ℕ) (h : n < cfg0.N) (hn : n % 2 = 1) (i : S1024x1024.Idx) : (outsAt0 m c n h).1 i
    = tn (at2 (Y m c)) (at2 (G m c)) 4096 (1024 * (n / 2 / 2) + (i 0).val) (1024 * (n / 2 % 2) + (i 1).val) :=
  blocks 2 (fun g b => tn (at2 (Y m c)) (at2 (G m c)) (2048 * b) (1024 * (g / 2) + (i 0).val) (1024 * (g % 2) + (i 1).val))
    (fun n h => tn (at2 (n0 := 2048) (n1 := 1024) (iblk m c 0 ⟨n, h⟩)) (at2 (n0 := 2048) (n1 := 1024) (iblk m c 1 ⟨n, h⟩)) 2048
      (i 0).val (i 1).val)
    (fun n h => (outsAt0 m c n h).2 i) (fun n h => (outsAt0 m c n h).1 i) (by decide) (fun g => Finset.sum_range_zero _)
    (fun n h => tn_block _ _ _ _
      (fun k hk => (at2_block (Y m c) (iblk m c 0 ⟨n, h⟩) _ (fun _ => rfl) (fun _ => rfl) (fun _ => rfl) hk (idx2_lt0 i)).trans
        (by rw [(idx0 ⟨n, h⟩).1, (idx0 ⟨n, h⟩).2]))
      (fun k hk => (at2_block (G m c) (iblk m c 1 ⟨n, h⟩) _ (fun _ => rfl) (fun _ => rfl) (fun _ => rfl) hk (idx2_lt1 i)).trans
        (by rw [(idx1 ⟨n, h⟩).1, (idx1 ⟨n, h⟩).2])))
    (fun n h hz => by
      rw [outsAt0_A m c ⟨n, h⟩ hz (by dsimp only; omega), sout_A]
      exact Dwout.pay1_apply (iblk m c 0 ⟨n, h⟩) (iblk m c 1 ⟨n, h⟩) i)
    (fun n h hz hl => absurd hl (by omega))
    (fun n h hl => by
      rw [outsAt0_B m c ⟨n, h⟩ (by dsimp only; omega) hl, out_B]
      exact Dwout.pay3_apply (outsAt0 m c (n - 1) _).2 (iblk m c 0 ⟨n, h⟩) (iblk m c 1 ⟨n, h⟩) i)
    n h hn

/-- The result array. -/
def res : S4096x2048.Idx → EReal := fun i => tn (at2 (Y m c)) (at2 (G m c)) 4096 (i 0).val (i 1).val

theorem G2_eq : G2 (F := Ideal) m c = res m c := by
  funext i
  have h0 : (i 0).val < 4096 := (i 0).isLt
  have h1 : (i 1).val < 2048 := (i 1).isLt
  have hp : pt2Of i = 4 * ((i 0).val / 1024) + 2 * ((i 1).val / 1024) + 1 := by
    show 2 * (2 * ((i 0).val / 1024 - 0) + 1 * ((i 1).val / 1024 - 0)) + 1 = _
    omega
  have h : pt2Of i < cfg0.N := by rw [hp, show cfg0.N = 16 from N_0]; omega
  unfold G2
  rw [dif_pos h, ← outsAt0_sweep m c (pt2Of i) h, last m c _ h (by rw [hp]; omega), hp]
  refine congrArg₂ (tn (at2 (Y m c)) (at2 (G m c)) 4096) ?_ ?_
  · show _ + (i 0).val % 1024 = _; omega
  · show _ + (i 1).val % 1024 = _; omega

end Cert.Mm.SsdWo

end
-- ==== Proof.Mm.Wdt.lean ====
/-
  The gradient of the weights of the state-space mixer's time steps: the kernel's result array is `hnᵀ · draw`, 128 columns
  wide. Its grid is 2 blocks of the result's rows by 2 blocks of the summed rows.
-/
module

public import proofs.«01_k».proof.Proof.Mm.Dwout
public import proofs.«01_k».proof.Proof.Mm.Block
public import proofs.«01_k».proof.Proof.Gen.Kernel19Ideal.Value

@[expose] public section

set_option maxRecDepth 16384

noncomputable section

namespace Cert.Mm.Wdt

open Idealize.ShloMosaic Idealize.ShloMosaic.TcCoe Idealize.ShloMosaic.ValueIdx Idealize.SL.Sem Cert.Coord
open Cert.Kernel19Ideal Cert.Kernel19Ideal.Gen Cert.Kernel19Ideal.Value

/-! ## One point's payloads -/

abbrev D := dot_S2048x1024_S2048x128_S1024x128_0_0_1_1_n_n

theorem dot_apply (x : FVec Ideal S2048x1024 .bf16) (y : FVec Ideal S2048x128 .bf16) (i : S1024x128.Idx) :
    matmul D none x y (constant S1024x128 .f32 0x00000000#32) i = tn (at2 x) (at2 y) 2048 (i 0).val (i 1).val := by
  refine (Ideal.matmul_apply D none _ _ _ _).trans ?_
  rw [zero_apply, zero_add]
  refine sum_dot1 D 2048 rfl rfl _ _ _ (fun k => at2 x k (i 0).val) (fun k => at2 y k (i 1).val) (fun k => ?_) (fun k => ?_)
  · refine (at2_eq x _).trans ?_
    congr 1 <;> simp [DotDims.lhsIdx, D, dot_S2048x1024_S2048x128_S1024x128_0_0_1_1_n_n] <;> rfl
  · refine (at2_eq y _).trans ?_
    congr 1 <;> simp [DotDims.rhsIdx, D, dot_S2048x1024_S2048x128_S1024x128_0_0_1_1_n_n] <;> rfl

theorem pay1_apply (x : FVec Ideal S2048x1024 .bf16) (y : FVec Ideal S2048x128 .bf16) (i : S1024x128.Idx) :
    k0_pay1 (F := Ideal) x y i = tn (at2 x) (at2 y) 2048 (i 0).val (i 1).val := by
  unfold k0_pay1
  dsimp only
  rw [shapeCast_self]
  exact dot_apply x y i

theorem pay3_apply (p : FVec Ideal S1024x128 .f32) (x : FVec Ideal S2048x1024 .bf16) (y : FVec Ideal S2048x128 .bf16)
    (i : S1024x128.Idx) : k0_pay3 (F := Ideal) p x y i = p i + tn (at2 x) (at2 y) 2048 (i 0).val (i 1).val :=
  congrArg (p i + ·) (dot_apply x y i)

/-! ## What a point leaves in the buffers -/

section Out

variable {F : FTy → Type} [FloatOps F]
variable (c : Dev nD) (i : grid0.Coords) (a3 : Memref sig .tc .vmem S2048x1024 .bf16) (h3 : a3.IsWhole)
  (a4 : Memref sig .tc .vmem S2048x128 .bf16) (h4 : a4.IsWhole) (a5 : Memref sig .tc .vmem S1024x128 .bf16) (h5 : a5.IsWhole)
  (a6 : Memref sig .tc .vmem S1024x128 .f32) (h6 : a6.IsWhole)
  (x0 : Vec F S2048x1024 .bf16) (x1 : Vec F S2048x128 .bf16) (p : Vec F S1024x128 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2,
    View.ld_unit_zero (S := S2048x128) hz2]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S2048x1024) hz2,
    View.ld_unit_zero (S := S2048x128) hz2, View.ld_unit_zero (S := S1024x128) hz2]

end Out

/-! ## The grid -/

theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = 0 := by decide +kernel

variable (m : (ℓ : Loc nD τ sig) → Buf (Elt Ideal) ℓ) (c : Dev nD)

abbrev H : S4096x2048.Idx → EReal := m ((c : Thread nD τ).loc main_arg0)
abbrev R : S4096x128.Idx → EReal := m ((c : Thread nD τ).loc main_arg1)

/-- The result's block after the second block of rows. -/
theorem last (n : ℕ) (h : n < cfg0.N) (hn : n % 2 = 1) (i : S1024x128.Idx) : (outsAt0 m c n h).1 i
    = tn (at2 (H m c)) (at2 (R m c)) 4096 (1024 * (n / 2) + (i 0).val) (i 1).val :=
  blocks 2 (fun g b => tn (at2 (H m c)) (at2 (R m c)) (2048 * b) (1024 * g + (i 0).val) (i 1).val)
    (fun n h => tn (at2 (n0 := 2048) (n1 := 1024) (iblk m c 0 ⟨n, h⟩)) (at2 (n0 := 2048) (n1 := 128) (iblk m c 1 ⟨n, h⟩)) 2048
      (i 0).val (i 1).val)
    (fun n h => (outsAt0 m c n h).2 i) (fun n h => (outsAt0 m c n h).1 i) (by decide) (fun g => Finset.sum_range_zero _)
    (fun n h => tn_block _ _ _ _
      (fun k hk => (at2_block (H m c) (iblk m c 0 ⟨n, h⟩) _ (fun _ => rfl) (fun _ => rfl) (fun _ => rfl) hk (idx2_lt0 i)).trans
        (by rw [(idx0 ⟨n, h⟩).1, (idx0 ⟨n, h⟩).2]))
      (fun k hk => (at2_block (R m c) (iblk m c 1 ⟨n, h⟩) _ (fun _ => rfl) (fun _ => rfl) (fun _ => rfl) hk (idx2_lt1 i)).trans
        (by rw [(idx1 ⟨n, h⟩).1, (idx1 ⟨n, h⟩).2, Nat.mul_zero, Nat.zero_add])))
    (fun n h hz => by
      rw [outsAt0_A m c ⟨n, h⟩ hz (by dsimp only; omega), sout_A]
      exact pay1_apply (iblk m c 0 ⟨n, h⟩) (iblk m c 1 ⟨n, h⟩) i)
    (fun n h hz hl => absurd hl (by omega))
    (fun n h hl => by
      rw [outsAt0_B m c ⟨n, h⟩ (by dsimp only; omega) hl, out_B]
      exact pay3_apply (outsAt0 m c (n - 1) _).2 (iblk m c 0 ⟨n, h⟩) (iblk m c 1 ⟨n, h⟩) i)
    n h hn

/-- The result array. -/
def res : S2048x128.Idx → EReal := fun i => tn (at2 (H m c)) (at2 (R m c)) 4096 (i 0).val (i 1).val

theorem G2_eq : G2 (F := Ideal) m c = res m c := by
  funext i
  have h0 : (i 0).val < 2048 := (i 0).isLt
  have h1 : (i 1).val < 128 := (i 1).isLt
  have hp : pt2Of i = 2 * ((i 0).val / 1024) + 1 := by
    show 2 * (1 * ((i 0).val / 1024 - 0) + 1 * ((i 1).val / 128 - 0)) + 1 = _
    omega
  have h : pt2Of i < cfg0.N := by rw [hp, show cfg0.N = 4 from N_0]; omega
  unfold G2
  rw [dif_pos h, ← outsAt0_sweep m c (pt2Of i) h, last m c _ h (by rw [hp]; omega), hp]
  refine congrArg₂ (tn (at2 (H m c)) (at2 (R m c)) 4096) ?_ ?_
  · show _ + (i 0).val % 1024 = _; omega
  · show (i 1).val % 128 = _; omega

end Cert.Mm.Wdt

end
-- ==== Proof.Mm.ClaimsT.lean ====
/-
  The claims about the kernels of the mixers' weights' gradients.
-/
module

public import proofs.«01_k».proof.Defs
public import proofs.«01_k».proof.Proof.Mm.Wo
public import proofs.«01_k».proof.Proof.Gen.Kernel7.Frame
public import proofs.«01_k».proof.Proof.Gen.Reference7Ideal.Read
public import proofs.«01_k».proof.Proof.Mm.Wqkv
public import proofs.«01_k».proof.Proof.Gen.Kernel8.Frame
public import proofs.«01_k».proof.Proof.Gen.Reference8Ideal.Read
public import proofs.«01_k».proof.Proof.Mm.GmWin
public import proofs.«01_k».proof.Proof.Gen.Kernel9.Frame
public import proofs.«01_k».proof.Proof.Gen.Reference9Ideal.Read
public import proofs.«01_k».proof.Proof.Mm.SsdWo
public import proofs.«01_k».proof.Proof.Gen.Kernel10.Frame
public import proofs.«01_k».proof.Proof.Gen.Reference10Ideal.Read
public import proofs.«01_k».proof.Proof.Mm.Wdt
public import proofs.«01_k».proof.Proof.Gen.Kernel19.Frame
public import proofs.«01_k».proof.Proof.Gen.Reference19Ideal.Read
public import Idealize.ShloMosaic.Adequacy
public import Idealize.ShloMosaic.Init

@[expose] public section

set_option maxRecDepth 16384

noncomputable section

open Idealize.ShloMosaic Idealize.ShloMosaic.TcCoe Idealize.ShloMosaic.ValueIdx Idealize.SL.Sem Cert.Coord

/-! ## The attention's and the gate's output weights -/

namespace Cert.Mm.Wo

theorem frameP : Cert.quiescent_Kernel7 := fun m ρ _ => Cert.Kernel7.Gen.frame m ρ

theorem framePI : Cert.quiescent_Kernel7Ideal := fun m ρ _ => Cert.Kernel7Ideal.Gen.frame m ρ

theorem frameRI : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

open Cert.Reference7Ideal Cert.Reference7Ideal.Read in
theorem ref_eq (x : S4096x2048.Idx → EReal) (y : S4096x2048.Idx → EReal) (i : S2048x2048.Idx) :
    val_main_v4 (F := Ideal) x y i = tn (at2 x) (at2 y) 4096 (i 0).val (i 1).val := by
  rw [val_main_v4_apply]
  show val_main_v3 (F := Ideal) x y i = _
  rw [val_main_v3_apply, val_main_v2_apply, tn, Finset.sum_range]
  exact Finset.sum_congr rfl fun k _ => (mul_comm _ _).trans (congrArg₂ _ (at2_eq x _) (at2_eq y _))

theorem algebraic : Cert.algebraic_Kernel7Ideal_Reference7Ideal := by
  intro m ρ m' ρ' _ hagree
  refine ⟨fun c => res m c, ?_, ?_⟩
  · exact (θ_run Cert.Kernel7Ideal.defs _ _).mono (fun _ h c => ⟨(h c).1.trans (G2_eq m c), (h c).2⟩)
      (Cert.Kernel7Ideal.Value.run (F := Ideal) m ρ)
  refine (θ_run Cert.Reference7Ideal.defs _ _).mono (fun _ h c => ⟨(h c).1.trans ?_, (h c).2⟩)
    (Cert.Reference7Ideal.Value.run (F := Ideal) m' ρ')
  rw [(hagree c).1, (hagree c).2, Cert.Reference7Ideal.Read.val_main_v4_eq]
  exact funext fun i => ref_eq (X m c) (G m c) i

end Cert.Mm.Wo

/-! ## The attention's input weights -/

namespace Cert.Mm.Wqkv

theorem frameP : Cert.quiescent_Kernel8 := fun m ρ _ => Cert.Kernel8.Gen.frame m ρ

theorem framePI : Cert.quiescent_Kernel8Ideal := fun m ρ _ => Cert.Kernel8Ideal.Gen.frame m ρ

theorem frameRI : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

open Cert.Reference8Ideal Cert.Reference8Ideal.Read in
theorem ref_eq (x : S4096x2048.Idx → EReal) (y : S4096x6144.Idx → EReal) (i : S2048x6144.Idx) :
    val_main_v4 (F := Ideal) x y i = tn (at2 x) (at2 y) 4096 (i 0).val (i 1).val := by
  rw [val_main_v4_apply]
  show val_main_v3 (F := Ideal) x y i = _
  rw [val_main_v3_apply, val_main_v2_apply, tn, Finset.sum_range]
  exact Finset.sum_congr rfl fun k _ => (mul_comm _ _).trans (congrArg₂ _ (at2_eq x _) (at2_eq y _))

theorem algebraic : Cert.algebraic_Kernel8Ideal_Reference8Ideal := by
  intro m ρ m' ρ' _ hagree
  refine ⟨fun c => res m c, ?_, ?_⟩
  · exact (θ_run Cert.Kernel8Ideal.defs _ _).mono (fun _ h c => ⟨(h c).1.trans (G2_eq m c), (h c).2⟩)
      (Cert.Kernel8Ideal.Value.run (F := Ideal) m ρ)
  refine (θ_run Cert.Reference8Ideal.defs _ _).mono (fun _ h c => ⟨(h c).1.trans ?_, (h c).2⟩)
    (Cert.Reference8Ideal.Value.run (F := Ideal) m' ρ')
  rw [(hagree c).1, (hagree c).2, Cert.Reference8Ideal.Read.val_main_v4_eq]
  exact funext fun i => ref_eq (H m c) (Q m c) i

end Cert.Mm.Wqkv

/-! ## The gate's input weights -/

namespace Cert.Mm.GmWin

theorem frameP : Cert.quiescent_Kernel9 := fun m ρ _ => Cert.Kernel9.Gen.frame m ρ

theorem framePI : Cert.quiescent_Kernel9Ideal := fun m ρ _ => Cert.Kernel9Ideal.Gen.frame m ρ

theorem frameRI : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run m ρ)

open Cert.Reference9Ideal Cert.Reference9Ideal.Read in
theorem ref_eq (x : S4096x2048.Idx → EReal) (y : S4096x4096.Idx → EReal) (i : S2048x4096.Idx) :
    val_main_v4 (F := Ideal) x y i = tn (at2 x) (at2 y) 4096 (i 0).val (i 1).val := by
  rw [val_main_v4_apply]
  show val_main_v3 (F := Ideal) x y i = _
  rw [val_main_v3_apply, val_main_v2_apply, tn, Finset.sum_range]
  exact Finset.sum_congr rfl fun k _ => (mul_comm _ _).trans (congrArg₂ _ (at2_eq x _) (at2_eq y _))

theorem algebraic : Cert.algebraic_Kernel9Ideal_Reference9Ideal := by
  intro m ρ m' ρ' _ hagree
  refine ⟨fun c => res m c, ?_, ?_⟩
  · exact (θ_run Cert.Kernel9Ideal.defs _ _).mono (fun _ h c => ⟨(h c).1.trans (G2_eq m c), (h c).2⟩)
      (Cert.Kernel9Ideal.Value.run (F := Ideal) m ρ)
  refine (θ_run Cert.Reference9Ideal.defs _ _).mono (fun _ h c => ⟨(h c).1.trans ?_, (h c).2⟩)
    (Cert.Reference9Ideal.Value.run (F := Ideal) m' ρ')
  rw [(hagree c).1, (hagree c).2, Cert.Reference9Ideal.Read.val_main_v4_eq]
  exact funext fun i => ref_eq (H m c) (P m c) i

end Cert.Mm.GmWin

/-! ## The state-space mixer's output weights -/

namespace Cert.Mm.SsdWo

theorem frameP : Cert.quiescent_Kernel10 := fun m ρ _ => Cert.Kernel10.Gen.frame m ρ

theorem framePI : Cert.quiescent_Kernel10Ideal := fun m ρ _ => Cert.Kernel10Ideal.Gen.frame m ρ

theorem frameRI : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run m ρ)

open Cert.Reference10Ideal Cert.Reference10Ideal.Read in
theorem ref_eq (x : S4096x4096.Idx → EReal) (y : S4096x2048.Idx → EReal) (i : S4096x2048.Idx) :
    val_main_v4 (F := Ideal) x y i = tn (at2 x) (at2 y) 4096 (i 0).val (i 1).val := by
  rw [val_main_v4_apply]
  show val_main_v3 (F := Ideal) x y i = _
  rw [val_main_v3_apply, val_main_v2_apply, tn, Finset.sum_range]
  exact Finset.sum_congr rfl fun k _ => (mul_comm _ _).trans (congrArg₂ _ (at2_eq x _) (at2_eq y _))

theorem algebraic : Cert.algebraic_Kernel10Ideal_Reference10Ideal := by
  intro m ρ m' ρ' _ hagree
  refine ⟨fun c => res m c, ?_, ?_⟩
  · exact (θ_run Cert.Kernel10Ideal.defs _ _).mono (fun _ h c => ⟨(h c).1.trans (G2_eq m c), (h c).2⟩)
      (Cert.Kernel10Ideal.Value.run (F := Ideal) m ρ)
  refine (θ_run Cert.Reference10Ideal.defs _ _).mono (fun _ h c => ⟨(h c).1.trans ?_, (h c).2⟩)
    (Cert.Reference10Ideal.Value.run (F := Ideal) m' ρ')
  rw [(hagree c).1, (hagree c).2, Cert.Reference10Ideal.Read.val_main_v4_eq]
  exact funext fun i => ref_eq (Y m c) (G m c) i

end Cert.Mm.SsdWo

/-! ## The weights of the state-space mixer's time steps -/

namespace Cert.Mm.Wdt

theorem frameP : Cert.quiescent_Kernel19 := fun m ρ _ => Cert.Kernel19.Gen.frame m ρ

theorem framePI : Cert.quiescent_Kernel19Ideal := fun m ρ _ => Cert.Kernel19Ideal.Gen.frame m ρ

theorem frameRI : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run m ρ)

open Cert.Reference19Ideal Cert.Reference19Ideal.Read in
theorem ref_eq (x : S4096x2048.Idx → EReal) (y : S4096x128.Idx → EReal) (i : S2048x128.Idx) :
    val_main_v4 (F := Ideal) x y i = tn (at2 x) (at2 y) 4096 (i 0).val (i 1).val := by
  rw [val_main_v4_apply]
  show val_main_v3 (F := Ideal) x y i = _
  rw [val_main_v3_apply, val_main_v2_apply, tn, Finset.sum_range]
  exact Finset.sum_congr rfl fun k _ => (mul_comm _ _).trans (congrArg₂ _ (at2_eq x _) (at2_eq y _))

theorem algebraic : Cert.algebraic_Kernel19Ideal_Reference19Ideal := by
  intro m ρ m' ρ' _ hagree
  refine ⟨fun c => res m c, ?_, ?_⟩
  · exact (θ_run Cert.Kernel19Ideal.defs _ _).mono (fun _ h c => ⟨(h c).1.trans (G2_eq m c), (h c).2⟩)
      (Cert.Kernel19Ideal.Value.run (F := Ideal) m ρ)
  refine (θ_run Cert.Reference19Ideal.defs _ _).mono (fun _ h c => ⟨(h c).1.trans ?_, (h c).2⟩)
    (Cert.Reference19Ideal.Value.run (F := Ideal) m' ρ')
  rw [(hagree c).1, (hagree c).2, Cert.Reference19Ideal.Read.val_main_v4_eq]
  exact funext fun i => ref_eq (H m c) (R m c) i

end Cert.Mm.Wdt

end
-- ==== Proof.Mm.Do.lean ====
/-
  The gradient of the attention's result: the kernel's result array is `g · w_oᵀ` for the output weights of the second of the
  two attention layers. Its grid is 4 by 2 blocks of the result; the summed axis is one block.
-/
module

public import proofs.«01_k».proof.Proof.Mm.Da
public import proofs.«01_k».proof.Proof.Mm.Block
public import proofs.«01_k».proof.Proof.Gen.Kernel11Ideal.Value

@[expose] public section

set_option maxRecDepth 16384

noncomputable section

namespace Cert.Mm.Do

open Idealize.ShloMosaic Idealize.ShloMosaic.TcCoe Idealize.ShloMosaic.ValueIdx Idealize.SL.Sem Cert.Coord
open Idealize.ShloMosaic.Pipeline (Dat)
open Cert.Kernel11Ideal Cert.Kernel11Ideal.Gen Cert.Kernel11Ideal.Value

theorem out_eq {F : FTy → Type} [FloatOps F] (x0 : Vec F S1024x2048 .bf16) (x1 : Vec F S1x1024x2048 .bf16) :
    out0_2 x0 x1 = k0_pay1 x0 x1 := by
  unfold out0_2
  rw [View.canon_unit_zero hz2, View.ld_unit_zero (S := S1024x2048) hz2, View.ld_unit_zero (S := S1x1024x2048) hz3]

theorem idx0 : ∀ t : Fin grid0.N, win0_0.index t 0 = t.val / 2 ∧ win0_0.index t 1 = 0 := by decide +kernel
theorem idx1 : ∀ t : Fin grid0.N, win0_1.index t 0 = 1 ∧ win0_1.index t 1 = t.val % 2 ∧ win0_1.index t 2 = 0 := by decide +kernel
theorem idx2 : ∀ t : Fin grid0.N, win0_2.index t 0 = t.val / 2 ∧ win0_2.index t 1 = t.val % 2 := by decide +kernel

variable (m : (ℓ : Loc nD τ sig) → Buf (Elt Ideal) ℓ) (c : Dev nD)

abbrev G : S4096x2048.Idx → EReal := m ((c : Thread nD τ).loc main_arg0)
abbrev W : S2x2048x2048.Idx → EReal := m ((c : Thread nD τ).loc main_arg1)

theorem pay1_pt (t : Fin cfg0.N) (i : S1024x1024.Idx) : k0_pay1 (F := Ideal) (iblk m c 0 t) (iblk m c 1 t) i
    = nt (at2 (G m c)) (at3 (W m c) 1) 2048 (1024 * (t.val / 2) + (i 0).val) (1024 * (t.val % 2) + (i 1).val) :=
  (Da.dot_apply (iblk m c 0 t) (iblk m c 1 t) i).trans (nt_whole _ _ _ _
    (fun k hk => (at2_block (G m c) (iblk m c 0 t) _ (fun _ => rfl) (fun _ => rfl) (fun _ => rfl) (idx2_lt0 i) hk).trans
      (by rw [(idx0 t).1, (idx0 t).2, Nat.mul_zero, Nat.zero_add]))
    (fun k hk => (at3_block (W m c) (iblk m c 1 t) _ (fun _ => rfl) (fun _ => rfl) (fun _ => rfl) (fun _ => rfl) (idx2_lt1 i) hk).trans
      (by rw [(idx1 t).1, (idx1 t).2.1, (idx1 t).2.2, Nat.mul_zero, Nat.zero_add])))

/-- The result array. -/
def res : S4096x2048.Idx → EReal := fun i => nt (at2 (G m c)) (at3 (W m c) 1) 2048 (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = nt (at2 (G m c)) (at3 (W m c) 1) 2048 (win0_2.index t 0 * 1024 + 1 * (j 0).val) (win0_2.index t 1 * 1024 + 1 * (j 1).val)
    rw [hi.1, hi.2, Nat.one_mul, Nat.one_mul, Nat.mul_comm _ 1024, Nat.mul_comm _ 1024]) fun i => by
    have h0 : (i 0 : Nat) < 4096 := (i 0).isLt
    have h1 : (i 1 : Nat) < 2048 := (i 1).isLt
    let t : Fin cfg0.N := ⟨2 * ((i 0 : Nat) / 1024) + (i 1 : Nat) / 1024, by rw [show cfg0.N = 8 from N_0]; omega⟩
    have hi := idx2 t
    have ht : t.val = 2 * ((i 0 : Nat) / 1024) + (i 1 : Nat) / 1024 := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; omega
    | ⟨1, _⟩ => show win0_2.index t 1 * 1024 ≤ (i 1 : Nat) ∧ (i 1 : Nat) < win0_2.index t 1 * 1024 + 1024
                rw [hi.2]; omega

end Cert.Mm.Do

end
-- ==== Proof.Mm.Dhn.lean ====
/-
  The gradient of the attention's normalised input: the kernel's result array is `dqkv · w_qkvᵀ` for the weights of the second of
  the two attention layers. Its grid is 4 by 2 blocks of the result by 3 blocks of the summed axis; the partial sums wait in
  the scratch.
-/
module

public import proofs.«01_k».proof.Proof.Mm.Dhm
public import proofs.«01_k».proof.Proof.Mm.Block
public import proofs.«01_k».proof.Proof.Gen.Kernel12Ideal.Value

@[expose] public section

set_option maxRecDepth 16384

noncomputable section

namespace Cert.Mm.Dhn

open Idealize.ShloMosaic Idealize.ShloMosaic.TcCoe Idealize.ShloMosaic.ValueIdx Idealize.SL.Sem Cert.Coord
open Cert.Kernel12Ideal Cert.Kernel12Ideal.Gen Cert.Kernel12Ideal.Value

/-! ## What a point leaves in the buffers -/

section Out

variable {F : FTy → Type} [FloatOps F]
variable (c : Dev nD) (i : grid0.Coords) (a3 : Memref sig .tc .vmem S1024x2048 .bf16) (h3 : a3.IsWhole)
  (a4 : Memref sig .tc .vmem S1x1024x2048 .bf16) (h4 : a4.IsWhole) (a5 : Memref sig .tc .vmem S1024x1024 .f32) (h5 : a5.IsWhole)
  (a6 : Memref sig .tc .vmem S1024x1024 .f32) (h6 : a6.IsWhole)
  (x0 : Vec F S1024x2048 .bf16) (x1 : Vec F S1x1024x2048 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x2048) hz2,
    View.ld_unit_zero (S := S1x1024x2048) hz3]

theorem sout_B (hc0 : ¬cond0_0 i) (hc1 : cond0_1 i) (hc2 : ¬cond0_2 i) :
    sout0_B_0 c i a3 h3 a4 h4 a5 h5 a6 h6 hc0 hc1 hc2 x0 x1 p = k0_pay3 p x0 x1 := by
  unfold sout0_B_0
  rw [View.read_writes_eq_canon _ _ _ (scover0_B_0 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S1024x2048) hz2,
    View.ld_unit_zero (S := S1x1024x2048) hz3, View.ld_unit_zero (S := S1024x1024) hz2]
  exact Dhm.pay2_eq p x0 x1

theorem out_C (hc0 : ¬cond0_0 i) (hc1 : ¬cond0_1 i) (hc2 : cond0_2 i) :
    out0_C_2 c i a3 h3 a4 h4 a5 h5 a6 h6 hc0 hc1 hc2 x0 x1 p = k0_pay3 p x0 x1 := by
  unfold out0_C_2
  rw [View.read_writes_eq_canon _ _ _ (cover0_C_2 c i a3 h3 a4 h4 a5 h5 a6 h6 hc0 hc1 hc2 x0 x1 p)]
  unfold kernelRun0_C
  dsimp only
  sl_unfold_words
  rw [View.canon_unit_zero hz2]
  simp only [View.readAt_eq_ld, h3.read_unread, h4.read_unread, h6.read_unread, View.ld_unit_zero (S := S1024x2048) hz2,
    View.ld_unit_zero (S := S1x1024x2048) hz3, View.ld_unit_zero (S := S1024x1024) hz2]

end Out

/-! ## The grid -/

theorem idx0 : ∀ t : Fin grid0.N, win0_0.index t 0 = t.val / 3 / 2 ∧ win0_0.index t 1 = t.val % 3 := by decide +kernel
theorem idx1 : ∀ t : Fin grid0.N, win0_1.index t 0 = 1 ∧ win0_1.index t 1 = t.val / 3 % 2 ∧ win0_1.index t 2 = t.val % 3 := by
  decide +kernel

variable (m : (ℓ : Loc nD τ sig) → Buf (Elt Ideal) ℓ) (c : Dev nD)

abbrev A : S4096x6144.Idx → EReal := m ((c : Thread nD τ).loc main_arg0)
abbrev W : S2x2048x6144.Idx → EReal := m ((c : Thread nD τ).loc main_arg1)

/-- The result's block after the last block of the summed axis. -/
theorem last (n : ℕ) (h : n < cfg0.N) (hn : n % 3 = 2) (i : S1024x1024.Idx) : (outsAt0 m c n h).1 i
    = nt (at2 (A m c)) (at3 (W m c) 1) 6144 (1024 * (n / 3 / 2) + (i 0).val) (1024 * (n / 3 % 2) + (i 1).val) :=
  blocks 3 (fun g b => nt (at2 (A m c)) (at3 (W m c) 1) (2048 * b) (1024 * (g / 2) + (i 0).val) (1024 * (g % 2) + (i 1).val))
    (fun n h => nt (at2 (n0 := 1024) (n1 := 2048) (iblk m c 0 ⟨n, h⟩))
      (at3 (n0 := 1) (n1 := 1024) (n2 := 2048) (iblk m c 1 ⟨n, h⟩) 0) 2048 (i 0).val (i 1).val)
    (fun n h => (outsAt0 m c n h).2 i) (fun n h => (outsAt0 m c n h).1 i) (by decide) (fun g => Finset.sum_range_zero _)
    (fun n h => nt_block _ _ _ _
      (fun k hk => (at2_block (A m c) (iblk m c 0 ⟨n, h⟩) _ (fun _ => rfl) (fun _ => rfl) (fun _ => rfl) (idx2_lt0 i) hk).trans
        (by rw [(idx0 ⟨n, h⟩).1, (idx0 ⟨n, h⟩).2]))
      (fun k hk => (at3_block (W m c) (iblk m c 1 ⟨n, h⟩) _ (fun _ => rfl) (fun _ => rfl) (fun _ => rfl) (fun _ => rfl)
        (idx2_lt1 i) hk).trans (by rw [(idx1 ⟨n, h⟩).1, (idx1 ⟨n, h⟩).2.1, (idx1 ⟨n, h⟩).2.2])))
    (fun n h hz => by
      rw [outsAt0_A m c ⟨n, h⟩ hz (by dsimp only; omega) (by dsimp only; omega), sout_A]
      exact Dhm.pay1_apply (iblk m c 0 ⟨n, h⟩) (iblk m c 1 ⟨n, h⟩) i)
    (fun n h hz hl => by
      rw [outsAt0_B m c ⟨n, h⟩ hz (by dsimp only; omega) (by dsimp only; omega), sout_B]
      exact Dhm.pay3_apply (outsAt0 m c (n - 1) _).2 (iblk m c 0 ⟨n, h⟩) (iblk m c 1 ⟨n, h⟩) i)
    (fun n h hl => by
      rw [outsAt0_C m c ⟨n, h⟩ (by dsimp only; omega) (by dsimp only; omega) hl, out_C]
      exact Dhm.pay3_apply (outsAt0 m c (n - 1) _).2 (iblk m c 0 ⟨n, h⟩) (iblk m c 1 ⟨n, h⟩) i)
    n h hn

/-- The result array. -/
def res : S4096x2048.Idx → EReal := fun i => nt (at2 (A m c)) (at3 (W m c) 1) 6144 (i 0).val (i 1).val

theorem G2_eq : G2 (F := Ideal) m c = res m c := by
  funext i
  have h0 : (i 0).val < 4096 := (i 0).isLt
  have h1 : (i 1).val < 2048 := (i 1).isLt
  have hp : pt2Of i = 6 * ((i 0).val / 1024) + 3 * ((i 1).val / 1024) + 2 := by
    show 3 * (2 * ((i 0).val / 1024 - 0) + 1 * ((i 1).val / 1024 - 0)) + 2 = _
    omega
  have h : pt2Of i < cfg0.N := by rw [hp, show cfg0.N = 24 from N_0]; omega
  unfold G2
  rw [dif_pos h, ← outsAt0_sweep m c (pt2Of i) h, last m c _ h (by rw [hp]; omega), hp]
  refine congrArg₂ (nt (at2 (A m c)) (at3 (W m c) 1) 6144) ?_ ?_
  · show _ + (i 0).val % 1024 = _; omega
  · show _ + (i 1).val % 1024 = _; omega

end Cert.Mm.Dhn

end
-- ==== Proof.Mm.GmDy.lean ====
/-
  The gradient of the gate's result: the kernel's result array is `g · w_oᵀ`. Its grid is 4 by 2 blocks of the result; the
  summed axis is one block.
-/
module

public import proofs.«01_k».proof.Proof.Mm.Da
public import proofs.«01_k».proof.Proof.Mm.Block
public import proofs.«01_k».proof.Proof.Gen.Kernel13Ideal.Value

@[expose] public section

set_option maxRecDepth 16384

noncomputable section

namespace Cert.Mm.GmDy

open Idealize.ShloMosaic Idealize.ShloMosaic.TcCoe Idealize.ShloMosaic.ValueIdx Idealize.SL.Sem Cert.Coord
open Idealize.ShloMosaic.Pipeline (Dat)
open Cert.Kernel13Ideal Cert.Kernel13Ideal.Gen Cert.Kernel13Ideal.Value

theorem out_eq {F : FTy → Type} [FloatOps F] (x0 : Vec F S1024x2048 .bf16) (x1 : Vec F S1x1024x2048 .bf16) :
    out0_2 x0 x1 = k0_pay1 x0 x1 := by
  unfold out0_2
  rw [View.canon_unit_zero hz2, View.ld_unit_zero (S := S1024x2048) hz2, View.ld_unit_zero (S := S1x1024x2048) hz3]

theorem idx0 : ∀ t : Fin grid0.N, win0_0.index t 0 = t.val / 2 ∧ win0_0.index t 1 = 0 := by decide +kernel
theorem idx1 : ∀ t : Fin grid0.N, win0_1.index t 0 = 0 ∧ win0_1.index t 1 = t.val % 2 ∧ win0_1.index t 2 = 0 := by decide +kernel
theorem idx2 : ∀ t : Fin grid0.N, win0_2.index t 0 = t.val / 2 ∧ win0_2.index t 1 = t.val % 2 := by decide +kernel

variable (m : (ℓ : Loc nD τ sig) → Buf (Elt Ideal) ℓ) (c : Dev nD)

abbrev G : S4096x2048.Idx → EReal := m ((c : Thread nD τ).loc main_arg0)
abbrev W : S1x2048x2048.Idx → EReal := m ((c : Thread nD τ).loc main_arg1)

theorem pay1_pt (t : Fin cfg0.N) (i : S1024x1024.Idx) : k0_pay1 (F := Ideal) (iblk m c 0 t) (iblk m c 1 t) i
    = nt (at2 (G m c)) (at3 (W m c) 0) 2048 (1024 * (t.val / 2) + (i 0).val) (1024 * (t.val % 2) + (i 1).val) :=
  (Da.dot_apply (iblk m c 0 t) (iblk m c 1 t) i).trans (nt_whole _ _ _ _
    (fun k hk => (at2_block (G m c) (iblk m c 0 t) _ (fun _ => rfl) (fun _ => rfl) (fun _ => rfl) (idx2_lt0 i) hk).trans
      (by rw [(idx0 t).1, (idx0 t).2, Nat.mul_zero, Nat.zero_add]))
    (fun k hk => (at3_block (W m c) (iblk m c 1 t) _ (fun _ => rfl) (fun _ => rfl) (fun _ => rfl) (fun _ => rfl) (idx2_lt1 i) hk).trans
      (by rw [(idx1 t).1, (idx1 t).2.1, (idx1 t).2.2, Nat.mul_zero, Nat.zero_add])))

/-- The result array. -/
def res : S4096x2048.Idx → EReal := fun i => nt (at2 (G m c)) (at3 (W m c) 0) 2048 (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = nt (at2 (G m c)) (at3 (W m c) 0) 2048 (win0_2.index t 0 * 1024 + 1 * (j 0).val) (win0_2.index t 1 * 1024 + 1 * (j 1).val)
    rw [hi.1, hi.2, Nat.one_mul, Nat.one_mul, Nat.mul_comm _ 1024, Nat.mul_comm _ 1024]) fun i => by
    have h0 : (i 0 : Nat) < 4096 := (i 0).isLt
    have h1 : (i 1 : Nat) < 2048 := (i 1).isLt
    let t : Fin cfg0.N := ⟨2 * ((i 0 : Nat) / 1024) + (i 1 : Nat) / 1024, by rw [show cfg0.N = 8 from N_0]; omega⟩
    have hi := idx2 t
    have ht : t.val = 2 * ((i 0 : Nat) / 1024) + (i 1 : Nat) / 1024 := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; omega
    | ⟨1, _⟩ => show win0_2.index t 1 * 1024 ≤ (i 1 : Nat) ∧ (i 1 : Nat) < win0_2.index t 1 * 1024 + 1024
                rw [hi.2]; omega

end Cert.Mm.GmDy

end
-- ==== Proof.Mm.GmDhn.lean ====
/-
  The gradient of the gate's normalised input: the kernel's result array is `dp · w_inᵀ`. Its grid is 4 by 2 blocks of the
  result by 2 blocks of the summed axis; the first block's product waits in the scratch for the second's.
-/
module

public import proofs.«01_k».proof.Proof.Mm.Dhm
public import proofs.«01_k».proof.Proof.Mm.Block
public import proofs.«01_k».proof.Proof.Gen.Kernel14Ideal.Value

@[expose] public section

set_option maxRecDepth 16384

noncomputable section

namespace Cert.Mm.GmDhn

open Idealize.ShloMosaic Idealize.ShloMosaic.TcCoe Idealize.ShloMosaic.ValueIdx Idealize.SL.Sem Cert.Coord
open Cert.Kernel14Ideal Cert.Kernel14Ideal.Gen Cert.Kernel14Ideal.Value

/-! ## What a point leaves in the buffers -/

section Out

variable {F : FTy → Type} [FloatOps F]
variable (c : Dev nD) (i : grid0.Coords) (a3 : Memref sig .tc .vmem S1024x2048 .bf16) (h3 : a3.IsWhole)
  (a4 : Memref sig .tc .vmem S1x1024x2048 .bf16) (h4 : a4.IsWhole) (a5 : Memref sig .tc .vmem S1024x1024 .f32) (h5 : a5.IsWhole)
  (a6 : Memref sig .tc .vmem S1024x1024 .f32) (h6 : a6.IsWhole)
  (x0 : Vec F S1024x2048 .bf16) (x1 : Vec F S1x1024x2048 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x2048) hz2,
    View.ld_unit_zero (S := S1x1024x2048) hz3]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S1024x2048) hz2,
    View.ld_unit_zero (S := S1x1024x2048) hz3, View.ld_unit_zero (S := S1024x1024) hz2]

end Out

/-! ## The grid -/

theorem idx0 : ∀ t : Fin grid0.N, win0_0.index t 0 = t.val / 2 / 2 ∧ win0_0.index t 1 = t.val % 2 := by decide +kernel
theorem idx1 : ∀ t : Fin grid0.N, win0_1.index t 0 = 0 ∧ win0_1.index t 1 = t.val / 2 % 2 ∧ win0_1.index t 2 = t.val % 2 := by
  decide +kernel

variable (m : (ℓ : Loc nD τ sig) → Buf (Elt Ideal) ℓ) (c : Dev nD)

abbrev P : S4096x4096.Idx → EReal := m ((c : Thread nD τ).loc main_arg0)
abbrev W : S1x2048x4096.Idx → EReal := m ((c : Thread nD τ).loc main_arg1)

/-- The result's block after the last block of the summed axis. -/
theorem last (n : ℕ) (h : n < cfg0.N) (hn : n % 2 = 1) (i : S1024x1024.Idx) : (outsAt0 m c n h).1 i
    = nt (at2 (P m c)) (at3 (W m c) 0) 4096 (1024 * (n / 2 / 2) + (i 0).val) (1024 * (n / 2 % 2) + (i 1).val) :=
  blocks 2 (fun g b => nt (at2 (P m c)) (at3 (W m c) 0) (2048 * b) (1024 * (g / 2) + (i 0).val) (1024 * (g % 2) + (i 1).val))
    (fun n h => nt (at2 (n0 := 1024) (n1 := 2048) (iblk m c 0 ⟨n, h⟩))
      (at3 (n0 := 1) (n1 := 1024) (n2 := 2048) (iblk m c 1 ⟨n, h⟩) 0) 2048 (i 0).val (i 1).val)
    (fun n h => (outsAt0 m c n h).2 i) (fun n h => (outsAt0 m c n h).1 i) (by decide) (fun g => Finset.sum_range_zero _)
    (fun n h => nt_block _ _ _ _
      (fun k hk => (at2_block (P m c) (iblk m c 0 ⟨n, h⟩) _ (fun _ => rfl) (fun _ => rfl) (fun _ => rfl) (idx2_lt0 i) hk).trans
        (by rw [(idx0 ⟨n, h⟩).1, (idx0 ⟨n, h⟩).2]))
      (fun k hk => (at3_block (W m c) (iblk m c 1 ⟨n, h⟩) _ (fun _ => rfl) (fun _ => rfl) (fun _ => rfl) (fun _ => rfl)
        (idx2_lt1 i) hk).trans (by rw [(idx1 ⟨n, h⟩).1, (idx1 ⟨n, h⟩).2.1, (idx1 ⟨n, h⟩).2.2])))
    (fun n h hz => by
      rw [outsAt0_A m c ⟨n, h⟩ hz (by dsimp only; omega), sout_A]
      exact Dhm.pay1_apply (iblk m c 0 ⟨n, h⟩) (iblk m c 1 ⟨n, h⟩) i)
    (fun n h hz hl => absurd hl (by omega))
    (fun n h hl => by
      rw [outsAt0_B m c ⟨n, h⟩ (by dsimp only; omega) hl, out_B]
      exact Dhm.pay3_apply (outsAt0 m c (n - 1) _).2 (iblk m c 0 ⟨n, h⟩) (iblk m c 1 ⟨n, h⟩) i)
    n h hn

/-- The result array. -/
def res : S4096x2048.Idx → EReal := fun i => nt (at2 (P m c)) (at3 (W m c) 0) 4096 (i 0).val (i 1).val

theorem G2_eq : G2 (F := Ideal) m c = res m c := by
  funext i
  have h0 : (i 0).val < 4096 := (i 0).isLt
  have h1 : (i 1).val < 2048 := (i 1).isLt
  have hp : pt2Of i = 4 * ((i 0).val / 1024) + 2 * ((i 1).val / 1024) + 1 := by
    show 2 * (2 * ((i 0).val / 1024 - 0) + 1 * ((i 1).val / 1024 - 0)) + 1 = _
    omega
  have h : pt2Of i < cfg0.N := by rw [hp, show cfg0.N = 16 from N_0]; omega
  unfold G2
  rw [dif_pos h, ← outsAt0_sweep m c (pt2Of i) h, last m c _ h (by rw [hp]; omega), hp]
  refine congrArg₂ (nt (at2 (P m c)) (at3 (W m c) 0) 4096) ?_ ?_
  · show _ + (i 0).val % 1024 = _; omega
  · show _ + (i 1).val % 1024 = _; omega

end Cert.Mm.GmDhn

end
-- ==== Proof.Mm.SsdDyn.lean ====
/-
  The gradient of the state-space mixer's normalised result: the kernel's result array is `g · w_oᵀ`. Its grid is 4 by 4
  blocks of the result; the summed axis is one block.
-/
module

public import proofs.«01_k».proof.Proof.Mm.Da
public import proofs.«01_k».proof.Proof.Mm.Block
public import proofs.«01_k».proof.Proof.Gen.Kernel15Ideal.Value

@[expose] public section

set_option maxRecDepth 16384

noncomputable section

namespace Cert.Mm.SsdDyn

open Idealize.ShloMosaic Idealize.ShloMosaic.TcCoe Idealize.ShloMosaic.ValueIdx Idealize.SL.Sem Cert.Coord
open Idealize.ShloMosaic.Pipeline (Dat)
open Cert.Kernel15Ideal Cert.Kernel15Ideal.Gen Cert.Kernel15Ideal.Value

theorem out_eq {F : FTy → Type} [FloatOps F] (x0 : Vec F S1024x2048 .bf16) (x1 : Vec F S1x1024x2048 .bf16) :
    out0_2 x0 x1 = k0_pay1 x0 x1 := by
  unfold out0_2
  rw [View.canon_unit_zero hz2, View.ld_unit_zero (S := S1024x2048) hz2, View.ld_unit_zero (S := S1x1024x2048) hz3]

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 ∧ win0_1.index t 2 = 0 := by decide +kernel
theorem idx2 : ∀ t : Fin grid0.N, win0_2.index t 0 = t.val / 4 ∧ win0_2.index t 1 = t.val % 4 := by decide +kernel

variable (m : (ℓ : Loc nD τ sig) → Buf (Elt Ideal) ℓ) (c : Dev nD)

abbrev G : S4096x2048.Idx → EReal := m ((c : Thread nD τ).loc main_arg0)
abbrev W : S1x4096x2048.Idx → EReal := m ((c : Thread nD τ).loc main_arg1)

theorem pay1_pt (t : Fin cfg0.N) (i : S1024x1024.Idx) : k0_pay1 (F := Ideal) (iblk m c 0 t) (iblk m c 1 t) i
    = nt (at2 (G m c)) (at3 (W m c) 0) 2048 (1024 * (t.val / 4) + (i 0).val) (1024 * (t.val % 4) + (i 1).val) :=
  (Da.dot_apply (iblk m c 0 t) (iblk m c 1 t) i).trans (nt_whole _ _ _ _
    (fun k hk => (at2_block (G m c) (iblk m c 0 t) _ (fun _ => rfl) (fun _ => rfl) (fun _ => rfl) (idx2_lt0 i) hk).trans
      (by rw [(idx0 t).1, (idx0 t).2, Nat.mul_zero, Nat.zero_add]))
    (fun k hk => (at3_block (W m c) (iblk m c 1 t) _ (fun _ => rfl) (fun _ => rfl) (fun _ => rfl) (fun _ => rfl) (idx2_lt1 i) hk).trans
      (by rw [(idx1 t).1, (idx1 t).2.1, (idx1 t).2.2, Nat.mul_zero, Nat.zero_add])))

/-- The result array. -/
def res : S4096x4096.Idx → EReal := fun i => nt (at2 (G m c)) (at3 (W m c) 0) 2048 (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = nt (at2 (G m c)) (at3 (W m c) 0) 2048 (win0_2.index t 0 * 1024 + 1 * (j 0).val) (win0_2.index t 1 * 1024 + 1 * (j 1).val)
    rw [hi.1, hi.2, Nat.one_mul, Nat.one_mul, Nat.mul_comm _ 1024, Nat.mul_comm _ 1024]) fun i => by
    have h0 : (i 0 : Nat) < 4096 := (i 0).isLt
    have h1 : (i 1 : Nat) < 4096 := (i 1).isLt
    let t : Fin cfg0.N := ⟨4 * ((i 0 : Nat) / 1024) + (i 1 : Nat) / 1024, by rw [show cfg0.N = 16 from N_0]; omega⟩
    have hi := idx2 t
    have ht : t.val = 4 * ((i 0 : Nat) / 1024) + (i 1 : Nat) / 1024 := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; omega
    | ⟨1, _⟩ => show win0_2.index t 1 * 1024 ≤ (i 1 : Nat) ∧ (i 1 : Nat) < win0_2.index t 1 * 1024 + 1024
                rw [hi.2]; omega

end Cert.Mm.SsdDyn

end
-- ==== Proof.Mm.ClaimsN.lean ====
/-
  The claims about the kernels of the mixers' results' and inputs' gradients that read a layer's weights from a stack.
-/
module

public import proofs.«01_k».proof.Defs
public import proofs.«01_k».proof.Proof.Mm.Do
public import proofs.«01_k».proof.Proof.Gen.Kernel11.Frame
public import proofs.«01_k».proof.Proof.Gen.Reference11Ideal.Read
public import proofs.«01_k».proof.Proof.Mm.Dhn
public import proofs.«01_k».proof.Proof.Gen.Kernel12.Frame
public import proofs.«01_k».proof.Proof.Gen.Reference12Ideal.Read
public import proofs.«01_k».proof.Proof.Mm.GmDy
public import proofs.«01_k».proof.Proof.Gen.Kernel13.Frame
public import proofs.«01_k».proof.Proof.Gen.Reference13Ideal.Read
public import proofs.«01_k».proof.Proof.Mm.GmDhn
public import proofs.«01_k».proof.Proof.Gen.Kernel14.Frame
public import proofs.«01_k».proof.Proof.Gen.Reference14Ideal.Read
public import proofs.«01_k».proof.Proof.Mm.SsdDyn
public import proofs.«01_k».proof.Proof.Gen.Kernel15.Frame
public import proofs.«01_k».proof.Proof.Gen.Reference15Ideal.Read
public import Idealize.ShloMosaic.Adequacy
public import Idealize.ShloMosaic.Init

@[expose] public section

set_option maxRecDepth 16384

noncomputable section

open Idealize.ShloMosaic Idealize.ShloMosaic.TcCoe Idealize.ShloMosaic.ValueIdx Idealize.SL.Sem Cert.Coord

/-! ## The attention's result -/

namespace Cert.Mm.Do

theorem frameP : Cert.quiescent_Kernel11 := fun m ρ _ => Cert.Kernel11.Gen.frame m ρ

theorem framePI : Cert.quiescent_Kernel11Ideal := fun m ρ _ => Cert.Kernel11Ideal.Gen.frame m ρ

theorem frameRI : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run m ρ)

open Cert.Reference11Ideal Cert.Reference11Ideal.Read in
theorem weights_eq (w : S2x2048x2048.Idx → EReal) (i : S2048x2048.Idx) :
    val_main_v2 (F := Ideal) w i = at3 w 1 (i 0).val (i 1).val := by
  have h0 : (i 0).val < 2048 := (i 0).isLt
  have h1 : (i 1).val < 2048 := (i 1).isLt
  rw [val_main_v2_apply]
  show val_main_v1 (F := Ideal) w i = _
  rw [val_main_v1_apply, val_main_v0_apply]
  refine (at3_eq w _).trans (congrArg₂ (at3 w 1) ?_ ?_)
  · show ((i 0).val * 2048 + (i 1).val) / 2048 % 2048 = _; omega
  · show ((i 0).val * 2048 + (i 1).val) % 2048 = _; omega

open Cert.Reference11Ideal Cert.Reference11Ideal.Read in
theorem ref_eq (x : S4096x2048.Idx → EReal) (w : S2x2048x2048.Idx → EReal) (i : S4096x2048.Idx) :
    val_main_v5 (F := Ideal) x w i = nt (at2 x) (at3 w 1) 2048 (i 0).val (i 1).val := by
  rw [val_main_v5_apply]
  show val_main_v4 (F := Ideal) x w i = _
  rw [val_main_v4_apply, nt, Finset.sum_range]
  exact Finset.sum_congr rfl fun k _ => congrArg₂ _ (at2_eq x _) (weights_eq w _)

theorem algebraic : Cert.algebraic_Kernel11Ideal_Reference11Ideal := by
  intro m ρ m' ρ' _ hagree
  refine ⟨fun c => res m c, ?_, ?_⟩
  · exact (θ_run Cert.Kernel11Ideal.defs _ _).mono (fun _ h c => ⟨(h c).1.trans (final m c), (h c).2⟩)
      (Cert.Kernel11Ideal.Value.run_blocks (F := Ideal) m ρ)
  refine (θ_run Cert.Reference11Ideal.defs _ _).mono (fun _ h c => ⟨(h c).1.trans ?_, (h c).2⟩)
    (Cert.Reference11Ideal.Value.run (F := Ideal) m' ρ')
  rw [(hagree c).1, (hagree c).2, Cert.Reference11Ideal.Read.val_main_v5_eq]
  exact funext fun i => ref_eq (G m c) (W m c) i

end Cert.Mm.Do

/-! ## The attention's normalised input -/

namespace Cert.Mm.Dhn

theorem frameP : Cert.quiescent_Kernel12 := fun m ρ _ => Cert.Kernel12.Gen.frame m ρ

theorem framePI : Cert.quiescent_Kernel12Ideal := fun m ρ _ => Cert.Kernel12Ideal.Gen.frame m ρ

theorem frameRI : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run m ρ)

open Cert.Reference12Ideal Cert.Reference12Ideal.Read in
theorem weights_eq (w : S2x2048x6144.Idx → EReal) (i : S2048x6144.Idx) :
    val_main_v2 (F := Ideal) w i = at3 w 1 (i 0).val (i 1).val := by
  have h0 : (i 0).val < 2048 := (i 0).isLt
  have h1 : (i 1).val < 6144 := (i 1).isLt
  rw [val_main_v2_apply]
  show val_main_v1 (F := Ideal) w i = _
  rw [val_main_v1_apply, val_main_v0_apply]
  refine (at3_eq w _).trans (congrArg₂ (at3 w 1) ?_ ?_)
  · show ((i 0).val * 6144 + (i 1).val) / 6144 % 2048 = _; omega
  · show ((i 0).val * 6144 + (i 1).val) % 6144 = _; omega

open Cert.Reference12Ideal Cert.Reference12Ideal.Read in
theorem ref_eq (x : S4096x6144.Idx → EReal) (w : S2x2048x6144.Idx → EReal) (i : S4096x2048.Idx) :
    val_main_v4 (F := Ideal) x w i = nt (at2 x) (at3 w 1) 6144 (i 0).val (i 1).val := by
  rw [val_main_v4_apply, nt, Finset.sum_range]
  exact Finset.sum_congr rfl fun k _ => congrArg₂ _ (at2_eq x _) (weights_eq w _)

theorem algebraic : Cert.algebraic_Kernel12Ideal_Reference12Ideal := by
  intro m ρ m' ρ' _ hagree
  refine ⟨fun c => res m c, ?_, ?_⟩
  · exact (θ_run Cert.Kernel12Ideal.defs _ _).mono (fun _ h c => ⟨(h c).1.trans (G2_eq m c), (h c).2⟩)
      (Cert.Kernel12Ideal.Value.run (F := Ideal) m ρ)
  refine (θ_run Cert.Reference12Ideal.defs _ _).mono (fun _ h c => ⟨(h c).1.trans ?_, (h c).2⟩)
    (Cert.Reference12Ideal.Value.run (F := Ideal) m' ρ')
  rw [(hagree c).1, (hagree c).2, Cert.Reference12Ideal.Read.val_main_v4_eq]
  exact funext fun i => ref_eq (A m c) (W m c) i

end Cert.Mm.Dhn

/-! ## The gate's result -/

namespace Cert.Mm.GmDy

theorem frameP : Cert.quiescent_Kernel13 := fun m ρ _ => Cert.Kernel13.Gen.frame m ρ

theorem framePI : Cert.quiescent_Kernel13Ideal := fun m ρ _ => Cert.Kernel13Ideal.Gen.frame m ρ

theorem frameRI : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run m ρ)

open Cert.Reference13Ideal Cert.Reference13Ideal.Read in
theorem weights_eq (w : S1x2048x2048.Idx → EReal) (i : S2048x2048.Idx) :
    val_main_v1 (F := Ideal) w i = at3 w 0 (i 0).val (i 1).val := by
  have h0 : (i 0).val < 2048 := (i 0).isLt
  have h1 : (i 1).val < 2048 := (i 1).isLt
  rw [val_main_v1_apply]
  show val_main_v0 (F := Ideal) w i = _
  rw [val_main_v0_apply]
  refine (at3_eq w _).trans (congrArg₂ (at3 w 0) ?_ ?_)
  · show ((i 0).val * 2048 + (i 1).val) / 2048 % 2048 = _; omega
  · show ((i 0).val * 2048 + (i 1).val) % 2048 = _; omega

open Cert.Reference13Ideal Cert.Reference13Ideal.Read in
theorem ref_eq (x : S4096x2048.Idx → EReal) (w : S1x2048x2048.Idx → EReal) (i : S4096x2048.Idx) :
    val_main_v3 (F := Ideal) x w i = nt (at2 x) (at3 w 0) 2048 (i 0).val (i 1).val := by
  rw [val_main_v3_apply, nt, Finset.sum_range]
  exact Finset.sum_congr rfl fun k _ => congrArg₂ _ (at2_eq x _) (weights_eq w _)

theorem algebraic : Cert.algebraic_Kernel13Ideal_Reference13Ideal := by
  intro m ρ m' ρ' _ hagree
  refine ⟨fun c => res m c, ?_, ?_⟩
  · exact (θ_run Cert.Kernel13Ideal.defs _ _).mono (fun _ h c => ⟨(h c).1.trans (final m c), (h c).2⟩)
      (Cert.Kernel13Ideal.Value.run_blocks (F := Ideal) m ρ)
  refine (θ_run Cert.Reference13Ideal.defs _ _).mono (fun _ h c => ⟨(h c).1.trans ?_, (h c).2⟩)
    (Cert.Reference13Ideal.Value.run (F := Ideal) m' ρ')
  rw [(hagree c).1, (hagree c).2, Cert.Reference13Ideal.Read.val_main_v3_eq]
  exact funext fun i => ref_eq (G m c) (W m c) i

end Cert.Mm.GmDy

/-! ## The gate's normalised input -/

namespace Cert.Mm.GmDhn

theorem frameP : Cert.quiescent_Kernel14 := fun m ρ _ => Cert.Kernel14.Gen.frame m ρ

theorem framePI : Cert.quiescent_Kernel14Ideal := fun m ρ _ => Cert.Kernel14Ideal.Gen.frame m ρ

theorem frameRI : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run m ρ)

open Cert.Reference14Ideal Cert.Reference14Ideal.Read in
theorem weights_eq (w : S1x2048x4096.Idx → EReal) (i : S2048x4096.Idx) :
    val_main_v1 (F := Ideal) w i = at3 w 0 (i 0).val (i 1).val := by
  have h0 : (i 0).val < 2048 := (i 0).isLt
  have h1 : (i 1).val < 4096 := (i 1).isLt
  rw [val_main_v1_apply]
  show val_main_v0 (F := Ideal) w i = _
  rw [val_main_v0_apply]
  refine (at3_eq w _).trans (congrArg₂ (at3 w 0) ?_ ?_)
  · show ((i 0).val * 4096 + (i 1).val) / 4096 % 2048 = _; omega
  · show ((i 0).val * 4096 + (i 1).val) % 4096 = _; omega

open Cert.Reference14Ideal Cert.Reference14Ideal.Read in
theorem ref_eq (x : S4096x4096.Idx → EReal) (w : S1x2048x4096.Idx → EReal) (i : S4096x2048.Idx) :
    val_main_v3 (F := Ideal) x w i = nt (at2 x) (at3 w 0) 4096 (i 0).val (i 1).val := by
  rw [val_main_v3_apply, nt, Finset.sum_range]
  exact Finset.sum_congr rfl fun k _ => congrArg₂ _ (at2_eq x _) (weights_eq w _)

theorem algebraic : Cert.algebraic_Kernel14Ideal_Reference14Ideal := by
  intro m ρ m' ρ' _ hagree
  refine ⟨fun c => res m c, ?_, ?_⟩
  · exact (θ_run Cert.Kernel14Ideal.defs _ _).mono (fun _ h c => ⟨(h c).1.trans (G2_eq m c), (h c).2⟩)
      (Cert.Kernel14Ideal.Value.run (F := Ideal) m ρ)
  refine (θ_run Cert.Reference14Ideal.defs _ _).mono (fun _ h c => ⟨(h c).1.trans ?_, (h c).2⟩)
    (Cert.Reference14Ideal.Value.run (F := Ideal) m' ρ')
  rw [(hagree c).1, (hagree c).2, Cert.Reference14Ideal.Read.val_main_v3_eq]
  exact funext fun i => ref_eq (P m c) (W m c) i

end Cert.Mm.GmDhn

/-! ## The state-space mixer's normalised result -/

namespace Cert.Mm.SsdDyn

theorem frameP : Cert.quiescent_Kernel15 := fun m ρ _ => Cert.Kernel15.Gen.frame m ρ

theorem framePI : Cert.quiescent_Kernel15Ideal := fun m ρ _ => Cert.Kernel15Ideal.Gen.frame m ρ

theorem frameRI : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run m ρ)

open Cert.Reference15Ideal Cert.Reference15Ideal.Read in
theorem weights_eq (w : S1x4096x2048.Idx → EReal) (i : S4096x2048.Idx) :
    val_main_v1 (F := Ideal) w i = at3 w 0 (i 0).val (i 1).val := by
  have h0 : (i 0).val < 4096 := (i 0).isLt
  have h1 : (i 1).val < 2048 := (i 1).isLt
  rw [val_main_v1_apply]
  show val_main_v0 (F := Ideal) w i = _
  rw [val_main_v0_apply]
  refine (at3_eq w _).trans (congrArg₂ (at3 w 0) ?_ ?_)
  · show ((i 0).val * 2048 + (i 1).val) / 2048 % 4096 = _; omega
  · show ((i 0).val * 2048 + (i 1).val) % 2048 = _; omega

open Cert.Reference15Ideal Cert.Reference15Ideal.Read in
theorem ref_eq (x : S4096x2048.Idx → EReal) (w : S1x4096x2048.Idx → EReal) (i : S4096x4096.Idx) :
    val_main_v3 (F := Ideal) x w i = nt (at2 x) (at3 w 0) 2048 (i 0).val (i 1).val := by
  rw [val_main_v3_apply, nt, Finset.sum_range]
  exact Finset.sum_congr rfl fun k _ => congrArg₂ _ (at2_eq x _) (weights_eq w _)

theorem algebraic : Cert.algebraic_Kernel15Ideal_Reference15Ideal := by
  intro m ρ m' ρ' _ hagree
  refine ⟨fun c => res m c, ?_, ?_⟩
  · exact (θ_run Cert.Kernel15Ideal.defs _ _).mono (fun _ h c => ⟨(h c).1.trans (final m c), (h c).2⟩)
      (Cert.Kernel15Ideal.Value.run_blocks (F := Ideal) m ρ)
  refine (θ_run Cert.Reference15Ideal.defs _ _).mono (fun _ h c => ⟨(h c).1.trans ?_, (h c).2⟩)
    (Cert.Reference15Ideal.Value.run (F := Ideal) m' ρ')
  rw [(hagree c).1, (hagree c).2, Cert.Reference15Ideal.Read.val_main_v3_eq]
  exact funext fun i => ref_eq (G m c) (W m c) i

end Cert.Mm.SsdDyn

end
-- ==== Proof.Mm.DhnZ.lean ====
/-
  The gradient of the state-space mixer's normalised input, the part that comes through `z`: the kernel's result array is
  `dz · w_zᵀ`. Its grid is 4 by 2 blocks of the result by 2 blocks of the summed axis.
-/
module

public import proofs.«01_k».proof.Proof.Mm.Dhm
public import proofs.«01_k».proof.Proof.Mm.Block
public import proofs.«01_k».proof.Proof.Gen.Kernel16Ideal.Value

@[expose] public section

set_option maxRecDepth 16384

noncomputable section

namespace Cert.Mm.DhnZ

open Idealize.ShloMosaic Idealize.ShloMosaic.TcCoe Idealize.ShloMosaic.ValueIdx Idealize.SL.Sem Cert.Coord
open Cert.Kernel16Ideal Cert.Kernel16Ideal.Gen Cert.Kernel16Ideal.Value

/-! ## One point's payloads -/

abbrev D := dot_S1024x2048_S1024x2048_S1024x1024_1_1_0_0_n_n

theorem dot_apply (x w : FVec Ideal S1024x2048 .bf16) (i : S1024x1024.Idx) :
    matmul D none x w (constant S1024x1024 .f32 0x00000000#32) i = nt (at2 x) (at2 w) 2048 (i 0).val (i 1).val := by
  refine (Ideal.matmul_apply D none _ _ _ _).trans ?_
  rw [zero_apply, zero_add]
  refine sum_dot1 D 2048 rfl rfl _ _ _ (fun k => at2 x (i 0).val k) (fun k => at2 w (i 1).val k) (fun k => ?_) (fun k => ?_)
  · refine (at2_eq x _).trans ?_
    congr 1 <;> simp [DotDims.lhsIdx, D, dot_S1024x2048_S1024x2048_S1024x1024_1_1_0_0_n_n] <;> rfl
  · refine (at2_eq w _).trans ?_
    congr 1 <;> simp [DotDims.rhsIdx, D, dot_S1024x2048_S1024x2048_S1024x1024_1_1_0_0_n_n] <;> rfl

theorem pay1_apply (x w : FVec Ideal S1024x2048 .bf16) (i : S1024x1024.Idx) :
    k0_pay1 (F := Ideal) x w i = nt (at2 x) (at2 w) 2048 (i 0).val (i 1).val := by
  unfold k0_pay1
  dsimp only
  rw [shapeCast_self]
  exact dot_apply x w i

theorem pay3_apply (p : FVec Ideal S1024x1024 .f32) (x w : FVec Ideal S1024x2048 .bf16) (i : S1024x1024.Idx) :
    k0_pay3 (F := Ideal) p x w i = p i + nt (at2 x) (at2 w) 2048 (i 0).val (i 1).val :=
  congrArg (p i + ·) (dot_apply x w i)

/-! ## What a point leaves in the buffers -/

section Out

variable {F : FTy → Type} [FloatOps F]
variable (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x1024 .f32) (h5 : a5.IsWhole)
  (a6 : Memref sig .tc .vmem S1024x1024 .f32) (h6 : a6.IsWhole)
  (x0 : Vec F S1024x2048 .bf16) (x1 : Vec F S1024x2048 .bf16) (p : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x2048) hz2]

theorem out_B (hc0 : ¬cond0_0 i) (hc1 : ¬cond0_1 i) (hc2 : cond0_2 i) :
    out0_B_2 c i a3 h3 a4 h4 a5 h5 a6 h6 hc0 hc1 hc2 x0 x1 p = k0_pay3 p x0 x1 := by
  unfold out0_B_2
  rw [View.read_writes_eq_canon _ _ _ (cover0_B_2 c i a3 h3 a4 h4 a5 h5 a6 h6 hc0 hc1 hc2 x0 x1 p)]
  unfold kernelRun0_B
  dsimp only
  sl_unfold_words
  rw [View.canon_unit_zero hz2]
  simp only [View.readAt_eq_ld, h3.read_unread, h4.read_unread, h6.read_unread, View.ld_unit_zero (S := S1024x2048) hz2, View.ld_unit_zero (S := S1024x1024) hz2]

end Out

/-! ## The grid -/

theorem idx0 : ∀ t : Fin grid0.N, win0_0.index t 0 = t.val / 2 / 2 ∧ win0_0.index t 1 = t.val % 2 := by decide +kernel
theorem idx1 : ∀ t : Fin grid0.N, win0_1.index t 0 = t.val / 2 % 2 ∧ win0_1.index t 1 = t.val % 2 := by
  decide +kernel

variable (m : (ℓ : Loc nD τ sig) → Buf (Elt Ideal) ℓ) (c : Dev nD)

abbrev Z : S4096x4096.Idx → EReal := m ((c : Thread nD τ).loc main_arg0)
abbrev W : S2048x4096.Idx → EReal := m ((c : Thread nD τ).loc main_arg1)

/-- The result's block after the last block of the summed axis. -/
theorem last (n : ℕ) (h : n < cfg0.N) (hn : n % 2 = 1) (i : S1024x1024.Idx) : (outsAt0 m c n h).1 i
    = nt (at2 (Z m c)) (at2 (W m c)) 4096 (1024 * (n / 2 / 2) + (i 0).val) (1024 * (n / 2 % 2) + (i 1).val) :=
  blocks 2 (fun g b => nt (at2 (Z m c)) (at2 (W m c)) (2048 * b) (1024 * (g / 2) + (i 0).val) (1024 * (g % 2) + (i 1).val))
    (fun n h => nt (at2 (n0 := 1024) (n1 := 2048) (iblk m c 0 ⟨n, h⟩))
      (at2 (n0 := 1024) (n1 := 2048) (iblk m c 1 ⟨n, h⟩)) 2048 (i 0).val (i 1).val)
    (fun n h => (outsAt0 m c n h).2 i) (fun n h => (outsAt0 m c n h).1 i) (by decide) (fun g => Finset.sum_range_zero _)
    (fun n h => nt_block _ _ _ _
      (fun k hk => (at2_block (Z m c) (iblk m c 0 ⟨n, h⟩) _ (fun _ => rfl) (fun _ => rfl) (fun _ => rfl) (idx2_lt0 i) hk).trans
        (by rw [(idx0 ⟨n, h⟩).1, (idx0 ⟨n, h⟩).2]))
      (fun k hk => (at2_block (W m c) (iblk m c 1 ⟨n, h⟩) _ (fun _ => rfl) (fun _ => rfl) (fun _ => rfl) (idx2_lt1 i) hk).trans
        (by rw [(idx1 ⟨n, h⟩).1, (idx1 ⟨n, h⟩).2])))
    (fun n h hz => by
      rw [outsAt0_A m c ⟨n, h⟩ hz (by dsimp only; omega), sout_A]
      exact pay1_apply (iblk m c 0 ⟨n, h⟩) (iblk m c 1 ⟨n, h⟩) i)
    (fun n h hz hl => absurd hl (by omega))
    (fun n h hl => by
      rw [outsAt0_B m c ⟨n, h⟩ (by dsimp only; omega) hl, out_B]
      exact pay3_apply (outsAt0 m c (n - 1) _).2 (iblk m c 0 ⟨n, h⟩) (iblk m c 1 ⟨n, h⟩) i)
    n h hn

/-- The result array. -/
def res : S4096x2048.Idx → EReal := fun i => nt (at2 (Z m c)) (at2 (W m c)) 4096 (i 0).val (i 1).val

theorem G2_eq : G2 (F := Ideal) m c = res m c := by
  funext i
  have h0 : (i 0).val < 4096 := (i 0).isLt
  have h1 : (i 1).val < 2048 := (i 1).isLt
  have hp : pt2Of i = 4 * ((i 0).val / 1024) + 2 * ((i 1).val / 1024) + 1 := by
    show 2 * (2 * ((i 0).val / 1024 - 0) + 1 * ((i 1).val / 1024 - 0)) + 1 = _
    omega
  have h : pt2Of i < cfg0.N := by rw [hp, show cfg0.N = 16 from N_0]; omega
  unfold G2
  rw [dif_pos h, ← outsAt0_sweep m c (pt2Of i) h, last m c _ h (by rw [hp]; omega), hp]
  refine congrArg₂ (nt (at2 (Z m c)) (at2 (W m c)) 4096) ?_ ?_
  · show _ + (i 0).val % 1024 = _; omega
  · show _ + (i 1).val % 1024 = _; omega

end Cert.Mm.DhnZ

end
-- ==== Proof.Mm.DhnX.lean ====
/-
  The gradient of the state-space mixer's normalised input, the part that comes through the convolved channels, added to what
  the part through `z` gave: the kernel's result array is `dxbc · w_xbcᵀ + dhn`. Its grid is 4 by 2 blocks of the result by 3
  blocks of the summed axis.
-/
module

public import proofs.«01_k».proof.Proof.Mm.DhnZ
public import proofs.«01_k».proof.Proof.Mm.Block
public import proofs.«01_k».proof.Proof.Gen.Kernel17Ideal.Value

@[expose] public section

set_option maxRecDepth 16384

noncomputable section

namespace Cert.Mm.DhnX

open Idealize.ShloMosaic Idealize.ShloMosaic.TcCoe Idealize.ShloMosaic.ValueIdx Idealize.SL.Sem Cert.Coord
open Cert.Kernel17Ideal Cert.Kernel17Ideal.Gen Cert.Kernel17Ideal.Value

/-! ## One point's payloads -/

/-- The partial sum kept in the scratch. -/
theorem pay2_apply (p : FVec Ideal S1024x1024 .f32) (x w : FVec Ideal S1024x2048 .bf16) (i : S1024x1024.Idx) :
    k0_pay2 (F := Ideal) p x w i = p i + nt (at2 x) (at2 w) 2048 (i 0).val (i 1).val := by
  unfold k0_pay2
  dsimp only
  rw [shapeCast_self]
  exact DhnZ.pay3_apply p x w i

/-- The last sum, with what the result is added to. -/
theorem pay3_apply (p : FVec Ideal S1024x1024 .f32) (x w : FVec Ideal S1024x2048 .bf16) (h : FVec Ideal S1024x1024 .f32)
    (i : S1024x1024.Idx) : k0_pay3 (F := Ideal) p x w h i = p i + nt (at2 x) (at2 w) 2048 (i 0).val (i 1).val + h i :=
  congrArg (· + h i) (DhnZ.pay3_apply p x w i)

/-! ## What a point leaves in the buffers -/

section Out

variable {F : FTy → Type} [FloatOps F]
variable (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 x1 : Vec F S1024x2048 .bf16) (x2 p : Vec F S1024x1024 .f32)

theorem sout_A (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hz2]
  simp only [View.readAt_eq_ld, h3.read_unread, h4.read_unread, View.ld_unit_zero (S := S1024x2048) hz2]

theorem sout_B (hc0 : ¬cond0_0 i) (hc1 : cond0_1 i) (hc2 : ¬cond0_2 i) :
    sout0_B_0 c i a3 h3 a4 h4 a5 h5 a6 h6 a7 h7 hc0 hc1 hc2 x0 x1 x2 p = k0_pay2 p x0 x1 := by
  unfold sout0_B_0
  rw [View.read_writes_eq_canon _ _ _ (scover0_B_0 c i a3 h3 a4 h4 a5 h5 a6 h6 a7 h7 hc0 hc1 hc2 x0 x1 x2 p)]
  unfold kernelRun0_B
  dsimp only
  sl_unfold_words
  rw [View.canon_unit_zero hz2]
  simp only [View.readAt_eq_ld, h3.read_unread, h4.read_unread, h7.read_unread, View.ld_unit_zero (S := S1024x2048) hz2,
    View.ld_unit_zero (S := S1024x1024) hz2]

theorem out_C (hc0 : ¬cond0_0 i) (hc1 : ¬cond0_1 i) (hc2 : cond0_2 i) :
    out0_C_3 c i a3 h3 a4 h4 a5 h5 a6 h6 a7 h7 hc0 hc1 hc2 x0 x1 x2 p = k0_pay3 p x0 x1 x2 := by
  unfold out0_C_3
  rw [View.read_writes_eq_canon _ _ _ (cover0_C_3 c i a3 h3 a4 h4 a5 h5 a6 h6 a7 h7 hc0 hc1 hc2 x0 x1 x2 p)]
  unfold kernelRun0_C
  dsimp only
  sl_unfold_words
  rw [View.canon_unit_zero hz2]
  simp only [View.readAt_eq_ld, h3.read_unread, h4.read_unread, h5.read_unread, h7.read_unread,
    View.ld_unit_zero (S := S1024x2048) hz2, View.ld_unit_zero (S := S1024x1024) hz2]

end Out

/-! ## The grid -/

theorem idx0 : ∀ t : Fin grid0.N, win0_0.index t 0 = t.val / 3 / 2 ∧ win0_0.index t 1 = t.val % 3 := by decide +kernel
theorem idx1 : ∀ t : Fin grid0.N, win0_1.index t 0 = t.val / 3 % 2 ∧ win0_1.index t 1 = t.val % 3 := by
  decide +kernel
theorem idx2 : ∀ t : Fin grid0.N, win0_2.index t 0 = t.val / 3 / 2 ∧ win0_2.index t 1 = t.val / 3 % 2 := by decide +kernel

variable (m : (ℓ : Loc nD τ sig) → Buf (Elt Ideal) ℓ) (c : Dev nD)

abbrev X : S4096x6144.Idx → EReal := m ((c : Thread nD τ).loc main_arg0)
abbrev W : S2048x6144.Idx → EReal := m ((c : Thread nD τ).loc main_arg1)
abbrev H : S4096x2048.Idx → EReal := m ((c : Thread nD τ).loc main_arg2)

/-- The element at a row and a column. -/
def dhn (r s : ℕ) : EReal := nt (at2 (X m c)) (at2 (W m c)) 6144 r s + at2 (H m c) r s

/-- The result's block after the last block of the summed axis. -/
theorem last (n : ℕ) (h : n < cfg0.N) (hn : n % 3 = 2) (i : S1024x1024.Idx) : (outsAt0 m c n h).1 i
    = dhn m c (1024 * (n / 3 / 2) + (i 0).val) (1024 * (n / 3 % 2) + (i 1).val) := by
  rw [outsAt0_C m c ⟨n, h⟩ (by dsimp only; omega) (by dsimp only; omega) hn, out_C]
  refine (pay3_apply (outsAt0 m c (n - 1) _).2 (iblk m c 0 ⟨n, h⟩) (iblk m c 1 ⟨n, h⟩) (iblk m c 2 ⟨n, h⟩) i).trans
    (congrArg₂ (· + ·) ?_ ?_)
  · exact blocks 3 (fun g b => nt (at2 (X m c)) (at2 (W m c)) (2048 * b) (1024 * (g / 2) + (i 0).val) (1024 * (g % 2) + (i 1).val))
      (fun n h => nt (at2 (n0 := 1024) (n1 := 2048) (iblk m c 0 ⟨n, h⟩)) (at2 (n0 := 1024) (n1 := 2048) (iblk m c 1 ⟨n, h⟩)) 2048
        (i 0).val (i 1).val)
      (fun n h => (outsAt0 m c n h).2 i)
      (fun n h => (outsAt0 m c (n - 1) (by omega)).2 i + nt (at2 (n0 := 1024) (n1 := 2048) (iblk m c 0 ⟨n, h⟩))
        (at2 (n0 := 1024) (n1 := 2048) (iblk m c 1 ⟨n, h⟩)) 2048 (i 0).val (i 1).val)
      (by decide) (fun g => Finset.sum_range_zero _)
      (fun n h => nt_block _ _ _ _
        (fun k hk => (at2_block (X m c) (iblk m c 0 ⟨n, h⟩) _ (fun _ => rfl) (fun _ => rfl) (fun _ => rfl) (idx2_lt0 i) hk).trans
          (by rw [(idx0 ⟨n, h⟩).1, (idx0 ⟨n, h⟩).2]))
        (fun k hk => (at2_block (W m c) (iblk m c 1 ⟨n, h⟩) _ (fun _ => rfl) (fun _ => rfl) (fun _ => rfl) (idx2_lt1 i) hk).trans
          (by rw [(idx1 ⟨n, h⟩).1, (idx1 ⟨n, h⟩).2])))
      (fun n h hz => by
        rw [outsAt0_A m c ⟨n, h⟩ hz (by dsimp only; omega) (by dsimp only; omega), sout_A]
        exact DhnZ.pay1_apply (iblk m c 0 ⟨n, h⟩) (iblk m c 1 ⟨n, h⟩) i)
      (fun n h hz hl => by
        rw [outsAt0_B m c ⟨n, h⟩ hz (by dsimp only; omega) (by dsimp only; omega), sout_B]
        exact pay2_apply (outsAt0 m c (n - 1) _).2 (iblk m c 0 ⟨n, h⟩) (iblk m c 1 ⟨n, h⟩) i)
      (fun _ _ _ => rfl) n h hn
  · refine (at2_eq (iblk m c 2 ⟨n, h⟩) i).trans ?_
    refine (at2_block (H m c) (iblk m c 2 ⟨n, h⟩) _ (fun _ => rfl) (fun _ => rfl) (fun _ => rfl) (idx2_lt0 i) (idx2_lt1 i)).trans ?_
    rw [(idx2 ⟨n, h⟩).1, (idx2 ⟨n, h⟩).2]

/-- The result array. -/
def res : S4096x2048.Idx → EReal := fun i => dhn m c (i 0).val (i 1).val

theorem G3_eq : G3 (F := Ideal) m c = res m c := by
  funext i
  have h0 : (i 0).val < 4096 := (i 0).isLt
  have h1 : (i 1).val < 2048 := (i 1).isLt
  have hp : pt3Of i = 6 * ((i 0).val / 1024) + 3 * ((i 1).val / 1024) + 2 := by
    show 3 * (2 * ((i 0).val / 1024 - 0) + 1 * ((i 1).val / 1024 - 0)) + 2 = _
    omega
  have h : pt3Of i < cfg0.N := by rw [hp, show cfg0.N = 24 from N_0]; omega
  unfold G3
  rw [dif_pos h, ← outsAt0_sweep m c (pt3Of i) h, last m c _ h (by rw [hp]; omega), hp]
  refine congrArg₂ (dhn m c) ?_ ?_
  · show _ + (i 0).val % 1024 = _; omega
  · show _ + (i 1).val % 1024 = _; omega

end Cert.Mm.DhnX

end
-- ==== Proof.Mm.DhnDt.lean ====
/-
  The gradient of the state-space mixer's normalised input, the part that comes through the time steps, added to what the other
  parts gave: the kernel's result array is `draw · w_dtᵀ + dhn`. Its grid is 4 by 2 blocks of the result; the summed axis,
  of 128, is one block.
-/
module

public import proofs.«01_k».proof.Proof.Mm.Da
public import proofs.«01_k».proof.Proof.Mm.Block
public import proofs.«01_k».proof.Proof.Gen.Kernel18Ideal.Value

@[expose] public section

set_option maxRecDepth 16384

noncomputable section

namespace Cert.Mm.DhnDt

open Idealize.ShloMosaic Idealize.ShloMosaic.TcCoe Idealize.ShloMosaic.ValueIdx Idealize.SL.Sem Cert.Coord
open Idealize.ShloMosaic.Pipeline (Dat)
open Cert.Kernel18Ideal Cert.Kernel18Ideal.Gen Cert.Kernel18Ideal.Value

abbrev D := dot_S1024x128_S1024x128_S1024x1024_1_1_0_0_n_n

theorem dot_apply (x w : FVec Ideal S1024x128 .bf16) (i : S1024x1024.Idx) :
    matmul D none x w (constant S1024x1024 .f32 0x00000000#32) i = nt (at2 x) (at2 w) 128 (i 0).val (i 1).val := by
  refine (Ideal.matmul_apply D none _ _ _ _).trans ?_
  rw [zero_apply, zero_add]
  refine sum_dot1 D 128 rfl rfl _ _ _ (fun k => at2 x (i 0).val k) (fun k => at2 w (i 1).val k) (fun k => ?_) (fun k => ?_)
  · refine (at2_eq x _).trans ?_
    congr 1 <;> simp [DotDims.lhsIdx, D, dot_S1024x128_S1024x128_S1024x1024_1_1_0_0_n_n] <;> rfl
  · refine (at2_eq w _).trans ?_
    congr 1 <;> simp [DotDims.rhsIdx, D, dot_S1024x128_S1024x128_S1024x1024_1_1_0_0_n_n] <;> rfl

theorem out_eq {F : FTy → Type} [FloatOps F] (x0 x1 : Vec F S1024x128 .bf16) (x2 : Vec F S1024x1024 .f32) :
    out0_3 x0 x1 x2 = k0_pay1 x0 x1 x2 := by
  unfold out0_3
  rw [View.canon_unit_zero hz2, View.ld_unit_zero (S := S1024x128) hz2, View.ld_unit_zero (S := S1024x128) hz2,
    View.ld_unit_zero (S := S1024x1024) hz2]

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel

variable (m : (ℓ : Loc nD τ sig) → Buf (Elt Ideal) ℓ) (c : Dev nD)

abbrev R : S4096x128.Idx → EReal := m ((c : Thread nD τ).loc main_arg0)
abbrev W : S2048x128.Idx → EReal := m ((c : Thread nD τ).loc main_arg1)
abbrev H : S4096x2048.Idx → EReal := m ((c : Thread nD τ).loc main_arg2)

/-- The element at a row and a column. -/
def dhn (r s : ℕ) : EReal := nt (at2 (R m c)) (at2 (W m c)) 128 r s + at2 (H m c) r s

theorem pay1_pt (t : Fin cfg0.N) (i : S1024x1024.Idx) : k0_pay1 (F := Ideal) (iblk m c 0 t) (iblk m c 1 t) (iblk m c 2 t) i
    = dhn m c (1024 * (t.val / 2) + (i 0).val) (1024 * (t.val % 2) + (i 1).val) := by
  refine congrArg₂ (· + ·) ((dot_apply (iblk m c 0 t) (iblk m c 1 t) i).trans (nt_whole _ _ _ _
    (fun k hk => (at2_block (R m c) (iblk m c 0 t) _ (fun _ => rfl) (fun _ => rfl) (fun _ => rfl) (idx2_lt0 i) hk).trans
      (by rw [(idx0 t).1, (idx0 t).2, Nat.mul_zero, Nat.zero_add]))
    (fun k hk => (at2_block (W m c) (iblk m c 1 t) _ (fun _ => rfl) (fun _ => rfl) (fun _ => rfl) (idx2_lt1 i) hk).trans
      (by rw [(idx1 t).1, (idx1 t).2, Nat.mul_zero, Nat.zero_add])))) ?_
  refine (at2_eq (iblk m c 2 t) i).trans ?_
  refine (at2_block (H m c) (iblk m c 2 t) _ (fun _ => rfl) (fun _ => rfl) (fun _ => rfl) (idx2_lt0 i) (idx2_lt1 i)).trans ?_
  rw [(idx2 t).1, (idx2 t).2]

/-- The result array. -/
def res : S4096x2048.Idx → EReal := fun i => dhn m c (i 0).val (i 1).val

theorem final : (dats m 0 c).arrAt 3 cfg0.N = res m c :=
  (dats m 0 c).arrAt_eq_of_cover 3 (res m c) (fun t _ => by
    rw [flushed3, out_eq]
    funext j
    have hi := idx3 t
    refine (pay1_pt m c t _).trans ?_
    rw [View.read_apply]
    show _ = dhn m c (win0_3.index t 0 * 1024 + 1 * (j 0).val) (win0_3.index t 1 * 1024 + 1 * (j 1).val)
    rw [hi.1, hi.2, Nat.one_mul, Nat.one_mul, Nat.mul_comm _ 1024, Nat.mul_comm _ 1024]) fun i => by
    have h0 : (i 0 : Nat) < 4096 := (i 0).isLt
    have h1 : (i 1 : Nat) < 2048 := (i 1).isLt
    let t : Fin cfg0.N := ⟨2 * ((i 0 : Nat) / 1024) + (i 1 : Nat) / 1024, by rw [show cfg0.N = 8 from N_0]; omega⟩
    have hi := idx3 t
    have ht : t.val = 2 * ((i 0 : Nat) / 1024) + (i 1 : Nat) / 1024 := rfl
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [hi.1]; omega
    | ⟨1, _⟩ => show win0_3.index t 1 * 1024 ≤ (i 1 : Nat) ∧ (i 1 : Nat) < win0_3.index t 1 * 1024 + 1024
                rw [hi.2]; omega

end Cert.Mm.DhnDt

end
-- ==== Proof.Mm.ClaimsZ.lean ====
/-
  The claims about the three kernels of the gradient of the state-space mixer's normalised input.
-/
module

public import proofs.«01_k».proof.Defs
public import proofs.«01_k».proof.Proof.Mm.DhnZ
public import proofs.«01_k».proof.Proof.Gen.Kernel16.Frame
public import proofs.«01_k».proof.Proof.Gen.Reference16Ideal.Read
public import proofs.«01_k».proof.Proof.Mm.DhnX
public import proofs.«01_k».proof.Proof.Gen.Kernel17.Frame
public import proofs.«01_k».proof.Proof.Gen.Reference17Ideal.Read
public import proofs.«01_k».proof.Proof.Mm.DhnDt
public import proofs.«01_k».proof.Proof.Gen.Kernel18.Frame
public import proofs.«01_k».proof.Proof.Gen.Reference18Ideal.Read
public import Idealize.ShloMosaic.Adequacy
public import Idealize.ShloMosaic.Init

@[expose] public section

set_option maxRecDepth 16384

noncomputable section

open Idealize.ShloMosaic Idealize.ShloMosaic.TcCoe Idealize.ShloMosaic.ValueIdx Idealize.SL.Sem Cert.Coord

/-! ## The part through `z` -/

namespace Cert.Mm.DhnZ

theorem frameP : Cert.quiescent_Kernel16 := fun m ρ _ => Cert.Kernel16.Gen.frame m ρ

theorem framePI : Cert.quiescent_Kernel16Ideal := fun m ρ _ => Cert.Kernel16Ideal.Gen.frame m ρ

theorem frameRI : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run m ρ)

open Cert.Reference16Ideal Cert.Reference16Ideal.Read in
theorem ref_eq (x : S4096x4096.Idx → EReal) (w : S2048x4096.Idx → EReal) (i : S4096x2048.Idx) :
    val_main_v2 (F := Ideal) x w i = nt (at2 x) (at2 w) 4096 (i 0).val (i 1).val := by
  rw [val_main_v2_apply, nt, Finset.sum_range]
  exact Finset.sum_congr rfl fun k _ => congrArg₂ _ (at2_eq x _) (at2_eq w _)

theorem algebraic : Cert.algebraic_Kernel16Ideal_Reference16Ideal := by
  intro m ρ m' ρ' _ hagree
  refine ⟨fun c => res m c, ?_, ?_⟩
  · exact (θ_run Cert.Kernel16Ideal.defs _ _).mono (fun _ h c => ⟨(h c).1.trans (G2_eq m c), (h c).2⟩)
      (Cert.Kernel16Ideal.Value.run (F := Ideal) m ρ)
  refine (θ_run Cert.Reference16Ideal.defs _ _).mono (fun _ h c => ⟨(h c).1.trans ?_, (h c).2⟩)
    (Cert.Reference16Ideal.Value.run (F := Ideal) m' ρ')
  rw [(hagree c).1, (hagree c).2, Cert.Reference16Ideal.Read.val_main_v2_eq]
  exact funext fun i => ref_eq (Z m c) (W m c) i

end Cert.Mm.DhnZ

/-! ## The part through the convolved channels -/

namespace Cert.Mm.DhnX

theorem frameP : Cert.quiescent_Kernel17 := fun m ρ _ => Cert.Kernel17.Gen.frame m ρ

theorem framePI : Cert.quiescent_Kernel17Ideal := fun m ρ _ => Cert.Kernel17Ideal.Gen.frame m ρ

theorem frameRI : Cert.quiescent_Reference17Ideal := fun m ρ _ =>
  (θ_run Cert.Reference17Ideal.defs _ _).mono
    (fun r h => ⟨fun c => (h c).2, Idealize.ShloMosaic.sem_eq_zero_of_no_sems (by decide) r.2⟩)
    (Cert.Reference17Ideal.Value.run m ρ)

open Cert.Reference17Ideal Cert.Reference17Ideal.Read in
theorem ref_eq (x : S4096x6144.Idx → EReal) (w : S2048x6144.Idx → EReal) (h : S4096x2048.Idx → EReal) (i : S4096x2048.Idx) :
    val_main_v3 (F := Ideal) x w h i = nt (at2 x) (at2 w) 6144 (i 0).val (i 1).val + at2 h (i 0).val (i 1).val := by
  rw [val_main_v3_apply, val_main_v2_apply, nt, Finset.sum_range]
  refine (add_comm _ _).trans (congrArg₂ _ ?_ (at2_eq h i))
  exact Finset.sum_congr rfl fun k _ => congrArg₂ _ (at2_eq x _) (at2_eq w _)

theorem algebraic : Cert.algebraic_Kernel17Ideal_Reference17Ideal := by
  intro m ρ m' ρ' _ hagree
  refine ⟨fun c => res m c, ?_, ?_⟩
  · exact (θ_run Cert.Kernel17Ideal.defs _ _).mono (fun _ h c => ⟨(h c).1.trans (G3_eq m c), (h c).2⟩)
      (Cert.Kernel17Ideal.Value.run (F := Ideal) m ρ)
  refine (θ_run Cert.Reference17Ideal.defs _ _).mono (fun _ h c => ⟨(h c).1.trans ?_, (h c).2⟩)
    (Cert.Reference17Ideal.Value.run (F := Ideal) m' ρ')
  rw [(hagree c).1, (hagree c).2.1, (hagree c).2.2, Cert.Reference17Ideal.Read.val_main_v3_eq]
  exact funext fun i => ref_eq (X m c) (W m c) (H m c) i

end Cert.Mm.DhnX

/-! ## The part through the time steps -/

namespace Cert.Mm.DhnDt

theorem frameP : Cert.quiescent_Kernel18 := fun m ρ _ => Cert.Kernel18.Gen.frame m ρ

theorem framePI : Cert.quiescent_Kernel18Ideal := fun m ρ _ => Cert.Kernel18Ideal.Gen.frame m ρ

theorem frameRI : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run m ρ)

open Cert.Reference18Ideal Cert.Reference18Ideal.Read in
theorem ref_eq (x : S4096x128.Idx → EReal) (w : S2048x128.Idx → EReal) (h : S4096x2048.Idx → EReal) (i : S4096x2048.Idx) :
    val_main_v3 (F := Ideal) x w h i = nt (at2 x) (at2 w) 128 (i 0).val (i 1).val + at2 h (i 0).val (i 1).val := by
  rw [val_main_v3_apply, val_main_v2_apply, nt, Finset.sum_range]
  refine (add_comm _ _).trans (congrArg₂ _ ?_ (at2_eq h i))
  exact Finset.sum_congr rfl fun k _ => congrArg₂ _ (at2_eq x _) (at2_eq w _)

theorem algebraic : Cert.algebraic_Kernel18Ideal_Reference18Ideal := by
  intro m ρ m' ρ' _ hagree
  refine ⟨fun c => res m c, ?_, ?_⟩
  · exact (θ_run Cert.Kernel18Ideal.defs _ _).mono (fun _ h c => ⟨(h c).1.trans (final m c), (h c).2⟩)
      (Cert.Kernel18Ideal.Value.run_blocks (F := Ideal) m ρ)
  refine (θ_run Cert.Reference18Ideal.defs _ _).mono (fun _ h c => ⟨(h c).1.trans ?_, (h c).2⟩)
    (Cert.Reference18Ideal.Value.run (F := Ideal) m' ρ')
  rw [(hagree c).1, (hagree c).2.1, (hagree c).2.2, Cert.Reference18Ideal.Read.val_main_v3_eq]
  exact funext fun i => ref_eq (R m c) (W m c) (H m c) i

end Cert.Mm.DhnDt

end
-- ==== Proof.Mm.MlpIn.lean ====
/-
  The MLP's first product: the kernel's result arrays are the hidden values `hm · w_in` of layer 3 and their squared ReLU. Its
  grid is 4 by 8 blocks of the results; the summed axis is one block.
-/
module

public import proofs.«01_k».proof.Proof.Mm.Fwd
public import proofs.«01_k».proof.Proof.Gen.Kernel20Ideal.Value

@[expose] public section

set_option maxRecDepth 16384

noncomputable section

namespace Cert.Mm.MlpIn

open Idealize.ShloMosaic Idealize.ShloMosaic.TcCoe Idealize.ShloMosaic.ValueIdx Idealize.SL.Sem Cert.Coord
open Idealize.ShloMosaic.Pipeline (Dat)
open Cert.Kernel20Ideal Cert.Kernel20Ideal.Gen Cert.Kernel20Ideal.Value

abbrev D := dot_S1024x2048_S2048x1024_S1024x1024_1_0_0_1_n_n

theorem dot_apply (x : FVec Ideal S1024x2048 .bf16) (w : FVec Ideal S1x2048x1024 .bf16) (i : S1024x1024.Idx) :
    matmul D none x (shapeCast S2048x1024 w shapeCasts_S1x2048x1024_S2048x1024) (constant S1024x1024 .f32 0x00000000#32) i
      = nn (at2 x) (at3 w 0) 2048 (i 0).val (i 1).val := by
  refine (Ideal.matmul_apply D none _ _ _ _).trans ?_
  rw [zero_apply, zero_add]
  refine sum_dot1 D 2048 rfl rfl _ _ _ (fun k => at2 x (i 0).val k) (fun k => at3 w 0 k (i 1).val) (fun k => ?_) (fun k => ?_)
  · refine (at2_eq x _).trans ?_
    congr 1 <;> simp [DotDims.lhsIdx, D, dot_S1024x2048_S2048x1024_S1024x1024_1_0_0_1_n_n] <;> rfl
  · refine (shapeCast_apply _ _ _ (ix3 (n0 := 1) (n1 := 2048) (n2 := 1024) 0 (D.rhsIdx i k 0) (D.rhsIdx i k 1)) ?_).trans
      ((at3_eq w _).trans ?_)
    · rw [Shape.rowMajor_val_two, Shape.rowMajor_val_three]
      show (0 * 2048 + (D.rhsIdx i k 0).val) * 1024 + (D.rhsIdx i k 1).val = (D.rhsIdx i k 0).val * 1024 + (D.rhsIdx i k 1).val
      omega
    · congr 1 <;> simp [DotDims.rhsIdx, D, dot_S1024x2048_S2048x1024_S1024x1024_1_0_0_1_n_n] <;> rfl

theorem out_eq {F : FTy → Type} [FloatOps F] (x0 : Vec F S1024x2048 .bf16) (x1 : Vec F S1x2048x1024 .bf16) :
    out0_2 x0 x1 = k0_pay1 x0 x1 := by
  unfold out0_2
  rw [View.canon_unit_zero hz2, View.ld_unit_zero (S := S1024x2048) hz2, View.ld_unit_zero (S := S1x2048x1024) hz3]

theorem out_eq3 {F : FTy → Type} [FloatOps F] (x0 : Vec F S1024x2048 .bf16) (x1 : Vec F S1x2048x1024 .bf16) :
    out0_3 x0 x1 = k0_pay2 x0 x1 := by
  unfold out0_3
  rw [View.canon_unit_zero hz2, View.ld_unit_zero (S := S1024x2048) hz2, View.ld_unit_zero (S := S1x2048x1024) hz3]

theorem idx0 : ∀ t : Fin grid0.N, win0_0.index t 0 = t.val / 8 ∧ win0_0.index t 1 = 0 := by decide +kernel
theorem idx1 : ∀ t : Fin grid0.N, win0_1.index t 0 = 3 ∧ win0_1.index t 1 = 0 ∧ win0_1.index t 2 = t.val % 8 := by decide +kernel
theorem idx2 : ∀ t : Fin grid0.N, win0_2.index t 0 = t.val / 8 ∧ win0_2.index t 1 = t.val % 8 := by decide +kernel
theorem idx3 : ∀ t : Fin grid0.N, win0_3.index t 0 = t.val / 8 ∧ win0_3.index t 1 = t.val % 8 := by decide +kernel

variable (m : (ℓ : Loc nD τ sig) → Buf (Elt Ideal) ℓ) (c : Dev nD)

abbrev X : S4096x2048.Idx → EReal := m ((c : Thread nD τ).loc main_arg0)
abbrev W : S4x2048x8192.Idx → EReal := m ((c : Thread nD τ).loc main_arg1)

/-- The element at a row and a column. -/
def elt (r s : ℕ) : EReal := nn (at2 (X m c)) (at3 (W m c) 3) 2048 r s

theorem pay1_pt (t : Fin cfg0.N) (i : S1024x1024.Idx) : k0_pay1 (F := Ideal) (iblk m c 0 t) (iblk m c 1 t) i
    = elt m c (1024 * (t.val / 8) + (i 0).val) (1024 * (t.val % 8) + (i 1).val) :=
  (MlpIn.dot_apply (iblk m c 0 t) (iblk m c 1 t) i).trans (nn_whole _ _ _ _
    (fun k hk => (at2_block (X m c) (iblk m c 0 t) _ (fun _ => rfl) (fun _ => rfl) (fun _ => rfl) (idx2_lt0 i) hk).trans
      (by rw [(idx0 t).1, (idx0 t).2, Nat.mul_zero, Nat.zero_add]))
    (fun k hk => (at3_block (W m c) (iblk m c 1 t) _ (fun _ => rfl) (fun _ => rfl) (fun _ => rfl) (fun _ => rfl) hk (idx2_lt1 i)).trans
      (by rw [(idx1 t).1, (idx1 t).2.1, (idx1 t).2.2, Nat.mul_zero, Nat.zero_add])))

/-- The result array. -/
def res : S4096x8192.Idx → EReal := fun i => elt m c (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = elt m c (win0_2.index t 0 * 1024 + 1 * (j 0).val) (win0_2.index t 1 * 1024 + 1 * (j 1).val)
    rw [hi.1, hi.2, Nat.one_mul, Nat.one_mul, Nat.mul_comm _ 1024, Nat.mul_comm _ 1024]) fun i => by
    obtain ⟨t, h0, h1⟩ := covered (fun t a => win0_2.index t a) idx2 N_0 (by decide : 0 < 1024) (i 0).isLt (i 1).isLt
    refine ⟨t, flush0_2 t, ?_⟩
    show i ∈ ((View.whole main_v0_0).slice (win0_2.rect t)).set
    rw [View.set_slice_whole, Rect.mem_set_unit]
    intro a
    match a with
    | ⟨0, _⟩ => exact h0
    | ⟨1, _⟩ => exact h1

/-- The squared ReLU. -/
def sq (a : EReal) : EReal := max a 0 * max a 0

theorem pay2_pt (t : Fin cfg0.N) (i : S1024x1024.Idx) : k0_pay2 (F := Ideal) (iblk m c 0 t) (iblk m c 1 t) i
    = sq (elt m c (1024 * (t.val / 8) + (i 0).val) (1024 * (t.val % 8) + (i 1).val)) := by
  have hz : Ideal.ofBits .f32 0x00000000#32 = 0 := by simp
  rw [← pay1_pt m c t i]
  show max (k0_pay1 (F := Ideal) (iblk m c 0 t) (iblk m c 1 t) i) (Ideal.ofBits .f32 0x00000000#32)
    * max (k0_pay1 (F := Ideal) (iblk m c 0 t) (iblk m c 1 t) i) (Ideal.ofBits .f32 0x00000000#32) = _
  rw [hz]
  rfl

/-- The second result array. -/
def res3 : S4096x8192.Idx → EReal := fun i => sq (elt m c (i 0).val (i 1).val)

theorem final3 : (dats m 0 c).arrAt 3 cfg0.N = res3 m c :=
  (dats m 0 c).arrAt_eq_of_cover 3 (res3 m c) (fun t _ => by
    rw [flushed3, out_eq3]
    funext j
    have hi := idx3 t
    refine (pay2_pt m c t _).trans ?_
    rw [View.read_apply]
    show _ = sq (elt m c (win0_3.index t 0 * 1024 + 1 * (j 0).val) (win0_3.index t 1 * 1024 + 1 * (j 1).val))
    rw [hi.1, hi.2, Nat.one_mul, Nat.one_mul, Nat.mul_comm _ 1024, Nat.mul_comm _ 1024]) fun i => by
    obtain ⟨t, h0, h1⟩ := covered (fun t a => win0_3.index t a) idx3 N_0 (by decide : 0 < 1024) (i 0).isLt (i 1).isLt
    refine ⟨t, flush0_3 t, ?_⟩
    show i ∈ ((View.whole main_v0_1).slice (win0_3.rect t)).set
    rw [View.set_slice_whole, Rect.mem_set_unit]
    intro a
    match a with
    | ⟨0, _⟩ => exact h0
    | ⟨1, _⟩ => exact h1

end Cert.Mm.MlpIn

end
-- ==== Proof.Mm.MlpOut.lean ====
/-
  The MLP's second product: the kernel's result array is `r · w_out + h` for layer 3. Its grid is 4 by 2 blocks of the result by 4
  blocks of the summed axis.
-/
module

public import proofs.«01_k».proof.Proof.Mm.MlpIn
public import proofs.«01_k».proof.Proof.Gen.Kernel21Ideal.Value

@[expose] public section

set_option maxRecDepth 16384

noncomputable section

namespace Cert.Mm.MlpOut

open Idealize.ShloMosaic Idealize.ShloMosaic.TcCoe Idealize.ShloMosaic.ValueIdx Idealize.SL.Sem Cert.Coord
open Idealize.ShloMosaic.Pipeline (Dat)
open Cert.Kernel21Ideal Cert.Kernel21Ideal.Gen Cert.Kernel21Ideal.Value

/-! ## One point's payloads -/

theorem pay1_apply (x : FVec Ideal S1024x2048 .bf16) (w : FVec Ideal S1x2048x1024 .bf16) (i : S1024x1024.Idx) :
    k0_pay1 (F := Ideal) x w i = nn (at2 x) (at3 w 0) 2048 (i 0).val (i 1).val := by
  unfold k0_pay1
  dsimp only
  rw [shapeCast_self]
  exact MlpIn.dot_apply x w i

/-- The partial sum kept in the scratch. -/
theorem pay2_apply (p : FVec Ideal S1024x1024 .f32) (x : FVec Ideal S1024x2048 .bf16) (w : FVec Ideal S1x2048x1024 .bf16)
    (i : S1024x1024.Idx) : k0_pay2 (F := Ideal) p x w i = p i + nn (at2 x) (at3 w 0) 2048 (i 0).val (i 1).val := by
  unfold k0_pay2
  dsimp only
  rw [shapeCast_self]
  exact congrArg (p i + ·) (MlpIn.dot_apply x w i)

/-- The last sum, with what the result is added to. -/
theorem pay3_apply (p : FVec Ideal S1024x1024 .f32) (x : FVec Ideal S1024x2048 .bf16) (w : FVec Ideal S1x2048x1024 .bf16)
    (h : FVec Ideal S1024x1024 .f32) (i : S1024x1024.Idx) :
    k0_pay3 (F := Ideal) p x w h i = p i + nn (at2 x) (at3 w 0) 2048 (i 0).val (i 1).val + h i :=
  congrArg (p i + · + h i) (MlpIn.dot_apply x w i)

/-! ## What a point leaves in the buffers -/

section Out

variable {F : FTy → Type} [FloatOps F]
variable (c : Dev nD) (i : grid0.Coords) (a3 : Memref sig .tc .vmem S1024x2048 .bf16) (h3 : a3.IsWhole)
  (a4 : Memref sig .tc .vmem S1x2048x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x2048 .bf16) (x1 : Vec F S1x2048x1024 .bf16) (x2 p : Vec F S1024x1024 .f32)

theorem sout_A (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hz2]
  simp only [View.readAt_eq_ld, h3.read_unread, h4.read_unread, View.ld_unit_zero (S := S1024x2048) hz2,
    View.ld_unit_zero (S := S1x2048x1024) hz3]

theorem sout_B (hc0 : ¬cond0_0 i) (hc1 : cond0_1 i) (hc2 : ¬cond0_2 i) :
    sout0_B_0 c i a3 h3 a4 h4 a5 h5 a6 h6 a7 h7 hc0 hc1 hc2 x0 x1 x2 p = k0_pay2 p x0 x1 := by
  unfold sout0_B_0
  rw [View.read_writes_eq_canon _ _ _ (scover0_B_0 c i a3 h3 a4 h4 a5 h5 a6 h6 a7 h7 hc0 hc1 hc2 x0 x1 x2 p)]
  unfold kernelRun0_B
  dsimp only
  sl_unfold_words
  rw [View.canon_unit_zero hz2]
  simp only [View.readAt_eq_ld, h3.read_unread, h4.read_unread, h7.read_unread, View.ld_unit_zero (S := S1024x2048) hz2,
    View.ld_unit_zero (S := S1x2048x1024) hz3, View.ld_unit_zero (S := S1024x1024) hz2]

theorem out_C (hc0 : ¬cond0_0 i) (hc1 : ¬cond0_1 i) (hc2 : cond0_2 i) :
    out0_C_3 c i a3 h3 a4 h4 a5 h5 a6 h6 a7 h7 hc0 hc1 hc2 x0 x1 x2 p = k0_pay3 p x0 x1 x2 := by
  unfold out0_C_3
  rw [View.read_writes_eq_canon _ _ _ (cover0_C_3 c i a3 h3 a4 h4 a5 h5 a6 h6 a7 h7 hc0 hc1 hc2 x0 x1 x2 p)]
  unfold kernelRun0_C
  dsimp only
  sl_unfold_words
  rw [View.canon_unit_zero hz2]
  simp only [View.readAt_eq_ld, h3.read_unread, h4.read_unread, h5.read_unread, h7.read_unread, View.ld_unit_zero (S := S1024x2048) hz2,
    View.ld_unit_zero (S := S1x2048x1024) hz3, View.ld_unit_zero (S := S1024x1024) hz2]

end Out

/-! ## The grid -/

theorem idx0 : ∀ t : Fin grid0.N, win0_0.index t 0 = t.val / 4 / 2 ∧ win0_0.index t 1 = t.val % 4 := by decide +kernel
theorem idx1 : ∀ t : Fin grid0.N, win0_1.index t 0 = 3 ∧ win0_1.index t 1 = t.val % 4 ∧ win0_1.index t 2 = t.val / 4 % 2 := by
  decide +kernel
theorem idx2 : ∀ t : Fin grid0.N, win0_2.index t 0 = t.val / 4 / 2 ∧ win0_2.index t 1 = t.val / 4 % 2 := by decide +kernel

variable (m : (ℓ : Loc nD τ sig) → Buf (Elt Ideal) ℓ) (c : Dev nD)

abbrev X : S4096x8192.Idx → EReal := m ((c : Thread nD τ).loc main_arg0)
abbrev W : S4x8192x2048.Idx → EReal := m ((c : Thread nD τ).loc main_arg1)
abbrev H : S4096x2048.Idx → EReal := m ((c : Thread nD τ).loc main_arg2)

/-- The element at a row and a column. -/
def elt (r s : ℕ) : EReal := nn (at2 (X m c)) (at3 (W m c) 3) 8192 r s + at2 (H m c) r s

/-- The result's block after the last block of the summed axis. -/
theorem last (n : ℕ) (h : n < cfg0.N) (hn : n % 4 = 3) (i : S1024x1024.Idx) : (outsAt0 m c n h).1 i
    = elt m c (1024 * (n / 4 / 2) + (i 0).val) (1024 * (n / 4 % 2) + (i 1).val) := by
  rw [outsAt0_C m c ⟨n, h⟩ (by dsimp only; omega) (by dsimp only; omega) hn, out_C]
  refine (MlpOut.pay3_apply (outsAt0 m c (n - 1) _).2 (iblk m c 0 ⟨n, h⟩) (iblk m c 1 ⟨n, h⟩) (iblk m c 2 ⟨n, h⟩) i).trans
    (congrArg₂ (· + ·) ?_ ?_)
  · exact blocks 4 (fun g b => nn (at2 (X m c)) (at3 (W m c) 3) (2048 * b) (1024 * (g / 2) + (i 0).val) (1024 * (g % 2) + (i 1).val))
      (fun n h => nn (at2 (n0 := 1024) (n1 := 2048) (iblk m c 0 ⟨n, h⟩))
        (at3 (n0 := 1) (n1 := 2048) (n2 := 1024) (iblk m c 1 ⟨n, h⟩) 0) 2048 (i 0).val (i 1).val)
      (fun n h => (outsAt0 m c n h).2 i)
      (fun n h => (outsAt0 m c (n - 1) (by omega)).2 i + nn (at2 (n0 := 1024) (n1 := 2048) (iblk m c 0 ⟨n, h⟩))
        (at3 (n0 := 1) (n1 := 2048) (n2 := 1024) (iblk m c 1 ⟨n, h⟩) 0) 2048 (i 0).val (i 1).val)
      (by decide) (fun g => Finset.sum_range_zero _)
      (fun n h => nn_block _ _ _ _
        (fun k hk => (at2_block (X m c) (iblk m c 0 ⟨n, h⟩) _ (fun _ => rfl) (fun _ => rfl) (fun _ => rfl) (idx2_lt0 i) hk).trans
          (by rw [(idx0 ⟨n, h⟩).1, (idx0 ⟨n, h⟩).2]))
        (fun k hk => (at3_block (W m c) (iblk m c 1 ⟨n, h⟩) _ (fun _ => rfl) (fun _ => rfl) (fun _ => rfl) (fun _ => rfl)
          hk (idx2_lt1 i)).trans (by rw [(idx1 ⟨n, h⟩).1, (idx1 ⟨n, h⟩).2.1, (idx1 ⟨n, h⟩).2.2])))
      (fun n h hz => by
        rw [outsAt0_A m c ⟨n, h⟩ hz (by dsimp only; omega) (by dsimp only; omega), sout_A]
        exact MlpOut.pay1_apply (iblk m c 0 ⟨n, h⟩) (iblk m c 1 ⟨n, h⟩) i)
      (fun n h hz hl => by
        rw [outsAt0_B m c ⟨n, h⟩ hz (by dsimp only; omega) (by dsimp only; omega), sout_B]
        exact MlpOut.pay2_apply (outsAt0 m c (n - 1) _).2 (iblk m c 0 ⟨n, h⟩) (iblk m c 1 ⟨n, h⟩) i)
      (fun _ _ _ => rfl) n h hn
  · refine (at2_eq (iblk m c 2 ⟨n, h⟩) i).trans ?_
    refine (at2_block (H m c) (iblk m c 2 ⟨n, h⟩) _ (fun _ => rfl) (fun _ => rfl) (fun _ => rfl) (idx2_lt0 i) (idx2_lt1 i)).trans ?_
    rw [(idx2 ⟨n, h⟩).1, (idx2 ⟨n, h⟩).2]

/-- The result array. -/
def res : S4096x2048.Idx → EReal := fun i => elt m c (i 0).val (i 1).val

theorem G3_eq : G3 (F := Ideal) m c = res m c := by
  funext i
  have h0 : (i 0).val < 4096 := (i 0).isLt
  have h1 : (i 1).val < 2048 := (i 1).isLt
  have hp : pt3Of i = 8 * ((i 0).val / 1024) + 4 * ((i 1).val / 1024) + 3 := by
    show 4 * (2 * ((i 0).val / 1024 - 0) + 1 * ((i 1).val / 1024 - 0)) + 3 = _
    omega
  have h : pt3Of i < cfg0.N := by rw [hp, show cfg0.N = 32 from N_0]; omega
  unfold G3
  rw [dif_pos h, ← outsAt0_sweep m c (pt3Of i) h, last m c _ h (by rw [hp]; omega), hp]
  refine congrArg₂ (elt m c) ?_ ?_
  · show _ + (i 0).val % 1024 = _; omega
  · show _ + (i 1).val % 1024 = _; omega

end Cert.Mm.MlpOut

end
-- ==== Proof.Mm.Qkv.lean ====
/-
  The attention's first product: the kernel's two result arrays are `hn · w_qkv` for the second of the two attention layers, the
  second one rounded. Its grid is 4 by 6 blocks of the results; the summed axis is one block.
-/
module

public import proofs.«01_k».proof.Proof.Mm.MlpIn
public import proofs.«01_k».proof.Proof.Mm.Fwd
public import proofs.«01_k».proof.Proof.Gen.Kernel22Ideal.Value

@[expose] public section

set_option maxRecDepth 16384

noncomputable section

namespace Cert.Mm.Qkv

open Idealize.ShloMosaic Idealize.ShloMosaic.TcCoe Idealize.ShloMosaic.ValueIdx Idealize.SL.Sem Cert.Coord
open Idealize.ShloMosaic.Pipeline (Dat)
open Cert.Kernel22Ideal Cert.Kernel22Ideal.Gen Cert.Kernel22Ideal.Value

theorem out_eq {F : FTy → Type} [FloatOps F] (x0 : Vec F S1024x2048 .bf16) (x1 : Vec F S1x2048x1024 .bf16) :
    out0_2 x0 x1 = k0_pay1 x0 x1 := by
  unfold out0_2
  rw [View.canon_unit_zero hz2, View.ld_unit_zero (S := S1024x2048) hz2, View.ld_unit_zero (S := S1x2048x1024) hz3]

theorem out_eq3 {F : FTy → Type} [FloatOps F] (x0 : Vec F S1024x2048 .bf16) (x1 : Vec F S1x2048x1024 .bf16) :
    out0_3 x0 x1 = k0_pay2 x0 x1 := by
  unfold out0_3
  rw [View.canon_unit_zero hz2, View.ld_unit_zero (S := S1024x2048) hz2, View.ld_unit_zero (S := S1x2048x1024) hz3]

theorem idx0 : ∀ t : Fin grid0.N, win0_0.index t 0 = t.val / 6 ∧ win0_0.index t 1 = 0 := by decide +kernel
theorem idx1 : ∀ t : Fin grid0.N, win0_1.index t 0 = 1 ∧ win0_1.index t 1 = 0 ∧ win0_1.index t 2 = t.val % 6 := by decide +kernel
theorem idx2 : ∀ t : Fin grid0.N, win0_2.index t 0 = t.val / 6 ∧ win0_2.index t 1 = t.val % 6 := by decide +kernel
theorem idx3 : ∀ t : Fin grid0.N, win0_3.index t 0 = t.val / 6 ∧ win0_3.index t 1 = t.val % 6 := by decide +kernel

variable (m : (ℓ : Loc nD τ sig) → Buf (Elt Ideal) ℓ) (c : Dev nD)

abbrev X : S4096x2048.Idx → EReal := m ((c : Thread nD τ).loc main_arg0)
abbrev W : S2x2048x6144.Idx → EReal := m ((c : Thread nD τ).loc main_arg1)

/-- The element at a row and a column. -/
def elt (r s : ℕ) : EReal := nn (at2 (X m c)) (at3 (W m c) 1) 2048 r s

theorem pay1_pt (t : Fin cfg0.N) (i : S1024x1024.Idx) : k0_pay1 (F := Ideal) (iblk m c 0 t) (iblk m c 1 t) i
    = elt m c (1024 * (t.val / 6) + (i 0).val) (1024 * (t.val % 6) + (i 1).val) :=
  (MlpIn.dot_apply (iblk m c 0 t) (iblk m c 1 t) i).trans (nn_whole _ _ _ _
    (fun k hk => (at2_block (X m c) (iblk m c 0 t) _ (fun _ => rfl) (fun _ => rfl) (fun _ => rfl) (idx2_lt0 i) hk).trans
      (by rw [(idx0 t).1, (idx0 t).2, Nat.mul_zero, Nat.zero_add]))
    (fun k hk => (at3_block (W m c) (iblk m c 1 t) _ (fun _ => rfl) (fun _ => rfl) (fun _ => rfl) (fun _ => rfl) hk (idx2_lt1 i)).trans
      (by rw [(idx1 t).1, (idx1 t).2.1, (idx1 t).2.2, Nat.mul_zero, Nat.zero_add])))

/-- The result array. -/
def res : S4096x6144.Idx → EReal := fun i => elt m c (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = elt m c (win0_2.index t 0 * 1024 + 1 * (j 0).val) (win0_2.index t 1 * 1024 + 1 * (j 1).val)
    rw [hi.1, hi.2, Nat.one_mul, Nat.one_mul, Nat.mul_comm _ 1024, Nat.mul_comm _ 1024]) fun i => by
    obtain ⟨t, h0, h1⟩ := covered (fun t a => win0_2.index t a) idx2 N_0 (by decide : 0 < 1024) (i 0).isLt (i 1).isLt
    refine ⟨t, flush0_2 t, ?_⟩
    show i ∈ ((View.whole main_v0_0).slice (win0_2.rect t)).set
    rw [View.set_slice_whole, Rect.mem_set_unit]
    intro a
    match a with
    | ⟨0, _⟩ => exact h0
    | ⟨1, _⟩ => exact h1

theorem pay2_pt (t : Fin cfg0.N) (i : S1024x1024.Idx) : k0_pay2 (F := Ideal) (iblk m c 0 t) (iblk m c 1 t) i
    = elt m c (1024 * (t.val / 6) + (i 0).val) (1024 * (t.val % 6) + (i 1).val) :=
  pay1_pt m c t i

/-- The second result array. -/
def res3 : S4096x6144.Idx → EReal := fun i => elt m c (i 0).val (i 1).val

theorem final3 : (dats m 0 c).arrAt 3 cfg0.N = res3 m c :=
  (dats m 0 c).arrAt_eq_of_cover 3 (res3 m c) (fun t _ => by
    rw [flushed3, out_eq3]
    funext j
    have hi := idx3 t
    refine (pay2_pt m c t _).trans ?_
    rw [View.read_apply]
    show _ = elt m c (win0_3.index t 0 * 1024 + 1 * (j 0).val) (win0_3.index t 1 * 1024 + 1 * (j 1).val)
    rw [hi.1, hi.2, Nat.one_mul, Nat.one_mul, Nat.mul_comm _ 1024, Nat.mul_comm _ 1024]) fun i => by
    obtain ⟨t, h0, h1⟩ := covered (fun t a => win0_3.index t a) idx3 N_0 (by decide : 0 < 1024) (i 0).isLt (i 1).isLt
    refine ⟨t, flush0_3 t, ?_⟩
    show i ∈ ((View.whole main_v0_1).slice (win0_3.rect t)).set
    rw [View.set_slice_whole, Rect.mem_set_unit]
    intro a
    match a with
    | ⟨0, _⟩ => exact h0
    | ⟨1, _⟩ => exact h1

end Cert.Mm.Qkv

end
-- ==== Proof.Mm.SbOut.lean ====
/-
  The attention's last product: the kernel's result array is `o · w_o + h` for the second of the two attention layers. Its grid is
  4 by 2 blocks of the result; the summed axis is one block.
-/
module

public import proofs.«01_k».proof.Proof.Mm.MlpIn
public import proofs.«01_k».proof.Proof.Mm.Fwd
public import proofs.«01_k».proof.Proof.Gen.Kernel23Ideal.Value

@[expose] public section

set_option maxRecDepth 16384

noncomputable section

namespace Cert.Mm.SbOut

open Idealize.ShloMosaic Idealize.ShloMosaic.TcCoe Idealize.ShloMosaic.ValueIdx Idealize.SL.Sem Cert.Coord
open Idealize.ShloMosaic.Pipeline (Dat)
open Cert.Kernel23Ideal Cert.Kernel23Ideal.Gen Cert.Kernel23Ideal.Value

theorem out_eq {F : FTy → Type} [FloatOps F] (x0 : Vec F S1024x2048 .bf16) (x1 : Vec F S1x2048x1024 .bf16) (x2 : Vec F S1024x1024 .f32) :
    out0_3 x0 x1 x2 = k0_pay1 x0 x1 x2 := by
  unfold out0_3
  rw [View.canon_unit_zero hz2, View.ld_unit_zero (S := S1024x2048) hz2, View.ld_unit_zero (S := S1x2048x1024) hz3, View.ld_unit_zero (S := S1024x1024) hz2]

theorem idx0 : ∀ t : Fin grid0.N, win0_0.index t 0 = t.val / 2 ∧ win0_0.index t 1 = 0 := by decide +kernel
theorem idx1 : ∀ t : Fin grid0.N, win0_1.index t 0 = 1 ∧ win0_1.index t 1 = 0 ∧ win0_1.index t 2 = t.val % 2 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel

variable (m : (ℓ : Loc nD τ sig) → Buf (Elt Ideal) ℓ) (c : Dev nD)

abbrev X : S4096x2048.Idx → EReal := m ((c : Thread nD τ).loc main_arg0)
abbrev W : S2x2048x2048.Idx → EReal := m ((c : Thread nD τ).loc main_arg1)
abbrev H : S4096x2048.Idx → EReal := m ((c : Thread nD τ).loc main_arg2)

/-- The element at a row and a column. -/
def elt (r s : ℕ) : EReal := nn (at2 (X m c)) (at3 (W m c) 1) 2048 r s + at2 (H m c) r s

theorem pay1_pt (t : Fin cfg0.N) (i : S1024x1024.Idx) : k0_pay1 (F := Ideal) (iblk m c 0 t) (iblk m c 1 t) (iblk m c 2 t) i
    = elt m c (1024 * (t.val / 2) + (i 0).val) (1024 * (t.val % 2) + (i 1).val) := by
  refine congrArg₂ (· + ·) ((MlpIn.dot_apply (iblk m c 0 t) (iblk m c 1 t) i).trans (nn_whole _ _ _ _
    (fun k hk => (at2_block (X m c) (iblk m c 0 t) _ (fun _ => rfl) (fun _ => rfl) (fun _ => rfl) (idx2_lt0 i) hk).trans
      (by rw [(idx0 t).1, (idx0 t).2, Nat.mul_zero, Nat.zero_add]))
    (fun k hk => (at3_block (W m c) (iblk m c 1 t) _ (fun _ => rfl) (fun _ => rfl) (fun _ => rfl) (fun _ => rfl) hk (idx2_lt1 i)).trans
      (by rw [(idx1 t).1, (idx1 t).2.1, (idx1 t).2.2, Nat.mul_zero, Nat.zero_add])))) ?_
  refine (at2_eq (iblk m c 2 t) i).trans ?_
  refine (at2_block (H m c) (iblk m c 2 t) _ (fun _ => rfl) (fun _ => rfl) (fun _ => rfl) (idx2_lt0 i) (idx2_lt1 i)).trans ?_
  rw [(idx2 t).1, (idx2 t).2]

/-- The result array. -/
def res : S4096x2048.Idx → EReal := fun i => elt m c (i 0).val (i 1).val

theorem final : (dats m 0 c).arrAt 3 cfg0.N = res m c :=
  (dats m 0 c).arrAt_eq_of_cover 3 (res m c) (fun t _ => by
    rw [flushed3, out_eq]
    funext j
    have hi := idx3 t
    refine (pay1_pt m c t _).trans ?_
    rw [View.read_apply]
    show _ = elt m c (win0_3.index t 0 * 1024 + 1 * (j 0).val) (win0_3.index t 1 * 1024 + 1 * (j 1).val)
    rw [hi.1, hi.2, Nat.one_mul, Nat.one_mul, Nat.mul_comm _ 1024, Nat.mul_comm _ 1024]) fun i => by
    obtain ⟨t, h0, h1⟩ := covered (fun t a => win0_3.index t a) idx3 N_0 (by decide : 0 < 1024) (i 0).isLt (i 1).isLt
    refine ⟨t, flush0_3 t, ?_⟩
    show i ∈ ((View.whole main_v0).slice (win0_3.rect t)).set
    rw [View.set_slice_whole, Rect.mem_set_unit]
    intro a
    match a with
    | ⟨0, _⟩ => exact h0
    | ⟨1, _⟩ => exact h1

end Cert.Mm.SbOut

end
-- ==== Proof.Mm.GmIn.lean ====
/-
  The gate's first product: the kernel's result array is `hn · w_in`. Its grid is 4 by 4 blocks of the result; the summed axis is one
  block.
-/
module

public import proofs.«01_k».proof.Proof.Mm.MlpIn
public import proofs.«01_k».proof.Proof.Mm.Fwd
public import proofs.«01_k».proof.Proof.Gen.Kernel24Ideal.Value

@[expose] public section

set_option maxRecDepth 16384

noncomputable section

namespace Cert.Mm.GmIn

open Idealize.ShloMosaic Idealize.ShloMosaic.TcCoe Idealize.ShloMosaic.ValueIdx Idealize.SL.Sem Cert.Coord
open Idealize.ShloMosaic.Pipeline (Dat)
open Cert.Kernel24Ideal Cert.Kernel24Ideal.Gen Cert.Kernel24Ideal.Value

theorem out_eq {F : FTy → Type} [FloatOps F] (x0 : Vec F S1024x2048 .bf16) (x1 : Vec F S1x2048x1024 .bf16) :
    out0_2 x0 x1 = k0_pay1 x0 x1 := by
  unfold out0_2
  rw [View.canon_unit_zero hz2, View.ld_unit_zero (S := S1024x2048) hz2, View.ld_unit_zero (S := S1x2048x1024) hz3]

theorem idx0 : ∀ t : Fin grid0.N, win0_0.index t 0 = t.val / 4 ∧ win0_0.index t 1 = 0 := by decide +kernel
theorem idx1 : ∀ t : Fin grid0.N, win0_1.index t 0 = 0 ∧ win0_1.index t 1 = 0 ∧ win0_1.index t 2 = t.val % 4 := by decide +kernel
theorem idx2 : ∀ t : Fin grid0.N, win0_2.index t 0 = t.val / 4 ∧ win0_2.index t 1 = t.val % 4 := by decide +kernel

variable (m : (ℓ : Loc nD τ sig) → Buf (Elt Ideal) ℓ) (c : Dev nD)

abbrev X : S4096x2048.Idx → EReal := m ((c : Thread nD τ).loc main_arg0)
abbrev W : S1x2048x4096.Idx → EReal := m ((c : Thread nD τ).loc main_arg1)

/-- The element at a row and a column. -/
def elt (r s : ℕ) : EReal := nn (at2 (X m c)) (at3 (W m c) 0) 2048 r s

theorem pay1_pt (t : Fin cfg0.N) (i : S1024x1024.Idx) : k0_pay1 (F := Ideal) (iblk m c 0 t) (iblk m c 1 t) i
    = elt m c (1024 * (t.val / 4) + (i 0).val) (1024 * (t.val % 4) + (i 1).val) :=
  (MlpIn.dot_apply (iblk m c 0 t) (iblk m c 1 t) i).trans (nn_whole _ _ _ _
    (fun k hk => (at2_block (X m c) (iblk m c 0 t) _ (fun _ => rfl) (fun _ => rfl) (fun _ => rfl) (idx2_lt0 i) hk).trans
      (by rw [(idx0 t).1, (idx0 t).2, Nat.mul_zero, Nat.zero_add]))
    (fun k hk => (at3_block (W m c) (iblk m c 1 t) _ (fun _ => rfl) (fun _ => rfl) (fun _ => rfl) (fun _ => rfl) hk (idx2_lt1 i)).trans
      (by rw [(idx1 t).1, (idx1 t).2.1, (idx1 t).2.2, Nat.mul_zero, Nat.zero_add])))

/-- The result array. -/
def res : S4096x4096.Idx → EReal := fun i => elt m c (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = elt m c (win0_2.index t 0 * 1024 + 1 * (j 0).val) (win0_2.index t 1 * 1024 + 1 * (j 1).val)
    rw [hi.1, hi.2, Nat.one_mul, Nat.one_mul, Nat.mul_comm _ 1024, Nat.mul_comm _ 1024]) fun i => by
    obtain ⟨t, h0, h1⟩ := covered (fun t a => win0_2.index t a) idx2 N_0 (by decide : 0 < 1024) (i 0).isLt (i 1).isLt
    refine ⟨t, flush0_2 t, ?_⟩
    show i ∈ ((View.whole main_v0).slice (win0_2.rect t)).set
    rw [View.set_slice_whole, Rect.mem_set_unit]
    intro a
    match a with
    | ⟨0, _⟩ => exact h0
    | ⟨1, _⟩ => exact h1

end Cert.Mm.GmIn

end
-- ==== Proof.Mm.GmOut.lean ====
/-
  The gate's last product: the kernel's result array is `y · w_o + h`. Its grid is 4 by 2 blocks of the result; the summed axis is
  one block.
-/
module

public import proofs.«01_k».proof.Proof.Mm.MlpIn
public import proofs.«01_k».proof.Proof.Mm.Fwd
public import proofs.«01_k».proof.Proof.Gen.Kernel25Ideal.Value

@[expose] public section

set_option maxRecDepth 16384

noncomputable section

namespace Cert.Mm.GmOut

open Idealize.ShloMosaic Idealize.ShloMosaic.TcCoe Idealize.ShloMosaic.ValueIdx Idealize.SL.Sem Cert.Coord
open Idealize.ShloMosaic.Pipeline (Dat)
open Cert.Kernel25Ideal Cert.Kernel25Ideal.Gen Cert.Kernel25Ideal.Value

theorem out_eq {F : FTy → Type} [FloatOps F] (x0 : Vec F S1024x2048 .bf16) (x1 : Vec F S1x2048x1024 .bf16) (x2 : Vec F S1024x1024 .f32) :
    out0_3 x0 x1 x2 = k0_pay1 x0 x1 x2 := by
  unfold out0_3
  rw [View.canon_unit_zero hz2, View.ld_unit_zero (S := S1024x2048) hz2, View.ld_unit_zero (S := S1x2048x1024) hz3, View.ld_unit_zero (S := S1024x1024) hz2]

theorem idx0 : ∀ t : Fin grid0.N, win0_0.index t 0 = t.val / 2 ∧ win0_0.index t 1 = 0 := by decide +kernel
theorem idx1 : ∀ t : Fin grid0.N, win0_1.index t 0 = 0 ∧ win0_1.index t 1 = 0 ∧ win0_1.index t 2 = t.val % 2 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel

variable (m : (ℓ : Loc nD τ sig) → Buf (Elt Ideal) ℓ) (c : Dev nD)

abbrev X : S4096x2048.Idx → EReal := m ((c : Thread nD τ).loc main_arg0)
abbrev W : S1x2048x2048.Idx → EReal := m ((c : Thread nD τ).loc main_arg1)
abbrev H : S4096x2048.Idx → EReal := m ((c : Thread nD τ).loc main_arg2)

/-- The element at a row and a column. -/
def elt (r s : ℕ) : EReal := nn (at2 (X m c)) (at3 (W m c) 0) 2048 r s + at2 (H m c) r s

theorem pay1_pt (t : Fin cfg0.N) (i : S1024x1024.Idx) : k0_pay1 (F := Ideal) (iblk m c 0 t) (iblk m c 1 t) (iblk m c 2 t) i
    = elt m c (1024 * (t.val / 2) + (i 0).val) (1024 * (t.val % 2) + (i 1).val) := by
  refine congrArg₂ (· + ·) ((MlpIn.dot_apply (iblk m c 0 t) (iblk m c 1 t) i).trans (nn_whole _ _ _ _
    (fun k hk => (at2_block (X m c) (iblk m c 0 t) _ (fun _ => rfl) (fun _ => rfl) (fun _ => rfl) (idx2_lt0 i) hk).trans
      (by rw [(idx0 t).1, (idx0 t).2, Nat.mul_zero, Nat.zero_add]))
    (fun k hk => (at3_block (W m c) (iblk m c 1 t) _ (fun _ => rfl) (fun _ => rfl) (fun _ => rfl) (fun _ => rfl) hk (idx2_lt1 i)).trans
      (by rw [(idx1 t).1, (idx1 t).2.1, (idx1 t).2.2, Nat.mul_zero, Nat.zero_add])))) ?_
  refine (at2_eq (iblk m c 2 t) i).trans ?_
  refine (at2_block (H m c) (iblk m c 2 t) _ (fun _ => rfl) (fun _ => rfl) (fun _ => rfl) (idx2_lt0 i) (idx2_lt1 i)).trans ?_
  rw [(idx2 t).1, (idx2 t).2]

/-- The result array. -/
def res : S4096x2048.Idx → EReal := fun i => elt m c (i 0).val (i 1).val

theorem final : (dats m 0 c).arrAt 3 cfg0.N = res m c :=
  (dats m 0 c).arrAt_eq_of_cover 3 (res m c) (fun t _ => by
    rw [flushed3, out_eq]
    funext j
    have hi := idx3 t
    refine (pay1_pt m c t _).trans ?_
    rw [View.read_apply]
    show _ = elt m c (win0_3.index t 0 * 1024 + 1 * (j 0).val) (win0_3.index t 1 * 1024 + 1 * (j 1).val)
    rw [hi.1, hi.2, Nat.one_mul, Nat.one_mul, Nat.mul_comm _ 1024, Nat.mul_comm _ 1024]) fun i => by
    obtain ⟨t, h0, h1⟩ := covered (fun t a => win0_3.index t a) idx3 N_0 (by decide : 0 < 1024) (i 0).isLt (i 1).isLt
    refine ⟨t, flush0_3 t, ?_⟩
    show i ∈ ((View.whole main_v0).slice (win0_3.rect t)).set
    rw [View.set_slice_whole, Rect.mem_set_unit]
    intro a
    match a with
    | ⟨0, _⟩ => exact h0
    | ⟨1, _⟩ => exact h1

end Cert.Mm.GmOut

end
-- ==== Proof.Mm.SsdOut.lean ====
/-
  The state-space mixer's last product: the kernel's result array is `yn · w_o + h`. Its grid is 4 by 2 blocks of the result by 2
  blocks of the summed axis.
-/
module

public import proofs.«01_k».proof.Proof.Mm.MlpOut
public import proofs.«01_k».proof.Proof.Gen.Kernel26Ideal.Value

@[expose] public section

set_option maxRecDepth 16384

noncomputable section

namespace Cert.Mm.SsdOut

open Idealize.ShloMosaic Idealize.ShloMosaic.TcCoe Idealize.ShloMosaic.ValueIdx Idealize.SL.Sem Cert.Coord
open Idealize.ShloMosaic.Pipeline (Dat)
open Cert.Kernel26Ideal Cert.Kernel26Ideal.Gen Cert.Kernel26Ideal.Value

/-! ## What a point leaves in the buffers -/

section Out

variable {F : FTy → Type} [FloatOps F]
variable (c : Dev nD) (i : grid0.Coords) (a3 : Memref sig .tc .vmem S1024x2048 .bf16) (h3 : a3.IsWhole)
  (a4 : Memref sig .tc .vmem S1x2048x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x2048 .bf16) (x1 : Vec F S1x2048x1024 .bf16) (x2 p : Vec F S1024x1024 .f32)

theorem sout_A (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hz2]
  simp only [View.readAt_eq_ld, h3.read_unread, h4.read_unread, View.ld_unit_zero (S := S1024x2048) hz2,
    View.ld_unit_zero (S := S1x2048x1024) hz3]

theorem out_B (hc0 : ¬cond0_0 i) (hc1 : ¬cond0_1 i) (hc2 : cond0_2 i) :
    out0_B_3 c i a3 h3 a4 h4 a5 h5 a6 h6 a7 h7 hc0 hc1 hc2 x0 x1 x2 p = k0_pay3 p x0 x1 x2 := by
  unfold out0_B_3
  rw [View.read_writes_eq_canon _ _ _ (cover0_B_3 c i a3 h3 a4 h4 a5 h5 a6 h6 a7 h7 hc0 hc1 hc2 x0 x1 x2 p)]
  unfold kernelRun0_B
  dsimp only
  sl_unfold_words
  rw [View.canon_unit_zero hz2]
  simp only [View.readAt_eq_ld, h3.read_unread, h4.read_unread, h5.read_unread, h7.read_unread, View.ld_unit_zero (S := S1024x2048) hz2,
    View.ld_unit_zero (S := S1x2048x1024) hz3, View.ld_unit_zero (S := S1024x1024) hz2]

end Out

/-! ## The grid -/

theorem idx0 : ∀ t : Fin grid0.N, win0_0.index t 0 = t.val / 2 / 2 ∧ win0_0.index t 1 = t.val % 2 := by decide +kernel
theorem idx1 : ∀ t : Fin grid0.N, win0_1.index t 0 = 0 ∧ win0_1.index t 1 = t.val % 2 ∧ win0_1.index t 2 = t.val / 2 % 2 := by
  decide +kernel
theorem idx2 : ∀ t : Fin grid0.N, win0_2.index t 0 = t.val / 2 / 2 ∧ win0_2.index t 1 = t.val / 2 % 2 := by decide +kernel

variable (m : (ℓ : Loc nD τ sig) → Buf (Elt Ideal) ℓ) (c : Dev nD)

abbrev X : S4096x4096.Idx → EReal := m ((c : Thread nD τ).loc main_arg0)
abbrev W : S1x4096x2048.Idx → EReal := m ((c : Thread nD τ).loc main_arg1)
abbrev H : S4096x2048.Idx → EReal := m ((c : Thread nD τ).loc main_arg2)

/-- The element at a row and a column. -/
def elt (r s : ℕ) : EReal := nn (at2 (X m c)) (at3 (W m c) 0) 4096 r s + at2 (H m c) r s

/-- The result's block after the last block of the summed axis. -/
theorem last (n : ℕ) (h : n < cfg0.N) (hn : n % 2 = 1) (i : S1024x1024.Idx) : (outsAt0 m c n h).1 i
    = elt m c (1024 * (n / 2 / 2) + (i 0).val) (1024 * (n / 2 % 2) + (i 1).val) := by
  rw [outsAt0_B m c ⟨n, h⟩ (by dsimp only; omega) hn, out_B]
  refine (MlpOut.pay3_apply (outsAt0 m c (n - 1) _).2 (iblk m c 0 ⟨n, h⟩) (iblk m c 1 ⟨n, h⟩) (iblk m c 2 ⟨n, h⟩) i).trans
    (congrArg₂ (· + ·) ?_ ?_)
  · exact blocks 2 (fun g b => nn (at2 (X m c)) (at3 (W m c) 0) (2048 * b) (1024 * (g / 2) + (i 0).val) (1024 * (g % 2) + (i 1).val))
      (fun n h => nn (at2 (n0 := 1024) (n1 := 2048) (iblk m c 0 ⟨n, h⟩))
        (at3 (n0 := 1) (n1 := 2048) (n2 := 1024) (iblk m c 1 ⟨n, h⟩) 0) 2048 (i 0).val (i 1).val)
      (fun n h => (outsAt0 m c n h).2 i)
      (fun n h => (outsAt0 m c (n - 1) (by omega)).2 i + nn (at2 (n0 := 1024) (n1 := 2048) (iblk m c 0 ⟨n, h⟩))
        (at3 (n0 := 1) (n1 := 2048) (n2 := 1024) (iblk m c 1 ⟨n, h⟩) 0) 2048 (i 0).val (i 1).val)
      (by decide) (fun g => Finset.sum_range_zero _)
      (fun n h => nn_block _ _ _ _
        (fun k hk => (at2_block (X m c) (iblk m c 0 ⟨n, h⟩) _ (fun _ => rfl) (fun _ => rfl) (fun _ => rfl) (idx2_lt0 i) hk).trans
          (by rw [(idx0 ⟨n, h⟩).1, (idx0 ⟨n, h⟩).2]))
        (fun k hk => (at3_block (W m c) (iblk m c 1 ⟨n, h⟩) _ (fun _ => rfl) (fun _ => rfl) (fun _ => rfl) (fun _ => rfl)
          hk (idx2_lt1 i)).trans (by rw [(idx1 ⟨n, h⟩).1, (idx1 ⟨n, h⟩).2.1, (idx1 ⟨n, h⟩).2.2])))
      (fun n h hz => by
        rw [outsAt0_A m c ⟨n, h⟩ hz (by dsimp only; omega), sout_A]
        exact MlpOut.pay1_apply (iblk m c 0 ⟨n, h⟩) (iblk m c 1 ⟨n, h⟩) i)
      (fun n h hz hl => absurd hl (by omega))
      (fun _ _ _ => rfl) n h hn
  · refine (at2_eq (iblk m c 2 ⟨n, h⟩) i).trans ?_
    refine (at2_block (H m c) (iblk m c 2 ⟨n, h⟩) _ (fun _ => rfl) (fun _ => rfl) (fun _ => rfl) (idx2_lt0 i) (idx2_lt1 i)).trans ?_
    rw [(idx2 ⟨n, h⟩).1, (idx2 ⟨n, h⟩).2]

/-- The result array. -/
def res : S4096x2048.Idx → EReal := fun i => elt m c (i 0).val (i 1).val

theorem G3_eq : G3 (F := Ideal) m c = res m c := by
  funext i
  have h0 : (i 0).val < 4096 := (i 0).isLt
  have h1 : (i 1).val < 2048 := (i 1).isLt
  have hp : pt3Of i = 4 * ((i 0).val / 1024) + 2 * ((i 1).val / 1024) + 1 := by
    show 2 * (2 * ((i 0).val / 1024 - 0) + 1 * ((i 1).val / 1024 - 0)) + 1 = _
    omega
  have h : pt3Of i < cfg0.N := by rw [hp, show cfg0.N = 16 from N_0]; omega
  unfold G3
  rw [dif_pos h, ← outsAt0_sweep m c (pt3Of i) h, last m c _ h (by rw [hp]; omega), hp]
  refine congrArg₂ (elt m c) ?_ ?_
  · show _ + (i 0).val % 1024 = _; omega
  · show _ + (i 1).val % 1024 = _; omega

end Cert.Mm.SsdOut

end
-- ==== Proof.Mm.SsdInZ.lean ====
/-
  The state-space mixer's first product, the columns of `z`: the kernel's result array is `hn · w_z`. Its grid is 4 by 4 blocks of
  the result; the summed axis is one block.
-/
module

public import proofs.«01_k».proof.Proof.Mm.Fwd
public import proofs.«01_k».proof.Proof.Gen.Kernel27Ideal.Value

@[expose] public section

set_option maxRecDepth 16384

noncomputable section

namespace Cert.Mm.SsdInZ

open Idealize.ShloMosaic Idealize.ShloMosaic.TcCoe Idealize.ShloMosaic.ValueIdx Idealize.SL.Sem Cert.Coord
open Idealize.ShloMosaic.Pipeline (Dat)
open Cert.Kernel27Ideal Cert.Kernel27Ideal.Gen Cert.Kernel27Ideal.Value

abbrev D := dot_S1024x2048_S2048x1024_S1024x1024_1_0_0_1_n_n

theorem dot_apply (x : FVec Ideal S1024x2048 .bf16) (w : FVec Ideal S2048x1024 .bf16) (i : S1024x1024.Idx) :
    matmul D none x w (constant S1024x1024 .f32 0x00000000#32) i = nn (at2 x) (at2 w) 2048 (i 0).val (i 1).val := by
  refine (Ideal.matmul_apply D none _ _ _ _).trans ?_
  rw [zero_apply, zero_add]
  refine sum_dot1 D 2048 rfl rfl _ _ _ (fun k => at2 x (i 0).val k) (fun k => at2 w k (i 1).val) (fun k => ?_) (fun k => ?_)
  · refine (at2_eq x _).trans ?_
    congr 1 <;> simp [DotDims.lhsIdx, D, dot_S1024x2048_S2048x1024_S1024x1024_1_0_0_1_n_n] <;> rfl
  · refine (at2_eq w _).trans ?_
    congr 1 <;> simp [DotDims.rhsIdx, D, dot_S1024x2048_S2048x1024_S1024x1024_1_0_0_1_n_n] <;> rfl

theorem out_eq {F : FTy → Type} [FloatOps F] (x0 : Vec F S1024x2048 .bf16) (x1 : Vec F S2048x1024 .bf16) :
    out0_2 x0 x1 = k0_pay1 x0 x1 := by
  unfold out0_2
  rw [View.canon_unit_zero hz2, View.ld_unit_zero (S := S1024x2048) hz2, View.ld_unit_zero (S := S2048x1024) hz2]

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel

variable (m : (ℓ : Loc nD τ sig) → Buf (Elt Ideal) ℓ) (c : Dev nD)

abbrev X : S4096x2048.Idx → EReal := m ((c : Thread nD τ).loc main_arg0)
abbrev W : S2048x4096.Idx → EReal := m ((c : Thread nD τ).loc main_arg1)

/-- The element at a row and a column. -/
def elt (r s : ℕ) : EReal := nn (at2 (X m c)) (at2 (W m c)) 2048 r s

theorem pay1_pt (t : Fin cfg0.N) (i : S1024x1024.Idx) : k0_pay1 (F := Ideal) (iblk m c 0 t) (iblk m c 1 t) i
    = elt m c (1024 * (t.val / 4) + (i 0).val) (1024 * (t.val % 4) + (i 1).val) :=
  (SsdInZ.dot_apply (iblk m c 0 t) (iblk m c 1 t) i).trans (nn_whole _ _ _ _
    (fun k hk => (at2_block (X m c) (iblk m c 0 t) _ (fun _ => rfl) (fun _ => rfl) (fun _ => rfl) (idx2_lt0 i) hk).trans
      (by rw [(idx0 t).1, (idx0 t).2, Nat.mul_zero, Nat.zero_add]))
    (fun k hk => (at2_block (W m c) (iblk m c 1 t) _ (fun _ => rfl) (fun _ => rfl) (fun _ => rfl) hk (idx2_lt1 i)).trans
      (by rw [(idx1 t).1, (idx1 t).2, Nat.mul_zero, Nat.zero_add])))

/-- The result array. -/
def res : S4096x4096.Idx → EReal := fun i => elt m c (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = elt m c (win0_2.index t 0 * 1024 + 1 * (j 0).val) (win0_2.index t 1 * 1024 + 1 * (j 1).val)
    rw [hi.1, hi.2, Nat.one_mul, Nat.one_mul, Nat.mul_comm _ 1024, Nat.mul_comm _ 1024]) fun i => by
    obtain ⟨t, h0, h1⟩ := covered (fun t a => win0_2.index t a) idx2 N_0 (by decide : 0 < 1024) (i 0).isLt (i 1).isLt
    refine ⟨t, flush0_2 t, ?_⟩
    show i ∈ ((View.whole main_v0).slice (win0_2.rect t)).set
    rw [View.set_slice_whole, Rect.mem_set_unit]
    intro a
    match a with
    | ⟨0, _⟩ => exact h0
    | ⟨1, _⟩ => exact h1

end Cert.Mm.SsdInZ

end
-- ==== Proof.Mm.SsdInX.lean ====
/-
  The state-space mixer's first product, the columns that are convolved: the kernel's result array is `hn · w_xbc`. Its grid is 4 by
  6 blocks of the result; the summed axis is one block.
-/
module

public import proofs.«01_k».proof.Proof.Mm.SsdInZ
public import proofs.«01_k».proof.Proof.Mm.Fwd
public import proofs.«01_k».proof.Proof.Gen.Kernel28Ideal.Value

@[expose] public section

set_option maxRecDepth 16384

noncomputable section

namespace Cert.Mm.SsdInX

open Idealize.ShloMosaic Idealize.ShloMosaic.TcCoe Idealize.ShloMosaic.ValueIdx Idealize.SL.Sem Cert.Coord
open Idealize.ShloMosaic.Pipeline (Dat)
open Cert.Kernel28Ideal Cert.Kernel28Ideal.Gen Cert.Kernel28Ideal.Value

theorem out_eq {F : FTy → Type} [FloatOps F] (x0 : Vec F S1024x2048 .bf16) (x1 : Vec F S2048x1024 .bf16) :
    out0_2 x0 x1 = k0_pay1 x0 x1 := by
  unfold out0_2
  rw [View.canon_unit_zero hz2, View.ld_unit_zero (S := S1024x2048) hz2, View.ld_unit_zero (S := S2048x1024) hz2]

theorem idx0 : ∀ t : Fin grid0.N, win0_0.index t 0 = t.val / 6 ∧ win0_0.index t 1 = 0 := by decide +kernel
theorem idx1 : ∀ t : Fin grid0.N, win0_1.index t 0 = 0 ∧ win0_1.index t 1 = t.val % 6 := by decide +kernel
theorem idx2 : ∀ t : Fin grid0.N, win0_2.index t 0 = t.val / 6 ∧ win0_2.index t 1 = t.val % 6 := by decide +kernel

variable (m : (ℓ : Loc nD τ sig) → Buf (Elt Ideal) ℓ) (c : Dev nD)

abbrev X : S4096x2048.Idx → EReal := m ((c : Thread nD τ).loc main_arg0)
abbrev W : S2048x6144.Idx → EReal := m ((c : Thread nD τ).loc main_arg1)

/-- The element at a row and a column. -/
def elt (r s : ℕ) : EReal := nn (at2 (X m c)) (at2 (W m c)) 2048 r s

theorem pay1_pt (t : Fin cfg0.N) (i : S1024x1024.Idx) : k0_pay1 (F := Ideal) (iblk m c 0 t) (iblk m c 1 t) i
    = elt m c (1024 * (t.val / 6) + (i 0).val) (1024 * (t.val % 6) + (i 1).val) :=
  (SsdInZ.dot_apply (iblk m c 0 t) (iblk m c 1 t) i).trans (nn_whole _ _ _ _
    (fun k hk => (at2_block (X m c) (iblk m c 0 t) _ (fun _ => rfl) (fun _ => rfl) (fun _ => rfl) (idx2_lt0 i) hk).trans
      (by rw [(idx0 t).1, (idx0 t).2, Nat.mul_zero, Nat.zero_add]))
    (fun k hk => (at2_block (W m c) (iblk m c 1 t) _ (fun _ => rfl) (fun _ => rfl) (fun _ => rfl) hk (idx2_lt1 i)).trans
      (by rw [(idx1 t).1, (idx1 t).2, Nat.mul_zero, Nat.zero_add])))

/-- The result array. -/
def res : S4096x6144.Idx → EReal := fun i => elt m c (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = elt m c (win0_2.index t 0 * 1024 + 1 * (j 0).val) (win0_2.index t 1 * 1024 + 1 * (j 1).val)
    rw [hi.1, hi.2, Nat.one_mul, Nat.one_mul, Nat.mul_comm _ 1024, Nat.mul_comm _ 1024]) fun i => by
    obtain ⟨t, h0, h1⟩ := covered (fun t a => win0_2.index t a) idx2 N_0 (by decide : 0 < 1024) (i 0).isLt (i 1).isLt
    refine ⟨t, flush0_2 t, ?_⟩
    show i ∈ ((View.whole main_v0).slice (win0_2.rect t)).set
    rw [View.set_slice_whole, Rect.mem_set_unit]
    intro a
    match a with
    | ⟨0, _⟩ => exact h0
    | ⟨1, _⟩ => exact h1

end Cert.Mm.SsdInX

end
-- ==== Proof.Mm.SsdInDt.lean ====
/-
  The state-space mixer's first product, the columns of the time steps: the kernel's result array is `hn · w_dt`. Its grid is 4
  blocks of the result; the summed axis is one block.
-/
module

public import proofs.«01_k».proof.Proof.Mm.Fwd
public import proofs.«01_k».proof.Proof.Gen.Kernel29Ideal.Value

@[expose] public section

set_option maxRecDepth 16384

noncomputable section

namespace Cert.Mm.SsdInDt

open Idealize.ShloMosaic Idealize.ShloMosaic.TcCoe Idealize.ShloMosaic.ValueIdx Idealize.SL.Sem Cert.Coord
open Idealize.ShloMosaic.Pipeline (Dat)
open Cert.Kernel29Ideal Cert.Kernel29Ideal.Gen Cert.Kernel29Ideal.Value

abbrev D := dot_S1024x2048_S2048x128_S1024x128_1_0_0_1_n_n

theorem dot_apply (x : FVec Ideal S1024x2048 .bf16) (w : FVec Ideal S2048x128 .bf16) (i : S1024x128.Idx) :
    matmul D none x w (constant S1024x128 .f32 0x00000000#32) i = nn (at2 x) (at2 w) 2048 (i 0).val (i 1).val := by
  refine (Ideal.matmul_apply D none _ _ _ _).trans ?_
  rw [zero_apply, zero_add]
  refine sum_dot1 D 2048 rfl rfl _ _ _ (fun k => at2 x (i 0).val k) (fun k => at2 w k (i 1).val) (fun k => ?_) (fun k => ?_)
  · refine (at2_eq x _).trans ?_
    congr 1 <;> simp [DotDims.lhsIdx, D, dot_S1024x2048_S2048x128_S1024x128_1_0_0_1_n_n] <;> rfl
  · refine (at2_eq w _).trans ?_
    congr 1 <;> simp [DotDims.rhsIdx, D, dot_S1024x2048_S2048x128_S1024x128_1_0_0_1_n_n] <;> rfl

theorem out_eq {F : FTy → Type} [FloatOps F] (x0 : Vec F S1024x2048 .bf16) (x1 : Vec F S2048x128 .bf16) :
    out0_2 x0 x1 = k0_pay1 x0 x1 := by
  unfold out0_2
  rw [View.canon_unit_zero hz2, View.ld_unit_zero (S := S1024x2048) hz2, View.ld_unit_zero (S := S2048x128) hz2]

theorem idx0 : ∀ t : Fin grid0.N, win0_0.index t 0 = t.val / 1 ∧ win0_0.index t 1 = 0 := by decide +kernel
theorem idx1 : ∀ t : Fin grid0.N, win0_1.index t 0 = 0 ∧ win0_1.index t 1 = t.val % 1 := by decide +kernel
theorem idx2 : ∀ t : Fin grid0.N, win0_2.index t 0 = t.val / 1 ∧ win0_2.index t 1 = t.val % 1 := by decide +kernel

variable (m : (ℓ : Loc nD τ sig) → Buf (Elt Ideal) ℓ) (c : Dev nD)

abbrev X : S4096x2048.Idx → EReal := m ((c : Thread nD τ).loc main_arg0)
abbrev W : S2048x128.Idx → EReal := m ((c : Thread nD τ).loc main_arg1)

/-- The element at a row and a column. -/
def elt (r s : ℕ) : EReal := nn (at2 (X m c)) (at2 (W m c)) 2048 r s

theorem pay1_pt (t : Fin cfg0.N) (i : S1024x128.Idx) : k0_pay1 (F := Ideal) (iblk m c 0 t) (iblk m c 1 t) i
    = elt m c (1024 * (t.val / 1) + (i 0).val) (128 * (t.val % 1) + (i 1).val) :=
  (SsdInDt.dot_apply (iblk m c 0 t) (iblk m c 1 t) i).trans (nn_whole _ _ _ _
    (fun k hk => (at2_block (X m c) (iblk m c 0 t) _ (fun _ => rfl) (fun _ => rfl) (fun _ => rfl) (idx2_lt0 i) hk).trans
      (by rw [(idx0 t).1, (idx0 t).2, Nat.mul_zero, Nat.zero_add]))
    (fun k hk => (at2_block (W m c) (iblk m c 1 t) _ (fun _ => rfl) (fun _ => rfl) (fun _ => rfl) hk (idx2_lt1 i)).trans
      (by rw [(idx1 t).1, (idx1 t).2, Nat.mul_zero, Nat.zero_add])))

/-- The result array. -/
def res : S4096x128.Idx → EReal := fun i => elt m c (i 0).val (i 1).val

theorem final : (dats m 0 c).arrAt 2 cfg0.N = res m c :=
  (dats m 0 c).arrAt_eq_of_cover 2 (res m c) (fun t _ => by
    rw [flushed2, out_eq]
    funext j
    have hi := idx2 t
    refine (pay1_pt m c t _).trans ?_
    rw [View.read_apply]
    show _ = elt m c (win0_2.index t 0 * 1024 + 1 * (j 0).val) (win0_2.index t 1 * 128 + 1 * (j 1).val)
    rw [hi.1, hi.2, Nat.one_mul, Nat.one_mul, Nat.mul_comm _ 1024, Nat.mul_comm _ 128]) fun i => by
    obtain ⟨t, h0, h1⟩ := covered (fun t a => win0_2.index t a) idx2 N_0 (by decide : 0 < 128) (i 0).isLt (i 1).isLt
    refine ⟨t, flush0_2 t, ?_⟩
    show i ∈ ((View.whole main_v0).slice (win0_2.rect t)).set
    rw [View.set_slice_whole, Rect.mem_set_unit]
    intro a
    match a with
    | ⟨0, _⟩ => exact h0
    | ⟨1, _⟩ => exact h1

end Cert.Mm.SsdInDt

end
-- ==== Proof.Mm.ClaimsF.lean ====
/-
  The claims about the kernels of the forward pass's products with weights.
-/
module

public import proofs.«01_k».proof.Defs
public import proofs.«01_k».proof.Proof.Mm.MlpIn
public import proofs.«01_k».proof.Proof.Gen.Kernel20.Frame
public import proofs.«01_k».proof.Proof.Gen.Reference20Ideal.Read
public import proofs.«01_k».proof.Proof.Mm.MlpOut
public import proofs.«01_k».proof.Proof.Gen.Kernel21.Frame
public import proofs.«01_k».proof.Proof.Gen.Reference21Ideal.Read
public import proofs.«01_k».proof.Proof.Mm.Qkv
public import proofs.«01_k».proof.Proof.Gen.Kernel22.Frame
public import proofs.«01_k».proof.Proof.Gen.Reference22Ideal.Read
public import proofs.«01_k».proof.Proof.Mm.SbOut
public import proofs.«01_k».proof.Proof.Gen.Kernel23.Frame
public import proofs.«01_k».proof.Proof.Gen.Reference23Ideal.Read
public import proofs.«01_k».proof.Proof.Mm.GmIn
public import proofs.«01_k».proof.Proof.Gen.Kernel24.Frame
public import proofs.«01_k».proof.Proof.Gen.Reference24Ideal.Read
public import proofs.«01_k».proof.Proof.Mm.GmOut
public import proofs.«01_k».proof.Proof.Gen.Kernel25.Frame
public import proofs.«01_k».proof.Proof.Gen.Reference25Ideal.Read
public import proofs.«01_k».proof.Proof.Mm.SsdOut
public import proofs.«01_k».proof.Proof.Gen.Kernel26.Frame
public import proofs.«01_k».proof.Proof.Gen.Reference26Ideal.Read
public import proofs.«01_k».proof.Proof.Mm.SsdInZ
public import proofs.«01_k».proof.Proof.Gen.Kernel27.Frame
public import proofs.«01_k».proof.Proof.Gen.Reference27Ideal.Read
public import proofs.«01_k».proof.Proof.Mm.SsdInX
public import proofs.«01_k».proof.Proof.Gen.Kernel28.Frame
public import proofs.«01_k».proof.Proof.Gen.Reference28Ideal.Read
public import proofs.«01_k».proof.Proof.Mm.SsdInDt
public import proofs.«01_k».proof.Proof.Gen.Kernel29.Frame
public import proofs.«01_k».proof.Proof.Gen.Reference29Ideal.Read
public import Idealize.ShloMosaic.Adequacy
public import Idealize.ShloMosaic.Init

@[expose] public section

set_option maxRecDepth 16384

noncomputable section

open Idealize.ShloMosaic Idealize.ShloMosaic.TcCoe Idealize.ShloMosaic.ValueIdx Idealize.SL.Sem Cert.Coord

/-! ## The MLP's hidden values and their squared ReLU -/

namespace Cert.Mm.MlpIn

theorem frameP : Cert.quiescent_Kernel20 := fun m ρ _ => Cert.Kernel20.Gen.frame m ρ

theorem framePI : Cert.quiescent_Kernel20Ideal := fun m ρ _ => Cert.Kernel20Ideal.Gen.frame m ρ

theorem frameRI : Cert.quiescent_Reference20Ideal := fun m ρ _ =>
  (θ_run Cert.Reference20Ideal.defs _ _).mono
    (fun r h => ⟨fun c => (h c).2.2, Idealize.ShloMosaic.sem_eq_zero_of_no_sems (by decide) r.2⟩)
    (Cert.Reference20Ideal.Value.run m ρ)

open Cert.Reference20Ideal Cert.Reference20Ideal.Read in
theorem weights_eq (w : S4x2048x8192.Idx → EReal) (i : S2048x8192.Idx) :
    val_main_v3 (F := Ideal) w i = at3 w 3 (i 0).val (i 1).val := by
  have h0 : (i 0).val < 2048 := (i 0).isLt
  have h1 : (i 1).val < 8192 := (i 1).isLt
  rw [val_main_v3_apply]
  show val_main_v1 (F := Ideal) w i = _
  rw [val_main_v1_apply, val_main_v0_apply]
  refine (at3_eq w _).trans (congrArg₂ (at3 w 3) ?_ ?_)
  · show ((i 0).val * 8192 + (i 1).val) / 8192 % 2048 = _; omega
  · show ((i 0).val * 8192 + (i 1).val) % 8192 = _; omega

open Cert.Reference20Ideal Cert.Reference20Ideal.Read in
theorem ref_eq (x : S4096x2048.Idx → EReal) (w : S4x2048x8192.Idx → EReal) (i : S4096x8192.Idx) :
    val_main_v4 (F := Ideal) x w i = nn (at2 x) (at3 w 3) 2048 (i 0).val (i 1).val := by
  rw [val_main_v4_apply, nn, Finset.sum_range]
  exact Finset.sum_congr rfl fun k _ => congrArg₂ _ (at2_eq x _) (weights_eq w _)

open Cert.Reference20Ideal Cert.Reference20Ideal.Read in
theorem ref_eq3 (x : S4096x2048.Idx → EReal) (w : S4x2048x8192.Idx → EReal) (i : S4096x8192.Idx) :
    val_main_v7 (F := Ideal) x w i = sq (nn (at2 x) (at3 w 3) 2048 (i 0).val (i 1).val) := by
  have hz : Ideal.ofBits .f32 0x00000000#32 = 0 := by simp
  have h5 : val_main_v5 (F := Ideal) x w i = max (nn (at2 x) (at3 w 3) 2048 (i 0).val (i 1).val) 0 := by
    rw [val_main_v5_apply, val_main_call0_v0_apply, ref_eq x w i]
    show max _ (Ideal.ofBits .f32 0x00000000#32) = _
    rw [hz]
  rw [val_main_v7_apply]
  show val_main_v6 (F := Ideal) x w i = _
  rw [val_main_v6_apply, h5]
  rfl

theorem algebraic : Cert.algebraic_Kernel20Ideal_Reference20Ideal := by
  intro m ρ m' ρ' _ hagree
  refine ⟨fun c => res m c, fun c => res3 m c, ?_, ?_⟩
  · exact (θ_run Cert.Kernel20Ideal.defs _ _).mono
      (fun _ h c => ⟨(h c).1.trans (final m c), (h c).2.1.trans (final3 m c), (h c).2.2⟩)
      (Cert.Kernel20Ideal.Value.run_blocks (F := Ideal) m ρ)
  refine (θ_run Cert.Reference20Ideal.defs _ _).mono (fun _ h c => ⟨(h c).1.trans ?_, (h c).2.1.trans ?_, (h c).2.2⟩)
    (Cert.Reference20Ideal.Value.run (F := Ideal) m' ρ')
  · rw [(hagree c).1, (hagree c).2, Cert.Reference20Ideal.Read.val_main_v4_eq]
    exact funext fun i => ref_eq (X m c) (W m c) i
  · rw [(hagree c).1, (hagree c).2, Cert.Reference20Ideal.Read.val_main_v7_eq]
    exact funext fun i => ref_eq3 (X m c) (W m c) i

end Cert.Mm.MlpIn

/-! ## The MLP's result -/

namespace Cert.Mm.MlpOut

theorem frameP : Cert.quiescent_Kernel21 := fun m ρ _ => Cert.Kernel21.Gen.frame m ρ

theorem framePI : Cert.quiescent_Kernel21Ideal := fun m ρ _ => Cert.Kernel21Ideal.Gen.frame m ρ

theorem frameRI : Cert.quiescent_Reference21Ideal := fun m ρ _ =>
  (θ_run Cert.Reference21Ideal.defs _ _).mono
    (fun r h => ⟨fun c => (h c).2, Idealize.ShloMosaic.sem_eq_zero_of_no_sems (by decide) r.2⟩)
    (Cert.Reference21Ideal.Value.run m ρ)

open Cert.Reference21Ideal Cert.Reference21Ideal.Read in
theorem weights_eq (w : S4x8192x2048.Idx → EReal) (i : S8192x2048.Idx) :
    val_main_v3 (F := Ideal) w i = at3 w 3 (i 0).val (i 1).val := by
  have h0 : (i 0).val < 8192 := (i 0).isLt
  have h1 : (i 1).val < 2048 := (i 1).isLt
  rw [val_main_v3_apply]
  show val_main_v1 (F := Ideal) w i = _
  rw [val_main_v1_apply, val_main_v0_apply]
  refine (at3_eq w _).trans (congrArg₂ (at3 w 3) ?_ ?_)
  · show ((i 0).val * 2048 + (i 1).val) / 2048 % 8192 = _; omega
  · show ((i 0).val * 2048 + (i 1).val) % 2048 = _; omega

open Cert.Reference21Ideal Cert.Reference21Ideal.Read in
theorem ref_eq (x : S4096x8192.Idx → EReal) (w : S4x8192x2048.Idx → EReal) (h : S4096x2048.Idx → EReal) (i : S4096x2048.Idx) :
    val_main_v5 (F := Ideal) x w h i = nn (at2 x) (at3 w 3) 8192 (i 0).val (i 1).val + at2 h (i 0).val (i 1).val := by
  rw [val_main_v5_apply, val_main_v4_apply, nn, Finset.sum_range]
  refine (add_comm _ _).trans (congrArg₂ _ ?_ (at2_eq h i))
  exact Finset.sum_congr rfl fun k _ => congrArg₂ _ (at2_eq x _) (weights_eq w _)

theorem algebraic : Cert.algebraic_Kernel21Ideal_Reference21Ideal := by
  intro m ρ m' ρ' _ hagree
  refine ⟨fun c => res m c, ?_, ?_⟩
  · exact (θ_run Cert.Kernel21Ideal.defs _ _).mono (fun _ h c => ⟨(h c).1.trans (G3_eq m c), (h c).2⟩)
      (Cert.Kernel21Ideal.Value.run (F := Ideal) m ρ)
  refine (θ_run Cert.Reference21Ideal.defs _ _).mono (fun _ h c => ⟨(h c).1.trans ?_, (h c).2⟩)
    (Cert.Reference21Ideal.Value.run (F := Ideal) m' ρ')
  rw [(hagree c).1, (hagree c).2.1, (hagree c).2.2, Cert.Reference21Ideal.Read.val_main_v5_eq]
  exact funext fun i => ref_eq (X m c) (W m c) (H m c) i

end Cert.Mm.MlpOut

/-! ## The attention's queries, keys and values -/

namespace Cert.Mm.Qkv

theorem frameP : Cert.quiescent_Kernel22 := fun m ρ _ => Cert.Kernel22.Gen.frame m ρ

theorem framePI : Cert.quiescent_Kernel22Ideal := fun m ρ _ => Cert.Kernel22Ideal.Gen.frame m ρ

theorem frameRI : Cert.quiescent_Reference22Ideal := fun m ρ _ =>
  (θ_run Cert.Reference22Ideal.defs _ _).mono
    (fun r h => ⟨fun c => (h c).2.2, Idealize.ShloMosaic.sem_eq_zero_of_no_sems (by decide) r.2⟩)
    (Cert.Reference22Ideal.Value.run m ρ)

open Cert.Reference22Ideal Cert.Reference22Ideal.Read in
theorem weights_eq (w : S2x2048x6144.Idx → EReal) (i : S2048x6144.Idx) :
    val_main_v3 (F := Ideal) w i = at3 w 1 (i 0).val (i 1).val := by
  have h0 : (i 0).val < 2048 := (i 0).isLt
  have h1 : (i 1).val < 6144 := (i 1).isLt
  rw [val_main_v3_apply]
  show val_main_v1 (F := Ideal) w i = _
  rw [val_main_v1_apply, val_main_v0_apply]
  refine (at3_eq w _).trans (congrArg₂ (at3 w 1) ?_ ?_)
  · show ((i 0).val * 6144 + (i 1).val) / 6144 % 2048 = _; omega
  · show ((i 0).val * 6144 + (i 1).val) % 6144 = _; omega

open Cert.Reference22Ideal Cert.Reference22Ideal.Read in
theorem ref_eq (x : S4096x2048.Idx → EReal) (w : S2x2048x6144.Idx → EReal) (i : S4096x6144.Idx) :
    val_main_v4 (F := Ideal) x w i = nn (at2 x) (at3 w 1) 2048 (i 0).val (i 1).val := by
  rw [val_main_v4_apply, nn, Finset.sum_range]
  exact Finset.sum_congr rfl fun k _ => congrArg₂ _ (at2_eq x _) (weights_eq w _)

open Cert.Reference22Ideal Cert.Reference22Ideal.Read in
theorem ref_eq3 (x : S4096x2048.Idx → EReal) (w : S2x2048x6144.Idx → EReal) (i : S4096x6144.Idx) :
    val_main_v5 (F := Ideal) x w i = nn (at2 x) (at3 w 1) 2048 (i 0).val (i 1).val := by
  rw [val_main_v5_apply]
  exact ref_eq x w i

theorem algebraic : Cert.algebraic_Kernel22Ideal_Reference22Ideal := by
  intro m ρ m' ρ' _ hagree
  refine ⟨fun c => res m c, fun c => res3 m c, ?_, ?_⟩
  · exact (θ_run Cert.Kernel22Ideal.defs _ _).mono
      (fun _ h c => ⟨(h c).1.trans (final m c), (h c).2.1.trans (final3 m c), (h c).2.2⟩)
      (Cert.Kernel22Ideal.Value.run_blocks (F := Ideal) m ρ)
  refine (θ_run Cert.Reference22Ideal.defs _ _).mono (fun _ h c => ⟨(h c).1.trans ?_, (h c).2.1.trans ?_, (h c).2.2⟩)
    (Cert.Reference22Ideal.Value.run (F := Ideal) m' ρ')
  · rw [(hagree c).1, (hagree c).2, Cert.Reference22Ideal.Read.val_main_v4_eq]
    exact funext fun i => ref_eq (X m c) (W m c) i
  · rw [(hagree c).1, (hagree c).2, Cert.Reference22Ideal.Read.val_main_v5_eq]
    exact funext fun i => ref_eq3 (X m c) (W m c) i

end Cert.Mm.Qkv

/-! ## The attention's result -/

namespace Cert.Mm.SbOut

theorem frameP : Cert.quiescent_Kernel23 := fun m ρ _ => Cert.Kernel23.Gen.frame m ρ

theorem framePI : Cert.quiescent_Kernel23Ideal := fun m ρ _ => Cert.Kernel23Ideal.Gen.frame m ρ

theorem frameRI : Cert.quiescent_Reference23Ideal := fun m ρ _ =>
  (θ_run Cert.Reference23Ideal.defs _ _).mono
    (fun r h => ⟨fun c => (h c).2, Idealize.ShloMosaic.sem_eq_zero_of_no_sems (by decide) r.2⟩)
    (Cert.Reference23Ideal.Value.run m ρ)

open Cert.Reference23Ideal Cert.Reference23Ideal.Read in
theorem weights_eq (w : S2x2048x2048.Idx → EReal) (i : S2048x2048.Idx) :
    val_main_v3 (F := Ideal) w i = at3 w 1 (i 0).val (i 1).val := by
  have h0 : (i 0).val < 2048 := (i 0).isLt
  have h1 : (i 1).val < 2048 := (i 1).isLt
  rw [val_main_v3_apply]
  show val_main_v1 (F := Ideal) w i = _
  rw [val_main_v1_apply, val_main_v0_apply]
  refine (at3_eq w _).trans (congrArg₂ (at3 w 1) ?_ ?_)
  · show ((i 0).val * 2048 + (i 1).val) / 2048 % 2048 = _; omega
  · show ((i 0).val * 2048 + (i 1).val) % 2048 = _; omega

open Cert.Reference23Ideal Cert.Reference23Ideal.Read in
theorem ref_eq (x : S4096x2048.Idx → EReal) (w : S2x2048x2048.Idx → EReal) (h : S4096x2048.Idx → EReal) (i : S4096x2048.Idx) :
    val_main_v5 (F := Ideal) x w h i = nn (at2 x) (at3 w 1) 2048 (i 0).val (i 1).val + at2 h (i 0).val (i 1).val := by
  rw [val_main_v5_apply, val_main_v4_apply, nn, Finset.sum_range]
  refine (add_comm _ _).trans (congrArg₂ _ ?_ (at2_eq h i))
  exact Finset.sum_congr rfl fun k _ => congrArg₂ _ (at2_eq x _) (weights_eq w _)

theorem algebraic : Cert.algebraic_Kernel23Ideal_Reference23Ideal := by
  intro m ρ m' ρ' _ hagree
  refine ⟨fun c => res m c, ?_, ?_⟩
  · exact (θ_run Cert.Kernel23Ideal.defs _ _).mono (fun _ h c => ⟨(h c).1.trans (final m c), (h c).2⟩)
      (Cert.Kernel23Ideal.Value.run_blocks (F := Ideal) m ρ)
  refine (θ_run Cert.Reference23Ideal.defs _ _).mono (fun _ h c => ⟨(h c).1.trans ?_, (h c).2⟩)
    (Cert.Reference23Ideal.Value.run (F := Ideal) m' ρ')
  rw [(hagree c).1, (hagree c).2.1, (hagree c).2.2, Cert.Reference23Ideal.Read.val_main_v5_eq]
  exact funext fun i => ref_eq (X m c) (W m c) (H m c) i

end Cert.Mm.SbOut

/-! ## The gate's input -/

namespace Cert.Mm.GmIn

theorem frameP : Cert.quiescent_Kernel24 := fun m ρ _ => Cert.Kernel24.Gen.frame m ρ

theorem framePI : Cert.quiescent_Kernel24Ideal := fun m ρ _ => Cert.Kernel24Ideal.Gen.frame m ρ

theorem frameRI : Cert.quiescent_Reference24Ideal := fun m ρ _ =>
  (θ_run Cert.Reference24Ideal.defs _ _).mono
    (fun r h => ⟨fun c => (h c).2, Idealize.ShloMosaic.sem_eq_zero_of_no_sems (by decide) r.2⟩)
    (Cert.Reference24Ideal.Value.run m ρ)

open Cert.Reference24Ideal Cert.Reference24Ideal.Read in
theorem weights_eq (w : S1x2048x4096.Idx → EReal) (i : S2048x4096.Idx) :
    val_main_v2 (F := Ideal) w i = at3 w 0 (i 0).val (i 1).val := by
  have h0 : (i 0).val < 2048 := (i 0).isLt
  have h1 : (i 1).val < 4096 := (i 1).isLt
  rw [val_main_v2_apply]
  show val_main_v0 (F := Ideal) w i = _
  rw [val_main_v0_apply]
  refine (at3_eq w _).trans (congrArg₂ (at3 w 0) ?_ ?_)
  · show ((i 0).val * 4096 + (i 1).val) / 4096 % 2048 = _; omega
  · show ((i 0).val * 4096 + (i 1).val) % 4096 = _; omega

open Cert.Reference24Ideal Cert.Reference24Ideal.Read in
theorem ref_eq (x : S4096x2048.Idx → EReal) (w : S1x2048x4096.Idx → EReal) (i : S4096x4096.Idx) :
    val_main_v3 (F := Ideal) x w i = nn (at2 x) (at3 w 0) 2048 (i 0).val (i 1).val := by
  rw [val_main_v3_apply, nn, Finset.sum_range]
  exact Finset.sum_congr rfl fun k _ => congrArg₂ _ (at2_eq x _) (weights_eq w _)

theorem algebraic : Cert.algebraic_Kernel24Ideal_Reference24Ideal := by
  intro m ρ m' ρ' _ hagree
  refine ⟨fun c => res m c, ?_, ?_⟩
  · exact (θ_run Cert.Kernel24Ideal.defs _ _).mono (fun _ h c => ⟨(h c).1.trans (final m c), (h c).2⟩)
      (Cert.Kernel24Ideal.Value.run_blocks (F := Ideal) m ρ)
  refine (θ_run Cert.Reference24Ideal.defs _ _).mono (fun _ h c => ⟨(h c).1.trans ?_, (h c).2⟩)
    (Cert.Reference24Ideal.Value.run (F := Ideal) m' ρ')
  rw [(hagree c).1, (hagree c).2, Cert.Reference24Ideal.Read.val_main_v3_eq]
  exact funext fun i => ref_eq (X m c) (W m c) i

end Cert.Mm.GmIn

/-! ## The gate's result -/

namespace Cert.Mm.GmOut

theorem frameP : Cert.quiescent_Kernel25 := fun m ρ _ => Cert.Kernel25.Gen.frame m ρ

theorem framePI : Cert.quiescent_Kernel25Ideal := fun m ρ _ => Cert.Kernel25Ideal.Gen.frame m ρ

theorem frameRI : Cert.quiescent_Reference25Ideal := fun m ρ _ =>
  (θ_run Cert.Reference25Ideal.defs _ _).mono
    (fun r h => ⟨fun c => (h c).2, Idealize.ShloMosaic.sem_eq_zero_of_no_sems (by decide) r.2⟩)
    (Cert.Reference25Ideal.Value.run m ρ)

open Cert.Reference25Ideal Cert.Reference25Ideal.Read in
theorem weights_eq (w : S1x2048x2048.Idx → EReal) (i : S2048x2048.Idx) :
    val_main_v2 (F := Ideal) w i = at3 w 0 (i 0).val (i 1).val := by
  have h0 : (i 0).val < 2048 := (i 0).isLt
  have h1 : (i 1).val < 2048 := (i 1).isLt
  rw [val_main_v2_apply]
  show val_main_v0 (F := Ideal) w i = _
  rw [val_main_v0_apply]
  refine (at3_eq w _).trans (congrArg₂ (at3 w 0) ?_ ?_)
  · show ((i 0).val * 2048 + (i 1).val) / 2048 % 2048 = _; omega
  · show ((i 0).val * 2048 + (i 1).val) % 2048 = _; omega

open Cert.Reference25Ideal Cert.Reference25Ideal.Read in
theorem ref_eq (x : S4096x2048.Idx → EReal) (w : S1x2048x2048.Idx → EReal) (h : S4096x2048.Idx → EReal) (i : S4096x2048.Idx) :
    val_main_v4 (F := Ideal) x w h i = nn (at2 x) (at3 w 0) 2048 (i 0).val (i 1).val + at2 h (i 0).val (i 1).val := by
  rw [val_main_v4_apply, val_main_v3_apply, nn, Finset.sum_range]
  refine (add_comm _ _).trans (congrArg₂ _ ?_ (at2_eq h i))
  exact Finset.sum_congr rfl fun k _ => congrArg₂ _ (at2_eq x _) (weights_eq w _)

theorem algebraic : Cert.algebraic_Kernel25Ideal_Reference25Ideal := by
  intro m ρ m' ρ' _ hagree
  refine ⟨fun c => res m c, ?_, ?_⟩
  · exact (θ_run Cert.Kernel25Ideal.defs _ _).mono (fun _ h c => ⟨(h c).1.trans (final m c), (h c).2⟩)
      (Cert.Kernel25Ideal.Value.run_blocks (F := Ideal) m ρ)
  refine (θ_run Cert.Reference25Ideal.defs _ _).mono (fun _ h c => ⟨(h c).1.trans ?_, (h c).2⟩)
    (Cert.Reference25Ideal.Value.run (F := Ideal) m' ρ')
  rw [(hagree c).1, (hagree c).2.1, (hagree c).2.2, Cert.Reference25Ideal.Read.val_main_v4_eq]
  exact funext fun i => ref_eq (X m c) (W m c) (H m c) i

end Cert.Mm.GmOut

/-! ## The state-space mixer's result -/

namespace Cert.Mm.SsdOut

theorem frameP : Cert.quiescent_Kernel26 := fun m ρ _ => Cert.Kernel26.Gen.frame m ρ

theorem framePI : Cert.quiescent_Kernel26Ideal := fun m ρ _ => Cert.Kernel26Ideal.Gen.frame m ρ

theorem frameRI : Cert.quiescent_Reference26Ideal := fun m ρ _ =>
  (θ_run Cert.Reference26Ideal.defs _ _).mono
    (fun r h => ⟨fun c => (h c).2, Idealize.ShloMosaic.sem_eq_zero_of_no_sems (by decide) r.2⟩)
    (Cert.Reference26Ideal.Value.run m ρ)

open Cert.Reference26Ideal Cert.Reference26Ideal.Read in
theorem weights_eq (w : S1x4096x2048.Idx → EReal) (i : S4096x2048.Idx) :
    val_main_v2 (F := Ideal) w i = at3 w 0 (i 0).val (i 1).val := by
  have h0 : (i 0).val < 4096 := (i 0).isLt
  have h1 : (i 1).val < 2048 := (i 1).isLt
  rw [val_main_v2_apply]
  show val_main_v0 (F := Ideal) w i = _
  rw [val_main_v0_apply]
  refine (at3_eq w _).trans (congrArg₂ (at3 w 0) ?_ ?_)
  · show ((i 0).val * 2048 + (i 1).val) / 2048 % 4096 = _; omega
  · show ((i 0).val * 2048 + (i 1).val) % 2048 = _; omega

open Cert.Reference26Ideal Cert.Reference26Ideal.Read in
theorem ref_eq (x : S4096x4096.Idx → EReal) (w : S1x4096x2048.Idx → EReal) (h : S4096x2048.Idx → EReal) (i : S4096x2048.Idx) :
    val_main_v4 (F := Ideal) x w h i = nn (at2 x) (at3 w 0) 4096 (i 0).val (i 1).val + at2 h (i 0).val (i 1).val := by
  rw [val_main_v4_apply, val_main_v3_apply, nn, Finset.sum_range]
  refine (add_comm _ _).trans (congrArg₂ _ ?_ (at2_eq h i))
  exact Finset.sum_congr rfl fun k _ => congrArg₂ _ (at2_eq x _) (weights_eq w _)

theorem algebraic : Cert.algebraic_Kernel26Ideal_Reference26Ideal := by
  intro m ρ m' ρ' _ hagree
  refine ⟨fun c => res m c, ?_, ?_⟩
  · exact (θ_run Cert.Kernel26Ideal.defs _ _).mono (fun _ h c => ⟨(h c).1.trans (G3_eq m c), (h c).2⟩)
      (Cert.Kernel26Ideal.Value.run (F := Ideal) m ρ)
  refine (θ_run Cert.Reference26Ideal.defs _ _).mono (fun _ h c => ⟨(h c).1.trans ?_, (h c).2⟩)
    (Cert.Reference26Ideal.Value.run (F := Ideal) m' ρ')
  rw [(hagree c).1, (hagree c).2.1, (hagree c).2.2, Cert.Reference26Ideal.Read.val_main_v4_eq]
  exact funext fun i => ref_eq (X m c) (W m c) (H m c) i

end Cert.Mm.SsdOut

/-! ## The state-space mixer's `z` -/

namespace Cert.Mm.SsdInZ

theorem frameP : Cert.quiescent_Kernel27 := fun m ρ _ => Cert.Kernel27.Gen.frame m ρ

theorem framePI : Cert.quiescent_Kernel27Ideal := fun m ρ _ => Cert.Kernel27Ideal.Gen.frame m ρ

theorem frameRI : Cert.quiescent_Reference27Ideal := fun m ρ _ =>
  (θ_run Cert.Reference27Ideal.defs _ _).mono
    (fun r h => ⟨fun c => (h c).2, Idealize.ShloMosaic.sem_eq_zero_of_no_sems (by decide) r.2⟩)
    (Cert.Reference27Ideal.Value.run m ρ)

open Cert.Reference27Ideal Cert.Reference27Ideal.Read in
theorem ref_eq (x : S4096x2048.Idx → EReal) (w : S2048x4096.Idx → EReal) (i : S4096x4096.Idx) :
    val_main_v2 (F := Ideal) x w i = nn (at2 x) (at2 w) 2048 (i 0).val (i 1).val := by
  rw [val_main_v2_apply, nn, Finset.sum_range]
  exact Finset.sum_congr rfl fun k _ => congrArg₂ _ (at2_eq x _) (at2_eq w _)

theorem algebraic : Cert.algebraic_Kernel27Ideal_Reference27Ideal := by
  intro m ρ m' ρ' _ hagree
  refine ⟨fun c => res m c, ?_, ?_⟩
  · exact (θ_run Cert.Kernel27Ideal.defs _ _).mono (fun _ h c => ⟨(h c).1.trans (final m c), (h c).2⟩)
      (Cert.Kernel27Ideal.Value.run_blocks (F := Ideal) m ρ)
  refine (θ_run Cert.Reference27Ideal.defs _ _).mono (fun _ h c => ⟨(h c).1.trans ?_, (h c).2⟩)
    (Cert.Reference27Ideal.Value.run (F := Ideal) m' ρ')
  rw [(hagree c).1, (hagree c).2, Cert.Reference27Ideal.Read.val_main_v2_eq]
  exact funext fun i => ref_eq (X m c) (W m c) i

end Cert.Mm.SsdInZ

/-! ## The state-space mixer's convolved channels -/

namespace Cert.Mm.SsdInX

theorem frameP : Cert.quiescent_Kernel28 := fun m ρ _ => Cert.Kernel28.Gen.frame m ρ

theorem framePI : Cert.quiescent_Kernel28Ideal := fun m ρ _ => Cert.Kernel28Ideal.Gen.frame m ρ

theorem frameRI : Cert.quiescent_Reference28Ideal := fun m ρ _ =>
  (θ_run Cert.Reference28Ideal.defs _ _).mono
    (fun r h => ⟨fun c => (h c).2, Idealize.ShloMosaic.sem_eq_zero_of_no_sems (by decide) r.2⟩)
    (Cert.Reference28Ideal.Value.run m ρ)

open Cert.Reference28Ideal Cert.Reference28Ideal.Read in
theorem ref_eq (x : S4096x2048.Idx → EReal) (w : S2048x6144.Idx → EReal) (i : S4096x6144.Idx) :
    val_main_v2 (F := Ideal) x w i = nn (at2 x) (at2 w) 2048 (i 0).val (i 1).val := by
  rw [val_main_v2_apply, nn, Finset.sum_range]
  exact Finset.sum_congr rfl fun k _ => congrArg₂ _ (at2_eq x _) (at2_eq w _)

theorem algebraic : Cert.algebraic_Kernel28Ideal_Reference28Ideal := by
  intro m ρ m' ρ' _ hagree
  refine ⟨fun c => res m c, ?_, ?_⟩
  · exact (θ_run Cert.Kernel28Ideal.defs _ _).mono (fun _ h c => ⟨(h c).1.trans (final m c), (h c).2⟩)
      (Cert.Kernel28Ideal.Value.run_blocks (F := Ideal) m ρ)
  refine (θ_run Cert.Reference28Ideal.defs _ _).mono (fun _ h c => ⟨(h c).1.trans ?_, (h c).2⟩)
    (Cert.Reference28Ideal.Value.run (F := Ideal) m' ρ')
  rw [(hagree c).1, (hagree c).2, Cert.Reference28Ideal.Read.val_main_v2_eq]
  exact funext fun i => ref_eq (X m c) (W m c) i

end Cert.Mm.SsdInX

/-! ## The state-space mixer's time steps -/

namespace Cert.Mm.SsdInDt

theorem frameP : Cert.quiescent_Kernel29 := fun m ρ _ => Cert.Kernel29.Gen.frame m ρ

theorem framePI : Cert.quiescent_Kernel29Ideal := fun m ρ _ => Cert.Kernel29Ideal.Gen.frame m ρ

theorem frameRI : Cert.quiescent_Reference29Ideal := fun m ρ _ =>
  (θ_run Cert.Reference29Ideal.defs _ _).mono
    (fun r h => ⟨fun c => (h c).2, Idealize.ShloMosaic.sem_eq_zero_of_no_sems (by decide) r.2⟩)
    (Cert.Reference29Ideal.Value.run m ρ)

open Cert.Reference29Ideal Cert.Reference29Ideal.Read in
theorem ref_eq (x : S4096x2048.Idx → EReal) (w : S2048x128.Idx → EReal) (i : S4096x128.Idx) :
    val_main_v2 (F := Ideal) x w i = nn (at2 x) (at2 w) 2048 (i 0).val (i 1).val := by
  rw [val_main_v2_apply, nn, Finset.sum_range]
  exact Finset.sum_congr rfl fun k _ => congrArg₂ _ (at2_eq x _) (at2_eq w _)

theorem algebraic : Cert.algebraic_Kernel29Ideal_Reference29Ideal := by
  intro m ρ m' ρ' _ hagree
  refine ⟨fun c => res m c, ?_, ?_⟩
  · exact (θ_run Cert.Kernel29Ideal.defs _ _).mono (fun _ h c => ⟨(h c).1.trans (final m c), (h c).2⟩)
      (Cert.Kernel29Ideal.Value.run_blocks (F := Ideal) m ρ)
  refine (θ_run Cert.Reference29Ideal.defs _ _).mono (fun _ h c => ⟨(h c).1.trans ?_, (h c).2⟩)
    (Cert.Reference29Ideal.Value.run (F := Ideal) m' ρ')
  rw [(hagree c).1, (hagree c).2, Cert.Reference29Ideal.Read.val_main_v2_eq]
  exact funext fun i => ref_eq (X m c) (W m c) i

end Cert.Mm.SsdInDt

end
-- ==== Proof.lean ====
/-
  The claims of `Cert.Claim` (proofs.«01_k».proof.Defs), each proved in its call's own module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4.Value
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5.Value
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6.Value
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gate.FwdClaims
public import proofs.«01_k».proof.Proof.Norm.Claims
public import proofs.«01_k».proof.Proof.Norm.BwdClaims
public import proofs.«01_k».proof.Proof.Dt.Claims
public import proofs.«01_k».proof.Proof.Norm.GmAct
public import proofs.«01_k».proof.Proof.Norm.SsdGate
public import proofs.«01_k».proof.Proof.Gate.Claims
public import proofs.«01_k».proof.Proof.Attn.Claims
public import proofs.«01_k».proof.Proof.Mm.ClaimsW
public import proofs.«01_k».proof.Proof.Mm.ClaimsX
public import proofs.«01_k».proof.Proof.Mm.ClaimsT
public import proofs.«01_k».proof.Proof.Mm.ClaimsN
public import proofs.«01_k».proof.Proof.Mm.ClaimsZ
public import proofs.«01_k».proof.Proof.Mm.ClaimsF
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Attn.preFacts,
    Cert.Gate.Claims.frameP, Cert.Gate.Claims.framePI, Cert.Gate.Claims.frameRI,
    Cert.Attn.Claims.frameP, Cert.Attn.Claims.framePI, Cert.Attn.Claims.framePI_finite,
    Cert.Attn.Claims.frameRI, Cert.Attn.Claims.frameRI_finite,
    Cert.Mm.Dwout.frameP, Cert.Mm.Dwout.framePI, Cert.Mm.Dwout.frameRI,
    Cert.Mm.Da.frameP, Cert.Mm.Da.framePI, Cert.Mm.Da.frameRI,
    Cert.Mm.Dwin.frameP, Cert.Mm.Dwin.framePI, Cert.Mm.Dwin.frameRI,
    Cert.Mm.Dhm.frameP, Cert.Mm.Dhm.framePI, Cert.Mm.Dhm.frameRI,
    Cert.Mm.Wo.frameP, Cert.Mm.Wo.framePI, Cert.Mm.Wo.frameRI,
    Cert.Mm.Wqkv.frameP, Cert.Mm.Wqkv.framePI, Cert.Mm.Wqkv.frameRI,
    Cert.Mm.GmWin.frameP, Cert.Mm.GmWin.framePI, Cert.Mm.GmWin.frameRI,
    Cert.Mm.SsdWo.frameP, Cert.Mm.SsdWo.framePI, Cert.Mm.SsdWo.frameRI,
    Cert.Mm.Do.frameP, Cert.Mm.Do.framePI, Cert.Mm.Do.frameRI,
    Cert.Mm.Dhn.frameP, Cert.Mm.Dhn.framePI, Cert.Mm.Dhn.frameRI,
    Cert.Mm.GmDy.frameP, Cert.Mm.GmDy.framePI, Cert.Mm.GmDy.frameRI,
    Cert.Mm.GmDhn.frameP, Cert.Mm.GmDhn.framePI, Cert.Mm.GmDhn.frameRI,
    Cert.Mm.SsdDyn.frameP, Cert.Mm.SsdDyn.framePI, Cert.Mm.SsdDyn.frameRI,
    Cert.Mm.DhnZ.frameP, Cert.Mm.DhnZ.framePI, Cert.Mm.DhnZ.frameRI,
    Cert.Mm.DhnX.frameP, Cert.Mm.DhnX.framePI, Cert.Mm.DhnX.frameRI,
    Cert.Mm.DhnDt.frameP, Cert.Mm.DhnDt.framePI, Cert.Mm.DhnDt.frameRI,
    Cert.Mm.Wdt.frameP, Cert.Mm.Wdt.framePI, Cert.Mm.Wdt.frameRI,
    Cert.Mm.MlpIn.frameP, Cert.Mm.MlpIn.framePI, Cert.Mm.MlpIn.frameRI,
    Cert.Mm.MlpOut.frameP, Cert.Mm.MlpOut.framePI, Cert.Mm.MlpOut.frameRI,
    Cert.Mm.Qkv.frameP, Cert.Mm.Qkv.framePI, Cert.Mm.Qkv.frameRI,
    Cert.Mm.SbOut.frameP, Cert.Mm.SbOut.framePI, Cert.Mm.SbOut.frameRI,
    Cert.Mm.GmIn.frameP, Cert.Mm.GmIn.framePI, Cert.Mm.GmIn.frameRI,
    Cert.Mm.GmOut.frameP, Cert.Mm.GmOut.framePI, Cert.Mm.GmOut.frameRI,
    Cert.Mm.SsdOut.frameP, Cert.Mm.SsdOut.framePI, Cert.Mm.SsdOut.frameRI,
    Cert.Mm.SsdInZ.frameP, Cert.Mm.SsdInZ.framePI, Cert.Mm.SsdInZ.frameRI,
    Cert.Mm.SsdInX.frameP, Cert.Mm.SsdInX.framePI, Cert.Mm.SsdInX.frameRI,
    Cert.Mm.SsdInDt.frameP, Cert.Mm.SsdInDt.framePI, Cert.Mm.SsdInDt.frameRI,
    Cert.Gate.Fwd.frameP, Cert.Gate.Fwd.framePI, Cert.Gate.Fwd.frameRI,
    Cert.Norm.frameP, Cert.Norm.framePI, Cert.Norm.frameRI,
    Cert.Norm.Heads.frameP, Cert.Norm.Heads.framePI, Cert.Norm.Heads.frameRI,
    Cert.Norm.Bwd.frameP, Cert.Norm.Bwd.framePI, Cert.Norm.Bwd.frameRI,
    Cert.Dt.frameP, Cert.Dt.framePI, Cert.Dt.frameRI,
    Cert.Norm.SsdGate.frameP, Cert.Norm.SsdGate.framePI, Cert.Norm.SsdGate.frameRI,
    Cert.Norm.GmAct.frameP, Cert.Norm.GmAct.framePI, Cert.Norm.GmAct.frameRI,
    trivial, Cert.Gate.Claims.algebraic, trivial, Cert.Attn.Claims.algebraic, trivial, Cert.Mm.Dwout.algebraic,
    trivial, Cert.Mm.Da.algebraic, trivial, Cert.Mm.Dwin.algebraic, trivial, Cert.Mm.Dhm.algebraic,
    trivial, Cert.Mm.Wo.algebraic, trivial, Cert.Mm.Wqkv.algebraic, trivial, Cert.Mm.GmWin.algebraic,
    trivial, Cert.Mm.SsdWo.algebraic, trivial, Cert.Mm.Do.algebraic, trivial, Cert.Mm.Dhn.algebraic,
    trivial, Cert.Mm.GmDy.algebraic, trivial, Cert.Mm.GmDhn.algebraic, trivial, Cert.Mm.SsdDyn.algebraic,
    trivial, Cert.Mm.DhnZ.algebraic, trivial, Cert.Mm.DhnX.algebraic, trivial, Cert.Mm.DhnDt.algebraic,
    trivial, Cert.Mm.Wdt.algebraic, trivial, Cert.Mm.MlpIn.algebraic, trivial, Cert.Mm.MlpOut.algebraic,
    trivial, Cert.Mm.Qkv.algebraic, trivial, Cert.Mm.SbOut.algebraic, trivial, Cert.Mm.GmIn.algebraic,
    trivial, Cert.Mm.GmOut.algebraic, trivial, Cert.Mm.SsdOut.algebraic, trivial, Cert.Mm.SsdInZ.algebraic,
    trivial, Cert.Mm.SsdInX.algebraic, trivial, Cert.Mm.SsdInDt.algebraic, trivial, Cert.Gate.Fwd.algebraic,
    trivial, Cert.Norm.algebraic, trivial, Cert.Norm.Heads.algebraic,
    trivial, Cert.Norm.Bwd.algebraic, trivial, Cert.Dt.algebraic,
    trivial, Cert.Norm.SsdGate.algebraic, trivial, Cert.Norm.GmAct.algebraic⟩

end Cert.Proof

end
